-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_v40_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v23)) (v1 : (c : Dev Cert.Kernel4Ideal.nD) → Buf (Elt Ideal) ((c.tc : Thread Cert.Kernel4Ideal.nD Cert.Kernel4Ideal.τ).loc Cert.Kernel4Ideal.main_v25)) (v2 : (c : Dev Cert.Kernel4Ideal.nD) → Buf (Elt Ideal) ((c.tc : Thread Cert.Kernel4Ideal.nD Cert.Kernel4Ideal.τ).loc Cert.Kernel4Ideal.main_v24)) (v3 : (c : Dev Cert.Kernel4Ideal.nD) → Buf (Elt Ideal) ((c.tc : Thread Cert.Kernel4Ideal.nD Cert.Kernel4Ideal.τ).loc Cert.Kernel4Ideal.main_v29)) (v4 : (c : Dev Cert.Kernel4Ideal.nD) → Buf (Elt Ideal) ((c.tc : Thread Cert.Kernel4Ideal.nD Cert.Kernel4Ideal.τ).loc Cert.Kernel4Ideal.main_v27)) (v5 : (c : Dev Cert.Kernel4Ideal.nD) → Buf (Elt Ideal) ((c.tc : Thread Cert.Kernel4Ideal.nD Cert.Kernel4Ideal.τ).loc Cert.Kernel4Ideal.main_v30)) (v6 : (c : Dev Cert.Kernel4Ideal.nD) → Buf (Elt Ideal) ((c.tc : Thread Cert.Kernel4Ideal.nD Cert.Kernel4Ideal.τ).loc Cert.Kernel4Ideal.main_v28)) (v7 : (c : Dev Cert.Kernel4Ideal.nD) → Buf (Elt Ideal) ((c.tc : Thread Cert.Kernel4Ideal.nD Cert.Kernel4Ideal.τ).loc Cert.Kernel4Ideal.main_v31)) (v8 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_v24) = v2 c
          ∧ r.2.mem ((c.tc : Thread Cert.Kernel4Ideal.nD Cert.Kernel4Ideal.τ).loc Cert.Kernel4Ideal.main_v29) = v3 c
          ∧ r.2.mem ((c.tc : Thread Cert.Kernel4Ideal.nD Cert.Kernel4Ideal.τ).loc Cert.Kernel4Ideal.main_v27) = v4 c
          ∧ r.2.mem ((c.tc : Thread Cert.Kernel4Ideal.nD Cert.Kernel4Ideal.τ).loc Cert.Kernel4Ideal.main_v30) = v5 c
          ∧ r.2.mem ((c.tc : Thread Cert.Kernel4Ideal.nD Cert.Kernel4Ideal.τ).loc Cert.Kernel4Ideal.main_v28) = v6 c
          ∧ r.2.mem ((c.tc : Thread Cert.Kernel4Ideal.nD Cert.Kernel4Ideal.τ).loc Cert.Kernel4Ideal.main_v31) = v7 c
          ∧ r.2.mem ((c.tc : Thread Cert.Kernel4Ideal.nD Cert.Kernel4Ideal.τ).loc Cert.Kernel4Ideal.main_v26) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_v29) = v5 c
          ∧ r.2.mem ((c.tc : Thread Cert.Reference4Ideal.nD Cert.Reference4Ideal.τ).loc Cert.Reference4Ideal.main_v42) = v6 c
          ∧ r.2.mem ((c.tc : Thread Cert.Reference4Ideal.nD Cert.Reference4Ideal.τ).loc Cert.Reference4Ideal.main_v33) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩

class Facts : Prop where
  bcast_S_S1x2048 : S_.BroadcastsInDim S1x2048 (![] : Fin 0 → Fin S1x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S1x2048 .f32) (main_arg2 : FVec F S2048x5632 .f32) (main_arg3 : FVec F S2048x5632 .f32) (main_arg4 : FVec F S5632x2048 .f32) (main_arg5 : FVec F S4096x2048 .f32) : IVec S1x2048 1 × IVec S2048x5632 1 × IVec S5632x2048 1 × IVec S4096x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S2048x5632 .f32 := Host.absf main_arg3
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S5632x2048 .f32 := Host.absf main_arg4
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S4096x2048 .f32 := Host.absf main_arg5
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_finite2.lean ====
abbrev S4096x512 : Shape := ⟨2, ![4096, 512]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S4096x512 .f32) (main_arg2 : FVec F S4096x1024 .f32) (main_arg3 : FVec F S4096x512 .f32) (main_arg4 : FVec F S4096x1024 .f32) : IVec S4096x512 1 × IVec S4096x512 1 × IVec S4096x1024 1 × IVec S4096x512 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite3.lean ====
abbrev S4096x512 : Shape := ⟨2, ![4096, 512]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S4096x512 .f32) (main_arg2 : FVec F S4096x1024 .f32) (main_arg3 : FVec F S4096x512 .f32) : IVec S4096x512 1 × IVec S4096x512 1 × IVec S4096x1024 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Kernel.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S1024x2048 : Shape := ⟨2, ![1024, 2048]⟩
abbrev S16x2048 : Shape := ⟨2, ![16, 2048]⟩
abbrev S16 : Shape := ⟨1, ![16]⟩
abbrev S16x1 : Shape := ⟨2, ![16, 1]⟩
abbrev S8x4096x704 : Shape := ⟨3, ![8, 4096, 704]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩
abbrev S32768x704 : Shape := ⟨2, ![32768, 704]⟩
abbrev S32x704 : Shape := ⟨2, ![32, 704]⟩
abbrev S8x512x704 : Shape := ⟨3, ![8, 512, 704]⟩
abbrev S5632x512 : Shape := ⟨2, ![5632, 512]⟩
abbrev S512x512 : Shape := ⟨2, ![512, 512]⟩
abbrev S1x512x704 : Shape := ⟨3, ![1, 512, 704]⟩
abbrev S512x704 : Shape := ⟨2, ![512, 704]⟩
abbrev S704x512 : Shape := ⟨2, ![704, 512]⟩
abbrev S1x4096x704 : Shape := ⟨3, ![1, 4096, 704]⟩
abbrev S4096x1024 : Shape := ⟨2, ![4096, 1024]⟩
abbrev S704x1024 : Shape := ⟨2, ![704, 1024]⟩
abbrev S4096x704 : Shape := ⟨2, ![4096, 704]⟩
abbrev S704x2048 : Shape := ⟨2, ![704, 2048]⟩
abbrev S8x1024x704 : Shape := ⟨3, ![8, 1024, 704]⟩
abbrev S512x1024 : Shape := ⟨2, ![512, 1024]⟩

abbrev nBuf : Space → Nat
  | .hbm => 35
  | .vmem => 79
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S2048x8x704, .f32⟩
  | .hbm, ⟨7, _⟩ => ⟨S8x2048x704, .f32⟩
  | .hbm, ⟨8, _⟩ => ⟨S8x2048x704, .bf16⟩
  | .hbm, ⟨9, _⟩ => ⟨S2048x8x704, .f32⟩
  | .hbm, ⟨10, _⟩ => ⟨S8x2048x704, .f32⟩
  | .hbm, ⟨11, _⟩ => ⟨S8x2048x704, .bf16⟩
  | .hbm, ⟨12, _⟩ => ⟨S5632x2048, .bf16⟩
  | .hbm, ⟨13, _⟩ => ⟨S4096x2048, .bf16⟩
  | .hbm, ⟨14, _⟩ => ⟨S8x4096x704, .bf16⟩
  | .hbm, ⟨15, _⟩ => ⟨S8x4096x704, .bf16⟩
  | .hbm, ⟨16, _⟩ => ⟨S32768x704, .bf16⟩
  | .hbm, ⟨17, _⟩ => ⟨S32768x704, .bf16⟩
  | .hbm, ⟨18, _⟩ => ⟨S32768x704, .bf16⟩
  | .hbm, ⟨19, _⟩ => ⟨S8x4096x704, .bf16⟩
  | .hbm, ⟨20, _⟩ => ⟨S4096x2048, .f32⟩
  | .hbm, ⟨21, _⟩ => ⟨S4096x2048, .bf16⟩
  | .hbm, ⟨22, _⟩ => ⟨S5632x2048, .bf16⟩
  | .hbm, ⟨23, _⟩ => ⟨S8x4096x704, .bf16⟩
  | .hbm, ⟨24, _⟩ => ⟨S32768x704, .bf16⟩
  | .hbm, ⟨25, _⟩ => ⟨S32768x704, .bf16⟩
  | .hbm, ⟨26, _⟩ => ⟨S32768x704, .bf16⟩
  | .hbm, ⟨27, _⟩ => ⟨S32768x704, .bf16⟩
  | .hbm, ⟨28, _⟩ => ⟨S32768x704, .bf16⟩
  | .hbm, ⟨29, _⟩ => ⟨S8x4096x704, .bf16⟩
  | .hbm, ⟨30, _⟩ => ⟨S8x4096x704, .bf16⟩
  | .hbm, ⟨31, _⟩ => ⟨S8x2048x704, .bf16⟩
  | .hbm, ⟨32, _⟩ => ⟨S8x2048x704, .bf16⟩
  | .hbm, ⟨33, _⟩ => ⟨S4096x2048, .f32⟩
  | .hbm, ⟨34, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048x704, .bf16⟩
  | .local _ .vmem, ⟨14, _⟩ => ⟨S1x2048x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x704, .bf16⟩
  | .local _ .vmem, ⟨18, _⟩ => ⟨S1024x704, .bf16⟩
  | .local _ .vmem, ⟨19, _⟩ => ⟨S1024x704, .bf16⟩
  | .local _ .vmem, ⟨20, _⟩ => ⟨S1024x704, .bf16⟩
  | .local _ .vmem, ⟨21, _⟩ => ⟨S1024x704, .bf16⟩
  | .local _ .vmem, ⟨22, _⟩ => ⟨S1024x704, .bf16⟩
  | .local _ .vmem, ⟨23, _⟩ => ⟨S8x512x704, .bf16⟩
  | .local _ .vmem, ⟨24, _⟩ => ⟨S8x512x704, .bf16⟩
  | .local _ .vmem, ⟨25, _⟩ => ⟨S5632x512, .bf16⟩
  | .local _ .vmem, ⟨26, _⟩ => ⟨S5632x512, .bf16⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S1x4096x704, .bf16⟩
  | .local _ .vmem, ⟨32, _⟩ => ⟨S1x4096x704, .bf16⟩
  | .local _ .vmem, ⟨33, _⟩ => ⟨S4096x1024, .bf16⟩
  | .local _ .vmem, ⟨34, _⟩ => ⟨S4096x1024, .bf16⟩
  | .local _ .vmem, ⟨35, _⟩ => ⟨S704x1024, .bf16⟩
  | .local _ .vmem, ⟨36, _⟩ => ⟨S704x1024, .bf16⟩
  | .local _ .vmem, ⟨37, _⟩ => ⟨S1024x2048, .bf16⟩
  | .local _ .vmem, ⟨38, _⟩ => ⟨S1024x2048, .bf16⟩
  | .local _ .vmem, ⟨39, _⟩ => ⟨S704x2048, .bf16⟩
  | .local _ .vmem, ⟨40, _⟩ => ⟨S704x2048, .bf16⟩
  | .local _ .vmem, ⟨41, _⟩ => ⟨S1x1024x704, .bf16⟩
  | .local _ .vmem, ⟨42, _⟩ => ⟨S1x1024x704, .bf16⟩
  | .local _ .vmem, ⟨43, _⟩ => ⟨S1024x704, .bf16⟩
  | .local _ .vmem, ⟨44, _⟩ => ⟨S1024x704, .bf16⟩
  | .local _ .vmem, ⟨45, _⟩ => ⟨S1024x704, .bf16⟩
  | .local _ .vmem, ⟨46, _⟩ => ⟨S1024x704, .bf16⟩
  | .local _ .vmem, ⟨47, _⟩ => ⟨S1024x704, .bf16⟩
  | .local _ .vmem, ⟨48, _⟩ => ⟨S1024x704, .bf16⟩
  | .local _ .vmem, ⟨49, _⟩ => ⟨S1024x704, .bf16⟩
  | .local _ .vmem, ⟨50, _⟩ => ⟨S1024x704, .bf16⟩
  | .local _ .vmem, ⟨51, _⟩ => ⟨S1024x704, .bf16⟩
  | .local _ .vmem, ⟨52, _⟩ => ⟨S1024x704, .bf16⟩
  | .local _ .vmem, ⟨53, _⟩ => ⟨S4096x1024, .bf16⟩
  | .local _ .vmem, ⟨54, _⟩ => ⟨S4096x1024, .bf16⟩
  | .local _ .vmem, ⟨55, _⟩ => ⟨S1x4096x704, .bf16⟩
  | .local _ .vmem, ⟨56, _⟩ => ⟨S1x4096x704, .bf16⟩
  | .local _ .vmem, ⟨57, _⟩ => ⟨S1x1024x704, .bf16⟩
  | .local _ .vmem, ⟨58, _⟩ => ⟨S1x1024x704, .bf16⟩
  | .local _ .vmem, ⟨59, _⟩ => ⟨S4096x1024, .bf16⟩
  | .local _ .vmem, ⟨60, _⟩ => ⟨S4096x1024, .bf16⟩
  | .local _ .vmem, ⟨61, _⟩ => ⟨S1x4096x704, .bf16⟩
  | .local _ .vmem, ⟨62, _⟩ => ⟨S1x4096x704, .bf16⟩
  | .local _ .vmem, ⟨63, _⟩ => ⟨S1x1024x704, .bf16⟩
  | .local _ .vmem, ⟨64, _⟩ => ⟨S1x1024x704, .bf16⟩
  | .local _ .vmem, ⟨65, _⟩ => ⟨S8x512x704, .bf16⟩
  | .local _ .vmem, ⟨66, _⟩ => ⟨S8x512x704, .bf16⟩
  | .local _ .vmem, ⟨67, _⟩ => ⟨S8x1024x704, .bf16⟩
  | .local _ .vmem, ⟨68, _⟩ => ⟨S8x1024x704, .bf16⟩
  | .local _ .vmem, ⟨69, _⟩ => ⟨S512x1024, .f32⟩
  | .local _ .vmem, ⟨70, _⟩ => ⟨S512x1024, .f32⟩
  | .local _ .vmem, ⟨71, _⟩ => ⟨S8x512x704, .bf16⟩
  | .local _ .vmem, ⟨72, _⟩ => ⟨S8x512x704, .bf16⟩
  | .local _ .vmem, ⟨73, _⟩ => ⟨S8x512x704, .bf16⟩
  | .local _ .vmem, ⟨74, _⟩ => ⟨S8x512x704, .bf16⟩
  | .local _ .vmem, ⟨75, _⟩ => ⟨S512x512, .f32⟩
  | .local _ .vmem, ⟨76, _⟩ => ⟨S512x512, .f32⟩
  | .local _ .vmem, ⟨77, _⟩ => ⟨S512x512, .f32⟩
  | .local _ .vmem, ⟨78, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg3_1 : Ref sig .tc := ⟨.vmem, 50, rfl⟩
abbrev cc7_stg4_0 : Ref sig .tc := ⟨.vmem, 51, rfl⟩
abbrev cc7_stg4_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg1_1 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg1_1 : Ref sig .tc := ⟨.vmem, 68, rfl⟩
abbrev cc10_stg2_0 : Ref sig .tc := ⟨.vmem, 69, rfl⟩
abbrev cc10_stg2_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg1_1 : Ref sig .tc := ⟨.vmem, 74, rfl⟩
abbrev cc11_stg2_0 : Ref sig .tc := ⟨.vmem, 75, rfl⟩
abbrev cc11_stg2_1 : Ref sig .tc := ⟨.vmem, 76, rfl⟩
abbrev cc11_stg3_0 : Ref sig .tc := ⟨.vmem, 77, rfl⟩
abbrev cc11_stg3_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem3_1 : DmaSem sig := 50
abbrev cc7_sem4_0 : DmaSem sig := 51
abbrev cc7_sem4_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58
abbrev cc9_sem0_0 : DmaSem sig := 59
abbrev cc9_sem0_1 : DmaSem sig := 60
abbrev cc9_sem1_0 : DmaSem sig := 61
abbrev cc9_sem1_1 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem1_1 : DmaSem sig := 68
abbrev cc10_sem2_0 : DmaSem sig := 69
abbrev cc10_sem2_1 : DmaSem sig := 70
abbrev cc11_sem0_0 : DmaSem sig := 71
abbrev cc11_sem0_1 : DmaSem sig := 72
abbrev cc11_sem1_0 : DmaSem sig := 73
abbrev cc11_sem1_1 : DmaSem sig := 74
abbrev cc11_sem2_0 : DmaSem sig := 75
abbrev cc11_sem2_1 : DmaSem sig := 76
abbrev cc11_sem3_0 : DmaSem sig := 77
abbrev cc11_sem3_1 : DmaSem sig := 78

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v2 : BitVec 32 := Scalar.muli arg4 c16_i32
  v2
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v2 : BitVec 32 := Scalar.muli arg4 c16_i32
  let v3 : BitVec 32 := v2
  let v4 : Index := Scalar.indexCast v3
  let c0_2 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x2048x704 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

@[reducible] def k3_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k3_mult1 (k3_t1 : Fin k3_t1_loop.trips) : BitVec 32 :=
  let c0_i32 : BitVec 32 := 0#32
  let c1_i32 : BitVec 32 := 1#32
  let arg4 : BitVec 32 := Scf.iv c0_i32 c1_i32 k3_t1
  let c32_i32_1 : BitVec 32 := 32#32
  let v1 : BitVec 32 := Scalar.muli arg4 c32_i32_1
  v1
def k3_off1 (k3_t1 : Fin k3_t1_loop.trips) : Fin 2 → Nat :=
  let c0_i32 : BitVec 32 := 0#32
  let c1_i32 : BitVec 32 := 1#32
  let arg4 : BitVec 32 := Scf.iv c0_i32 c1_i32 k3_t1
  let c32_i32_1 : BitVec 32 := 32#32
  let v1 : BitVec 32 := Scalar.muli arg4 c32_i32_1
  let v2 : BitVec 32 := v1
  let v3 : Index := Scalar.indexCast v2
  let c0 : Index := 0#32
  ![v3.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![8, 4, 1], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8x512x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S5632x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![8, 2, 1], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1x4096x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S704x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024x704 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![32], ![false]⟩

@[reducible] def k7_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k7_mult1 (k7_t1 : Fin k7_t1_loop.trips) : BitVec 32 :=
  let c0_i32 : BitVec 32 := 0#32
  let c1_i32 : BitVec 32 := 1#32
  let arg6 : BitVec 32 := Scf.iv c0_i32 c1_i32 k7_t1
  let c32_i32_1 : BitVec 32 := 32#32
  let v1 : BitVec 32 := Scalar.muli arg6 c32_i32_1
  v1
def k7_off1 (k7_t1 : Fin k7_t1_loop.trips) : Fin 2 → Nat :=
  let c0_i32 : BitVec 32 := 0#32
  let c1_i32 : BitVec 32 := 1#32
  let arg6 : BitVec 32 := Scf.iv c0_i32 c1_i32 k7_t1
  let c32_i32_1 : BitVec 32 := 32#32
  let v1 : BitVec 32 := Scalar.muli arg6 c32_i32_1
  let v2 : BitVec 32 := v1
  let v3 : Index := Scalar.indexCast v2
  let c0 : Index := 0#32
  ![v3.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x704 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1024x704 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024x704 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨3, ![2, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1x4096x704 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x704 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage9_0 : Fin 2 → Memref sig .tc .vmem S4096x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x4096x704 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1x1024x704 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![8, 2, 1], ![false, false, false]⟩

def cc10_transform_0 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S8x512x704 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, false]

abbrev stage10_1 : Fin 2 → Memref sig .tc .vmem S8x1024x704 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![8, 4, 1], ![false, false, false]⟩

def cc11_transform_0 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc11_transform_1 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S8x512x704 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, false]

abbrev stage11_1 : Fin 2 → Memref sig .tc .vmem S8x512x704 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, false]

abbrev stage11_2 : Fin 2 → Memref sig .tc .vmem S512x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S512x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]
-- ==== ReferenceIdeal.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2048x8x704 : Shape := ⟨3, ![2048, 8, 704]⟩
abbrev S8x2048x704 : Shape := ⟨3, ![8, 2048, 704]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S2048x5632, .f32⟩
  | .hbm, ⟨47, _⟩ => ⟨S5632x2048, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S5632x2048, .f32⟩
  | .hbm, ⟨52, _⟩ => ⟨S2048x5632, .f32⟩
  | .hbm, ⟨53, _⟩ => ⟨S4096x2048, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S5632x2048, .f32⟩
  | .hbm, ⟨59, _⟩ => ⟨S2048x5632, .f32⟩
  | .hbm, ⟨60, _⟩ => ⟨S4096x2048, .f32⟩
  | .hbm, ⟨61, _⟩ => ⟨S4096x2048, .f32⟩
  | .hbm, ⟨62, _⟩ => ⟨S2048x8x704, .f32⟩
  | .hbm, ⟨63, _⟩ => ⟨S8x2048x704, .f32⟩
  | .hbm, ⟨64, _⟩ => ⟨S8x2048x704, .bf16⟩
  | .hbm, ⟨65, _⟩ => ⟨S2048x8x704, .f32⟩
  | .hbm, ⟨66, _⟩ => ⟨S8x2048x704, .f32⟩
  | .hbm, ⟨67, _⟩ => ⟨S8x2048x704, .bf16⟩
  | .hbm, ⟨68, _⟩ => ⟨S4096x2048, .f32⟩
  | .hbm, ⟨69, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel2.lean ====
abbrev S4096x512 : Shape := ⟨2, ![4096, 512]⟩
abbrev S4096x1024 : Shape := ⟨2, ![4096, 1024]⟩
abbrev S1x64x64x4x128 : Shape := ⟨5, ![1, 64, 64, 4, 128]⟩
abbrev S64x1x64x4x128 : Shape := ⟨5, ![64, 1, 64, 4, 128]⟩
abbrev S_ : Shape := ⟨0, ![]⟩
abbrev S64x1x1x4x128 : Shape := ⟨5, ![64, 1, 1, 4, 128]⟩
abbrev S64x1x4x128 : Shape := ⟨4, ![64, 1, 4, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1x1x1 : Shape := ⟨5, ![64, 64, 1, 1, 1]⟩
abbrev S1x64x1x4x128 : Shape := ⟨5, ![1, 64, 1, 4, 128]⟩
abbrev S64x64x1x4x128 : Shape := ⟨5, ![64, 64, 1, 4, 128]⟩
abbrev S1x64x64x4x256 : Shape := ⟨5, ![1, 64, 64, 4, 256]⟩
abbrev S64x1x64x4x256 : Shape := ⟨5, ![64, 1, 64, 4, 256]⟩
abbrev S64x1x4x128x256 : Shape := ⟨5, ![64, 1, 4, 128, 256]⟩
abbrev S1x4x128x256x64 : Shape := ⟨5, ![1, 4, 128, 256, 64]⟩
abbrev S63x1x4x128x256 : Shape := ⟨5, ![63, 1, 4, 128, 256]⟩
abbrev S63x4x128x256 : Shape := ⟨4, ![63, 4, 128, 256]⟩
abbrev S1x4x128x256 : Shape := ⟨4, ![1, 4, 128, 256]⟩
abbrev S64x4x128x256 : Shape := ⟨4, ![64, 4, 128, 256]⟩
abbrev S4096x256 : Shape := ⟨2, ![4096, 256]⟩
abbrev S4096x3328 : Shape := ⟨2, ![4096, 3328]⟩
abbrev S4x64x256x128 : Shape := ⟨4, ![4, 64, 256, 128]⟩
abbrev S256x512 : Shape := ⟨2, ![256, 512]⟩
abbrev S256x1024 : Shape := ⟨2, ![256, 1024]⟩
abbrev S4x4x256x128 : Shape := ⟨4, ![4, 4, 256, 128]⟩
abbrev S4x256x128 : Shape := ⟨3, ![4, 256, 128]⟩
abbrev S64x128 : Shape := ⟨2, ![64, 128]⟩
abbrev S128 : Shape := ⟨1, ![128]⟩
abbrev S1x128 : Shape := ⟨2, ![1, 128]⟩
abbrev S64x256 : Shape := ⟨2, ![64, 256]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 60
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S1x64x64x4x128, .f32⟩
  | .hbm, ⟨6, _⟩ => ⟨S64x1x64x4x128, .f32⟩
  | .hbm, ⟨7, _⟩ => ⟨S_, .f32⟩
  | .hbm, ⟨8, _⟩ => ⟨S_, .f32⟩
  | .hbm, ⟨9, _⟩ => ⟨S64x1x64x4x128, .f32⟩
  | .hbm, ⟨10, _⟩ => ⟨S64x1x1x4x128, .f32⟩
  | .hbm, ⟨11, _⟩ => ⟨S64x1x4x128, .f32⟩
  | .hbm, ⟨12, _⟩ => ⟨S1x64x64x4x128, .f32⟩
  | .hbm, ⟨13, _⟩ => ⟨S64x1x64x4x128, .f32⟩
  | .hbm, ⟨14, _⟩ => ⟨S64x1x1x4x128, .f32⟩
  | .hbm, ⟨15, _⟩ => ⟨S64x1x64x4x128, .f32⟩
  | .hbm, ⟨16, _⟩ => ⟨S64x1x64x4x128, .f32⟩
  | .hbm, ⟨17, _⟩ => ⟨S64x1x64x4x128, .f32⟩
  | .hbm, ⟨18, _⟩ => ⟨S64x1x64x4x128, .f32⟩
  | .hbm, ⟨19, _⟩ => ⟨S_, .f32⟩
  | .hbm, ⟨20, _⟩ => ⟨S_, .f32⟩
  | .hbm, ⟨21, _⟩ => ⟨S64x1x4x128, .f32⟩
  | .hbm, ⟨22, _⟩ => ⟨S64, .i32⟩
  | .hbm, ⟨23, _⟩ => ⟨S1x64, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64x1x1x1, .i1⟩
  | .hbm, ⟨29, _⟩ => ⟨S64x1x1x4x128, .f32⟩
  | .hbm, ⟨30, _⟩ => ⟨S1x64x1x4x128, .f32⟩
  | .hbm, ⟨31, _⟩ => ⟨S64x64x1x4x128, .f32⟩
  | .hbm, ⟨32, _⟩ => ⟨S64x64x1x4x128, .f32⟩
  | .hbm, ⟨33, _⟩ => ⟨S64x64x1x4x128, .f32⟩
  | .hbm, ⟨34, _⟩ => ⟨S_, .f32⟩
  | .hbm, ⟨35, _⟩ => ⟨S_, .f32⟩
  | .hbm, ⟨36, _⟩ => ⟨S64x64x1x4x128, .i1⟩
  | .hbm, ⟨37, _⟩ => ⟨S64x64x1x4x128, .f32⟩
  | .hbm, ⟨38, _⟩ => ⟨S64x64x1x4x128, .f32⟩
  | .hbm, ⟨39, _⟩ => ⟨S64x64x1x4x128, .f32⟩
  | .hbm, ⟨40, _⟩ => ⟨S1x64x64x4x256, .f32⟩
  | .hbm, ⟨41, _⟩ => ⟨S64x1x64x4x256, .f32⟩
  | .hbm, ⟨42, _⟩ => ⟨S64x1x4x128x256, .f32⟩
  | .hbm, ⟨43, _⟩ => ⟨S1x4x128x256x64, .f32⟩
  | .hbm, ⟨44, _⟩ => ⟨S64x1x4x128x256, .f32⟩
  | .hbm, ⟨45, _⟩ => ⟨S63x1x4x128x256, .f32⟩
  | .hbm, ⟨46, _⟩ => ⟨S63x4x128x256, .f32⟩
  | .hbm, ⟨47, _⟩ => ⟨S_, .f32⟩
  | .hbm, ⟨48, _⟩ => ⟨S1x4x128x256, .f32⟩
  | .hbm, ⟨49, _⟩ => ⟨S64x4x128x256, .f32⟩
  | .hbm, ⟨50, _⟩ => ⟨S_, .f32⟩
  | .hbm, ⟨51, _⟩ => ⟨S4096x1024, .f32⟩
  | .hbm, ⟨52, _⟩ => ⟨S_, .f32⟩
  | .hbm, ⟨53, _⟩ => ⟨S4096x256, .f32⟩
  | .hbm, ⟨54, _⟩ => ⟨S4096x3328, .f32⟩
  | .hbm, ⟨55, _⟩ => ⟨S4x64x256x128, .f32⟩
  | .hbm, ⟨56, _⟩ => ⟨S4096x512, .f32⟩
  | .hbm, ⟨57, _⟩ => ⟨S4096x512, .f32⟩
  | .hbm, ⟨58, _⟩ => ⟨S4096x1024, .f32⟩
  | .hbm, ⟨59, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S4x4x256x128, .f32⟩
  | .local _ .vmem, ⟨11, _⟩ => ⟨S4x4x256x128, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S4x256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_call0_cst : Ref sig .tc := ⟨.hbm, 19, rfl⟩
abbrev main_call1_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v40_2 : Ref sig .tc := ⟨.hbm, 58, rfl⟩
abbrev main_v40_3 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x512 : Shape := ⟨2, ![4096, 512]⟩
abbrev S4096x1024 : Shape := ⟨2, ![4096, 1024]⟩
abbrev S1x64x64x4x128 : Shape := ⟨5, ![1, 64, 64, 4, 128]⟩
abbrev S64x1x64x4x128 : Shape := ⟨5, ![64, 1, 64, 4, 128]⟩
abbrev S_ : Shape := ⟨0, ![]⟩
abbrev S64x1x1x4x128 : Shape := ⟨5, ![64, 1, 1, 4, 128]⟩
abbrev S64x1x4x128 : Shape := ⟨4, ![64, 1, 4, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1x1x1 : Shape := ⟨5, ![64, 64, 1, 1, 1]⟩
abbrev S1x64x1x4x128 : Shape := ⟨5, ![1, 64, 1, 4, 128]⟩
abbrev S64x64x1x4x128 : Shape := ⟨5, ![64, 64, 1, 4, 128]⟩
abbrev S1x64x64x4x256 : Shape := ⟨5, ![1, 64, 64, 4, 256]⟩
abbrev S64x1x64x4x256 : Shape := ⟨5, ![64, 1, 64, 4, 256]⟩
abbrev S64x1x4x128x256 : Shape := ⟨5, ![64, 1, 4, 128, 256]⟩
abbrev S1x4x128x256x64 : Shape := ⟨5, ![1, 4, 128, 256, 64]⟩
abbrev S64x1x4x256x64 : Shape := ⟨5, ![64, 1, 4, 256, 64]⟩
abbrev S64x1x4x64x128 : Shape := ⟨5, ![64, 1, 4, 64, 128]⟩
abbrev S64x1x4x256x128 : Shape := ⟨5, ![64, 1, 4, 256, 128]⟩
abbrev S1x4x128x64x64 : Shape := ⟨5, ![1, 4, 128, 64, 64]⟩
abbrev S64x1x4x128x64 : Shape := ⟨5, ![64, 1, 4, 128, 64]⟩
abbrev S64x4x128 : Shape := ⟨3, ![64, 4, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S1x64x64x4x128, .f32⟩
  | .hbm, ⟨6, _⟩ => ⟨S64x1x64x4x128, .f32⟩
  | .hbm, ⟨7, _⟩ => ⟨S_, .f32⟩
  | .hbm, ⟨8, _⟩ => ⟨S64x1x64x4x128, .f32⟩
  | .hbm, ⟨9, _⟩ => ⟨S64x1x64x4x128, .f32⟩
  | .hbm, ⟨10, _⟩ => ⟨S1x64x64x4x128, .f32⟩
  | .hbm, ⟨11, _⟩ => ⟨S64x1x64x4x128, .f32⟩
  | .hbm, ⟨12, _⟩ => ⟨S_, .f32⟩
  | .hbm, ⟨13, _⟩ => ⟨S_, .f32⟩
  | .hbm, ⟨14, _⟩ => ⟨S64x1x64x4x128, .f32⟩
  | .hbm, ⟨15, _⟩ => ⟨S64x1x1x4x128, .f32⟩
  | .hbm, ⟨16, _⟩ => ⟨S64x1x4x128, .f32⟩
  | .hbm, ⟨17, _⟩ => ⟨S1x64x64x4x128, .f32⟩
  | .hbm, ⟨18, _⟩ => ⟨S64x1x64x4x128, .f32⟩
  | .hbm, ⟨19, _⟩ => ⟨S64x1x1x4x128, .f32⟩
  | .hbm, ⟨20, _⟩ => ⟨S64x1x64x4x128, .f32⟩
  | .hbm, ⟨21, _⟩ => ⟨S64x1x64x4x128, .f32⟩
  | .hbm, ⟨22, _⟩ => ⟨S64x1x64x4x128, .f32⟩
  | .hbm, ⟨23, _⟩ => ⟨S64x1x64x4x128, .f32⟩
  | .hbm, ⟨24, _⟩ => ⟨S_, .f32⟩
  | .hbm, ⟨25, _⟩ => ⟨S_, .f32⟩
  | .hbm, ⟨26, _⟩ => ⟨S64x1x4x128, .f32⟩
  | .hbm, ⟨27, _⟩ => ⟨S64, .i32⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64x1x1x1, .i1⟩
  | .hbm, ⟨34, _⟩ => ⟨S64x1x1x4x128, .f32⟩
  | .hbm, ⟨35, _⟩ => ⟨S1x64x1x4x128, .f32⟩
  | .hbm, ⟨36, _⟩ => ⟨S64x64x1x4x128, .f32⟩
  | .hbm, ⟨37, _⟩ => ⟨S64x64x1x4x128, .f32⟩
  | .hbm, ⟨38, _⟩ => ⟨S64x64x1x4x128, .f32⟩
  | .hbm, ⟨39, _⟩ => ⟨S_, .f32⟩
  | .hbm, ⟨40, _⟩ => ⟨S_, .f32⟩
  | .hbm, ⟨41, _⟩ => ⟨S64x64x1x4x128, .i1⟩
  | .hbm, ⟨42, _⟩ => ⟨S64x64x1x4x128, .f32⟩
  | .hbm, ⟨43, _⟩ => ⟨S64x64x1x4x128, .f32⟩
  | .hbm, ⟨44, _⟩ => ⟨S_, .f32⟩
  | .hbm, ⟨45, _⟩ => ⟨S64x64x1x4x128, .f32⟩
  | .hbm, ⟨46, _⟩ => ⟨S64x64x1x4x128, .f32⟩
  | .hbm, ⟨47, _⟩ => ⟨S1x64x64x4x256, .f32⟩
  | .hbm, ⟨48, _⟩ => ⟨S64x1x64x4x256, .f32⟩
  | .hbm, ⟨49, _⟩ => ⟨S64x1x4x128x256, .f32⟩
  | .hbm, ⟨50, _⟩ => ⟨S1x4x128x256x64, .f32⟩
  | .hbm, ⟨51, _⟩ => ⟨S64x1x4x128x256, .f32⟩
  | .hbm, ⟨52, _⟩ => ⟨S64x1x4x256x64, .f32⟩
  | .hbm, ⟨53, _⟩ => ⟨S64x1x64x4x256, .f32⟩
  | .hbm, ⟨54, _⟩ => ⟨S1x64x64x4x256, .f32⟩
  | .hbm, ⟨55, _⟩ => ⟨S4096x1024, .f32⟩
  | .hbm, ⟨56, _⟩ => ⟨S1x64x64x4x256, .f32⟩
  | .hbm, ⟨57, _⟩ => ⟨S64x1x64x4x256, .f32⟩
  | .hbm, ⟨58, _⟩ => ⟨S64x1x4x256x64, .f32⟩
  | .hbm, ⟨59, _⟩ => ⟨S64x1x4x64x128, .f32⟩
  | .hbm, ⟨60, _⟩ => ⟨S64x1x64x4x128, .f32⟩
  | .hbm, ⟨61, _⟩ => ⟨S64x1x4x256x128, .f32⟩
  | .hbm, ⟨62, _⟩ => ⟨S64x1x4x128x256, .f32⟩
  | .hbm, ⟨63, _⟩ => ⟨S1x4x128x256x64, .f32⟩
  | .hbm, ⟨64, _⟩ => ⟨S1x4x128x64x64, .f32⟩
  | .hbm, ⟨65, _⟩ => ⟨S64x64x1x4x128, .f32⟩
  | .hbm, ⟨66, _⟩ => ⟨S1x4x128x256x64, .f32⟩
  | .hbm, ⟨67, _⟩ => ⟨S64x1x4x128x256, .f32⟩
  | .hbm, ⟨68, _⟩ => ⟨S64x1x4x256x64, .f32⟩
  | .hbm, ⟨69, _⟩ => ⟨S64x1x64x4x256, .f32⟩
  | .hbm, ⟨70, _⟩ => ⟨S64x1x4x128x64, .f32⟩
  | .hbm, ⟨71, _⟩ => ⟨S64x1x64x4x128, .f32⟩
  | .hbm, ⟨72, _⟩ => ⟨S1x64x64x4x256, .f32⟩
  | .hbm, ⟨73, _⟩ => ⟨S4096x1024, .f32⟩
  | .hbm, ⟨74, _⟩ => ⟨S64x64x1x4x128, .f32⟩
  | .hbm, ⟨75, _⟩ => ⟨S_, .f32⟩
  | .hbm, ⟨76, _⟩ => ⟨S64x64x1x4x128, .f32⟩
  | .hbm, ⟨77, _⟩ => ⟨S64x64x1x4x128, .f32⟩
  | .hbm, ⟨78, _⟩ => ⟨S_, .f32⟩
  | .hbm, ⟨79, _⟩ => ⟨S64x1x4x128, .f32⟩
  | .hbm, ⟨80, _⟩ => ⟨S64x1x1x4x128, .f32⟩
  | .hbm, ⟨81, _⟩ => ⟨S64x64x1x4x128, .f32⟩
  | .hbm, ⟨82, _⟩ => ⟨S_, .f32⟩
  | .hbm, ⟨83, _⟩ => ⟨S64x1x4x128, .f32⟩
  | .hbm, ⟨84, _⟩ => ⟨S1x64x1x4x128, .f32⟩
  | .hbm, ⟨85, _⟩ => ⟨S_, .f32⟩
  | .hbm, ⟨86, _⟩ => ⟨S64x4x128, .f32⟩
  | .hbm, ⟨87, _⟩ => ⟨S64x1x4x128, .f32⟩
  | .hbm, ⟨88, _⟩ => ⟨S_, .f32⟩
  | .hbm, ⟨89, _⟩ => ⟨S64x4x128, .f32⟩
  | .hbm, ⟨90, _⟩ => ⟨S64x1x4x128, .f32⟩
  | .hbm, ⟨91, _⟩ => ⟨S64x1x4x128, .f32⟩
  | .hbm, ⟨92, _⟩ => ⟨S_, .f32⟩
  | .hbm, ⟨93, _⟩ => ⟨S_, .f32⟩
  | .hbm, ⟨94, _⟩ => ⟨S64x1x4x128, .f32⟩
  | .hbm, ⟨95, _⟩ => ⟨S64x1x64x4x128, .f32⟩
  | .hbm, ⟨96, _⟩ => ⟨S64x1x64x4x128, .f32⟩
  | .hbm, ⟨97, _⟩ => ⟨S64x1x64x4x128, .f32⟩
  | .hbm, ⟨98, _⟩ => ⟨S_, .f32⟩
  | .hbm, ⟨99, _⟩ => ⟨S64x1x4x128, .f32⟩
  | .hbm, ⟨100, _⟩ => ⟨S64x1x1x4x128, .f32⟩
  | .hbm, ⟨101, _⟩ => ⟨S64x1x64x4x128, .f32⟩
  | .hbm, ⟨102, _⟩ => ⟨S_, .f32⟩
  | .hbm, ⟨103, _⟩ => ⟨S64x4x128, .f32⟩
  | .hbm, ⟨104, _⟩ => ⟨S64x1x4x128, .f32⟩
  | .hbm, ⟨105, _⟩ => ⟨S64x1x4x128, .f32⟩
  | .hbm, ⟨106, _⟩ => ⟨S1x64x64x4x128, .f32⟩
  | .hbm, ⟨107, _⟩ => ⟨S4096x512, .f32⟩
  | .hbm, ⟨108, _⟩ => ⟨S64x1x1x4x128, .f32⟩
  | .hbm, ⟨109, _⟩ => ⟨S_, .f32⟩
  | .hbm, ⟨110, _⟩ => ⟨S64x1x64x4x128, .f32⟩
  | .hbm, ⟨111, _⟩ => ⟨S64x1x64x4x128, .f32⟩
  | .hbm, ⟨112, _⟩ => ⟨S_, .f32⟩
  | .hbm, ⟨113, _⟩ => ⟨S_, .f32⟩
  | .hbm, ⟨114, _⟩ => ⟨S64x1x64x4x128, .f32⟩
  | .hbm, ⟨115, _⟩ => ⟨S1x64x64x4x128, .f32⟩
  | .hbm, ⟨116, _⟩ => ⟨S4096x512, .f32⟩
  | .hbm, ⟨117, _⟩ => ⟨S_, .f32⟩
  | .hbm, ⟨118, _⟩ => ⟨S64x1x64x4x128, .f32⟩
  | .hbm, ⟨119, _⟩ => ⟨S64x1x64x4x128, .f32⟩
  | .hbm, ⟨120, _⟩ => ⟨S1x64x64x4x128, .f32⟩
  | .hbm, ⟨121, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_call0_cst : Ref sig .tc := ⟨.hbm, 24, rfl⟩
abbrev main_call1_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_call2_v0 : Ref sig .tc := ⟨.hbm, 40, rfl⟩
abbrev main_v29_1 : Ref sig .tc := ⟨.hbm, 41, rfl⟩
abbrev main_call2_v2 : Ref sig .tc := ⟨.hbm, 42, rfl⟩
abbrev main_v29_0 : Ref sig .tc := ⟨.hbm, 43, rfl⟩
abbrev main_call2_cst : Ref sig .tc := ⟨.hbm, 44, rfl⟩
abbrev main_v29_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call3_cst : Ref sig .tc := ⟨.hbm, 75, rfl⟩
abbrev main_call3_v0 : Ref sig .tc := ⟨.hbm, 76, rfl⟩
abbrev main_v59 : Ref sig .tc := ⟨.hbm, 77, rfl⟩
abbrev main_cst_1 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_2 : Ref sig .tc := ⟨.hbm, 82, rfl⟩
abbrev main_v63 : Ref sig .tc := ⟨.hbm, 83, rfl⟩
abbrev main_v64 : Ref sig .tc := ⟨.hbm, 84, rfl⟩
abbrev main_cst_3 : Ref sig .tc := ⟨.hbm, 85, rfl⟩
abbrev main_v65 : Ref sig .tc := ⟨.hbm, 86, rfl⟩
abbrev main_v66 : Ref sig .tc := ⟨.hbm, 87, rfl⟩
abbrev main_cst_4 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call4_call0_cst : Ref sig .tc := ⟨.hbm, 92, rfl⟩
abbrev main_call4_call0_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_5 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_6 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_7 : Ref sig .tc := ⟨.hbm, 109, rfl⟩
abbrev main_v83 : Ref sig .tc := ⟨.hbm, 110, rfl⟩
abbrev main_v84 : Ref sig .tc := ⟨.hbm, 111, rfl⟩
abbrev main_call5_call0_cst : Ref sig .tc := ⟨.hbm, 112, rfl⟩
abbrev main_call5_call0_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_8 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Kernel3.lean ====
abbrev S4096x512 : Shape := ⟨2, ![4096, 512]⟩
abbrev S4096x1024 : Shape := ⟨2, ![4096, 1024]⟩
abbrev S_ : Shape := ⟨0, ![]⟩
abbrev S4096x256 : Shape := ⟨2, ![4096, 256]⟩
abbrev S4096x3328 : Shape := ⟨2, ![4096, 3328]⟩
abbrev S4x64x256x128 : Shape := ⟨4, ![4, 64, 256, 128]⟩
abbrev S256x512 : Shape := ⟨2, ![256, 512]⟩
abbrev S256x1024 : Shape := ⟨2, ![256, 1024]⟩
abbrev S4x4x256x128 : Shape := ⟨4, ![4, 4, 256, 128]⟩
abbrev S4x256x128 : Shape := ⟨3, ![4, 256, 128]⟩
abbrev S64x64 : Shape := ⟨2, ![64, 64]⟩
abbrev S64x128 : Shape := ⟨2, ![64, 128]⟩
abbrev S128 : Shape := ⟨1, ![128]⟩
abbrev S1x128 : Shape := ⟨2, ![1, 128]⟩
abbrev S1x256x128 : Shape := ⟨3, ![1, 256, 128]⟩
abbrev S256x128 : Shape := ⟨2, ![256, 128]⟩
abbrev S1x1x256x128 : Shape := ⟨4, ![1, 1, 256, 128]⟩
abbrev S64x256 : Shape := ⟨2, ![64, 256]⟩

abbrev nBuf : Space → Nat
  | .hbm => 11
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096x256, .f32⟩
  | .hbm, ⟨8, _⟩ => ⟨S4096x3328, .f32⟩
  | .hbm, ⟨9, _⟩ => ⟨S4096x1024, .f32⟩
  | .hbm, ⟨10, _⟩ => ⟨S4x64x256x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S4x4x256x128, .f32⟩
  | .local _ .vmem, ⟨11, _⟩ => ⟨S4x4x256x128, .f32⟩
  | .local _ .vmem, ⟨12, _⟩ => ⟨S4x256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x512 : Shape := ⟨2, ![4096, 512]⟩
abbrev S4096x1024 : Shape := ⟨2, ![4096, 1024]⟩
abbrev S1x64x64x4x128 : Shape := ⟨5, ![1, 64, 64, 4, 128]⟩
abbrev S64x1x64x4x128 : Shape := ⟨5, ![64, 1, 64, 4, 128]⟩
abbrev S_ : Shape := ⟨0, ![]⟩
abbrev S64x1x1x4x128 : Shape := ⟨5, ![64, 1, 1, 4, 128]⟩
abbrev S64x1x4x128 : Shape := ⟨4, ![64, 1, 4, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1x1x1 : Shape := ⟨5, ![64, 64, 1, 1, 1]⟩
abbrev S1x64x1x4x128 : Shape := ⟨5, ![1, 64, 1, 4, 128]⟩
abbrev S64x64x1x4x128 : Shape := ⟨5, ![64, 64, 1, 4, 128]⟩
abbrev S1x64x64x4x256 : Shape := ⟨5, ![1, 64, 64, 4, 256]⟩
abbrev S64x1x64x4x256 : Shape := ⟨5, ![64, 1, 64, 4, 256]⟩
abbrev S64x1x4x128x256 : Shape := ⟨5, ![64, 1, 4, 128, 256]⟩
abbrev S1x4x128x256x64 : Shape := ⟨5, ![1, 4, 128, 256, 64]⟩
abbrev S63x1x4x128x256 : Shape := ⟨5, ![63, 1, 4, 128, 256]⟩
abbrev S63x4x128x256 : Shape := ⟨4, ![63, 4, 128, 256]⟩
abbrev S1x4x128x256 : Shape := ⟨4, ![1, 4, 128, 256]⟩
abbrev S64x4x128x256 : Shape := ⟨4, ![64, 4, 128, 256]⟩
abbrev S64x1x4x256x64 : Shape := ⟨5, ![64, 1, 4, 256, 64]⟩
abbrev S4x64x256x128 : Shape := ⟨4, ![4, 64, 256, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S1x64x64x4x128, .f32⟩
  | .hbm, ⟨5, _⟩ => ⟨S64x1x64x4x128, .f32⟩
  | .hbm, ⟨6, _⟩ => ⟨S_, .f32⟩
  | .hbm, ⟨7, _⟩ => ⟨S_, .f32⟩
  | .hbm, ⟨8, _⟩ => ⟨S64x1x64x4x128, .f32⟩
  | .hbm, ⟨9, _⟩ => ⟨S64x1x1x4x128, .f32⟩
  | .hbm, ⟨10, _⟩ => ⟨S64x1x4x128, .f32⟩
  | .hbm, ⟨11, _⟩ => ⟨S1x64x64x4x128, .f32⟩
  | .hbm, ⟨12, _⟩ => ⟨S64x1x64x4x128, .f32⟩
  | .hbm, ⟨13, _⟩ => ⟨S64x1x1x4x128, .f32⟩
  | .hbm, ⟨14, _⟩ => ⟨S64x1x64x4x128, .f32⟩
  | .hbm, ⟨15, _⟩ => ⟨S64x1x64x4x128, .f32⟩
  | .hbm, ⟨16, _⟩ => ⟨S64x1x64x4x128, .f32⟩
  | .hbm, ⟨17, _⟩ => ⟨S64x1x64x4x128, .f32⟩
  | .hbm, ⟨18, _⟩ => ⟨S_, .f32⟩
  | .hbm, ⟨19, _⟩ => ⟨S_, .f32⟩
  | .hbm, ⟨20, _⟩ => ⟨S64x1x4x128, .f32⟩
  | .hbm, ⟨21, _⟩ => ⟨S64, .i32⟩
  | .hbm, ⟨22, _⟩ => ⟨S1x64, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64x1x1x1, .i1⟩
  | .hbm, ⟨28, _⟩ => ⟨S64x1x1x4x128, .f32⟩
  | .hbm, ⟨29, _⟩ => ⟨S1x64x1x4x128, .f32⟩
  | .hbm, ⟨30, _⟩ => ⟨S64x64x1x4x128, .f32⟩
  | .hbm, ⟨31, _⟩ => ⟨S64x64x1x4x128, .f32⟩
  | .hbm, ⟨32, _⟩ => ⟨S64x64x1x4x128, .f32⟩
  | .hbm, ⟨33, _⟩ => ⟨S_, .f32⟩
  | .hbm, ⟨34, _⟩ => ⟨S_, .f32⟩
  | .hbm, ⟨35, _⟩ => ⟨S64x64x1x4x128, .i1⟩
  | .hbm, ⟨36, _⟩ => ⟨S64x64x1x4x128, .f32⟩
  | .hbm, ⟨37, _⟩ => ⟨S64x64x1x4x128, .f32⟩
  | .hbm, ⟨38, _⟩ => ⟨S64x64x1x4x128, .f32⟩
  | .hbm, ⟨39, _⟩ => ⟨S1x64x64x4x256, .f32⟩
  | .hbm, ⟨40, _⟩ => ⟨S64x1x64x4x256, .f32⟩
  | .hbm, ⟨41, _⟩ => ⟨S64x1x4x128x256, .f32⟩
  | .hbm, ⟨42, _⟩ => ⟨S1x4x128x256x64, .f32⟩
  | .hbm, ⟨43, _⟩ => ⟨S64x1x4x128x256, .f32⟩
  | .hbm, ⟨44, _⟩ => ⟨S63x1x4x128x256, .f32⟩
  | .hbm, ⟨45, _⟩ => ⟨S63x4x128x256, .f32⟩
  | .hbm, ⟨46, _⟩ => ⟨S_, .f32⟩
  | .hbm, ⟨47, _⟩ => ⟨S1x4x128x256, .f32⟩
  | .hbm, ⟨48, _⟩ => ⟨S64x4x128x256, .f32⟩
  | .hbm, ⟨49, _⟩ => ⟨S1x64x64x4x128, .f32⟩
  | .hbm, ⟨50, _⟩ => ⟨S64x1x64x4x128, .f32⟩
  | .hbm, ⟨51, _⟩ => ⟨S_, .f32⟩
  | .hbm, ⟨52, _⟩ => ⟨S64x1x64x4x128, .f32⟩
  | .hbm, ⟨53, _⟩ => ⟨S64x1x64x4x128, .f32⟩
  | .hbm, ⟨54, _⟩ => ⟨S1x64x64x4x128, .f32⟩
  | .hbm, ⟨55, _⟩ => ⟨S64x1x64x4x128, .f32⟩
  | .hbm, ⟨56, _⟩ => ⟨S_, .f32⟩
  | .hbm, ⟨57, _⟩ => ⟨S_, .f32⟩
  | .hbm, ⟨58, _⟩ => ⟨S64x1x64x4x128, .f32⟩
  | .hbm, ⟨59, _⟩ => ⟨S64x1x1x4x128, .f32⟩
  | .hbm, ⟨60, _⟩ => ⟨S64x1x4x128, .f32⟩
  | .hbm, ⟨61, _⟩ => ⟨S1x64x64x4x128, .f32⟩
  | .hbm, ⟨62, _⟩ => ⟨S64x1x64x4x128, .f32⟩
  | .hbm, ⟨63, _⟩ => ⟨S64x1x1x4x128, .f32⟩
  | .hbm, ⟨64, _⟩ => ⟨S64x1x64x4x128, .f32⟩
  | .hbm, ⟨65, _⟩ => ⟨S64x1x64x4x128, .f32⟩
  | .hbm, ⟨66, _⟩ => ⟨S64x1x64x4x128, .f32⟩
  | .hbm, ⟨67, _⟩ => ⟨S64x1x64x4x128, .f32⟩
  | .hbm, ⟨68, _⟩ => ⟨S_, .f32⟩
  | .hbm, ⟨69, _⟩ => ⟨S_, .f32⟩
  | .hbm, ⟨70, _⟩ => ⟨S64x1x4x128, .f32⟩
  | .hbm, ⟨71, _⟩ => ⟨S64, .i32⟩
  | .hbm, ⟨72, _⟩ => ⟨S1x64, .i32⟩
  | .hbm, ⟨73, _⟩ => ⟨S64x1, .i32⟩
  | .hbm, ⟨74, _⟩ => ⟨S64x64, .i32⟩
  | .hbm, ⟨75, _⟩ => ⟨S64x64, .i32⟩
  | .hbm, ⟨76, _⟩ => ⟨S64x64, .i1⟩
  | .hbm, ⟨77, _⟩ => ⟨S64x64x1x1x1, .i1⟩
  | .hbm, ⟨78, _⟩ => ⟨S64x1x1x4x128, .f32⟩
  | .hbm, ⟨79, _⟩ => ⟨S1x64x1x4x128, .f32⟩
  | .hbm, ⟨80, _⟩ => ⟨S64x64x1x4x128, .f32⟩
  | .hbm, ⟨81, _⟩ => ⟨S64x64x1x4x128, .f32⟩
  | .hbm, ⟨82, _⟩ => ⟨S64x64x1x4x128, .f32⟩
  | .hbm, ⟨83, _⟩ => ⟨S_, .f32⟩
  | .hbm, ⟨84, _⟩ => ⟨S_, .f32⟩
  | .hbm, ⟨85, _⟩ => ⟨S64x64x1x4x128, .i1⟩
  | .hbm, ⟨86, _⟩ => ⟨S64x64x1x4x128, .f32⟩
  | .hbm, ⟨87, _⟩ => ⟨S64x64x1x4x128, .f32⟩
  | .hbm, ⟨88, _⟩ => ⟨S64x64x1x4x128, .f32⟩
  | .hbm, ⟨89, _⟩ => ⟨S1x64x64x4x256, .f32⟩
  | .hbm, ⟨90, _⟩ => ⟨S64x1x64x4x256, .f32⟩
  | .hbm, ⟨91, _⟩ => ⟨S64x1x4x128x256, .f32⟩
  | .hbm, ⟨92, _⟩ => ⟨S1x4x128x256x64, .f32⟩
  | .hbm, ⟨93, _⟩ => ⟨S64x1x4x128x256, .f32⟩
  | .hbm, ⟨94, _⟩ => ⟨S64x1x4x256x64, .f32⟩
  | .hbm, ⟨95, _⟩ => ⟨S64x1x64x4x256, .f32⟩
  | .hbm, ⟨96, _⟩ => ⟨S1x64x64x4x256, .f32⟩
  | .hbm, ⟨97, _⟩ => ⟨S4096x1024, .f32⟩
  | .hbm, ⟨98, _⟩ => ⟨S4x64x256x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_call0_cst : Ref sig .tc := ⟨.hbm, 18, rfl⟩
abbrev main_call1_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call3_call0_cst : Ref sig .tc := ⟨.hbm, 56, rfl⟩
abbrev main_call3_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call4_call0_cst : Ref sig .tc := ⟨.hbm, 68, rfl⟩
abbrev main_call4_call0_v0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_2 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel4.lean ====
abbrev S4096x2048 : Shape := ⟨2, ![4096, 2048]⟩
abbrev S4096x1024 : Shape := ⟨2, ![4096, 1024]⟩
abbrev S1024x2048 : Shape := ⟨2, ![1024, 2048]⟩
abbrev S2048x4096 : Shape := ⟨2, ![2048, 4096]⟩
abbrev S1x4096 : Shape := ⟨2, ![1, 4096]⟩
abbrev S2048x2048 : Shape := ⟨2, ![2048, 2048]⟩
abbrev S4096x4096 : Shape := ⟨2, ![4096, 4096]⟩
abbrev S1024x8x256 : Shape := ⟨3, ![1024, 8, 256]⟩
abbrev S8x1024x256 : Shape := ⟨3, ![8, 1024, 256]⟩
abbrev S2048x8x512 : Shape := ⟨3, ![2048, 8, 512]⟩
abbrev S8x2048x512 : Shape := ⟨3, ![8, 2048, 512]⟩
abbrev S1x2048 : Shape := ⟨2, ![1, 2048]⟩
abbrev S1x2048x512 : Shape := ⟨3, ![1, 2048, 512]⟩
abbrev S1024x512 : Shape := ⟨2, ![1024, 512]⟩
abbrev S2048x512 : Shape := ⟨2, ![2048, 512]⟩
abbrev S1024x1024 : Shape := ⟨2, ![1024, 1024]⟩
abbrev S1x1024x256 : Shape := ⟨3, ![1, 1024, 256]⟩
abbrev S1024x256 : Shape := ⟨2, ![1024, 256]⟩
abbrev S256x2048 : Shape := ⟨2, ![256, 2048]⟩
abbrev S16x2048 : Shape := ⟨2, ![16, 2048]⟩
abbrev S2048x1024 : Shape := ⟨2, ![2048, 1024]⟩
abbrev S4096x512 : Shape := ⟨2, ![4096, 512]⟩
abbrev S1x1024x512 : Shape := ⟨3, ![1, 1024, 512]⟩
abbrev S4096x256 : Shape := ⟨2, ![4096, 256]⟩
abbrev S512x4096 : Shape := ⟨2, ![512, 4096]⟩
abbrev S8x1024x512 : Shape := ⟨3, ![8, 1024, 512]⟩
abbrev S512x1024 : Shape := ⟨2, ![512, 1024]⟩
abbrev S512x512 : Shape := ⟨2, ![512, 512]⟩

abbrev nBuf : Space → Nat
  | .hbm => 45
  | .vmem => 82
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024x2048, .f32⟩
  | .hbm, ⟨6, _⟩ => ⟨S2048x4096, .f32⟩
  | .hbm, ⟨7, _⟩ => ⟨S1x4096, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x4096, .f32⟩
  | .hbm, ⟨13, _⟩ => ⟨S1024x8x256, .f32⟩
  | .hbm, ⟨14, _⟩ => ⟨S8x1024x256, .f32⟩
  | .hbm, ⟨15, _⟩ => ⟨S8x1024x256, .bf16⟩
  | .hbm, ⟨16, _⟩ => ⟨S1024x8x256, .f32⟩
  | .hbm, ⟨17, _⟩ => ⟨S8x1024x256, .f32⟩
  | .hbm, ⟨18, _⟩ => ⟨S8x1024x256, .bf16⟩
  | .hbm, ⟨19, _⟩ => ⟨S2048x8x512, .f32⟩
  | .hbm, ⟨20, _⟩ => ⟨S8x2048x512, .f32⟩
  | .hbm, ⟨21, _⟩ => ⟨S8x2048x512, .bf16⟩
  | .hbm, ⟨22, _⟩ => ⟨S2048x2048, .bf16⟩
  | .hbm, ⟨23, _⟩ => ⟨S4096x2048, .bf16⟩
  | .hbm, ⟨24, _⟩ => ⟨S4096x1024, .bf16⟩
  | .hbm, ⟨25, _⟩ => ⟨S4096x1024, .bf16⟩
  | .hbm, ⟨26, _⟩ => ⟨S4096x2048, .bf16⟩
  | .hbm, ⟨27, _⟩ => ⟨S4096x2048, .bf16⟩
  | .hbm, ⟨28, _⟩ => ⟨S4096x2048, .bf16⟩
  | .hbm, ⟨29, _⟩ => ⟨S4096x4096, .bf16⟩
  | .hbm, ⟨30, _⟩ => ⟨S1x2048, .f32⟩
  | .hbm, ⟨31, _⟩ => ⟨S1x2048, .f32⟩
  | .hbm, ⟨32, _⟩ => ⟨S4096x4096, .f32⟩
  | .hbm, ⟨33, _⟩ => ⟨S4096x2048, .f32⟩
  | .hbm, ⟨34, _⟩ => ⟨S4096x2048, .f32⟩
  | .hbm, ⟨35, _⟩ => ⟨S4096x2048, .bf16⟩
  | .hbm, ⟨36, _⟩ => ⟨S4096x2048, .f32⟩
  | .hbm, ⟨37, _⟩ => ⟨S2048x2048, .bf16⟩
  | .hbm, ⟨38, _⟩ => ⟨S4096x2048, .f32⟩
  | .hbm, ⟨39, _⟩ => ⟨S8x2048x512, .bf16⟩
  | .hbm, ⟨40, _⟩ => ⟨S8x1024x256, .bf16⟩
  | .hbm, ⟨41, _⟩ => ⟨S8x1024x256, .bf16⟩
  | .hbm, ⟨42, _⟩ => ⟨S4096x1024, .f32⟩
  | .hbm, ⟨43, _⟩ => ⟨S4096x1024, .f32⟩
  | .hbm, ⟨44, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x256, .bf16⟩
  | .local _ .vmem, ⟨15, _⟩ => ⟨S1x1024x256, .bf16⟩
  | .local _ .vmem, ⟨16, _⟩ => ⟨S1024x256, .f32⟩
  | .local _ .vmem, ⟨17, _⟩ => ⟨S1024x256, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S1x2048, .f32⟩
  | .local _ .vmem, ⟨27, _⟩ => ⟨S1x2048, .f32⟩
  | .local _ .vmem, ⟨28, _⟩ => ⟨S256x2048, .bf16⟩
  | .local _ .vmem, ⟨29, _⟩ => ⟨S256x2048, .bf16⟩
  | .local _ .vmem, ⟨30, _⟩ => ⟨S1024x2048, .bf16⟩
  | .local _ .vmem, ⟨31, _⟩ => ⟨S1024x2048, .bf16⟩
  | .local _ .vmem, ⟨32, _⟩ => ⟨S2048x1024, .bf16⟩
  | .local _ .vmem, ⟨33, _⟩ => ⟨S2048x1024, .bf16⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S4096x1024, .bf16⟩
  | .local _ .vmem, ⟨39, _⟩ => ⟨S4096x1024, .bf16⟩
  | .local _ .vmem, ⟨40, _⟩ => ⟨S4096x1024, .bf16⟩
  | .local _ .vmem, ⟨41, _⟩ => ⟨S4096x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x2048, .bf16⟩
  | .local _ .vmem, ⟨45, _⟩ => ⟨S1024x2048, .bf16⟩
  | .local _ .vmem, ⟨46, _⟩ => ⟨S1024x2048, .bf16⟩
  | .local _ .vmem, ⟨47, _⟩ => ⟨S1024x2048, .bf16⟩
  | .local _ .vmem, ⟨48, _⟩ => ⟨S1024x1024, .f32⟩
  | .local _ .vmem, ⟨49, _⟩ => ⟨S1024x1024, .f32⟩
  | .local _ .vmem, ⟨50, _⟩ => ⟨S4096x1024, .bf16⟩
  | .local _ .vmem, ⟨51, _⟩ => ⟨S4096x1024, .bf16⟩
  | .local _ .vmem, ⟨52, _⟩ => ⟨S4096x512, .bf16⟩
  | .local _ .vmem, ⟨53, _⟩ => ⟨S4096x512, .bf16⟩
  | .local _ .vmem, ⟨54, _⟩ => ⟨S1x1024x512, .bf16⟩
  | .local _ .vmem, ⟨55, _⟩ => ⟨S1x1024x512, .bf16⟩
  | .local _ .vmem, ⟨56, _⟩ => ⟨S4096x1024, .bf16⟩
  | .local _ .vmem, ⟨57, _⟩ => ⟨S4096x256, .bf16⟩
  | .local _ .vmem, ⟨58, _⟩ => ⟨S4096x256, .bf16⟩
  | .local _ .vmem, ⟨59, _⟩ => ⟨S1x1024x256, .bf16⟩
  | .local _ .vmem, ⟨60, _⟩ => ⟨S1x1024x256, .bf16⟩
  | .local _ .vmem, ⟨61, _⟩ => ⟨S4096x1024, .bf16⟩
  | .local _ .vmem, ⟨62, _⟩ => ⟨S4096x256, .bf16⟩
  | .local _ .vmem, ⟨63, _⟩ => ⟨S4096x256, .bf16⟩
  | .local _ .vmem, ⟨64, _⟩ => ⟨S1x1024x256, .bf16⟩
  | .local _ .vmem, ⟨65, _⟩ => ⟨S1x1024x256, .bf16⟩
  | .local _ .vmem, ⟨66, _⟩ => ⟨S1024x2048, .bf16⟩
  | .local _ .vmem, ⟨67, _⟩ => ⟨S1024x2048, .bf16⟩
  | .local _ .vmem, ⟨68, _⟩ => ⟨S8x1024x256, .bf16⟩
  | .local _ .vmem, ⟨69, _⟩ => ⟨S1024x1024, .f32⟩
  | .local _ .vmem, ⟨70, _⟩ => ⟨S1024x1024, .f32⟩
  | .local _ .vmem, ⟨71, _⟩ => ⟨S1024x2048, .bf16⟩
  | .local _ .vmem, ⟨72, _⟩ => ⟨S1024x2048, .bf16⟩
  | .local _ .vmem, ⟨73, _⟩ => ⟨S8x1024x256, .bf16⟩
  | .local _ .vmem, ⟨74, _⟩ => ⟨S1024x1024, .f32⟩
  | .local _ .vmem, ⟨75, _⟩ => ⟨S1024x1024, .f32⟩
  | .local _ .vmem, ⟨76, _⟩ => ⟨S512x4096, .bf16⟩
  | .local _ .vmem, ⟨77, _⟩ => ⟨S512x4096, .bf16⟩
  | .local _ .vmem, ⟨78, _⟩ => ⟨S8x1024x512, .bf16⟩
  | .local _ .vmem, ⟨79, _⟩ => ⟨S8x1024x512, .bf16⟩
  | .local _ .vmem, ⟨80, _⟩ => ⟨S512x1024, .f32⟩
  | .local _ .vmem, ⟨81, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg2_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg2_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_stg2_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc8_sem0_0 : DmaSem sig := 56
abbrev cc8_sem1_0 : DmaSem sig := 57
abbrev cc8_sem1_1 : DmaSem sig := 58
abbrev cc8_sem2_0 : DmaSem sig := 59
abbrev cc8_sem2_1 : DmaSem sig := 60
abbrev cc9_sem0_0 : DmaSem sig := 61
abbrev cc9_sem1_0 : DmaSem sig := 62
abbrev cc9_sem1_1 : DmaSem sig := 63
abbrev cc9_sem2_0 : DmaSem sig := 64
abbrev cc9_sem2_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem2_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem2_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem2_1 : DmaSem sig := 81

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![16], ![false]⟩

@[reducible] def k3_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k3_mult1 (k3_t1 : Fin k3_t1_loop.trips) : BitVec 32 :=
  let c0_i32 : BitVec 32 := 0#32
  let c1_i32 : BitVec 32 := 1#32
  let arg8 : BitVec 32 := Scf.iv c0_i32 c1_i32 k3_t1
  let c16_i32_4 : BitVec 32 := 16#32
  let v5 : BitVec 32 := Scalar.muli arg8 c16_i32_4
  v5
def k3_off1 (k3_t1 : Fin k3_t1_loop.trips) : Fin 2 → Nat :=
  let c0_i32 : BitVec 32 := 0#32
  let c1_i32 : BitVec 32 := 1#32
  let arg8 : BitVec 32 := Scf.iv c0_i32 c1_i32 k3_t1
  let c16_i32_4 : BitVec 32 := 16#32
  let v5 : BitVec 32 := Scalar.muli arg8 c16_i32_4
  let v6 : BitVec 32 := v5
  let v7 : Index := Scalar.indexCast v6
  let c0_5 : Index := 0#32
  ![v7.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4096x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S4096x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1x1024x256 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S8x1024x256 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, false]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![4, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S8x1024x256 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, false]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![8, 2, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S512x4096 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S8x1024x512 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, false]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]
-- ==== Reference4Ideal.lean ====
abbrev S4096x2048 : Shape := ⟨2, ![4096, 2048]⟩
abbrev S4096x1024 : Shape := ⟨2, ![4096, 1024]⟩
abbrev S1024x2048 : Shape := ⟨2, ![1024, 2048]⟩
abbrev S2048x4096 : Shape := ⟨2, ![2048, 4096]⟩
abbrev S1x4096 : Shape := ⟨2, ![1, 4096]⟩
abbrev S2048x2048 : Shape := ⟨2, ![2048, 2048]⟩
abbrev S4096x4096 : Shape := ⟨2, ![4096, 4096]⟩
abbrev S4096 : Shape := ⟨1, ![4096]⟩
abbrev S_ : Shape := ⟨0, ![]⟩
abbrev S2048x1024 : Shape := ⟨2, ![2048, 1024]⟩
abbrev S1024x8x256 : Shape := ⟨3, ![1024, 8, 256]⟩
abbrev S8x1024x256 : Shape := ⟨3, ![8, 1024, 256]⟩
abbrev S2048x8x512 : Shape := ⟨3, ![2048, 8, 512]⟩
abbrev S8x2048x512 : Shape := ⟨3, ![8, 2048, 512]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024x2048, .f32⟩
  | .hbm, ⟨6, _⟩ => ⟨S2048x4096, .f32⟩
  | .hbm, ⟨7, _⟩ => ⟨S1x4096, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S2048x2048, .f32⟩
  | .hbm, ⟨35, _⟩ => ⟨S2048x2048, .f32⟩
  | .hbm, ⟨36, _⟩ => ⟨S4096x2048, .f32⟩
  | .hbm, ⟨37, _⟩ => ⟨S4096x2048, .f32⟩
  | .hbm, ⟨38, _⟩ => ⟨S2048x1024, .f32⟩
  | .hbm, ⟨39, _⟩ => ⟨S1024x2048, .f32⟩
  | .hbm, ⟨40, _⟩ => ⟨S4096x1024, .f32⟩
  | .hbm, ⟨41, _⟩ => ⟨S4096x2048, .f32⟩
  | .hbm, ⟨42, _⟩ => ⟨S2048x1024, .f32⟩
  | .hbm, ⟨43, _⟩ => ⟨S1024x2048, .f32⟩
  | .hbm, ⟨44, _⟩ => ⟨S4096x1024, .f32⟩
  | .hbm, ⟨45, _⟩ => ⟨S4096x4096, .f32⟩
  | .hbm, ⟨46, _⟩ => ⟨S4096x2048, .f32⟩
  | .hbm, ⟨47, _⟩ => ⟨S2048x4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S2048x2048, .bf16⟩
  | .hbm, ⟨52, _⟩ => ⟨S1024x8x256, .f32⟩
  | .hbm, ⟨53, _⟩ => ⟨S8x1024x256, .f32⟩
  | .hbm, ⟨54, _⟩ => ⟨S8x1024x256, .bf16⟩
  | .hbm, ⟨55, _⟩ => ⟨S1024x8x256, .f32⟩
  | .hbm, ⟨56, _⟩ => ⟨S8x1024x256, .f32⟩
  | .hbm, ⟨57, _⟩ => ⟨S8x1024x256, .bf16⟩
  | .hbm, ⟨58, _⟩ => ⟨S2048x8x512, .f32⟩
  | .hbm, ⟨59, _⟩ => ⟨S8x2048x512, .f32⟩
  | .hbm, ⟨60, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Ffn.Run.lean ====
/- The run of the half-step's program from the launch to the return, with what the result arrays hold at its end: the generated
   launch, read at the results as well as at the arguments. -/
module

public import proofs.«01_k».proof.Proof.Gen.KernelIdeal.Frame
public import Idealize.ShloMosaic.PureOps.Ideal

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- The whole run: it terminates, nothing faulting, every argument ends as launched, the five result arrays hold what the chain of calls
    gives, and every counter is at zero. -/
theorem run_results : θ_run defs (onTc (τ := τ) (main (F := Ideal))) ⟨m, fun _ => 0, ρ⟩ (fun r => (∀ c : Dev nD,
      r.2.mem ((c.tc : Thread nD τ).loc main_v14) = W18 m ρ c (Proc.devRef .tc main_v14)
      ∧ r.2.mem ((c.tc : Thread nD τ).loc main_v27) = W18 m ρ c (Proc.devRef .tc main_v27)
      ∧ r.2.mem ((c.tc : Thread nD τ).loc main_v24) = W18 m ρ c (Proc.devRef .tc main_v24)
      ∧ r.2.mem ((c.tc : Thread nD τ).loc main_v25) = W18 m ρ c (Proc.devRef .tc main_v25)
      ∧ r.2.mem ((c.tc : Thread nD τ).loc main_v16) = W18 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨(fun c =>
      ⟨h c _ (mem_uc main_v14 (by decide)),
       h c _ (mem_uc main_v27 (by decide)),
       h c _ (mem_uc main_v24 (by decide)),
       h c _ (mem_uc main_v25 (by decide)),
       h c _ (mem_uc main_v16 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c)⟩), funext fun g => hz g (.inr (no_unscoped g.2))⟩)

end Cert.KernelIdeal.Ffn

end
-- ==== Proof.Ffn.Gate.lean ====
/- The gate and up products of the feed-forward half-step (calls 1 and 2): what each result array holds when the call is over. -/
module

public import proofs.«01_k».proof.Proof.Gen.KernelIdeal.Frame.Region1
public import proofs.«01_k».proof.Proof.Gen.KernelIdeal.Frame.Region2
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Rows of the normalised input against the columns of one chunk of a weight. -/
def rowsByCols (n : FVec Ideal S4096x2048 .bf16) (w : FVec Ideal S8x2048x704 .bf16) : FVec Ideal S8x4096x704 .bf16 :=
  fun i => ∑ k : Fin 2048, n (ix2 (i 1) k) * w (ix3 (i 0) k (i 2))

theorem idx1 : ∀ t : Fin cfg1.N, win1_0.index t = ![(grid1.coords t 0).val, 0] ∧ win1_1.index t = ![(grid1.coords t 1).val, 0, 0] ∧ win1_2.index t = ![(grid1.coords t 1).val, (grid1.coords t 0).val, 0] :=
  (by decide +kernel : ∀ t : Fin grid1.N, _)

theorem point1 (c : Dev nD) (t : Fin cfg1.N) (y) :
    k1_pay1 (iblk1 V c 0 t) (iblk1 V c 1 t) y = rowsByCols (V c main_v7) (V c main_v2) (((cfg1.win 2).blk t).view.emb y) := by
  pointwise [k1_pay1, rowsByCols]
  blk_point [iblk1, idx1 t]

/-- After the gate product its array holds every row against every column. -/
theorem final1 (c : Dev nD) : (dat1 V c).arrAt 2 cfg1.N = rowsByCols (V c main_v7) (V c main_v2) := by
  refine (dat1 V c).arrAt_eq_of_covers 2 _ (by decide +kernel) fun t _ y => ?_
  blk_simp
  rw [after1_2]; frame_out
  exact point1 V c t y

theorem idx2 : ∀ t : Fin cfg2.N, win2_0.index t = ![(grid2.coords t 0).val, 0] ∧ win2_1.index t = ![(grid2.coords t 1).val, 0, 0] ∧ win2_2.index t = ![(grid2.coords t 1).val, (grid2.coords t 0).val, 0] :=
  (by decide +kernel : ∀ t : Fin grid2.N, _)

theorem point2 (c : Dev nD) (t : Fin cfg2.N) (y) :
    k2_pay1 (iblk2 V c 0 t) (iblk2 V c 1 t) y = rowsByCols (V c main_v7) (V c main_v5) (((cfg2.win 2).blk t).view.emb y) := by
  pointwise [k2_pay1, rowsByCols]
  blk_point [iblk2, idx2 t]

/-- After the up product its array holds every row against every column. -/
theorem final2 (c : Dev nD) : (dat2 V c).arrAt 2 cfg2.N = rowsByCols (V c main_v7) (V c main_v5) := by
  refine (dat2 V c).arrAt_eq_of_covers 2 _ (by decide +kernel) fun t _ y => ?_
  blk_simp
  rw [after2_2]; frame_out
  exact point2 V c t y

end Cert.KernelIdeal.Ffn

end
-- ==== Proof.Ffn.RowProducts.lean ====
/- The products of the backward pass over whole rows (calls 5, 6, 8 and 9): what each result array holds when the call is over. -/
module

public import proofs.«01_k».proof.Proof.Gen.KernelIdeal.Frame.Region5
public import proofs.«01_k».proof.Proof.Gen.KernelIdeal.Frame.Region6
public import proofs.«01_k».proof.Proof.Gen.KernelIdeal.Frame.Region8
public import proofs.«01_k».proof.Proof.Gen.KernelIdeal.Frame.Region9
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The gradient of the down weight: columns of the hidden value against columns of the cotangent, halved. -/
def downGrad (hm : FVec Ideal S8x4096x704 .bf16) (d : FVec Ideal S4096x2048 .bf16) : FVec Ideal S5632x2048 .bf16 :=
  fun i => (∑ s : Fin 4096, hm (ix3 ⟨(i 0).val / 704, by have := (i 0).isLt; simp at this; omega⟩ s ⟨(i 0).val % 704, Nat.mod_lt _ (by decide)⟩) * d (ix2 s (i 1)))
    * Ideal.ofBits .f32 0x3F000000#32

/-- The gradient of the hidden value: rows of the cotangent against rows of the down weight, halved. -/
def hiddenGrad (d : FVec Ideal S4096x2048 .bf16) (w : FVec Ideal S5632x2048 .bf16) : FVec Ideal S8x4096x704 .bf16 :=
  fun i => (∑ k : Fin 2048, d (ix2 (i 1) k) * w (ix2 ⟨704 * (i 0).val + (i 2).val, by have := (i 0).isLt; have := (i 2).isLt; simp at *; omega⟩ k))
    * Ideal.ofBits .f32 0x3F000000#32

/-- The gradient of a gate or up weight: columns of the normalised input against columns of one chunk. -/
def colsByCols (n : FVec Ideal S4096x2048 .bf16) (d : FVec Ideal S8x4096x704 .bf16) : FVec Ideal S8x2048x704 .bf16 :=
  fun i => ∑ s : Fin 4096, n (ix2 s (i 1)) * d (ix3 (i 0) s (i 2))

theorem idx5 : ∀ t : Fin cfg5.N, win5_0.index t = ![(grid5.coords t 0).val, 0, 0] ∧ win5_1.index t = ![0, (grid5.coords t 1).val] ∧ win5_2.index t = ![(grid5.coords t 0).val, (grid5.coords t 1).val] :=
  (by decide +kernel : ∀ t : Fin grid5.N, _)

theorem point5 (c : Dev nD) (t : Fin cfg5.N) (y) :
    k5_pay1 (iblk5 V c 0 t) (iblk5 V c 1 t) y = downGrad (V c main_v13) (V c main_v15) (((cfg5.win 2).blk t).view.emb y) := by
  pointwise [k5_pay1, downGrad]
  blk_point [iblk5, idx5 t]

/-- The down weight's gradient after its call. -/
theorem final5 (c : Dev nD) : (dat5 V c).arrAt 2 cfg5.N = downGrad (V c main_v13) (V c main_v15) := by
  refine (dat5 V c).arrAt_eq_of_covers 2 _ (by decide +kernel) fun t _ y => ?_
  blk_simp
  rw [after5_2]; frame_out
  exact point5 V c t y

theorem idx6 : ∀ t : Fin cfg6.N, win6_0.index t = ![(grid6.coords t 0).val, 0] ∧ win6_1.index t = ![(grid6.coords t 1).val, 0] ∧ win6_2.index t = ![(grid6.coords t 1).val, (grid6.coords t 0).val, 0] :=
  (by decide +kernel : ∀ t : Fin grid6.N, _)

theorem point6 (c : Dev nD) (t : Fin cfg6.N) (y) :
    k6_pay1 (iblk6 V c 0 t) (iblk6 V c 1 t) y = hiddenGrad (V c main_v15) (V c main_v6) (((cfg6.win 2).blk t).view.emb y) := by
  pointwise [k6_pay1, hiddenGrad]
  blk_point [iblk6, idx6 t]

/-- The hidden value's gradient after its call. -/
theorem final6 (c : Dev nD) : (dat6 V c).arrAt 2 cfg6.N = hiddenGrad (V c main_v15) (V c main_v6) := by
  refine (dat6 V c).arrAt_eq_of_covers 2 _ (by decide +kernel) fun t _ y => ?_
  blk_simp
  rw [after6_2]; frame_out
  exact point6 V c t y

theorem idx8 : ∀ t : Fin cfg8.N, win8_0.index t = ![0, (grid8.coords t 0).val] ∧ win8_1.index t = ![(grid8.coords t 1).val, 0, 0] ∧ win8_2.index t = ![(grid8.coords t 1).val, (grid8.coords t 0).val, 0] :=
  (by decide +kernel : ∀ t : Fin grid8.N, _)

theorem point8 (c : Dev nD) (t : Fin cfg8.N) (y) :
    k8_pay1 (iblk8 V c 0 t) (iblk8 V c 1 t) y = colsByCols (V c main_v7) (V c main_v22) (((cfg8.win 2).blk t).view.emb y) := by
  pointwise [k8_pay1, colsByCols]
  blk_point [iblk8, idx8 t]

/-- A weight's gradient after its call. -/
theorem final8 (c : Dev nD) : (dat8 V c).arrAt 2 cfg8.N = colsByCols (V c main_v7) (V c main_v22) := by
  refine (dat8 V c).arrAt_eq_of_covers 2 _ (by decide +kernel) fun t _ y => ?_
  blk_simp
  rw [after8_2]; frame_out
  exact point8 V c t y

theorem idx9 : ∀ t : Fin cfg9.N, win9_0.index t = ![0, (grid9.coords t 0).val] ∧ win9_1.index t = ![(grid9.coords t 1).val, 0, 0] ∧ win9_2.index t = ![(grid9.coords t 1).val, (grid9.coords t 0).val, 0] :=
  (by decide +kernel : ∀ t : Fin grid9.N, _)

theorem point9 (c : Dev nD) (t : Fin cfg9.N) (y) :
    k9_pay1 (iblk9 V c 0 t) (iblk9 V c 1 t) y = colsByCols (V c main_v7) (V c main_v23) (((cfg9.win 2).blk t).view.emb y) := by
  pointwise [k9_pay1, colsByCols]
  blk_point [iblk9, idx9 t]

/-- A weight's gradient after its call. -/
theorem final9 (c : Dev nD) : (dat9 V c).arrAt 2 cfg9.N = colsByCols (V c main_v7) (V c main_v23) := by
  refine (dat9 V c).arrAt_eq_of_covers 2 _ (by decide +kernel) fun t _ y => ?_
  blk_simp
  rw [after9_2]; frame_out
  exact point9 V c t y

end Cert.KernelIdeal.Ffn

end
-- ==== Proof.Ffn.ChunkProducts.lean ====
/- The products that add over the eight chunks (calls 4, 10 and 11): what each result array holds when the call is over. -/
module

public import proofs.«01_k».proof.Proof.Gen.KernelIdeal.Frame.Region4
public import proofs.«01_k».proof.Proof.Gen.KernelIdeal.Frame.Region10
public import proofs.«01_k».proof.Proof.Gen.KernelIdeal.Frame.Region11
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `k` of chunk `a` among all the rows. -/
def rowAt (a : Fin 8) (k : Fin 704) : Fin 5632 := ⟨704 * a.val + k.val, by omega⟩

theorem rowAt_0 (k : Fin 704) : rowAt 0 k = ⟨k.val, by omega⟩ := Fin.ext (by simp [rowAt])

theorem rowAt_1 (k : Fin 704) : rowAt 1 k = ⟨704 + k.val, by omega⟩ := Fin.ext (by simp [rowAt])

theorem rowAt_2 (k : Fin 704) : rowAt 2 k = ⟨1408 + k.val, by omega⟩ := Fin.ext (by simp [rowAt])

theorem rowAt_3 (k : Fin 704) : rowAt 3 k = ⟨2112 + k.val, by omega⟩ := Fin.ext (by simp [rowAt])

theorem rowAt_4 (k : Fin 704) : rowAt 4 k = ⟨2816 + k.val, by omega⟩ := Fin.ext (by simp [rowAt])

theorem rowAt_5 (k : Fin 704) : rowAt 5 k = ⟨3520 + k.val, by omega⟩ := Fin.ext (by simp [rowAt])

theorem rowAt_6 (k : Fin 704) : rowAt 6 k = ⟨4224 + k.val, by omega⟩ := Fin.ext (by simp [rowAt])

theorem rowAt_7 (k : Fin 704) : rowAt 7 k = ⟨4928 + k.val, by omega⟩ := Fin.ext (by simp [rowAt])

/-- The half-step's output: the residual plus half of the hidden value's product with the down weight, chunk by chunk. -/
def downSum (hm : FVec Ideal S8x4096x704 .bf16) (w : FVec Ideal S5632x2048 .bf16) (h : FVec Ideal S4096x2048 .f32) : FVec Ideal S4096x2048 .f32 :=
  fun i => (∑ a : Fin 8, ∑ k : Fin 704, hm (ix3 a (i 0) k) * w (ix2 (rowAt a k) (i 1))) * Ideal.ofBits .f32 0x3F000000#32 + h i

/-- A gradient through a gate or up weight: rows of the chunks against rows of the weight's chunks. -/
def chunkSum (d : FVec Ideal S8x4096x704 .bf16) (w : FVec Ideal S8x2048x704 .bf16) : FVec Ideal S4096x2048 .f32 :=
  fun i => ∑ a : Fin 8, ∑ k : Fin 704, d (ix3 a (i 0) k) * w (ix3 a (i 1) k)

/-- The same on top of an array. -/
def chunkSumAdd (d : FVec Ideal S8x4096x704 .bf16) (w : FVec Ideal S8x2048x704 .bf16) (h : FVec Ideal S4096x2048 .f32) : FVec Ideal S4096x2048 .f32 :=
  fun i => (∑ a : Fin 8, ∑ k : Fin 704, d (ix3 a (i 0) k) * w (ix3 a (i 1) k)) + h i

theorem idx4 : ∀ t : Fin cfg4.N, win4_0.index t = ![0, (grid4.coords t 0).val, 0] ∧ win4_1.index t = ![0, (grid4.coords t 1).val] ∧ win4_2.index t = ![(grid4.coords t 0).val, (grid4.coords t 1).val] ∧ win4_3.index t = ![(grid4.coords t 0).val, (grid4.coords t 1).val] :=
  (by decide +kernel : ∀ t : Fin grid4.N, _)

theorem read4_0 (c : Dev nD) (t : Fin cfg4.N) (y : ((cfg4.win 3).xblock (cfg4.grid.coords t)).Idx) (a : Fin 8) (k : Fin 704) :
    iblk4 V c 0 t (ix3 a (y 0) k) = V c main_v13 (ix3 a ((((cfg4.win 3).blk t).view.emb y) 0) k) := by
  blk_point [iblk4, idx4 t]

theorem read4_1 (c : Dev nD) (t : Fin cfg4.N) (y : ((cfg4.win 3).xblock (cfg4.grid.coords t)).Idx) (r : Fin 5632) :
    iblk4 V c 1 t (ix2 r (y 1)) = V c main_v6 (ix2 r ((((cfg4.win 3).blk t).view.emb y) 1)) := by
  blk_point [iblk4, idx4 t]

theorem read4_2 (c : Dev nD) (t : Fin cfg4.N) (y : ((cfg4.win 3).xblock (cfg4.grid.coords t)).Idx)  :
    iblk4 V c 2 t (y) = V c main_arg0 (((cfg4.win 3).blk t).view.emb y) := by
  blk_point [iblk4, idx4 t]

set_option maxHeartbeats 1000000 in
/-- The half-step's output after its call. -/
theorem final4 (c : Dev nD) : (dat4 V c).arrAt 3 cfg4.N = downSum (V c main_v13) (V c main_v6) (V c main_arg0) := by
  refine (dat4 V c).arrAt_eq_of_covers 3 _ (by decide +kernel) fun t _ y => ?_
  blk_simp
  rw [after4_3]; frame_out
  pointwise [k4_pay1, k4_pay2, k4_pay3, k4_pay4]
  simp only [read4_0 V c t y, read4_1 V c t y, read4_2 V c t y]
  simp only [downSum, Fin.sum_univ_eight, rowAt_0, rowAt_1, rowAt_2, rowAt_3, rowAt_4, rowAt_5, rowAt_6, rowAt_7]

theorem idx10 : ∀ t : Fin cfg10.N, win10_0.index t = ![0, (grid10.coords t 0).val, 0] ∧ win10_1.index t = ![0, (grid10.coords t 1).val, 0] ∧ win10_2.index t = ![(grid10.coords t 0).val, (grid10.coords t 1).val] :=
  (by decide +kernel : ∀ t : Fin grid10.N, _)

theorem read10_0 (c : Dev nD) (t : Fin cfg10.N) (y : ((cfg10.win 2).xblock (cfg10.grid.coords t)).Idx) (a : Fin 8) (k : Fin 704) :
    iblk10 V c 0 t (ix3 a (y 0) k) = V c main_v22 (ix3 a ((((cfg10.win 2).blk t).view.emb y) 0) k) := by
  blk_point [iblk10, idx10 t]

theorem read10_1 (c : Dev nD) (t : Fin cfg10.N) (y : ((cfg10.win 2).xblock (cfg10.grid.coords t)).Idx) (a : Fin 8) (k : Fin 704) :
    iblk10 V c 1 t (ix3 a (y 1) k) = V c main_v2 (ix3 a ((((cfg10.win 2).blk t).view.emb y) 1) k) := by
  blk_point [iblk10, idx10 t]

set_option maxHeartbeats 1000000 in
/-- The gradient through the gate weight after its call. -/
theorem final10 (c : Dev nD) : (dat10 V c).arrAt 2 cfg10.N = chunkSum (V c main_v22) (V c main_v2) := by
  refine (dat10 V c).arrAt_eq_of_covers 2 _ (by decide +kernel) fun t _ y => ?_
  blk_simp
  rw [after10_2]; frame_out
  pointwise [k10_pay1, k10_pay2, k10_pay3]
  simp only [read10_0 V c t y, read10_1 V c t y]
  simp only [chunkSum, Fin.sum_univ_eight, rowAt_0, rowAt_1, rowAt_2, rowAt_3, rowAt_4, rowAt_5, rowAt_6, rowAt_7]

theorem idx11 : ∀ t : Fin cfg11.N, win11_0.index t = ![0, (grid11.coords t 0).val, 0] ∧ win11_1.index t = ![0, (grid11.coords t 1).val, 0] ∧ win11_2.index t = ![(grid11.coords t 0).val, (grid11.coords t 1).val] ∧ win11_3.index t = ![(grid11.coords t 0).val, (grid11.coords t 1).val] :=
  (by decide +kernel : ∀ t : Fin grid11.N, _)

theorem read11_0 (c : Dev nD) (t : Fin cfg11.N) (y : ((cfg11.win 3).xblock (cfg11.grid.coords t)).Idx) (a : Fin 8) (k : Fin 704) :
    iblk11 V c 0 t (ix3 a (y 0) k) = V c main_v23 (ix3 a ((((cfg11.win 3).blk t).view.emb y) 0) k) := by
  blk_point [iblk11, idx11 t]

theorem read11_1 (c : Dev nD) (t : Fin cfg11.N) (y : ((cfg11.win 3).xblock (cfg11.grid.coords t)).Idx) (a : Fin 8) (k : Fin 704) :
    iblk11 V c 1 t (ix3 a (y 1) k) = V c main_v5 (ix3 a ((((cfg11.win 3).blk t).view.emb y) 1) k) := by
  blk_point [iblk11, idx11 t]

theorem read11_2 (c : Dev nD) (t : Fin cfg11.N) (y : ((cfg11.win 3).xblock (cfg11.grid.coords t)).Idx)  :
    iblk11 V c 2 t (y) = V c main_v26 (((cfg11.win 3).blk t).view.emb y) := by
  blk_point [iblk11, idx11 t]

set_option maxHeartbeats 1000000 in
/-- The gradient through both weights after its call. -/
theorem final11 (c : Dev nD) : (dat11 V c).arrAt 3 cfg11.N = chunkSumAdd (V c main_v23) (V c main_v5) (V c main_v26) := by
  refine (dat11 V c).arrAt_eq_of_covers 3 _ (by decide +kernel) fun t _ y => ?_
  blk_simp
  rw [after11_3]; frame_out
  pointwise [k11_pay1, k11_pay2, k11_pay3]
  simp only [read11_0 V c t y, read11_1 V c t y, read11_2 V c t y]
  simp only [chunkSumAdd, Fin.sum_univ_eight, rowAt_0, rowAt_1, rowAt_2, rowAt_3, rowAt_4, rowAt_5, rowAt_6, rowAt_7]

end Cert.KernelIdeal.Ffn

end
-- ==== Proof.Ffn.Rowwise.lean ====
/- The calls that work row by row (0, 3 and 7): the normalisation, the gated hidden value, and the gradients through the gate; what each result array holds when the call is over. -/
module

public import proofs.«01_k».proof.Proof.Gen.KernelIdeal.Frame.Region0
public import proofs.«01_k».proof.Proof.Gen.KernelIdeal.Frame.Region3
public import proofs.«01_k».proof.Proof.Gen.KernelIdeal.Frame.Region7
public import Idealize.ShloMosaic.Lib.Pipeline.ValueKit
public import Idealize.ShloMosaic.Lib.WholeRead

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Idealize.ShloMosaic.Pipeline

variable (V : (c : Dev nD) → (b : Ref sig .tc) → Buf (Elt Ideal) ((c : Thread nD τ).loc b))

/-- The factor that normalises a row: one over the root of its mean square. -/
def rowScale (r : Fin 2048 → EReal) : EReal :=
  Ideal.rsqrt (Ideal.div (∑ k, r k * r k) (Ideal.ofBits .f32 0x45000000#32) + Ideal.ofBits .f32 0x358637BD#32)

/-- Rows normalised and scaled by the gain. -/
def normRows {n : Nat} (x : FVec Ideal ⟨2, ![n, 2048]⟩ .f32) (g : FVec Ideal S1x2048 .f32) : FVec Ideal ⟨2, ![n, 2048]⟩ .bf16 :=
  fun y => x y * rowScale (fun k => x (ix2 (y 0) k)) * g (ix2 0 (y 1))

/-- The gate's sigmoid. -/
def gateSig (a : EReal) : EReal := Ideal.div 1 (1 + Ideal.exp (0 - a))

/-- The hidden value: the gate times its sigmoid, times the up value. -/
def gated {s : Shape} (a b : FVec Ideal s .bf16) : FVec Ideal s .bf16 := fun y => (a y : EReal) * gateSig (a y) * b y

/-- Where a rectangle of rows lies in the block. -/
theorem emb_rows {n m : Nat} (off sz : Fin 2 → Nat) (h : ∀ a, off a + sz a ≤ (⟨2, ![n, m]⟩ : Shape).size a) (x : (⟨2, sz⟩ : Shape).Idx) :
    (Rect.unit (s := ⟨2, ![n, m]⟩) off sz h).emb x
      = ix2 ⟨off 0 + (x 0).val, Nat.lt_of_lt_of_le (Nat.add_lt_add_left (x 0).isLt _) (h 0)⟩ ⟨off 1 + (x 1).val, Nat.lt_of_lt_of_le (Nat.add_lt_add_left (x 1).isLt _) (h 1)⟩ := by
  funext a
  apply Fin.ext
  match a with
  | ⟨0, _⟩ => show off 0 + 1 * (x 0).val = off 0 + (x 0).val; omega
  | ⟨1, _⟩ => show off 1 + 1 * (x 1).val = off 1 + (x 1).val; omega

/-- The gradient of the gate's input. -/
def gateGrad {s : Shape} (a b d : FVec Ideal s .bf16) : FVec Ideal s .bf16 :=
  fun y => d y * b y * (gateSig (a y) * (1 + a y * (1 - gateSig (a y))))

/-- The gradient of the up value. -/
def upGrad {s : Shape} (a d : FVec Ideal s .bf16) : FVec Ideal s .bf16 := fun y => d y * (a y * gateSig (a y))

/-- What the trips before the `n`th store agrees with one function of the block's index. -/
theorem pieces0_2 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1024x2048 .bf16) (harg3 : arg3.IsWhole) (x0 : Vec Ideal S1024x2048 .f32) (x1 : Vec Ideal S1x2048 .f32) :
    ∀ n : Nat, n ≤ k0_t1_loop.trips → ∀ p ∈ (pb_k0_t1 Variants.none c none i arg1 harg1 arg2 harg2 arg3 harg3 x1 (harg1.unread x0) n), ∀ x : p.1.shape.Idx, p.2 x = normRows x0 x1 (p.1.emb x) := by
  intro n
  induction n with
  | zero => intro _ p hp; simp [pb_k0_t1] at hp
  | succ n ih =>
    intro hn p hp x
    have e := pb_k0_t1_succ (F := Ideal) Variants.none c none i arg1 harg1 arg2 harg2 arg3 harg3 x1 (harg1.unread x0) ⟨n, hn⟩
    rw [show n + 1 = (⟨n, hn⟩ : Fin k0_t1_loop.trips).val + 1 from rfl, e] at hp
    rcases List.mem_append.mp hp with hp | hp
    · unfold tripL_k0_t1 trip_k0_t1 at hp
      dsimp only at hp
      obtain rfl := List.mem_singleton.mp hp
      simp only [normRows, rowScale]
      simp only [View.readAt_eq_ld, harg1.read_unread]
      pointwise [k0_pay1]
      simp only [emb_rows]
      have e0 : k0_off1 ⟨n, hn⟩ 1 = 0 := by rw [k0_off1_eq]; rfl
      simp only [e0, Nat.zero_add]
      rfl
    · exact ih (Nat.le_of_lt hn) p hp x

/-- The block the body leaves. -/
theorem block0_2 (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1024x2048 .bf16) (harg3 : arg3.IsWhole) (x0 : Vec Ideal S1024x2048 .f32) (x1 : Vec Ideal S1x2048 .f32) :
    out0_A_2 c i arg1 harg1 arg2 harg2 arg3 harg3 x0 x1 = normRows x0 x1 := by
  unfold out0_A_2
  rw [View.read_writes_eq_canon _ _ _ (cover0_A_2 c i arg1 harg1 arg2 harg2 arg3 harg3 x0 x1)]
  funext y
  have eg : View.readAt (Elt Ideal) arg2.view (Rect.unit (s := S1x2048) ![0, 0] S1x2048.size inb_S1x2048_S1x2048_0_0).toLoadRect (harg2.unread x1) = x1 := by
    rw [View.readAt_eq_ld, harg2.read_unread, View.ld_unit_zero (by decide)]
  refine (View.canon_apply_of_pieces (normRows x0 (View.readAt (Elt Ideal) arg2.view (Rect.unit (s := S1x2048) ![0, 0] S1x2048.size inb_S1x2048_S1x2048_0_0).toLoadRect (harg2.unread x1))) _ ?_ y (cover0_A_2 c i arg1 harg1 arg2 harg2 arg3 harg3 x0 x1 y)).trans (congrFun (congrArg (normRows x0) eg) y)
  unfold kernelRun0_A
  dsimp only
  exact pieces0_2 c i arg1 harg1 arg2 harg2 arg3 harg3 x0 _ _ (Nat.le_refl _)

/-- What the trips before the `n`th store agrees with one function of the block's index. -/
theorem pieces3_2 (c : Dev nD) (i : grid3.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (x0 : Vec Ideal S1024x704 .bf16) (x1 : Vec Ideal S1024x704 .bf16) :
    ∀ n : Nat, n ≤ k3_t1_loop.trips → ∀ p ∈ (pb_k3_t1 Variants.none c none i arg1 harg1 arg2 harg2 arg3 harg3 (harg1.unread x0) (harg2.unread x1) n), ∀ x : p.1.shape.Idx, p.2 x = gated x0 x1 (p.1.emb x) := by
  intro n
  induction n with
  | zero => intro _ p hp; simp [pb_k3_t1] at hp
  | succ n ih =>
    intro hn p hp x
    have e := pb_k3_t1_succ (F := Ideal) Variants.none c none i arg1 harg1 arg2 harg2 arg3 harg3 (harg1.unread x0) (harg2.unread x1) ⟨n, hn⟩
    rw [show n + 1 = (⟨n, hn⟩ : Fin k3_t1_loop.trips).val + 1 from rfl, e] at hp
    rcases List.mem_append.mp hp with hp | hp
    · unfold tripL_k3_t1 trip_k3_t1 at hp
      dsimp only at hp
      obtain rfl := List.mem_singleton.mp hp
      simp only [gated, gateSig]
      simp only [View.readAt_eq_ld, harg1.read_unread, harg2.read_unread]
      pointwise [k3_pay1]
      simp only [emb_rows] <;> rfl
    · exact ih (Nat.le_of_lt hn) p hp x

/-- The block the body leaves. -/
theorem block3_2 (c : Dev nD) (i : grid3.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (x0 : Vec Ideal S1024x704 .bf16) (x1 : Vec Ideal S1024x704 .bf16) :
    out3_A_2 c i arg1 harg1 arg2 harg2 arg3 harg3 x0 x1 = gated x0 x1 := by
  unfold out3_A_2
  rw [View.read_writes_eq_canon _ _ _ (cover3_A_2 c i arg1 harg1 arg2 harg2 arg3 harg3 x0 x1)]
  funext y
  refine View.canon_apply_of_pieces (gated x0 x1) _ ?_ y (cover3_A_2 c i arg1 harg1 arg2 harg2 arg3 harg3 x0 x1 y)
  unfold kernelRun3_A
  dsimp only
  exact pieces3_2 c i arg1 harg1 arg2 harg2 arg3 harg3 x0 x1 _ (Nat.le_refl _)

/-- What the trips before the `n`th store agrees with one function of the block's index. -/
theorem pieces7_3 (c : Dev nD) (i : grid7.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (arg4 : Memref sig .tc .vmem S1024x704 .bf16) (harg4 : arg4.IsWhole) (arg5 : Memref sig .tc .vmem S1024x704 .bf16) (harg5 : arg5.IsWhole) (x0 : Vec Ideal S1024x704 .bf16) (x1 : Vec Ideal S1024x704 .bf16) (x2 : Vec Ideal S1024x704 .bf16) :
    ∀ n : Nat, n ≤ k7_t1_loop.trips → ∀ p ∈ (pb_k7_t1 Variants.none c none i arg1 harg1 arg2 harg2 arg3 harg3 arg4 harg4 arg5 harg5 (harg1.unread x0) (harg2.unread x1) (harg3.unread x2) n).1, ∀ x : p.1.shape.Idx, p.2 x = gateGrad x0 x1 x2 (p.1.emb x) := by
  intro n
  induction n with
  | zero => intro _ p hp; simp [pb_k7_t1] at hp
  | succ n ih =>
    intro hn p hp x
    have e := pb_k7_t1_succ (F := Ideal) Variants.none c none i arg1 harg1 arg2 harg2 arg3 harg3 arg4 harg4 arg5 harg5 (harg1.unread x0) (harg2.unread x1) (harg3.unread x2) ⟨n, hn⟩
    rw [show n + 1 = (⟨n, hn⟩ : Fin k7_t1_loop.trips).val + 1 from rfl, e] at hp
    rcases List.mem_append.mp hp with hp | hp
    · unfold tripL_k7_t1 trip_k7_t1 at hp
      dsimp only at hp
      obtain rfl := List.mem_singleton.mp hp
      simp only [gateGrad, gateSig]
      simp only [View.readAt_eq_ld, harg1.read_unread, harg2.read_unread, harg3.read_unread]
      pointwise [k7_pay4, k7_pay3, k7_pay2, k7_pay1]
      simp only [emb_rows] <;> rfl
    · exact ih (Nat.le_of_lt hn) p hp x

/-- The block the body leaves. -/
theorem block7_3 (c : Dev nD) (i : grid7.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (arg4 : Memref sig .tc .vmem S1024x704 .bf16) (harg4 : arg4.IsWhole) (arg5 : Memref sig .tc .vmem S1024x704 .bf16) (harg5 : arg5.IsWhole) (x0 : Vec Ideal S1024x704 .bf16) (x1 : Vec Ideal S1024x704 .bf16) (x2 : Vec Ideal S1024x704 .bf16) :
    out7_A_3 c i arg1 harg1 arg2 harg2 arg3 harg3 arg4 harg4 arg5 harg5 x0 x1 x2 = gateGrad x0 x1 x2 := by
  unfold out7_A_3
  rw [View.read_writes_eq_canon _ _ _ (cover7_A_3 c i arg1 harg1 arg2 harg2 arg3 harg3 arg4 harg4 arg5 harg5 x0 x1 x2)]
  funext y
  refine View.canon_apply_of_pieces (gateGrad x0 x1 x2) _ ?_ y (cover7_A_3 c i arg1 harg1 arg2 harg2 arg3 harg3 arg4 harg4 arg5 harg5 x0 x1 x2 y)
  unfold kernelRun7_A
  dsimp only
  exact pieces7_3 c i arg1 harg1 arg2 harg2 arg3 harg3 arg4 harg4 arg5 harg5 x0 x1 x2 _ (Nat.le_refl _)

/-- What the trips before the `n`th store agrees with one function of the block's index. -/
theorem pieces7_4 (c : Dev nD) (i : grid7.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (arg4 : Memref sig .tc .vmem S1024x704 .bf16) (harg4 : arg4.IsWhole) (arg5 : Memref sig .tc .vmem S1024x704 .bf16) (harg5 : arg5.IsWhole) (x0 : Vec Ideal S1024x704 .bf16) (x1 : Vec Ideal S1024x704 .bf16) (x2 : Vec Ideal S1024x704 .bf16) :
    ∀ n : Nat, n ≤ k7_t1_loop.trips → ∀ p ∈ (pb_k7_t1 Variants.none c none i arg1 harg1 arg2 harg2 arg3 harg3 arg4 harg4 arg5 harg5 (harg1.unread x0) (harg2.unread x1) (harg3.unread x2) n).2, ∀ x : p.1.shape.Idx, p.2 x = upGrad x0 x2 (p.1.emb x) := by
  intro n
  induction n with
  | zero => intro _ p hp; simp [pb_k7_t1] at hp
  | succ n ih =>
    intro hn p hp x
    have e := pb_k7_t1_succ (F := Ideal) Variants.none c none i arg1 harg1 arg2 harg2 arg3 harg3 arg4 harg4 arg5 harg5 (harg1.unread x0) (harg2.unread x1) (harg3.unread x2) ⟨n, hn⟩
    rw [show n + 1 = (⟨n, hn⟩ : Fin k7_t1_loop.trips).val + 1 from rfl, e] at hp
    rcases List.mem_append.mp hp with hp | hp
    · unfold tripL_k7_t1 trip_k7_t1 at hp
      dsimp only at hp
      obtain rfl := List.mem_singleton.mp hp
      simp only [upGrad, gateSig]
      simp only [View.readAt_eq_ld, harg1.read_unread, harg3.read_unread]
      pointwise [k7_pay5, k7_pay3, k7_pay2, k7_pay1]
      simp only [emb_rows] <;> rfl
    · exact ih (Nat.le_of_lt hn) p hp x

/-- The block the body leaves. -/
theorem block7_4 (c : Dev nD) (i : grid7.Coords) (arg1 : Memref sig .tc .vmem S1024x704 .bf16) (harg1 : arg1.IsWhole) (arg2 : Memref sig .tc .vmem S1024x704 .bf16) (harg2 : arg2.IsWhole) (arg3 : Memref sig .tc .vmem S1024x704 .bf16) (harg3 : arg3.IsWhole) (arg4 : Memref sig .tc .vmem S1024x704 .bf16) (harg4 : arg4.IsWhole) (arg5 : Memref sig .tc .vmem S1024x704 .bf16) (harg5 : arg5.IsWhole) (x0 : Vec Ideal S1024x704 .bf16) (x1 : Vec Ideal S1024x704 .bf16) (x2 : Vec Ideal S1024x704 .bf16) :
    out7_A_4 c i arg1 harg1 arg2 harg2 arg3 harg3 arg4 harg4 arg5 harg5 x0 x1 x2 = upGrad x0 x2 := by
  unfold out7_A_4
  rw [View.read_writes_eq_canon _ _ _ (cover7_A_4 c i arg1 harg1 arg2 harg2 arg3 harg3 arg4 harg4 arg5 harg5 x0 x1 x2)]
  funext y
  refine View.canon_apply_of_pieces (upGrad x0 x2) _ ?_ y (cover7_A_4 c i arg1 harg1 arg2 harg2 arg3 harg3 arg4 harg4 arg5 harg5 x0 x1 x2 y)
  unfold kernelRun7_A
  dsimp only
  exact pieces7_4 c i arg1 harg1 arg2 harg2 arg3 harg3 arg4 harg4 arg5 harg5 x0 x1 x2 _ (Nat.le_refl _)

theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- The normalised rows after their call. -/
theorem final0_2 (c : Dev nD) : (dat0 V c).arrAt 2 cfg0.N = normRows (V c main_arg0) (V c main_arg1) := by
  refine (dat0 V c).arrAt_eq_of_covers 2 _ (by decide +kernel) fun t _ y => ?_
  blk_simp
  rw [after0_2]
  unfold outsAt0
  rw [block0_2]
  simp only [normRows, rowScale]
  blk_point [iblk0, idx0 t]

theorem idx3 : ∀ t : Fin cfg3.N, win3_0.index t = ![(grid3.coords t 0).val, 0] ∧ win3_1.index t = ![(grid3.coords t 0).val, 0] ∧ win3_2.index t = ![(grid3.coords t 0).val, 0] :=
  (by decide +kernel : ∀ t : Fin grid3.N, _)

/-- The hidden value after its call. -/
theorem final3_2 (c : Dev nD) : (dat3 V c).arrAt 2 cfg3.N = gated (V c main_v10) (V c main_v11) := by
  refine (dat3 V c).arrAt_eq_of_covers 2 _ (by decide +kernel) fun t _ y => ?_
  blk_simp
  rw [after3_2]
  unfold outsAt3
  rw [block3_2]
  simp only [gated, gateSig]
  blk_point [iblk3, idx3 t]

theorem idx7 : ∀ t : Fin cfg7.N, win7_0.index t = ![(grid7.coords t 0).val, 0] ∧ win7_1.index t = ![(grid7.coords t 0).val, 0] ∧ win7_2.index t = ![(grid7.coords t 0).val, 0] ∧ win7_3.index t = ![(grid7.coords t 0).val, 0] ∧ win7_4.index t = ![(grid7.coords t 0).val, 0] :=
  (by decide +kernel : ∀ t : Fin grid7.N, _)

/-- The gate's gradient after its call. -/
theorem final7_3 (c : Dev nD) : (dat7 V c).arrAt 3 cfg7.N = gateGrad (V c main_v18) (V c main_v19) (V c main_v20) := by
  refine (dat7 V c).arrAt_eq_of_covers 3 _ (by decide +kernel) fun t _ y => ?_
  blk_simp
  rw [after7_3]
  unfold outsAt7
  rw [block7_3]
  simp only [gateGrad, gateSig]
  blk_point [iblk7, idx7 t]

/-- The up value's gradient after its call. -/
theorem final7_4 (c : Dev nD) : (dat7 V c).arrAt 4 cfg7.N = upGrad (V c main_v18) (V c main_v20) := by
  refine (dat7 V c).arrAt_eq_of_covers 4 _ (by decide +kernel) fun t _ y => ?_
  blk_simp
  rw [after7_4]
  unfold outsAt7
  rw [block7_4]
  simp only [upGrad, gateSig]
  blk_point [iblk7, idx7 t]

end Cert.KernelIdeal.Ffn

end
-- ==== Proof.Ffn.Chain.lean ====
/- The half-step as one chain: from the arguments through the host's reshapes and the twelve calls to the five result arrays. -/
module

public import proofs.«01_k».proof.Proof.Gen.KernelIdeal.Frame
public import proofs.«01_k».proof.Proof.Ffn.Gate
public import proofs.«01_k».proof.Proof.Ffn.RowProducts
public import proofs.«01_k».proof.Proof.Ffn.ChunkProducts
public import proofs.«01_k».proof.Proof.Ffn.Rowwise

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

/-- A weight's columns in eight chunks. -/
def chunked (w : FVec Ideal S2048x5632 .f32) : FVec Ideal S8x2048x704 .bf16 := fun i => w (ix2 (i 1) (rowAt (i 0) (i 2)))

/-- The narrow copy of an array: the same extended reals. -/
abbrev narrow {s : Shape} (w : FVec Ideal s .f32) : FVec Ideal s .bf16 := truncf .bf16 w bitsLt_bf16_f32

section Arrays

variable (x0 : FVec Ideal S4096x2048 .f32) (x1 : FVec Ideal S1x2048 .f32) (x2 x3 : FVec Ideal S2048x5632 .f32)
  (x4 : FVec Ideal S5632x2048 .f32) (x5 : FVec Ideal S4096x2048 .f32)

/-- The normalised rows. -/
def rowsN : FVec Ideal S4096x2048 .bf16 := normRows x0 x1

/-- The normalised rows times a weight, in chunks of columns. -/
def proj : FVec Ideal S8x4096x704 .bf16 := rowsByCols (rowsN x0 x1) (chunked x2)

/-- The hidden value. -/
def hidden : FVec Ideal S8x4096x704 .bf16 := gated (proj x0 x1 x2) (proj x0 x1 x3)

/-- The gradient of the hidden value. -/
def dHidden : FVec Ideal S8x4096x704 .bf16 := hiddenGrad (narrow x5) (narrow x4)

/-- The gradient of the gate product. -/
def dGate : FVec Ideal S8x4096x704 .bf16 := gateGrad (proj x0 x1 x2) (proj x0 x1 x3) (dHidden x4 x5)

/-- The gradient of the up product. -/
def dUp : FVec Ideal S8x4096x704 .bf16 := upGrad (proj x0 x1 x2) (dHidden x4 x5)

end Arrays

theorem chunked_eq (w : FVec Ideal S2048x5632 .f32) :
    truncf .bf16 (transpose S8x2048x704 [1, 0, 2] (shapeCast S2048x8x704 w shapeCasts_S2048x5632_S2048x8x704) transposes_S2048x8x704_S8x2048x704_1_0_2) bitsLt_bf16_f32
      = chunked w := by
  funext i
  idx_vars i
  pointwise [chunked, rowAt]
  exact congrArg w (congrArg (ix2 i1) (Fin.ext (congrArg (· + i2.val) (Nat.mul_comm i0.val 704))))

theorem gated_reshaped (a b : FVec Ideal S8x4096x704 .bf16) :
    shapeCast S8x4096x704 (gated (shapeCast S32768x704 a shapeCasts_S8x4096x704_S32768x704) (shapeCast S32768x704 b shapeCasts_S8x4096x704_S32768x704)) shapeCasts_S32768x704_S8x4096x704
      = gated a b := by
  funext i
  pointwise [gated]

theorem gateGrad_reshaped (a b d : FVec Ideal S8x4096x704 .bf16) :
    shapeCast S8x4096x704 (gateGrad (shapeCast S32768x704 a shapeCasts_S8x4096x704_S32768x704) (shapeCast S32768x704 b shapeCasts_S8x4096x704_S32768x704) (shapeCast S32768x704 d shapeCasts_S8x4096x704_S32768x704)) shapeCasts_S32768x704_S8x4096x704
      = gateGrad a b d := by
  funext i
  pointwise [gateGrad]

theorem upGrad_reshaped (a d : FVec Ideal S8x4096x704 .bf16) :
    shapeCast S8x4096x704 (upGrad (shapeCast S32768x704 a shapeCasts_S8x4096x704_S32768x704) (shapeCast S32768x704 d shapeCasts_S8x4096x704_S32768x704)) shapeCasts_S32768x704_S8x4096x704
      = upGrad a d := by
  funext i
  pointwise [upGrad]

variable (m : (ℓ : Loc nD τ sig) → Buf (Elt Ideal) ℓ) (ρ : Dev nD → PrngReg) (c : Dev nD)

theorem congr3 {α β γ δ : Type} (f : α → β → γ → δ) {a a' : α} {b b' : β} {d d' : γ} (h : a = a') (h' : b = b') (h'' : d = d') :
    f a b d = f a' b' d' := by rw [h, h', h'']

theorem at1_v2 : W1 m ρ c (Proc.devRef .tc main_v2) = chunked (m ((c : Thread nD τ).loc main_arg2)) := by
  show StableHlo.after hostOps0 (W0 m ρ c) (Proc.devRef .tc main_v2) = _
  simp only [hostOps0]
  after_results_simp
  rw [(W0_args m ρ c main_arg2 (by decide))]
  exact chunked_eq _

theorem at1_v5 : W1 m ρ c (Proc.devRef .tc main_v5) = chunked (m ((c : Thread nD τ).loc main_arg3)) := by
  show StableHlo.after hostOps0 (W0 m ρ c) (Proc.devRef .tc main_v5) = _
  simp only [hostOps0]
  after_results_simp
  rw [(W0_args m ρ c main_arg3 (by decide))]
  exact chunked_eq _

theorem at1_v6 : W1 m ρ c (Proc.devRef .tc main_v6) = narrow (m ((c : Thread nD τ).loc main_arg4)) := by
  show StableHlo.after hostOps0 (W0 m ρ c) (Proc.devRef .tc main_v6) = _
  simp only [hostOps0]
  after_results_simp

theorem at2_v7 : W2 m ρ c (Proc.devRef .tc main_v7) = rowsN (m ((c : Thread nD τ).loc main_arg0)) (m ((c : Thread nD τ).loc main_arg1)) :=
  (W2_arr m ρ c 2).trans ((final0_2 (V1 m ρ) c).trans (congrArg₂ normRows (W1_args m ρ c main_arg0 (by decide)) (W1_args m ρ c main_arg1 (by decide))))

theorem at3_v8 : W3 m ρ c (Proc.devRef .tc main_v8) = proj (m ((c : Thread nD τ).loc main_arg0)) (m ((c : Thread nD τ).loc main_arg1)) (m ((c : Thread nD τ).loc main_arg2)) :=
  (W3_arr m ρ c 2).trans ((final1 (V2 m ρ) c).trans (congrArg₂ rowsByCols (at2_v7 m ρ c) ((W2_of m ρ c main_v2 (by decide +kernel)).trans (at1_v2 m ρ c))))

theorem at4_v9 : W4 m ρ c (Proc.devRef .tc main_v9) = proj (m ((c : Thread nD τ).loc main_arg0)) (m ((c : Thread nD τ).loc main_arg1)) (m ((c : Thread nD τ).loc main_arg3)) :=
  (W4_arr m ρ c 2).trans ((final2 (V3 m ρ) c).trans (congrArg₂ rowsByCols ((W3_of m ρ c main_v7 (by decide +kernel)).trans (at2_v7 m ρ c)) ((W3_of m ρ c main_v5 (by decide +kernel)).trans ((W2_of m ρ c main_v5 (by decide +kernel)).trans (at1_v5 m ρ c)))))

theorem at5_v10 : W5 m ρ c (Proc.devRef .tc main_v10) = shapeCast S32768x704 (proj (m ((c : Thread nD τ).loc main_arg0)) (m ((c : Thread nD τ).loc main_arg1)) (m ((c : Thread nD τ).loc main_arg2))) shapeCasts_S8x4096x704_S32768x704 := by
  show StableHlo.after hostOps3 (W4 m ρ c) (Proc.devRef .tc main_v10) = _
  simp only [hostOps3]
  after_results_simp
  rw [((W4_of m ρ c main_v8 (by decide +kernel)).trans (at3_v8 m ρ c))]
  try rfl

theorem at5_v11 : W5 m ρ c (Proc.devRef .tc main_v11) = shapeCast S32768x704 (proj (m ((c : Thread nD τ).loc main_arg0)) (m ((c : Thread nD τ).loc main_arg1)) (m ((c : Thread nD τ).loc main_arg3))) shapeCasts_S8x4096x704_S32768x704 := by
  show StableHlo.after hostOps3 (W4 m ρ c) (Proc.devRef .tc main_v11) = _
  simp only [hostOps3]
  after_results_simp
  rw [(at4_v9 m ρ c)]
  try rfl

theorem at6_v12 : W6 m ρ c (Proc.devRef .tc main_v12) = gated (shapeCast S32768x704 (proj (m ((c : Thread nD τ).loc main_arg0)) (m ((c : Thread nD τ).loc main_arg1)) (m ((c : Thread nD τ).loc main_arg2))) shapeCasts_S8x4096x704_S32768x704) (shapeCast S32768x704 (proj (m ((c : Thread nD τ).loc main_arg0)) (m ((c : Thread nD τ).loc main_arg1)) (m ((c : Thread nD τ).loc main_arg3))) shapeCasts_S8x4096x704_S32768x704) :=
  (W6_arr m ρ c 2).trans ((final3_2 (V5 m ρ) c).trans (congrArg₂ gated (at5_v10 m ρ c) (at5_v11 m ρ c)))

theorem at7_v13 : W7 m ρ c (Proc.devRef .tc main_v13) = hidden (m ((c : Thread nD τ).loc main_arg0)) (m ((c : Thread nD τ).loc main_arg1)) (m ((c : Thread nD τ).loc main_arg2)) (m ((c : Thread nD τ).loc main_arg3)) := by
  show StableHlo.after hostOps4 (W6 m ρ c) (Proc.devRef .tc main_v13) = _
  simp only [hostOps4]
  after_results_simp
  rw [(at6_v12 m ρ c)]
  exact gated_reshaped _ _

theorem at8_v14 : W8 m ρ c (Proc.devRef .tc main_v14) = downSum (hidden (m ((c : Thread nD τ).loc main_arg0)) (m ((c : Thread nD τ).loc main_arg1)) (m ((c : Thread nD τ).loc main_arg2)) (m ((c : Thread nD τ).loc main_arg3))) (narrow (m ((c : Thread nD τ).loc main_arg4))) (m ((c : Thread nD τ).loc main_arg0)) :=
  (W8_arr m ρ c 3).trans ((final4 (V7 m ρ) c).trans (congr3 downSum (at7_v13 m ρ c) ((W7_of m ρ c main_v6 (by decide)).trans ((W6_of m ρ c main_v6 (by decide +kernel)).trans ((W5_of m ρ c main_v6 (by decide)).trans ((W4_of m ρ c main_v6 (by decide +kernel)).trans ((W3_of m ρ c main_v6 (by decide +kernel)).trans ((W2_of m ρ c main_v6 (by decide +kernel)).trans (at1_v6 m ρ c))))))) (W7_args m ρ c main_arg0 (by decide))))

theorem at9_v15 : W9 m ρ c (Proc.devRef .tc main_v15) = narrow (m ((c : Thread nD τ).loc main_arg5)) := by
  show StableHlo.after hostOps5 (W8 m ρ c) (Proc.devRef .tc main_v15) = _
  simp only [hostOps5]
  after_results_simp
  rw [(W8_args m ρ c main_arg5 (by decide))]
  try rfl

theorem at10_v16 : W10 m ρ c (Proc.devRef .tc main_v16) = downGrad (hidden (m ((c : Thread nD τ).loc main_arg0)) (m ((c : Thread nD τ).loc main_arg1)) (m ((c : Thread nD τ).loc main_arg2)) (m ((c : Thread nD τ).loc main_arg3))) (narrow (m ((c : Thread nD τ).loc main_arg5))) :=
  (W10_arr m ρ c 2).trans ((final5 (V9 m ρ) c).trans (congrArg₂ downGrad ((W9_of m ρ c main_v13 (by decide)).trans ((W8_of m ρ c main_v13 (by decide +kernel)).trans (at7_v13 m ρ c))) (at9_v15 m ρ c)))

theorem at11_v17 : W11 m ρ c (Proc.devRef .tc main_v17) = dHidden (m ((c : Thread nD τ).loc main_arg4)) (m ((c : Thread nD τ).loc main_arg5)) :=
  (W11_arr m ρ c 2).trans ((final6 (V10 m ρ) c).trans (congrArg₂ hiddenGrad ((W10_of m ρ c main_v15 (by decide +kernel)).trans (at9_v15 m ρ c)) ((W10_of m ρ c main_v6 (by decide +kernel)).trans ((W9_of m ρ c main_v6 (by decide)).trans ((W8_of m ρ c main_v6 (by decide +kernel)).trans ((W7_of m ρ c main_v6 (by decide)).trans ((W6_of m ρ c main_v6 (by decide +kernel)).trans ((W5_of m ρ c main_v6 (by decide)).trans ((W4_of m ρ c main_v6 (by decide +kernel)).trans ((W3_of m ρ c main_v6 (by decide +kernel)).trans ((W2_of m ρ c main_v6 (by decide +kernel)).trans (at1_v6 m ρ c))))))))))))

theorem at12_v18 : W12 m ρ c (Proc.devRef .tc main_v18) = shapeCast S32768x704 (proj (m ((c : Thread nD τ).loc main_arg0)) (m ((c : Thread nD τ).loc main_arg1)) (m ((c : Thread nD τ).loc main_arg2))) shapeCasts_S8x4096x704_S32768x704 := by
  show StableHlo.after hostOps7 (W11 m ρ c) (Proc.devRef .tc main_v18) = _
  simp only [hostOps7]
  after_results_simp
  rw [((W11_of m ρ c main_v8 (by decide +kernel)).trans ((W10_of m ρ c main_v8 (by decide +kernel)).trans ((W9_of m ρ c main_v8 (by decide)).trans ((W8_of m ρ c main_v8 (by decide +kernel)).trans ((W7_of m ρ c main_v8 (by decide)).trans ((W6_of m ρ c main_v8 (by decide +kernel)).trans ((W5_of m ρ c main_v8 (by decide)).trans ((W4_of m ρ c main_v8 (by decide +kernel)).trans (at3_v8 m ρ c)))))))))]
  try rfl

theorem at12_v19 : W12 m ρ c (Proc.devRef .tc main_v19) = shapeCast S32768x704 (proj (m ((c : Thread nD τ).loc main_arg0)) (m ((c : Thread nD τ).loc main_arg1)) (m ((c : Thread nD τ).loc main_arg3))) shapeCasts_S8x4096x704_S32768x704 := by
  show StableHlo.after hostOps7 (W11 m ρ c) (Proc.devRef .tc main_v19) = _
  simp only [hostOps7]
  after_results_simp
  rw [((W11_of m ρ c main_v9 (by decide +kernel)).trans ((W10_of m ρ c main_v9 (by decide +kernel)).trans ((W9_of m ρ c main_v9 (by decide)).trans ((W8_of m ρ c main_v9 (by decide +kernel)).trans ((W7_of m ρ c main_v9 (by decide)).trans ((W6_of m ρ c main_v9 (by decide +kernel)).trans ((W5_of m ρ c main_v9 (by decide)).trans (at4_v9 m ρ c))))))))]
  try rfl

theorem at12_v20 : W12 m ρ c (Proc.devRef .tc main_v20) = shapeCast S32768x704 (dHidden (m ((c : Thread nD τ).loc main_arg4)) (m ((c : Thread nD τ).loc main_arg5))) shapeCasts_S8x4096x704_S32768x704 := by
  show StableHlo.after hostOps7 (W11 m ρ c) (Proc.devRef .tc main_v20) = _
  simp only [hostOps7]
  after_results_simp
  rw [(at11_v17 m ρ c)]
  try rfl

theorem at13_v21_0 : W13 m ρ c (Proc.devRef .tc main_v21_0) = gateGrad (shapeCast S32768x704 (proj (m ((c : Thread nD τ).loc main_arg0)) (m ((c : Thread nD τ).loc main_arg1)) (m ((c : Thread nD τ).loc main_arg2))) shapeCasts_S8x4096x704_S32768x704) (shapeCast S32768x704 (proj (m ((c : Thread nD τ).loc main_arg0)) (m ((c : Thread nD τ).loc main_arg1)) (m ((c : Thread nD τ).loc main_arg3))) shapeCasts_S8x4096x704_S32768x704) (shapeCast S32768x704 (dHidden (m ((c : Thread nD τ).loc main_arg4)) (m ((c : Thread nD τ).loc main_arg5))) shapeCasts_S8x4096x704_S32768x704) :=
  (W13_arr m ρ c 3).trans ((final7_3 (V12 m ρ) c).trans (congr3 gateGrad (at12_v18 m ρ c) (at12_v19 m ρ c) (at12_v20 m ρ c)))

theorem at13_v21_1 : W13 m ρ c (Proc.devRef .tc main_v21_1) = upGrad (shapeCast S32768x704 (proj (m ((c : Thread nD τ).loc main_arg0)) (m ((c : Thread nD τ).loc main_arg1)) (m ((c : Thread nD τ).loc main_arg2))) shapeCasts_S8x4096x704_S32768x704) (shapeCast S32768x704 (dHidden (m ((c : Thread nD τ).loc main_arg4)) (m ((c : Thread nD τ).loc main_arg5))) shapeCasts_S8x4096x704_S32768x704) :=
  (W13_arr m ρ c 4).trans ((final7_4 (V12 m ρ) c).trans (congrArg₂ upGrad (at12_v18 m ρ c) (at12_v20 m ρ c)))

theorem at14_v22 : W14 m ρ c (Proc.devRef .tc main_v22) = dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps8 (W13 m ρ c) (Proc.devRef .tc main_v22) = _
  simp only [hostOps8]
  after_results_simp
  rw [(at13_v21_0 m ρ c)]
  exact gateGrad_reshaped _ _ _

theorem at14_v23 : W14 m ρ c (Proc.devRef .tc main_v23) = dUp (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps8 (W13 m ρ c) (Proc.devRef .tc main_v23) = _
  simp only [hostOps8]
  after_results_simp
  rw [(at13_v21_1 m ρ c)]
  exact upGrad_reshaped _ _

theorem at15_v24 : W15 m ρ c (Proc.devRef .tc main_v24) = colsByCols (rowsN (m ((c : Thread nD τ).loc main_arg0)) (m ((c : Thread nD τ).loc main_arg1))) (dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W15_arr m ρ c 2).trans ((final8 (V14 m ρ) c).trans (congrArg₂ colsByCols ((W14_of m ρ c main_v7 (by decide)).trans ((W13_of m ρ c main_v7 (by decide +kernel)).trans ((W12_of m ρ c main_v7 (by decide)).trans ((W11_of m ρ c main_v7 (by decide +kernel)).trans ((W10_of m ρ c main_v7 (by decide +kernel)).trans ((W9_of m ρ c main_v7 (by decide)).trans ((W8_of m ρ c main_v7 (by decide +kernel)).trans ((W7_of m ρ c main_v7 (by decide)).trans ((W6_of m ρ c main_v7 (by decide +kernel)).trans ((W5_of m ρ c main_v7 (by decide)).trans ((W4_of m ρ c main_v7 (by decide +kernel)).trans ((W3_of m ρ c main_v7 (by decide +kernel)).trans (at2_v7 m ρ c))))))))))))) (at14_v22 m ρ c)))

theorem at16_v25 : W16 m ρ c (Proc.devRef .tc main_v25) = colsByCols (rowsN (m ((c : Thread nD τ).loc main_arg0)) (m ((c : Thread nD τ).loc main_arg1))) (dUp (m ((c : Thread nD τ).loc main_arg0)) (m ((c : Thread nD τ).loc main_arg1)) (m ((c : Thread nD τ).loc main_arg2)) (m ((c : Thread nD τ).loc main_arg4)) (m ((c : Thread nD τ).loc main_arg5))) :=
  (W16_arr m ρ c 2).trans ((final9 (V15 m ρ) c).trans (congrArg₂ colsByCols ((W15_of m ρ c main_v7 (by decide +kernel)).trans ((W14_of m ρ c main_v7 (by decide)).trans ((W13_of m ρ c main_v7 (by decide +kernel)).trans ((W12_of m ρ c main_v7 (by decide)).trans ((W11_of m ρ c main_v7 (by decide +kernel)).trans ((W10_of m ρ c main_v7 (by decide +kernel)).trans ((W9_of m ρ c main_v7 (by decide)).trans ((W8_of m ρ c main_v7 (by decide +kernel)).trans ((W7_of m ρ c main_v7 (by decide)).trans ((W6_of m ρ c main_v7 (by decide +kernel)).trans ((W5_of m ρ c main_v7 (by decide)).trans ((W4_of m ρ c main_v7 (by decide +kernel)).trans ((W3_of m ρ c main_v7 (by decide +kernel)).trans (at2_v7 m ρ c)))))))))))))) ((W15_of m ρ c main_v23 (by decide +kernel)).trans (at14_v23 m ρ c))))

theorem at17_v26 : W17 m ρ c (Proc.devRef .tc main_v26) = chunkSum (dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (chunked (m ((c : Thread nD τ).loc main_arg2))) :=
  (W17_arr m ρ c 2).trans ((final10 (V16 m ρ) c).trans (congrArg₂ chunkSum ((W16_of m ρ c main_v22 (by decide +kernel)).trans ((W15_of m ρ c main_v22 (by decide +kernel)).trans (at14_v22 m ρ c))) ((W16_of m ρ c main_v2 (by decide +kernel)).trans ((W15_of m ρ c main_v2 (by decide +kernel)).trans ((W14_of m ρ c main_v2 (by decide)).trans ((W13_of m ρ c main_v2 (by decide +kernel)).trans ((W12_of m ρ c main_v2 (by decide)).trans ((W11_of m ρ c main_v2 (by decide +kernel)).trans ((W10_of m ρ c main_v2 (by decide +kernel)).trans ((W9_of m ρ c main_v2 (by decide)).trans ((W8_of m ρ c main_v2 (by decide +kernel)).trans ((W7_of m ρ c main_v2 (by decide)).trans ((W6_of m ρ c main_v2 (by decide +kernel)).trans ((W5_of m ρ c main_v2 (by decide)).trans ((W4_of m ρ c main_v2 (by decide +kernel)).trans ((W3_of m ρ c main_v2 (by decide +kernel)).trans ((W2_of m ρ c main_v2 (by decide +kernel)).trans (at1_v2 m ρ c))))))))))))))))))

theorem at18_v27 : W18 m ρ c (Proc.devRef .tc main_v27) = chunkSumAdd (dUp (m ((c : Thread nD τ).loc main_arg0)) (m ((c : Thread nD τ).loc main_arg1)) (m ((c : Thread nD τ).loc main_arg2)) (m ((c : Thread nD τ).loc main_arg4)) (m ((c : Thread nD τ).loc main_arg5))) (chunked (m ((c : Thread nD τ).loc main_arg3))) (chunkSum (dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (chunked (m ((c : Thread nD τ).loc main_arg2)))) :=
  (W18_arr m ρ c 3).trans ((final11 (V17 m ρ) c).trans (congr3 chunkSumAdd ((W17_of m ρ c main_v23 (by decide +kernel)).trans ((W16_of m ρ c main_v23 (by decide +kernel)).trans ((W15_of m ρ c main_v23 (by decide +kernel)).trans (at14_v23 m ρ c)))) ((W17_of m ρ c main_v5 (by decide +kernel)).trans ((W16_of m ρ c main_v5 (by decide +kernel)).trans ((W15_of m ρ c main_v5 (by decide +kernel)).trans ((W14_of m ρ c main_v5 (by decide)).trans ((W13_of m ρ c main_v5 (by decide +kernel)).trans ((W12_of m ρ c main_v5 (by decide)).trans ((W11_of m ρ c main_v5 (by decide +kernel)).trans ((W10_of m ρ c main_v5 (by decide +kernel)).trans ((W9_of m ρ c main_v5 (by decide)).trans ((W8_of m ρ c main_v5 (by decide +kernel)).trans ((W7_of m ρ c main_v5 (by decide)).trans ((W6_of m ρ c main_v5 (by decide +kernel)).trans ((W5_of m ρ c main_v5 (by decide)).trans ((W4_of m ρ c main_v5 (by decide +kernel)).trans ((W3_of m ρ c main_v5 (by decide +kernel)).trans ((W2_of m ρ c main_v5 (by decide +kernel)).trans (at1_v5 m ρ c))))))))))))))))) (at17_v26 m ρ c)))

theorem at18_v14 : W18 m ρ c (Proc.devRef .tc main_v14) = downSum (hidden (m ((c : Thread nD τ).loc main_arg0)) (m ((c : Thread nD τ).loc main_arg1)) (m ((c : Thread nD τ).loc main_arg2)) (m ((c : Thread nD τ).loc main_arg3))) (narrow (m ((c : Thread nD τ).loc main_arg4))) (m ((c : Thread nD τ).loc main_arg0)) :=
  ((W18_of m ρ c main_v14 (by decide +kernel)).trans ((W17_of m ρ c main_v14 (by decide +kernel)).trans ((W16_of m ρ c main_v14 (by decide +kernel)).trans ((W15_of m ρ c main_v14 (by decide +kernel)).trans ((W14_of m ρ c main_v14 (by decide)).trans ((W13_of m ρ c main_v14 (by decide +kernel)).trans ((W12_of m ρ c main_v14 (by decide)).trans ((W11_of m ρ c main_v14 (by decide +kernel)).trans ((W10_of m ρ c main_v14 (by decide +kernel)).trans ((W9_of m ρ c main_v14 (by decide)).trans (at8_v14 m ρ c)))))))))))

theorem at18_v24 : W18 m ρ c (Proc.devRef .tc main_v24) = colsByCols (rowsN (m ((c : Thread nD τ).loc main_arg0)) (m ((c : Thread nD τ).loc main_arg1))) (dGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  ((W18_of m ρ c main_v24 (by decide +kernel)).trans ((W17_of m ρ c main_v24 (by decide +kernel)).trans ((W16_of m ρ c main_v24 (by decide +kernel)).trans (at15_v24 m ρ c))))

theorem at18_v25 : W18 m ρ c (Proc.devRef .tc main_v25) = colsByCols (rowsN (m ((c : Thread nD τ).loc main_arg0)) (m ((c : Thread nD τ).loc main_arg1))) (dUp (m ((c : Thread nD τ).loc main_arg0)) (m ((c : Thread nD τ).loc main_arg1)) (m ((c : Thread nD τ).loc main_arg2)) (m ((c : Thread nD τ).loc main_arg4)) (m ((c : Thread nD τ).loc main_arg5))) :=
  ((W18_of m ρ c main_v25 (by decide +kernel)).trans ((W17_of m ρ c main_v25 (by decide +kernel)).trans (at16_v25 m ρ c)))

theorem at18_v16 : W18 m ρ c (Proc.devRef .tc main_v16) = downGrad (hidden (m ((c : Thread nD τ).loc main_arg0)) (m ((c : Thread nD τ).loc main_arg1)) (m ((c : Thread nD τ).loc main_arg2)) (m ((c : Thread nD τ).loc main_arg3))) (narrow (m ((c : Thread nD τ).loc main_arg5))) :=
  ((W18_of m ρ c main_v16 (by decide +kernel)).trans ((W17_of m ρ c main_v16 (by decide +kernel)).trans ((W16_of m ρ c main_v16 (by decide +kernel)).trans ((W15_of m ρ c main_v16 (by decide +kernel)).trans ((W14_of m ρ c main_v16 (by decide)).trans ((W13_of m ρ c main_v16 (by decide +kernel)).trans ((W12_of m ρ c main_v16 (by decide)).trans ((W11_of m ρ c main_v16 (by decide +kernel)).trans (at10_v16 m ρ c)))))))))

end Cert.KernelIdeal.Ffn

end
-- ==== Proof.Ffn.Scalars.lean ====
/- Facts on extended reals that the half-step's equations need: sums and products of real numbers, the factor one half,
   the row scale, and the derivative of the gate. -/
module

public import proofs.«01_k».proof.Proof.Ffn.Rowwise

@[expose] public section

noncomputable section

namespace Cert.KernelIdeal.Ffn

open Idealize.ShloMosaic

/-- The extended real is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (by simp)).add (ih fun i hi => h i (by simp [hi]))

theorem isReal_of_ne {x : EReal} (h1 : x ≠ ⊤) (h2 : x ≠ ⊥) : IsReal x := ⟨x.toReal, (EReal.coe_toReal h1 h2).symm⟩

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One half. -/
theorem half_eq : Ideal.ofBits .f32 0x3F000000#32 = ((2⁻¹ : ℝ) : EReal) := by
  simp [Ideal.ofBits, Ideal.ieee, -EReal.coe_mul] <;> norm_num

/-- The width of a row. -/
theorem width_eq : Ideal.ofBits .f32 0x45000000#32 = ((2048 : ℝ) : EReal) := by
  simp [Ideal.ofBits, Ideal.ieee, -EReal.coe_mul] <;> norm_num

/-- The constant under the root is a positive number. -/
theorem eps_pos : ∃ r : ℝ, 0 < r ∧ Ideal.ofBits .f32 0x358637BD#32 = (r : EReal) := by
  refine ⟨(8796093 : ℝ) * 2 ^ (-43 : ℤ), by positivity, ?_⟩
  simp [Ideal.ofBits, Ideal.ieee, -EReal.coe_mul] <;> norm_num

/-- One half of a sum is the sum of the halves, at the infinities too. -/
theorem half_mul_sum {ι : Type} (s : Finset ι) (f : ι → EReal) :
    Ideal.ofBits .f32 0x3F000000#32 * ∑ i ∈ s, f i = ∑ i ∈ s, Ideal.ofBits .f32 0x3F000000#32 * f i := by
  classical
  rw [half_eq]
  induction s using Finset.induction_on with
  | empty => simp
  | insert a s ha ih =>
    rw [Finset.sum_insert ha, Finset.sum_insert ha,
      EReal.left_distrib_of_nonneg_of_ne_top (by exact_mod_cast (by norm_num : (0 : ℝ) ≤ 2⁻¹)) (EReal.coe_ne_top _), ih]

theorem sq_nonneg' (x : EReal) : 0 ≤ x * x := by
  induction x with
  | bot => simp
  | top => simp
  | coe r => exact_mod_cast mul_self_nonneg r

/-- A normalised element is a real number, whatever the row. -/
theorem isReal_scaled (r : Fin 2048 → EReal) (k : Fin 2048) : IsReal (r k * rowScale r) := by
  obtain ⟨e, he, heq⟩ := eps_pos
  by_cases h : ∀ i, IsReal (r i)
  · choose f hf using h
    have hs : (∑ i, r i * r i) = ((∑ i, f i * f i : ℝ) : EReal) := by
      rw [coe_sum']
      exact Finset.sum_congr rfl fun i _ => by rw [hf i, EReal.coe_mul]
    refine IsReal.mul ⟨_, hf k⟩ ?_
    unfold rowScale
    rw [hs, width_eq, Ideal.div_coe (by norm_num), heq, ← EReal.coe_mul, ← EReal.coe_add, Ideal.rsqrt_coe]
    have hp : (0 : ℝ) < (∑ i, f i * f i) * (1 / 2048) + e := by
      have : (0 : ℝ) ≤ ∑ i, f i * f i := Finset.sum_nonneg fun i _ => mul_self_nonneg _
      positivity
    rw [if_neg (not_lt.mpr hp.le), if_neg hp.ne']
    exact ⟨_, rfl⟩
  · have hz : rowScale r = 0 := by
      rw [not_forall] at h
      obtain ⟨i, hi⟩ := h
      have ht : r i * r i = ⊤ := by
        by_cases h1 : r i = ⊤
        · rw [h1]; simp
        · by_cases h2 : r i = ⊥
          · rw [h2]; simp
          · exact absurd (isReal_of_ne h1 h2) hi
      have hs : (∑ i, r i * r i) = ⊤ := top_le_iff.mp (ht ▸ Finset.single_le_sum (f := fun j => r j * r j) (fun j _ => sq_nonneg' (r j)) (Finset.mem_univ i))
      unfold rowScale
      rw [hs, width_eq, Ideal.div_coe (by norm_num), heq, EReal.top_mul_coe_of_pos (by norm_num), EReal.top_add_coe, Ideal.rsqrt_top]
    rw [hz, mul_zero]
    exact ⟨0, by simp⟩

theorem gateSig_coe (r : ℝ) : gateSig (r : EReal) = (((1 + Real.exp (-r))⁻¹ : ℝ) : EReal) := by
  rw [← Ideal.logistic_coe, gateSig, zero_sub]; rfl

/-- The derivative of the gate times its logistic, written as the kernel does and as the chain rule gives it. -/
theorem silu_grad (a x : EReal) (hx : IsReal x) :
    x * (gateSig a * (1 + a * (1 - gateSig a))) = x * gateSig a + a * x * (gateSig a * (1 - gateSig a)) := by
  obtain ⟨d, rfl⟩ := hx
  induction a with
  | bot =>
    have h : gateSig ⊥ = 0 := by rw [gateSig, zero_sub]; exact Ideal.logistic_bot
    simp [h]
  | top =>
    have h : gateSig ⊤ = 1 := by rw [gateSig, zero_sub]; exact Ideal.logistic_top
    have h0 : (1 : EReal) - 1 = 0 := by
      rw [← EReal.coe_one, ← EReal.coe_sub, sub_self, EReal.coe_zero]
    simp [h, h0]
  | coe r =>
    rw [gateSig_coe]
    generalize (1 + Real.exp (-r))⁻¹ = s
    norm_cast
    ring

end Cert.KernelIdeal.Ffn

end
-- ==== Proof.Ffn.Equation.lean ====
/- The half-step's reference, element by element, and the equation of its five results with what the twelve calls leave. -/
module

public import proofs.«01_k».proof.Proof.Gen.ReferenceIdeal.Read
public import proofs.«01_k».proof.Proof.Ffn.Chain
public import proofs.«01_k».proof.Proof.Ffn.Scalars

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Cert.ReferenceIdeal.Read

section Elements

variable (x0 : FVec Ideal S4096x2048 .f32) (x1 : FVec Ideal S1x2048 .f32) (x2 x3 : FVec Ideal S2048x5632 .f32)
  (x4 : FVec Ideal S5632x2048 .f32) (x5 : FVec Ideal S4096x2048 .f32)

/-- An element of the normalised rows. -/
def nAt (s : Fin 4096) (k : Fin 2048) : EReal := x0 (ix2 s k) * rowScale (fun k => x0 (ix2 s k)) * x1 (ix2 0 k)

/-- An element of their product with a weight. -/
def pAt (s : Fin 4096) (f : Fin 5632) : EReal := ∑ k : Fin 2048, nAt x0 x1 s k * x2 (ix2 k f)

/-- An element of the hidden value. -/
def hAt (s : Fin 4096) (f : Fin 5632) : EReal := pAt x0 x1 x2 s f * gateSig (pAt x0 x1 x2 s f) * pAt x0 x1 x3 s f

/-- An element of the hidden value's gradient. -/
def dAt (s : Fin 4096) (f : Fin 5632) : EReal := (∑ k : Fin 2048, x5 (ix2 s k) * x4 (ix2 f k)) * Ideal.ofBits .f32 0x3F000000#32

/-- An element of the gate product's gradient. -/
def gAt (s : Fin 4096) (f : Fin 5632) : EReal :=
  dAt x4 x5 s f * pAt x0 x1 x3 s f * (gateSig (pAt x0 x1 x2 s f) * (1 + pAt x0 x1 x2 s f * (1 - gateSig (pAt x0 x1 x2 s f))))

/-- An element of the up product's gradient. -/
def uAt (s : Fin 4096) (f : Fin 5632) : EReal := dAt x4 x5 s f * (pAt x0 x1 x2 s f * gateSig (pAt x0 x1 x2 s f))

/-! ## The calls' arrays -/

theorem proj_at (a : Fin 8) (s : Fin 4096) (k : Fin 704) : proj x0 x1 x2 (ix3 a s k) = pAt x0 x1 x2 s (rowAt a k) := rfl

theorem hidden_at (a : Fin 8) (s : Fin 4096) (k : Fin 704) : hidden x0 x1 x2 x3 (ix3 a s k) = hAt x0 x1 x2 x3 s (rowAt a k) := rfl

theorem dHidden_at (a : Fin 8) (s : Fin 4096) (k : Fin 704) : dHidden x4 x5 (ix3 a s k) = dAt x4 x5 s (rowAt a k) := rfl

theorem dGate_at (a : Fin 8) (s : Fin 4096) (k : Fin 704) : dGate x0 x1 x2 x3 x4 x5 (ix3 a s k) = gAt x0 x1 x2 x3 x4 x5 s (rowAt a k) := rfl

theorem dUp_at (a : Fin 8) (s : Fin 4096) (k : Fin 704) : dUp x0 x1 x2 x4 x5 (ix3 a s k) = uAt x0 x1 x2 x4 x5 s (rowAt a k) := rfl

/-! ## The reference's arrays -/

theorem ref13 (s : Fin 4096) (k : Fin 2048) : val_main_v13 (F := Ideal) x0 x1 (ix2 s k) = nAt x0 x1 s k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, nAt, rowScale]

theorem ref14 (s : Fin 4096) (f : Fin 5632) : val_main_v14 (F := Ideal) x0 x1 x2 (ix2 s f) = pAt x0 x1 x2 s f := by
  pointwise [val_main_v14, ref13, pAt]

theorem ref16 (s : Fin 4096) (f : Fin 5632) : val_main_v16 (F := Ideal) x0 x1 x3 (ix2 s f) = pAt x0 x1 x3 s f := by
  pointwise [val_main_v16, ref13, pAt]

theorem ref15_2 (s : Fin 4096) (f : Fin 5632) : val_main_v15_2 (F := Ideal) x0 x1 x2 (ix2 s f) = gateSig (pAt x0 x1 x2 s f) := by
  pointwise [val_main_v15_2, val_main_call0_v4, val_main_call0_v3, val_main_call0_v2, val_main_call0_v1, val_main_call0_v0, val_main_call0_cst,
    val_main_call0_cst_0, ref14, gateSig]
  rw [zero_sub]

theorem ref15_1 (s : Fin 4096) (f : Fin 5632) :
    val_main_v15_1 (F := Ideal) x0 x1 x2 (ix2 s f) = gateSig (pAt x0 x1 x2 s f) * (1 - gateSig (pAt x0 x1 x2 s f)) := by
  pointwise [val_main_v15_1, val_main_call0_v7, val_main_call0_v6, val_main_call0_cst_1, ref15_2]

theorem ref17 (s : Fin 4096) (f : Fin 5632) : val_main_v17 (F := Ideal) x0 x1 x2 x3 (ix2 s f) = hAt x0 x1 x2 x3 s f := by
  pointwise [val_main_v17, val_main_v15_0, ref14, ref15_2, ref16, hAt]

theorem ref25 (s : Fin 4096) (f : Fin 5632) : val_main_v25 (F := Ideal) x4 x5 (ix2 s f) = dAt x4 x5 s f := by
  pointwise [val_main_v25, val_main_v22, val_main_v21, val_main_cst_3, dAt]
  rw [mul_comm, half_mul_sum]
  exact Finset.sum_congr rfl fun k _ => mul_assoc _ _ _

theorem ref26 (s : Fin 4096) (f : Fin 5632) : val_main_v26 (F := Ideal) x0 x1 x2 x4 x5 (ix2 s f) = uAt x0 x1 x2 x4 x5 s f := by
  pointwise [val_main_v26, val_main_v15_0, ref14, ref15_2, ref25, uAt]
  exact mul_comm _ _

variable (h1 : ∀ i, IsReal (x1 i)) (h3 : ∀ i, IsReal (x3 i)) (h4 : ∀ i, IsReal (x4 i)) (h5 : ∀ i, IsReal (x5 i))

include h1 h3 in
theorem pAt_real (s : Fin 4096) (f : Fin 5632) : IsReal (pAt x0 x1 x3 s f) :=
  IsReal.sum _ _ fun k _ => ((isReal_scaled (fun k => x0 (ix2 s k)) k).mul (h1 _)).mul (h3 _)

include h4 h5 in
theorem dAt_real (s : Fin 4096) (f : Fin 5632) : IsReal (dAt x4 x5 s f) :=
  (IsReal.sum _ _ fun k _ => (h5 _).mul (h4 _)).mul ⟨_, half_eq⟩

include h1 h3 h4 h5 in
theorem ref31 (s : Fin 4096) (f : Fin 5632) : val_main_v31 (F := Ideal) x0 x1 x2 x3 x4 x5 (ix2 s f) = gAt x0 x1 x2 x3 x4 x5 s f := by
  pointwise [val_main_v31, val_main_call1_v0, val_main_call1_v1, val_main_call1_v2, val_main_v27, ref14, ref15_1, ref15_2, ref16, ref25, gAt]
  rw [silu_grad _ _ ((dAt_real x4 x5 h4 h5 s f).mul (pAt_real x0 x1 x3 h1 h3 s f)), add_comm]

/-! ## The five results -/

/-- A sum over the hidden width, chunk by chunk. -/
theorem sum_chunks (f : Fin 5632 → EReal) : ∑ k, f k = ∑ a : Fin 8, ∑ k : Fin 704, f (rowAt a k) := by
  rw [Fin.sum_univ_tiles 8 704 rfl f]
  exact Finset.sum_congr rfl fun a _ => Finset.sum_congr rfl fun k _ => congrArg f (Fin.ext (congrArg (· + k.val) (Nat.mul_comm a.val 704)))

theorem result_out : downSum (hidden x0 x1 x2 x3) (narrow x4) x0 = val_main_v42 (F := Ideal) x0 x1 x2 x3 x4 := by
  funext i
  idx_vars i
  pointwise [val_main_v42, val_main_v20, val_main_v19, val_main_v18, val_main_cst_2, ref17, downSum, hidden_at]
  rw [sum_chunks, mul_comm, add_comm]

theorem result_down : downGrad (hidden x0 x1 x2 x3) (narrow x5) = val_main_v43 (F := Ideal) x0 x1 x2 x3 x5 := by
  funext i
  idx_vars i
  pointwise [val_main_v43, val_main_v24, val_main_v23, val_main_v22, val_main_v21, val_main_cst_3, ref17, downGrad, hidden_at]
  rw [mul_comm, half_mul_sum]
  refine Finset.sum_congr rfl fun s _ => ?_
  rw [mul_assoc, mul_comm (x5 _)]
  have e : rowAt ⟨i0.val / 704, by omega⟩ ⟨i0.val % 704, Nat.mod_lt _ (by decide)⟩ = i0 := Fin.ext (Nat.div_add_mod i0.val 704)
  rw [e]

include h1 h3 h4 h5 in
theorem result_gate : colsByCols (rowsN x0 x1) (dGate x0 x1 x2 x3 x4 x5) = val_main_v38 (F := Ideal) x0 x1 x2 x3 x4 x5 := by
  funext i
  idx_vars i
  pointwise [val_main_v38, val_main_v37, val_main_v36, val_main_v33, val_main_v32, ref13, ref31 x0 x1 x2 x3 x4 x5 h1 h3 h4 h5, colsByCols, dGate_at]
  refine Finset.sum_congr rfl fun s _ => ?_
  exact (mul_comm _ _).trans (congrArg (fun f => gAt x0 x1 x2 x3 x4 x5 s f * nAt x0 x1 s i1) (Fin.ext (congrArg (· + i2.val) (Nat.mul_comm 704 i0.val))))

theorem result_up : colsByCols (rowsN x0 x1) (dUp x0 x1 x2 x4 x5) = val_main_v41 (F := Ideal) x0 x1 x2 x4 x5 := by
  funext i
  idx_vars i
  pointwise [val_main_v41, val_main_v40, val_main_v39, val_main_v29, val_main_v28, ref13, ref26, colsByCols, dUp_at]
  refine Finset.sum_congr rfl fun s _ => ?_
  exact (mul_comm _ _).trans (congrArg (fun f => uAt x0 x1 x2 x4 x5 s f * nAt x0 x1 s i1) (Fin.ext (congrArg (· + i2.val) (Nat.mul_comm 704 i0.val))))

include h1 h3 h4 h5 in
theorem result_rows : chunkSumAdd (dUp x0 x1 x2 x4 x5) (chunked x3) (chunkSum (dGate x0 x1 x2 x3 x4 x5) (chunked x2))
    = val_main_v35 (F := Ideal) x0 x1 x2 x3 x4 x5 := by
  funext i
  idx_vars i
  pointwise [val_main_v35, val_main_v34, val_main_v30, ref26, ref31 x0 x1 x2 x3 x4 x5 h1 h3 h4 h5, chunkSumAdd, chunkSum, dUp_at, dGate_at, chunked]
  rw [sum_chunks, sum_chunks]

end Elements

end Cert.KernelIdeal.Ffn

end
-- ==== Proof.Ffn.Claims.lean ====
/- The claims of the feed-forward half-step: the reference's run, what the precondition gives, and the equality of the five results. -/
module

public import proofs.«01_k».proof.Defs
public import proofs.«01_k».proof.Proof.Gen.ReferenceIdeal.Run
public import proofs.«01_k».proof.Proof.Ffn.Run
public import proofs.«01_k».proof.Proof.Ffn.Equation
public import Idealize.ShloMosaic.Lib.Quiescent

@[expose] public section

set_option maxRecDepth 16384

noncomputable section

namespace Cert.KernelIdeal.Ffn

open Idealize.ShloMosaic Idealize.ShloMosaic.TcCoe Idealize.SL.Sem
open Cert.ReferenceIdeal.Read

/-- The shape relations of the precondition: a single number fills an array of any shape. -/
theorem preFacts : Cert.Pre_finite.Facts where
  bcast_S_S1x2048 := by decide
  bcast_S_S2048x5632 := by decide
  bcast_S_S5632x2048 := by decide
  bcast_S_S4096x2048 := by decide

/-- A value of magnitude under +∞ is a real number. -/
theorem isReal_of_abs_lt {x : EReal}
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  refine isReal_of_ne ?_ ?_
  · rintro rfl; simp at h
  · rintro rfl; simp at h

section Pre

variable (x0 : FVec Ideal S4096x2048 .f32) (x1 : FVec Ideal S1x2048 .f32) (x2 x3 : FVec Ideal S2048x5632 .f32)
  (x4 : FVec Ideal S5632x2048 .f32) (x5 : FVec Ideal S4096x2048 .f32)

theorem gain_real (h : (@Cert.Pre_finite.fn preFacts Ideal _ x0 x1 x2 x3 x4 x5).1 = fun _ => 1#1) (i : S1x2048.Idx) :
    IsReal (x1 i) := isReal_of_abs_lt (congrFun h i)

theorem up_real (h : (@Cert.Pre_finite.fn preFacts Ideal _ x0 x1 x2 x3 x4 x5).2.1 = fun _ => 1#1) (i : S2048x5632.Idx) :
    IsReal (x3 i) := isReal_of_abs_lt (congrFun h i)

theorem down_real (h : (@Cert.Pre_finite.fn preFacts Ideal _ x0 x1 x2 x3 x4 x5).2.2.1 = fun _ => 1#1) (i : S5632x2048.Idx) :
    IsReal (x4 i) := isReal_of_abs_lt (congrFun h i)

theorem cotangent_real (h : (@Cert.Pre_finite.fn preFacts Ideal _ x0 x1 x2 x3 x4 x5).2.2.2 = fun _ => 1#1)
    (i : S4096x2048.Idx) : IsReal (x5 i) := isReal_of_abs_lt (congrFun h i)

end Pre

/-- The reference runs, its arguments end as launched, and it has no counter to leave. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The half-step and the reference end with the same five results. -/
theorem results_agree : @Cert.algebraic_KernelIdeal_ReferenceIdeal_pre_finite Cert.KernelIdeal.Gen.facts
    Cert.ReferenceIdeal.Gen.facts preFacts := by
  intro m ρ m' ρ' hpre hagree
  refine ⟨fun c => Cert.KernelIdeal.Gen.W18 m ρ c (Proc.devRef .tc Cert.KernelIdeal.main_v14),
    fun c => Cert.KernelIdeal.Gen.W18 m ρ c (Proc.devRef .tc Cert.KernelIdeal.main_v27),
    fun c => Cert.KernelIdeal.Gen.W18 m ρ c (Proc.devRef .tc Cert.KernelIdeal.main_v24),
    fun c => Cert.KernelIdeal.Gen.W18 m ρ c (Proc.devRef .tc Cert.KernelIdeal.main_v25),
    fun c => Cert.KernelIdeal.Gen.W18 m ρ c (Proc.devRef .tc Cert.KernelIdeal.main_v16),
    (θ_run Cert.KernelIdeal.defs _ _).mono (fun r h => h.1) (run_results m ρ),
    (θ_run Cert.ReferenceIdeal.defs _ _).mono (fun r h c => ?_) (Cert.ReferenceIdeal.Value.run (F := Ideal) m' ρ')⟩
  obtain ⟨e0, e1, e2, e3, e4, e5⟩ := hagree c
  obtain ⟨p1, p3, p4, p5⟩ := hpre c
  have h1 := gain_real _ _ _ _ _ _ p1
  have h3 := up_real _ _ _ _ _ _ p3
  have h4 := down_real _ _ _ _ _ _ p4
  have h5 := cotangent_real _ _ _ _ _ _ p5
  obtain ⟨r0, r1, r2, r3, r4, ra⟩ := h c
  refine ⟨?_, ?_, ?_, ?_, ?_, ra⟩
  · refine (r0.trans (val_main_v42_eq _ _ _ _ _)).trans ?_
    rw [e0, e1, e2, e3, e4]
    exact ((at18_v14 m ρ c).trans (result_out _ _ _ _ _)).symm
  · refine (r1.trans (val_main_v35_eq m' c)).trans ?_
    rw [e0, e1, e2, e3, e4, e5]
    exact ((at18_v27 m ρ c).trans (result_rows _ _ _ _ _ _ h1 h3 h4 h5)).symm
  · refine (r2.trans (val_main_v38_eq m' c)).trans ?_
    rw [e0, e1, e2, e3, e4, e5]
    exact ((at18_v24 m ρ c).trans (result_gate _ _ _ _ _ _ h1 h3 h4 h5)).symm
  · refine (r3.trans (val_main_v41_eq _ _ _ _ _)).trans ?_
    rw [e0, e1, e2, e4, e5]
    exact ((at18_v25 m ρ c).trans (result_up _ _ _ _ _)).symm
  · refine (r4.trans (val_main_v43_eq _ _ _ _ _)).trans ?_
    rw [e0, e1, e2, e3, e5]
    exact ((at18_v16 m ρ c).trans (result_down _ _ _ _ _)).symm

end Cert.KernelIdeal.Ffn

end
-- ==== Proof.Gla.Recurrence.lean ====
/- The recurrence of the gated linear attention over its chunks, in real numbers: the closed sum steps like the recurrence, forwards and backwards, and what the decays' gradient comes to. -/
module

public import Mathlib.Analysis.SpecialFunctions.Exp
public import Mathlib.Algebra.BigOperators.Fin

@[expose] public section

noncomputable section

namespace Cert.Gla

/-- The sum up to and with `n`. -/
def upTo (t : Fin 64 → ℝ) (n : Fin 64) : ℝ := ∑ m, if m ≤ n then t m else 0

/-- What remains of chunk `m` at the end of chunk `n`, for log decays `t` across the chunks. -/
def decay (t : Fin 64 → ℝ) (n m : Fin 64) : ℝ := if m ≤ n then Real.exp (upTo t n - upTo t m) else 0

/-- The state after chunk `n`, of what each chunk adds. -/
def state (t kv : Fin 64 → ℝ) (n : Fin 64) : ℝ := ∑ m, kv m * decay t n m

/-- The state before chunk `n`. -/
def before (t kv : Fin 64 → ℝ) (n : Fin 64) : ℝ := if n.val = 0 then 0 else state t kv ⟨n.val - 1, by omega⟩

/-- The gradient of the state after chunk `m`, of what each chunk's own reads contribute. -/
def back (t ds : Fin 64 → ℝ) (m : Fin 64) : ℝ := ∑ n, ds n * decay t n m

theorem upTo_succ (t : Fin 64 → ℝ) {p n : Fin 64} (h : n.val = p.val + 1) : upTo t n = upTo t p + t n := by
  have e : ∀ m : Fin 64, (if m ≤ n then t m else 0) = (if m ≤ p then t m else 0) + if m = n then t n else 0 := by
    intro m
    simp only [Fin.le_def, Fin.ext_iff]
    by_cases h1 : m.val ≤ p.val
    · rw [if_pos (by omega), if_pos h1, if_neg (by omega), add_zero]
    · by_cases h2 : m.val = n.val
      · rw [if_pos (by omega), if_neg h1, if_pos h2, zero_add, Fin.ext h2]
      · rw [if_neg (by omega), if_neg h1, if_neg h2, add_zero]
  unfold upTo
  rw [Finset.sum_congr rfl fun m _ => e m, Finset.sum_add_distrib, Finset.sum_ite_eq' Finset.univ n]
  simp

theorem decay_self (t : Fin 64 → ℝ) (n : Fin 64) : decay t n n = 1 := by simp [decay]

theorem decay_trans (t : Fin 64 → ℝ) {n l m : Fin 64} (h1 : l ≤ n) (h2 : m ≤ l) : decay t n l * decay t l m = decay t n m := by
  rw [decay, decay, decay, if_pos h1, if_pos h2, if_pos (h2.trans h1), ← Real.exp_add]
  congr 1; ring

theorem decay_step (t : Fin 64 → ℝ) {p n : Fin 64} (h : n.val = p.val + 1) : decay t n p = Real.exp (t n) := by
  rw [decay, if_pos (by simp only [Fin.le_def]; omega), upTo_succ t h]
  congr 1; ring

theorem decay_of_lt (t : Fin 64 → ℝ) {n m : Fin 64} (h : n < m) : decay t n m = 0 := by
  rw [decay, if_neg (not_le.mpr h)]

/-- The state takes one step of the recurrence. -/
theorem state_succ (t kv : Fin 64 → ℝ) {p n : Fin 64} (h : n.val = p.val + 1) :
    state t kv n = state t kv p * Real.exp (t n) + kv n := by
  have e : ∀ m : Fin 64, kv m * decay t n m = kv m * decay t p m * Real.exp (t n) + if m = n then kv n else 0 := by
    intro m
    by_cases h1 : m ≤ p
    · have hne : m ≠ n := by intro hh; subst hh; simp only [Fin.le_def] at h1; omega
      rw [if_neg hne, add_zero, ← decay_step t h, mul_assoc, mul_comm (decay t p m), decay_trans t _ h1]
      simp only [Fin.le_def]; omega
    · rw [decay_of_lt t (not_le.mp h1), mul_zero, zero_mul, zero_add]
      by_cases h2 : m = n
      · rw [if_pos h2, h2, decay_self, mul_one]
      · rw [if_neg h2, decay_of_lt t, mul_zero]
        simp only [Fin.le_def, Fin.lt_def, Fin.ext_iff] at *; omega
  unfold state
  rw [Finset.sum_congr rfl fun m _ => e m, Finset.sum_add_distrib, Finset.sum_ite_eq' Finset.univ n, ← Finset.sum_mul]
  simp

theorem state_first (t kv : Fin 64 → ℝ) {n : Fin 64} (h : n.val = 0) : state t kv n = kv n := by
  unfold state
  rw [Finset.sum_eq_single n, decay_self, mul_one]
  · intro m _ hm
    rw [decay_of_lt t, mul_zero]
    simp only [Fin.lt_def, Fin.ext_iff, ne_eq] at *; omega
  · simp

/-- The state after a chunk, from the state before it. -/
theorem state_eq (t kv : Fin 64 → ℝ) (n : Fin 64) : state t kv n = before t kv n * Real.exp (t n) + kv n := by
  unfold before
  split_ifs with h
  · rw [state_first t kv h]; ring
  · exact state_succ t kv (by show n.val = n.val - 1 + 1; omega)

/-- The gradient of the state takes one step back. -/
theorem back_pred (t ds : Fin 64 → ℝ) {m n : Fin 64} (h : n.val = m.val + 1) :
    back t ds m = back t ds n * Real.exp (t n) + ds m := by
  have e : ∀ j : Fin 64, ds j * decay t j m = ds j * decay t j n * Real.exp (t n) + if j = m then ds m else 0 := by
    intro j
    by_cases h1 : n ≤ j
    · have hne : j ≠ m := by intro hh; subst hh; simp only [Fin.le_def] at h1; omega
      rw [if_neg hne, add_zero, ← decay_step t h, mul_assoc, decay_trans t h1]
      simp only [Fin.le_def]; omega
    · rw [decay_of_lt t (not_le.mp h1), mul_zero, zero_mul, zero_add]
      by_cases h2 : j = m
      · rw [if_pos h2, h2, decay_self, mul_one]
      · rw [if_neg h2, decay_of_lt t, mul_zero]
        simp only [Fin.le_def, Fin.lt_def, Fin.ext_iff] at *; omega
  unfold back
  rw [Finset.sum_congr rfl fun m _ => e m, Finset.sum_add_distrib, Finset.sum_ite_eq' Finset.univ m, ← Finset.sum_mul]
  simp

theorem back_last (t ds : Fin 64 → ℝ) {n : Fin 64} (h : n.val = 63) : back t ds n = ds n := by
  unfold back
  rw [Finset.sum_eq_single n, decay_self, mul_one]
  · intro m _ hm
    rw [decay_of_lt t, mul_zero]
    simp only [Fin.lt_def, Fin.ext_iff, ne_eq] at *; omega
  · simp

/-- The state before a chunk, decayed across it, is the sum over the chunks before. -/
theorem before_decayed (t kv : Fin 64 → ℝ) (n : Fin 64) :
    Real.exp (t n) * before t kv n = ∑ m, if m < n then kv m * decay t n m else 0 := by
  have h := state_eq t kv n
  have h2 : state t kv n = (∑ m, if m < n then kv m * decay t n m else 0) + kv n := by
    have e : ∀ m : Fin 64, kv m * decay t n m = (if m < n then kv m * decay t n m else 0) + if m = n then kv n else 0 := by
      intro m
      rcases lt_trichotomy m n with h1 | h1 | h1
      · rw [if_pos h1, if_neg h1.ne, add_zero]
      · rw [if_neg (by rw [h1]; exact lt_irrefl _), if_pos h1, h1, decay_self, mul_one, zero_add]
      · rw [if_neg (not_lt.mpr h1.le), if_neg h1.ne', decay_of_lt t h1, mul_zero, add_zero]
    unfold state
    rw [Finset.sum_congr rfl fun m _ => e m, Finset.sum_add_distrib, Finset.sum_ite_eq' Finset.univ n]
    simp
  linarith [mul_comm (before t kv n) (Real.exp (t n))]

/-- What of an array over pairs of chunks passes over the boundary before `l`: the rows from `l` on less the columns from `l` on. -/
theorem crossing (W : Fin 64 → Fin 64 → ℝ) (hW : ∀ n m, n < m → W n m = 0) (l : Fin 64) :
    (∑ j, if l ≤ j then (∑ n, -W n j) + ∑ m, W j m else 0) = ∑ n, ∑ m, if m < l ∧ l ≤ n then W n m else 0 := by
  have e1 : ∀ j : Fin 64, (if l ≤ j then (∑ n, -W n j) + ∑ m, W j m else 0)
      = (∑ n, -(if l ≤ j then W n j else 0)) + ∑ m, if l ≤ j then W j m else 0 := by
    intro j; split_ifs <;> simp
  rw [Finset.sum_congr rfl fun j _ => e1 j, Finset.sum_add_distrib, Finset.sum_comm, ← Finset.sum_add_distrib]
  refine Finset.sum_congr rfl fun n _ => ?_
  rw [← Finset.sum_add_distrib]
  refine Finset.sum_congr rfl fun m _ => ?_
  by_cases h1 : l ≤ m
  · rw [if_pos h1, if_neg (show ¬(m < l ∧ l ≤ n) from fun h => absurd h.1 (not_lt.mpr h1))]
    by_cases h2 : l ≤ n
    · rw [if_pos h2]; ring
    · rw [if_neg h2, hW n m (lt_of_lt_of_le (not_le.mp h2) h1)]; ring
  · rw [if_neg h1]
    by_cases h2 : l ≤ n
    · rw [if_pos h2, if_pos ⟨not_le.mp h1, h2⟩]; ring
    · rw [if_neg h2, if_neg (show ¬(m < l ∧ l ≤ n) from fun h => h2 h.2)]; ring

/-- The gradient of the log decay across chunk `l`, through every pair of chunks that it lies between, is the gradient of the state after it against the decayed state before it. -/
theorem decay_gradient {ι : Type} [Fintype ι] (t : Fin 64 → ℝ) (ds kv : ι → Fin 64 → ℝ) (l : Fin 64) :
    (∑ j, if l ≤ j then (∑ n, -(if j ≤ n then (∑ v, ds v n * kv v j) * decay t n j else 0)) + ∑ m, (if m ≤ j then (∑ v, ds v j * kv v m) * decay t j m else 0) else 0)
      = Real.exp (t l) * ∑ v, back t (ds v) l * before t (kv v) l := by
  rw [crossing (fun n m => if m ≤ n then (∑ v, ds v n * kv v m) * decay t n m else 0) (fun n m h => if_neg (not_le.mpr h)) l]
  rw [Finset.mul_sum]
  have e : ∀ v, Real.exp (t l) * (back t (ds v) l * before t (kv v) l)
      = ∑ n, ∑ m, if m < l ∧ l ≤ n then ds v n * kv v m * decay t n m else 0 := by
    intro v
    rw [mul_left_comm, before_decayed, back, Finset.sum_mul]
    refine Finset.sum_congr rfl fun n _ => ?_
    rw [Finset.mul_sum]
    refine Finset.sum_congr rfl fun m _ => ?_
    by_cases h1 : m < l
    · by_cases h2 : l ≤ n
      · rw [if_pos h1, if_pos ⟨h1, h2⟩, ← decay_trans t h2 h1.le]; ring
      · rw [if_neg (show ¬(m < l ∧ l ≤ n) from fun h => h2 h.2), decay_of_lt t (not_le.mp h2)]; ring
    · rw [if_neg h1, if_neg (show ¬(m < l ∧ l ≤ n) from fun h => h1 h.1), mul_zero]
  rw [Finset.sum_congr rfl fun v _ => e v]
  symm
  rw [Finset.sum_comm]
  refine Finset.sum_congr rfl fun n _ => ?_
  rw [Finset.sum_comm]
  refine Finset.sum_congr rfl fun m _ => ?_
  by_cases h : m < l ∧ l ≤ n
  · rw [if_pos h, if_pos (h.1.le.trans h.2), Finset.sum_mul]
    exact Finset.sum_congr rfl fun v _ => by rw [if_pos h]
  · rw [if_neg h]
    exact Finset.sum_eq_zero fun v _ => by rw [if_neg h]

end Cert.Gla

end
-- ==== Proof.Gla.Terms.lean ====
/- The gated linear attention in real numbers, for one device's rows cut into 64 chunks of 64: what each chunk adds to the state, the state, the output, and the gradients. -/
module

public import proofs.«01_k».proof.Proof.Gla.Recurrence
public import Idealize.ShloMosaic.PureOps.Ideal

@[expose] public section

noncomputable section

namespace Cert.Gla

open Idealize.ShloMosaic

/-- Keys, queries and log decays: by chunk, row, head and column. -/
abbrev Cols := Fin 64 → Fin 64 → Fin 4 → Fin 128 → ℝ

/-- Values and cotangents: by chunk, row, head and column. -/
abbrev Wide := Fin 64 → Fin 64 → Fin 4 → Fin 256 → ℝ

/-- A chunk's log decay. -/
def tot (A : Cols) (h : Fin 4) (k : Fin 128) (n : Fin 64) : ℝ := ∑ c, A n c h k

/-- The log decay of a chunk up to and with a row. -/
def cum (A : Cols) (n c : Fin 64) (h : Fin 4) (k : Fin 128) : ℝ := ∑ c', if c' ≤ c then A n c' h k else 0

/-- What remains of a row at the end of its chunk. -/
def left (A : Cols) (n c : Fin 64) (h : Fin 4) (k : Fin 128) : ℝ := Real.exp (tot A h k n - cum A n c h k)

/-- A key as its chunk's end sees it. -/
def kept (A K : Cols) (n c : Fin 64) (h : Fin 4) (k : Fin 128) : ℝ := K n c h k * left A n c h k

/-- What a chunk adds to the state. -/
def added (A K : Cols) (V : Wide) (h : Fin 4) (k : Fin 128) (v : Fin 256) (n : Fin 64) : ℝ := ∑ c, kept A K n c h k * V n c h v

/-- The state before a chunk. -/
def stBefore (A K : Cols) (V : Wide) (n : Fin 64) (h : Fin 4) (k : Fin 128) (v : Fin 256) : ℝ := before (tot A h k) (added A K V h k v) n

/-- The state after a chunk. -/
def stAfter (A K : Cols) (V : Wide) (n : Fin 64) (h : Fin 4) (k : Fin 128) (v : Fin 256) : ℝ := state (tot A h k) (added A K V h k v) n

/-- The factor of the queries. -/
def gain : ℝ := 11863283 / 134217728

/-- The output. -/
def out (Q A K : Cols) (V : Wide) (n c : Fin 64) (h : Fin 4) (v : Fin 256) : ℝ := ∑ k, Q n c h k * gain * stAfter A K V n h k v

theorem gain_eq : Ideal.ofBits .f32 0x3DB504F3#32 = (gain : EReal) := by
  simp [Ideal.ofBits, Ideal.ieee, gain, -EReal.coe_mul] <;> norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a : ℝ) : ((if p then a else 0 : ℝ) : EReal) = if p then (a : EReal) else 0 := by
  split_ifs <;> simp

theorem exp_coe (a : ℝ) : Ideal.exp (a : EReal) = ((Real.exp a : ℝ) : EReal) := rfl

/-- The state's step. -/
theorem stAfter_eq (A K : Cols) (V : Wide) (n : Fin 64) (h : Fin 4) (k : Fin 128) (v : Fin 256) :
    stAfter A K V n h k v = stBefore A K V n h k v * Real.exp (tot A h k n) + added A K V h k v n := state_eq _ _ _

theorem stBefore_first (A K : Cols) (V : Wide) (n : Fin 64) (hn : n.val = 0) (h : Fin 4) (k : Fin 128) (v : Fin 256) :
    stBefore A K V n h k v = 0 := if_pos hn

theorem stBefore_next (A K : Cols) (V : Wide) (m n : Fin 64) (hn : n.val = m.val + 1) (h : Fin 4) (k : Fin 128) (v : Fin 256) :
    stBefore A K V n h k v = stAfter A K V m h k v := by
  unfold stBefore stAfter before
  rw [if_neg (by omega)]
  congr 1
  exact Fin.ext (by simp [hn])

end Cert.Gla
-- ==== Proof.Gla.BackTerms.lean ====
/- The gradient of the recurrence in real numbers: what each chunk hands back through the state, and the gradients of the queries, keys, values and log decays. -/
module

public import proofs.«01_k».proof.Proof.Gla.Terms

@[expose] public section

set_option maxRecDepth 16384

noncomputable section

namespace Cert.Gla

/-- What a chunk's own output feeds into the gradient of the state after it. -/
def fed (Q : Cols) (G : Wide) (h : Fin 4) (k : Fin 128) (v : Fin 256) (n : Fin 64) : ℝ := ∑ c, G n c h v * (Q n c h k * gain)

/-- The gradient of the state after a chunk. -/
def stGrad (Q A : Cols) (G : Wide) (n : Fin 64) (h : Fin 4) (k : Fin 128) (v : Fin 256) : ℝ := back (tot A h k) (fed Q G h k v) n

/-- What a chunk hands back to the chunk before it. -/
def handed (Q A : Cols) (G : Wide) (n : Fin 64) (h : Fin 4) (k : Fin 128) (v : Fin 256) : ℝ := stGrad Q A G n h k v * Real.exp (tot A h k n)

/-- What a chunk is handed by the chunk after it. -/
def owed (Q A : Cols) (G : Wide) (n : Fin 64) (h : Fin 4) (k : Fin 128) (v : Fin 256) : ℝ :=
  if hn : n.val = 63 then 0 else handed Q A G ⟨n.val + 1, by omega⟩ h k v

theorem stGrad_eq (Q A : Cols) (G : Wide) (n : Fin 64) (h : Fin 4) (k : Fin 128) (v : Fin 256) :
    stGrad Q A G n h k v = owed Q A G n h k v + fed Q G h k v n := by
  unfold owed
  split_ifs with hn
  · rw [zero_add]
    exact back_last _ _ hn
  · exact back_pred _ _ rfl

theorem owed_last (Q A : Cols) (G : Wide) (n : Fin 64) (hn : n.val = 63) (h : Fin 4) (k : Fin 128) (v : Fin 256) : owed Q A G n h k v = 0 := dif_pos hn

theorem owed_next (Q A : Cols) (G : Wide) (m n : Fin 64) (hn : n.val = m.val + 1) (h : Fin 4) (k : Fin 128) (v : Fin 256) :
    owed Q A G m h k v = handed Q A G n h k v := by
  unfold owed
  rw [dif_neg (by omega)]
  congr 1
  exact Fin.ext hn.symm

/-- The gradient of a key as its chunk's end sees it. -/
def keptGrad (Q A : Cols) (V G : Wide) (n c : Fin 64) (h : Fin 4) (k : Fin 128) : ℝ := ∑ v, V n c h v * stGrad Q A G n h k v

/-- The gradient of the queries. -/
def gradQ (A K : Cols) (V G : Wide) (n c : Fin 64) (h : Fin 4) (k : Fin 128) : ℝ := (∑ v, G n c h v * stAfter A K V n h k v) * gain

/-- The gradient of the keys. -/
def gradK (Q A : Cols) (V G : Wide) (n c : Fin 64) (h : Fin 4) (k : Fin 128) : ℝ := keptGrad Q A V G n c h k * left A n c h k

/-- The gradient of the values. -/
def gradV (Q A K : Cols) (G : Wide) (n c : Fin 64) (h : Fin 4) (v : Fin 256) : ℝ := ∑ k, kept A K n c h k * stGrad Q A G n h k v

/-- The gradient of the log decays. -/
def gradA (Q A K : Cols) (V G : Wide) (n c : Fin 64) (h : Fin 4) (k : Fin 128) : ℝ :=
  Real.exp (tot A h k n) * (∑ v, stGrad Q A G n h k v * stBefore A K V n h k v)
    + ∑ c', if c' < c then keptGrad Q A V G n c' h k * kept A K n c' h k else 0

end Cert.Gla

end
-- ==== Proof.Gla.Step2.lean ====
/- The gradient call, one chunk of one head: what the body computes from the tiles it loads, in real numbers. -/
module

public import proofs.«01_k».proof.Proof.Gen.Kernel2Ideal.Skeleton
public import proofs.«01_k».proof.Proof.Gla.BackTerms
public import Idealize.ShloMosaic.Lib.Pipeline.ValueKit

@[expose] public section

set_option maxRecDepth 16384

noncomputable section

namespace Cert.Kernel2Ideal.Gla

open Cert.Kernel2Ideal Cert.Kernel2Ideal.Gen Cert.Gla Idealize.ShloMosaic Idealize.ShloMosaic.TcCoe Idealize.SL.Sem

theorem lower_word (r c : Fin 64) :
    (FloatOps.sitofp (F := Ideal) FTy.f32 (BitVec.setWidth 32 (IntOp.cmpi CmpIPredicate.sge (BitVec.ofNat 32 r.val) (BitVec.ofNat 32 c.val))) : EReal) = if c ≤ r then ((1 : ℝ) : EReal) else 0 := by
  have hw : ∀ r c : Fin 64, BitVec.setWidth 32 (IntOp.cmpi CmpIPredicate.sge (BitVec.ofNat 32 r.val) (BitVec.ofNat 32 c.val)) = if c ≤ r then 1#32 else 0#32 := by decide +kernel
  rw [hw]
  split_ifs
  · show (((1#32 : BitVec 32).toInt : ℝ) : EReal) = _
    norm_num
  · show (((0#32 : BitVec 32).toInt : ℝ) : EReal) = _
    norm_num

theorem strict_word (r c : Fin 64) :
    (FloatOps.sitofp (F := Ideal) FTy.f32 (BitVec.setWidth 32 (IntOp.cmpi CmpIPredicate.sgt (BitVec.ofNat 32 r.val) (BitVec.ofNat 32 c.val))) : EReal) = if c < r then ((1 : ℝ) : EReal) else 0 := by
  have hw : ∀ r c : Fin 64, BitVec.setWidth 32 (IntOp.cmpi CmpIPredicate.sgt (BitVec.ofNat 32 r.val) (BitVec.ofNat 32 c.val)) = if c < r then 1#32 else 0#32 := by decide +kernel
  rw [hw]
  split_ifs
  · show (((1#32 : BitVec 32).toInt : ℝ) : EReal) = _
    norm_num
  · show (((0#32 : BitVec 32).toInt : ℝ) : EReal) = _
    norm_num

/-- The matrix that sums the rows up to and with each row. -/
theorem lower_apply (r c : Fin 64) : (k0_pay3 (F := Ideal) (ix2 r c) : EReal) = if c ≤ r then ((1 : ℝ) : EReal) else 0 := by
  pointwise [k0_pay3]
  exact lower_word r c

/-- The matrix that sums the rows before each row. -/
theorem strict_apply (r c : Fin 64) : (k0_pay4 (F := Ideal) (ix2 r c) : EReal) = if c < r then ((1 : ℝ) : EReal) else 0 := by
  pointwise [k0_pay4]
  exact strict_word r c

variable {A K Q : Cols} {V G : Wide} {n : Fin 64} {h : Fin 4}

theorem tot_val (la : Vec Ideal S64x128 .f32) (hla : ∀ c a, (la (ix2 c a) : EReal) = ((A n c h a : ℝ) : EReal)) (a : Fin 128) :
    (k0_pay5 la (ix2 0 a) : EReal) = ((tot A h a n : ℝ) : EReal) := by
  pointwise [k0_pay5]
  rw [tot, coe_sum]
  exact Finset.sum_congr rfl fun x _ => hla x a

theorem left_val (la : Vec Ideal S64x128 .f32) (hla : ∀ c a, (la (ix2 c a) : EReal) = ((A n c h a : ℝ) : EReal)) (c : Fin 64) (a : Fin 128) :
    (k0_pay6 la (ix2 c a) : EReal) = ((left A n c h a : ℝ) : EReal) := by
  have ecum : (∑ x, (k0_pay3 (F := Ideal) (ix2 c x) : EReal) * la (ix2 x a)) = ((cum A n c h a : ℝ) : EReal) := by
    rw [cum, coe_sum]
    refine Finset.sum_congr rfl fun x _ => ?_
    rw [lower_apply, hla, coe_ite]
    split_ifs
    · rw [EReal.coe_one, one_mul]
    · rw [zero_mul]
  pointwise [k0_pay6]
  rw [tot_val la hla, ecum, ← EReal.coe_sub, exp_coe, left]

theorem end_val (la : Vec Ideal S64x128 .f32) (hla : ∀ c a, (la (ix2 c a) : EReal) = ((A n c h a : ℝ) : EReal)) (a : Fin 128) :
    (k0_pay7 la (ix2 0 a) : EReal) = ((Real.exp (tot A h a n) : ℝ) : EReal) := by
  pointwise [k0_pay7]
  rw [tot_val la hla, exp_coe]

theorem kept_val (la k : Vec Ideal S64x128 .f32) (hla : ∀ c a, (la (ix2 c a) : EReal) = ((A n c h a : ℝ) : EReal))
    (hk : ∀ c a, (k (ix2 c a) : EReal) = ((K n c h a : ℝ) : EReal)) (c : Fin 64) (a : Fin 128) :
    (k0_pay8 la k (ix2 c a) : EReal) = ((kept A K n c h a : ℝ) : EReal) := by
  pointwise [k0_pay8]
  rw [left_val la hla, hk, kept, EReal.coe_mul]

/-- The state after the chunk, computed again. -/
theorem after_val (la k : Vec Ideal S64x128 .f32) (v : Vec Ideal S64x256 .f32) (p : Vec Ideal S1x1x256x128 .f32)
    (hla : ∀ c a, (la (ix2 c a) : EReal) = ((A n c h a : ℝ) : EReal)) (hk : ∀ c a, (k (ix2 c a) : EReal) = ((K n c h a : ℝ) : EReal))
    (hv : ∀ c b, (v (ix2 c b) : EReal) = ((V n c h b : ℝ) : EReal)) (hp : ∀ b a, (p (ix4 0 0 b a) : EReal) = ((stBefore A K V n h a b : ℝ) : EReal))
    (b : Fin 256) (a : Fin 128) : (k0_pay13 la k v p (ix2 b a) : EReal) = ((stAfter A K V n h a b : ℝ) : EReal) := by
  pointwise [k0_pay13, k0_pay12, k0_pay10, k0_pay9]
  rw [stAfter_eq, EReal.coe_add, EReal.coe_mul, hp, end_val la hla, added, coe_sum]
  congr 1
  refine Finset.sum_congr rfl fun c _ => ?_
  rw [hv, kept_val la k hla hk, mul_comm (kept A K n c h a), EReal.coe_mul]

/-- The gradient of the state after the chunk. -/
theorem grad_val (d : Vec Ideal S64x256 .f32) (s : Vec Ideal S1x256x128 .f32) (q : Vec Ideal S64x128 .f32)
    (hd : ∀ c b, (d (ix2 c b) : EReal) = ((G n c h b : ℝ) : EReal)) (hs : ∀ b a, (s (ix3 0 b a) : EReal) = ((owed Q A G n h a b : ℝ) : EReal))
    (hq : ∀ c a, (q (ix2 c a) : EReal) = ((Q n c h a : ℝ) : EReal)) (b : Fin 256) (a : Fin 128) :
    (k0_pay15 (k0_pay11 d) (k0_pay14 s) q (ix2 b a) : EReal) = ((stGrad Q A G n h a b : ℝ) : EReal) := by
  pointwise [k0_pay15, k0_pay14, k0_pay11]
  rw [stGrad_eq, EReal.coe_add, hs, fed, coe_sum]
  congr 1
  refine Finset.sum_congr rfl fun c _ => ?_
  rw [hd, hq, EReal.coe_mul, EReal.coe_mul, ← gain_eq]

/-- The tiles of one chunk of one head, as the body uses them. -/
structure Tiles (A K Q : Cols) (V G : Wide) (n : Fin 64) (h : Fin 4) (la k : Vec Ideal S64x128 .f32) (v d : Vec Ideal S64x256 .f32) (q : Vec Ideal S64x128 .f32)
    (p : Vec Ideal S1x1x256x128 .f32) (s : Vec Ideal S1x256x128 .f32) : Prop where
  la : ∀ c a, (la (ix2 c a) : EReal) = ((A n c h a : ℝ) : EReal)
  k : ∀ c a, (k (ix2 c a) : EReal) = ((K n c h a : ℝ) : EReal)
  v : ∀ c b, (v (ix2 c b) : EReal) = ((V n c h b : ℝ) : EReal)
  d : ∀ c b, (d (ix2 c b) : EReal) = ((G n c h b : ℝ) : EReal)
  q : ∀ c a, (q (ix2 c a) : EReal) = ((Q n c h a : ℝ) : EReal)
  p : ∀ b a, (p (ix4 0 0 b a) : EReal) = ((stBefore A K V n h a b : ℝ) : EReal)
  s : ∀ b a, (s (ix3 0 b a) : EReal) = ((owed Q A G n h a b : ℝ) : EReal)

variable {la k : Vec Ideal S64x128 .f32} {v d : Vec Ideal S64x256 .f32} {q : Vec Ideal S64x128 .f32} {p : Vec Ideal S1x1x256x128 .f32} {s : Vec Ideal S1x256x128 .f32}

/-- The gradient of the queries. -/
theorem gradQ_val (T : Tiles A K Q V G n h la k v d q p s) (c : Fin 64) (a : Fin 128) :
    (k0_pay17 (k0_pay11 d) (k0_pay13 la k v p) (ix2 c a) : EReal) = ((gradQ A K V G n c h a : ℝ) : EReal) := by
  pointwise [k0_pay17, k0_pay11]
  rw [gradQ, EReal.coe_mul, ← gain_eq, coe_sum]
  congr 1
  refine Finset.sum_congr rfl fun b _ => ?_
  rw [T.d, after_val la k v p T.la T.k T.v T.p, EReal.coe_mul]

/-- The gradient of the values. -/
theorem gradV_val (T : Tiles A K Q V G n h la k v d q p s) (c : Fin 64) (b : Fin 256) :
    (k0_pay18 (k0_pay9 la k) (k0_pay11 d) (k0_pay14 s) q (ix2 c b) : EReal) = ((gradV Q A K G n c h b : ℝ) : EReal) := by
  pointwise [k0_pay18, k0_pay16, k0_pay9]
  rw [gradV, coe_sum]
  refine Finset.sum_congr rfl fun a _ => ?_
  rw [kept_val la k T.la T.k, grad_val d s q T.d T.s T.q, EReal.coe_mul]

/-- The gradient of the decayed keys. -/
theorem keptGrad_val (T : Tiles A K Q V G n h la k v d q p s) (c : Fin 64) (a : Fin 128) :
    (k0_pay19 (k0_pay10 v) (k0_pay11 d) (k0_pay14 s) q (ix2 c a) : EReal) = ((keptGrad Q A V G n c h a : ℝ) : EReal) := by
  pointwise [k0_pay19, k0_pay16, k0_pay10]
  rw [keptGrad, coe_sum]
  refine Finset.sum_congr rfl fun b _ => ?_
  rw [T.v, grad_val d s q T.d T.s T.q, EReal.coe_mul]

/-- The gradient of the keys. -/
theorem gradK_val (T : Tiles A K Q V G n h la k v d q p s) (c : Fin 64) (a : Fin 128) :
    (k0_pay20 (k0_pay6 la) (k0_pay10 v) (k0_pay11 d) (k0_pay14 s) q (ix2 c a) : EReal) = ((gradK Q A V G n c h a : ℝ) : EReal) := by
  pointwise [k0_pay20]
  rw [keptGrad_val T, left_val la T.la, gradK, EReal.coe_mul]

/-- The gradient of the log decays. -/
theorem gradA_val (T : Tiles A K Q V G n h la k v d q p s) (c : Fin 64) (a : Fin 128) :
    (k0_pay21 k0_pay4 (k0_pay7 la) (k0_pay8 la k) (k0_pay10 v) (k0_pay11 d) (k0_pay12 p) (k0_pay14 s) q (ix2 c a) : EReal) = ((gradA Q A K V G n c h a : ℝ) : EReal) := by
  have e1 : (∑ b : Fin 256, (k0_pay15 (k0_pay11 d) (k0_pay14 s) q (ix2 b a) : EReal) * p (ix4 0 0 b a)) = ((∑ b, stGrad Q A G n h a b * stBefore A K V n h a b : ℝ) : EReal) := by
    rw [coe_sum]
    exact Finset.sum_congr rfl fun b _ => by rw [grad_val d s q T.d T.s T.q, T.p, EReal.coe_mul]
  have e2 : (∑ x : Fin 64, (k0_pay4 (F := Ideal) (ix2 c x) : EReal) * ((k0_pay19 (k0_pay10 v) (k0_pay11 d) (k0_pay14 s) q (ix2 x a) : EReal) * (k0_pay8 la k (ix2 x a) : EReal)))
      = ((∑ c', if c' < c then keptGrad Q A V G n c' h a * kept A K n c' h a else 0 : ℝ) : EReal) := by
    rw [coe_sum]
    refine Finset.sum_congr rfl fun x _ => ?_
    rw [strict_apply, keptGrad_val T, kept_val la k T.la T.k, coe_ite]
    split_ifs
    · rw [EReal.coe_one, one_mul, EReal.coe_mul]
    · rw [zero_mul]
  pointwise [k0_pay21, k0_pay12]
  rw [e1, e2, end_val la T.la, gradA, EReal.coe_add, EReal.coe_mul]

/-- What the chunk hands back, of the four operands it depends on. -/
theorem handed_of {la q : Vec Ideal S64x128 .f32} {d : Vec Ideal S64x256 .f32} {s : Vec Ideal S1x256x128 .f32}
    (hla : ∀ c a, (la (ix2 c a) : EReal) = ((A n c h a : ℝ) : EReal)) (hd : ∀ c b, (d (ix2 c b) : EReal) = ((G n c h b : ℝ) : EReal))
    (hs : ∀ b a, (s (ix3 0 b a) : EReal) = ((owed Q A G n h a b : ℝ) : EReal)) (hq : ∀ c a, (q (ix2 c a) : EReal) = ((Q n c h a : ℝ) : EReal))
    (b : Fin 256) (a : Fin 128) :
    (k0_pay22 (k0_pay7 la) (k0_pay11 d) (k0_pay14 s) q (ix3 0 b a) : EReal) = ((handed Q A G n h a b : ℝ) : EReal) := by
  pointwise [k0_pay22]
  rw [grad_val d s q hd hs hq, end_val la hla, handed, EReal.coe_mul]

/-- What the chunk hands back. -/
theorem handed_val (T : Tiles A K Q V G n h la k v d q p s) (b : Fin 256) (a : Fin 128) :
    (k0_pay22 (k0_pay7 la) (k0_pay11 d) (k0_pay14 s) q (ix3 0 b a) : EReal) = ((handed Q A G n h a b : ℝ) : EReal) :=
  handed_of T.la T.d T.s T.q b a

/-- What the first point stores in the carried gradient. -/
theorem fill_val (y : S4x256x128.Idx) : (k0_pay2 (F := Ideal) y : EReal) = 0 := by
  show Ideal.ofBits .f32 0#32 = 0
  simp [Ideal.ofBits, Ideal.ieee]

end Cert.Kernel2Ideal.Gla

end
-- ==== Proof.Gla.Tiles.lean ====
/- A block of 256 rows as four chunks of 64 rows and four heads: how its tiles are loaded and stored, and how the carried state of four heads is read back. -/
module

public import proofs.«01_k».proof.Proof.Gla.Terms
public import Idealize.ShloMosaic.Lib.Pipeline.ValueKit
public import Idealize.ShloMosaic.Lib.Pipeline.ReadBack

@[expose] public section

set_option maxRecDepth 16384

noncomputable section

namespace Cert.Gla

open Idealize.ShloMosaic Idealize.ShloMosaic.TcCoe Idealize.SL.Sem

/-- A chunk's row among the block's rows. -/
def row (t : Fin 4) (c : Fin 64) : Fin 256 := ⟨64 * t.val + c.val, by omega⟩

/-- A head's column among the columns of keys. -/
def col (h : Fin 4) (a : Fin 128) : Fin 512 := ⟨128 * h.val + a.val, by omega⟩

/-- A head's column among the columns of values. -/
def wcol (h : Fin 4) (b : Fin 256) : Fin 1024 := ⟨256 * h.val + b.val, by omega⟩

abbrev B512 : Shape := ⟨2, ![256, 512]⟩
abbrev B1024 : Shape := ⟨2, ![256, 1024]⟩
abbrev BState : Shape := ⟨3, ![4, 256, 128]⟩
abbrev BStates : Shape := ⟨4, ![4, 4, 256, 128]⟩

/-- A block of narrow columns holds the chunks `N`. -/
def IsCols (x : FVec Ideal B512 .f32) (X : Cols) (N : Fin 4 → Fin 64) : Prop :=
  ∀ t c h a, (x (ix2 (row t c) (col h a)) : EReal) = ((X (N t) c h a : ℝ) : EReal)

/-- A block of wide columns holds the chunks `N`. -/
def IsWide (x : FVec Ideal B1024 .f32) (X : Wide) (N : Fin 4 → Fin 64) : Prop :=
  ∀ t c h b, (x (ix2 (row t c) (wcol h b)) : EReal) = ((X (N t) c h b : ℝ) : EReal)

/-- What a load of a tile of a block reads. -/
abbrev tile {sig : RefSig} {S : Shape} (arg : Memref sig .tc .vmem S .f32) (harg : arg.IsWhole) (x : FVec Ideal S .f32) (off size : Fin S.rank → ℕ)
    (inb : ∀ a, off a + size a ≤ S.size a) : FVec Ideal ⟨S.rank, size⟩ .f32 :=
  View.readAt (Elt Ideal) arg.view (Rect.unit (s := S) off size inb).toLoadRect (harg.unread x)

theorem tile_apply {sig : RefSig} {S : Shape} (arg : Memref sig .tc .vmem S .f32) (harg : arg.IsWhole) (x : FVec Ideal S .f32) (off size : Fin S.rank → ℕ)
    (inb : ∀ a, off a + size a ≤ S.size a) (j : (⟨S.rank, size⟩ : Shape).Idx) (y : S.Idx) (hy : ∀ a, (y a).val = off a + (j a).val) :
    tile arg harg x off size inb j = x y := by
  unfold tile
  rw [View.readAt_eq_ld, harg.read_unread]
  refine congrArg x (funext fun a => Fin.ext ?_)
  rw [hy a]
  show off a + 1 * (j a).val = _
  rw [Nat.one_mul]

theorem load_cols {sig : RefSig} {arg : Memref sig .tc .vmem B512 .f32} {harg : arg.IsWhole} {x : FVec Ideal B512 .f32} {X : Cols} {N : Fin 4 → Fin 64}
    (hx : IsCols x X N) (t h : Fin 4) {off : Fin 2 → ℕ} (inb : ∀ a, off a + (![64, 128] : Fin 2 → ℕ) a ≤ B512.size a) (hoff : off = ![64 * t.val, 128 * h.val])
    (c : Fin 64) (a : Fin 128) : (tile arg harg x off ![64, 128] inb (ix2 c a) : EReal) = ((X (N t) c h a : ℝ) : EReal) := by
  subst hoff
  refine (tile_apply arg harg x _ _ inb (ix2 c a) (ix2 (row t c) (col h a)) fun d => ?_).trans (hx t c h a)
  fin_cases d <;> rfl

theorem load_wide {sig : RefSig} {arg : Memref sig .tc .vmem B1024 .f32} {harg : arg.IsWhole} {x : FVec Ideal B1024 .f32} {X : Wide} {N : Fin 4 → Fin 64}
    (hx : IsWide x X N) (t h : Fin 4) {off : Fin 2 → ℕ} (inb : ∀ a, off a + (![64, 256] : Fin 2 → ℕ) a ≤ B1024.size a) (hoff : off = ![64 * t.val, 256 * h.val])
    (c : Fin 64) (b : Fin 256) : (tile arg harg x off ![64, 256] inb (ix2 c b) : EReal) = ((X (N t) c h b : ℝ) : EReal) := by
  subst hoff
  refine (tile_apply arg harg x _ _ inb (ix2 c b) (ix2 (row t c) (wcol h b)) fun d => ?_).trans (hx t c h b)
  fin_cases d <;> rfl

theorem load_head {sig : RefSig} {arg : Memref sig .tc .vmem BState .f32} {harg : arg.IsWhole} {x : FVec Ideal BState .f32} (h : Fin 4) {off : Fin 3 → ℕ}
    (inb : ∀ a, off a + (![1, 256, 128] : Fin 3 → ℕ) a ≤ BState.size a) (hoff : off = ![h.val, 0, 0]) (b : Fin 256) (a : Fin 128) :
    tile arg harg x off ![1, 256, 128] inb (ix3 (0 : Fin 1) b a) = x (ix3 h b a) := by
  subst hoff
  refine tile_apply arg harg x _ _ inb (ix3 (0 : Fin 1) b a) (ix3 h b a) fun d => ?_
  fin_cases d
  · rfl
  · exact (Nat.zero_add _).symm
  · exact (Nat.zero_add _).symm

theorem load_state {sig : RefSig} {arg : Memref sig .tc .vmem BStates .f32} {harg : arg.IsWhole} {x : FVec Ideal BStates .f32} (h t : Fin 4) {off : Fin 4 → ℕ}
    (inb : ∀ a, off a + (![1, 1, 256, 128] : Fin 4 → ℕ) a ≤ BStates.size a) (hoff : off = ![h.val, t.val, 0, 0]) (b : Fin 256) (a : Fin 128) :
    tile arg harg x off ![1, 1, 256, 128] inb (ix4 (0 : Fin 1) (0 : Fin 1) b a) = x (ix4 h t b a) := by
  subst hoff
  refine tile_apply arg harg x _ _ inb (ix4 (0 : Fin 1) (0 : Fin 1) b a) (ix4 h t b a) fun d => ?_
  fin_cases d
  · rfl
  · rfl
  · exact (Nat.zero_add _).symm
  · exact (Nat.zero_add _).symm

/-- A stored tile of narrow columns agrees with a function of chunk, row, head and column. -/
theorem piece_cols (G : Fin 4 → Fin 64 → Fin 4 → Fin 128 → ℝ) (t h : Fin 4) {off : Fin 2 → ℕ} (inb : ∀ a, off a + (![64, 128] : Fin 2 → ℕ) a ≤ B512.size a)
    (hoff : off = ![64 * t.val, 128 * h.val]) (w : FVec Ideal ⟨2, ![64, 128]⟩ .f32) (hw : ∀ c a, (w (ix2 c a) : EReal) = ((G t c h a : ℝ) : EReal)) :
    ∀ x : (Rect.unit (s := B512) off ![64, 128] inb).shape.Idx, w x =
      (fun y : B512.Idx => ((G ⟨(y 0).val / 64, by have := (y 0).isLt; simp at this; omega⟩ ⟨(y 0).val % 64, Nat.mod_lt _ (by decide)⟩ ⟨(y 1).val / 128, by have := (y 1).isLt; simp at this; omega⟩ ⟨(y 1).val % 128, Nat.mod_lt _ (by decide)⟩ : ℝ) : EReal)) ((Rect.unit (s := B512) off ![64, 128] inb).emb x) := by
  subst hoff
  intro x
  obtain ⟨c, a, rfl⟩ : ∃ (c : Fin 64) (a : Fin 128), x = ix2 c a := ⟨x 0, x 1, funext fun d => by fin_cases d <;> rfl⟩
  refine (hw c a).trans ?_
  have e0 : ((Rect.unit (s := B512) ![64 * t.val, 128 * h.val] ![64, 128] inb).emb (ix2 c a) 0).val = 64 * t.val + c.val := by
    show 64 * t.val + 1 * c.val = _; omega
  have e1 : ((Rect.unit (s := B512) ![64 * t.val, 128 * h.val] ![64, 128] inb).emb (ix2 c a) 1).val = 128 * h.val + a.val := by
    show 128 * h.val + 1 * a.val = _; omega
  show _ = ((G _ _ _ _ : ℝ) : EReal)
  congr 2 <;> apply Fin.ext
  · show _ = ((Rect.unit (s := B512) ![64 * t.val, 128 * h.val] ![64, 128] inb).emb (ix2 c a) 0).val / 64
    rw [e0]; omega
  · show _ = ((Rect.unit (s := B512) ![64 * t.val, 128 * h.val] ![64, 128] inb).emb (ix2 c a) 0).val % 64
    rw [e0]; omega
  · show _ = ((Rect.unit (s := B512) ![64 * t.val, 128 * h.val] ![64, 128] inb).emb (ix2 c a) 1).val / 128
    rw [e1]; omega
  · show _ = ((Rect.unit (s := B512) ![64 * t.val, 128 * h.val] ![64, 128] inb).emb (ix2 c a) 1).val % 128
    rw [e1]; omega

/-- A stored tile of wide columns agrees with a function of chunk, row, head and column. -/
theorem piece_wide (G : Fin 4 → Fin 64 → Fin 4 → Fin 256 → ℝ) (t h : Fin 4) {off : Fin 2 → ℕ} (inb : ∀ a, off a + (![64, 256] : Fin 2 → ℕ) a ≤ B1024.size a)
    (hoff : off = ![64 * t.val, 256 * h.val]) (w : FVec Ideal ⟨2, ![64, 256]⟩ .f32) (hw : ∀ c a, (w (ix2 c a) : EReal) = ((G t c h a : ℝ) : EReal)) :
    ∀ x : (Rect.unit (s := B1024) off ![64, 256] inb).shape.Idx, w x =
      (fun y : B1024.Idx => ((G ⟨(y 0).val / 64, by have := (y 0).isLt; simp at this; omega⟩ ⟨(y 0).val % 64, Nat.mod_lt _ (by decide)⟩ ⟨(y 1).val / 256, by have := (y 1).isLt; simp at this; omega⟩ ⟨(y 1).val % 256, Nat.mod_lt _ (by decide)⟩ : ℝ) : EReal)) ((Rect.unit (s := B1024) off ![64, 256] inb).emb x) := by
  subst hoff
  intro x
  obtain ⟨c, a, rfl⟩ : ∃ (c : Fin 64) (a : Fin 256), x = ix2 c a := ⟨x 0, x 1, funext fun d => by fin_cases d <;> rfl⟩
  refine (hw c a).trans ?_
  have e0 : ((Rect.unit (s := B1024) ![64 * t.val, 256 * h.val] ![64, 256] inb).emb (ix2 c a) 0).val = 64 * t.val + c.val := by
    show 64 * t.val + 1 * c.val = _; omega
  have e1 : ((Rect.unit (s := B1024) ![64 * t.val, 256 * h.val] ![64, 256] inb).emb (ix2 c a) 1).val = 256 * h.val + a.val := by
    show 256 * h.val + 1 * a.val = _; omega
  show _ = ((G _ _ _ _ : ℝ) : EReal)
  congr 2 <;> apply Fin.ext
  · show _ = ((Rect.unit (s := B1024) ![64 * t.val, 256 * h.val] ![64, 256] inb).emb (ix2 c a) 0).val / 64
    rw [e0]; omega
  · show _ = ((Rect.unit (s := B1024) ![64 * t.val, 256 * h.val] ![64, 256] inb).emb (ix2 c a) 0).val % 64
    rw [e0]; omega
  · show _ = ((Rect.unit (s := B1024) ![64 * t.val, 256 * h.val] ![64, 256] inb).emb (ix2 c a) 1).val / 256
    rw [e1]; omega
  · show _ = ((Rect.unit (s := B1024) ![64 * t.val, 256 * h.val] ![64, 256] inb).emb (ix2 c a) 1).val % 256
    rw [e1]; omega

/-- A stored state agrees with a function of head, chunk, value column and key column. -/
theorem piece_state (G : Fin 4 → Fin 4 → Fin 256 → Fin 128 → ℝ) (h t : Fin 4) {off : Fin 4 → ℕ} (inb : ∀ a, off a + (![1, 1, 256, 128] : Fin 4 → ℕ) a ≤ BStates.size a)
    (hoff : off = ![h.val, t.val, 0, 0]) (w : FVec Ideal ⟨4, ![1, 1, 256, 128]⟩ .f32) (hw : ∀ b a, (w (ix4 0 0 b a) : EReal) = ((G h t b a : ℝ) : EReal)) :
    ∀ x : (Rect.unit (s := BStates) off ![1, 1, 256, 128] inb).shape.Idx, w x =
      (fun y : BStates.Idx => ((G (y 0) (y 1) (y 2) (y 3) : ℝ) : EReal)) ((Rect.unit (s := BStates) off ![1, 1, 256, 128] inb).emb x) := by
  subst hoff
  intro x
  obtain ⟨b, a, rfl⟩ : ∃ (b : Fin 256) (a : Fin 128), x = ix4 (0 : Fin 1) (0 : Fin 1) b a :=
    ⟨x 2, x 3, funext fun d => by fin_cases d <;> first | exact Subsingleton.elim (α := Fin 1) _ _ | rfl⟩
  refine (hw b a).trans ?_
  show _ = ((G _ _ _ _ : ℝ) : EReal)
  congr 2 <;> apply Fin.ext
  · show b.val = 0 + 1 * b.val
    omega
  · show a.val = 0 + 1 * a.val
    omega

/-- A head's part of the carried state. -/
abbrev headRect (h : ℕ) (inb : ∀ a, (![h, 0, 0] : Fin 3 → ℕ) a + (![1, 256, 128] : Fin 3 → ℕ) a ≤ BState.size a) : Rect BState := Rect.unit ![h, 0, 0] ![1, 256, 128] inb

theorem canon_same (h : ℕ) (hh : h < 4) (inb) (w : FVec Ideal ⟨3, ![1, 256, 128]⟩ .f32) (L : List (View.Piece (Elt Ideal) BState .f32)) (b : Fin 256) (a : Fin 128) :
    View.canon (⟨headRect h inb, w⟩ :: L) (ix3 ⟨h, hh⟩ b a) = w (ix3 0 b a) := by
  have e : (headRect h inb).emb (ix3 (0 : Fin 1) b a) = (ix3 ⟨h, hh⟩ b a : BState.Idx) := funext fun d => Fin.ext (by
    fin_cases d
    · show h + 1 * 0 = h; omega
    · show 0 + 1 * b.val = b.val; omega
    · show 0 + 1 * a.val = a.val; omega)
  rw [← e]
  exact View.canon_cons_emb (headRect h inb) w L (ix3 (0 : Fin 1) b a)

theorem canon_other (h h' : ℕ) (hh : h < 4) (hne : h ≠ h') (inb) (w : FVec Ideal ⟨3, ![1, 256, 128]⟩ .f32) (L : List (View.Piece (Elt Ideal) BState .f32)) (b : Fin 256) (a : Fin 128) :
    View.canon (⟨headRect h' inb, w⟩ :: L) (ix3 ⟨h, hh⟩ b a) = View.canon L (ix3 ⟨h, hh⟩ b a) := by
  refine View.canon_cons_of_not_mem _ L fun hm => ?_
  have := (Rect.mem_set_unit (inb := inb)).mp hm 0
  have h1 : h' ≤ h ∧ h < h' + 1 := this
  omega

/-- What stores of all four heads leave, whatever was stored before. -/
theorem canon_heads (G : Fin 4 → Fin 256 → Fin 128 → ℝ) (i0 i1 i2 i3) (w0 w1 w2 w3 : FVec Ideal ⟨3, ![1, 256, 128]⟩ .f32) (L : List (View.Piece (Elt Ideal) BState .f32))
    (h0 : ∀ b a, (w0 (ix3 0 b a) : EReal) = ((G 0 b a : ℝ) : EReal)) (h1 : ∀ b a, (w1 (ix3 0 b a) : EReal) = ((G 1 b a : ℝ) : EReal))
    (h2 : ∀ b a, (w2 (ix3 0 b a) : EReal) = ((G 2 b a : ℝ) : EReal)) (h3 : ∀ b a, (w3 (ix3 0 b a) : EReal) = ((G 3 b a : ℝ) : EReal)) (h : Fin 4) (b : Fin 256) (a : Fin 128) :
    (View.canon (⟨headRect 3 i3, w3⟩ :: ⟨headRect 2 i2, w2⟩ :: ⟨headRect 1 i1, w1⟩ :: ⟨headRect 0 i0, w0⟩ :: L) (ix3 h b a) : EReal) = ((G h b a : ℝ) : EReal) := by
  obtain ⟨h, hh⟩ := h
  match h, hh with
  | 3, hh => exact (canon_same 3 hh _ _ _ b a).trans (h3 b a)
  | 2, hh => exact (canon_other 2 3 hh (by decide) _ _ _ b a).trans ((canon_same 2 hh _ _ _ b a).trans (h2 b a))
  | 1, hh =>
    exact (canon_other 1 3 hh (by decide) _ _ _ b a).trans ((canon_other 1 2 hh (by decide) _ _ _ b a).trans ((canon_same 1 hh _ _ _ b a).trans (h1 b a)))
  | 0, hh =>
    exact (canon_other 0 3 hh (by decide) _ _ _ b a).trans ((canon_other 0 2 hh (by decide) _ _ _ b a).trans ((canon_other 0 1 hh (by decide) _ _ _ b a).trans ((canon_same 0 hh _ _ _ b a).trans (h0 b a))))

/-- A head loaded when the three stores since its own were of other heads. -/
theorem read_head {sig : RefSig} (v : View sig .tc .vmem BState .f32) {h h1 h2 h3 : ℕ} (n1 : h ≠ h1) (n2 : h ≠ h2) (n3 : h ≠ h3) (hh : h < 4) (i i1 i2 i3)
    (w w1 w2 w3 : FVec Ideal ⟨3, ![1, 256, 128]⟩ .f32) (L : List (View.Piece (Elt Ideal) BState .f32)) (b : Fin 256) (a : Fin 128) :
    View.readCov v (⟨headRect h1 i1, w1⟩ :: ⟨headRect h2 i2, w2⟩ :: ⟨headRect h3 i3, w3⟩ :: ⟨headRect h i, w⟩ :: L) (headRect h i).toLoadRect (ix3 (0 : Fin 1) b a) = w (ix3 0 b a) := by
  rw [View.readCov_eq_canon']
  have e : (headRect h i).toLoadRect.idx (ix3 (0 : Fin 1) b a) = (ix3 ⟨h, hh⟩ b a : BState.Idx) := funext fun d => Fin.ext (by
    fin_cases d
    · show h + 1 * 0 = h; omega
    · show 0 + 1 * b.val = b.val; omega
    · show 0 + 1 * a.val = a.val; omega)
  show View.canon _ ((headRect h i).toLoadRect.idx (ix3 (0 : Fin 1) b a)) = _
  rw [e]
  exact (canon_other h h1 hh n1 _ _ _ b a).trans ((canon_other h h2 hh n2 _ _ _ b a).trans ((canon_other h h3 hh n3 _ _ _ b a).trans (canon_same h hh _ _ _ b a)))

/-- A head loaded past a store of another head. -/
theorem read_skip {sig : RefSig} (v : View sig .tc .vmem BState .f32) {h h1 : ℕ} (n1 : h ≠ h1) (hh : h < 4) (i i1)
    (w1 : FVec Ideal ⟨3, ![1, 256, 128]⟩ .f32) (L : List (View.Piece (Elt Ideal) BState .f32)) (b : Fin 256) (a : Fin 128) :
    View.readCov v (⟨headRect h1 i1, w1⟩ :: L) (headRect h i).toLoadRect (ix3 (0 : Fin 1) b a) = View.readCov v L (headRect h i).toLoadRect (ix3 (0 : Fin 1) b a) := by
  rw [View.readCov_eq_canon', View.readCov_eq_canon']
  have e : (headRect h i).toLoadRect.idx (ix3 (0 : Fin 1) b a) = (ix3 ⟨h, hh⟩ b a : BState.Idx) := funext fun d => Fin.ext (by
    fin_cases d
    · show h + 1 * 0 = h; omega
    · show 0 + 1 * b.val = b.val; omega
    · show 0 + 1 * a.val = a.val; omega)
  show View.canon _ ((headRect h i).toLoadRect.idx (ix3 (0 : Fin 1) b a)) = View.canon _ ((headRect h i).toLoadRect.idx (ix3 (0 : Fin 1) b a))
  rw [e]
  exact canon_other h h1 hh n1 _ _ _ b a

/-- A head loaded after one number was stored everywhere. -/
theorem read_fresh {sig : RefSig} (v : View sig .tc .vmem BState .f32) {h : ℕ} (i) (inb : ∀ a, (![0, 0, 0] : Fin 3 → ℕ) a + BState.size a ≤ BState.size a) (Z : FVec Ideal BState .f32) (z : EReal)
    (hZ : ∀ y, (Z y : EReal) = z) (L : List (View.Piece (Elt Ideal) BState .f32)) (b : Fin 256) (a : Fin 128) :
    (View.readCov v (⟨Rect.unit (s := BState) ![0, 0, 0] BState.size inb, Z⟩ :: L) (headRect h i).toLoadRect (ix3 (0 : Fin 1) b a) : EReal) = z := by
  rw [View.readCov_fill v inb Z L (headRect h i) (by decide)]
  exact hZ _

end Cert.Gla
-- ==== Proof.Gla.First2.lean ====
/- The gradient call at the first point: what its body leaves in the four gradients' blocks and in the carried gradient of the state. -/
module

public import proofs.«01_k».proof.Proof.Gen.Kernel2Ideal.Frame
public import proofs.«01_k».proof.Proof.Gla.Step2
public import proofs.«01_k».proof.Proof.Gla.Tiles

@[expose] public section

set_option maxRecDepth 16384
set_option maxHeartbeats 1600000

noncomputable section

namespace Cert.Kernel2Ideal.Gla.First

open Cert.Kernel2Ideal Cert.Kernel2Ideal.Gen Cert.Kernel2Ideal.Gla Cert.Gla Idealize.ShloMosaic Idealize.ShloMosaic.TcCoe Idealize.SL.Sem

variable {c : Dev nD} {i : grid0.Coords}
  {arg1 : Memref sig .tc .vmem S256x512 .f32} {harg1 : arg1.IsWhole}
  {arg2 : Memref sig .tc .vmem S256x512 .f32} {harg2 : arg2.IsWhole}
  {arg3 : Memref sig .tc .vmem S256x1024 .f32} {harg3 : arg3.IsWhole}
  {arg4 : Memref sig .tc .vmem S256x512 .f32} {harg4 : arg4.IsWhole}
  {arg5 : Memref sig .tc .vmem S256x1024 .f32} {harg5 : arg5.IsWhole}
  {arg6 : Memref sig .tc .vmem S4x4x256x128 .f32} {harg6 : arg6.IsWhole}
  {arg7 : Memref sig .tc .vmem S256x512 .f32} {harg7 : arg7.IsWhole}
  {arg8 : Memref sig .tc .vmem S256x512 .f32} {harg8 : arg8.IsWhole}
  {arg9 : Memref sig .tc .vmem S256x1024 .f32} {harg9 : arg9.IsWhole}
  {arg10 : Memref sig .tc .vmem S256x512 .f32} {harg10 : arg10.IsWhole}
  {arg11 : Memref sig .tc .vmem S4x256x128 .f32} {harg11 : arg11.IsWhole}
  {x0 : Vec Ideal S256x512 .f32} {x1 : Vec Ideal S256x512 .f32} {x2 : Vec Ideal S256x1024 .f32} {x3 : Vec Ideal S256x512 .f32} {x4 : Vec Ideal S256x1024 .f32} {x5 : Vec Ideal S4x4x256x128 .f32}

variable {A K Q : Cols} {W G : Wide} {N : Fin 4 → Fin 64}
  (hN : ∀ t : Fin 3, (N t.succ).val = (N t.castSucc).val + 1) (ha : IsCols x3 A N) (hk : IsCols x1 K N) (hq : IsCols x0 Q N) (hv : IsWide x2 W N) (hd : IsWide x4 G N)
  (hp : ∀ h t b a, (x5 (ix4 h t b a) : EReal) = ((stBefore A K W (N t) h a b : ℝ) : EReal))
  (hz : (N 3).val = 63)
include hN ha hk hq hv hd hp hz

theorem owed_3_0 (b : Fin 256) (a : Fin 128) : ((kernelRun0_A.sl.v34 (F := Ideal) c arg11) (ix3 (0 : Fin 1) b a) : EReal) = ((owed Q A G (N 3) 0 a b : ℝ) : EReal) := by
  rw [owed_last _ _ _ _ hz, EReal.coe_zero]
  exact (read_fresh arg11.view inb_S4x256x128_S1x256x128_0_0_0 _ _ _ fill_val _ b a)

theorem tiles_3_0 : Tiles A K Q W G (N 3) 0
    (tile arg4 harg4 x3 ![192, 0] S64x128.size inb_S256x512_S64x128_192_0)
    (tile arg2 harg2 x1 ![192, 0] S64x128.size inb_S256x512_S64x128_192_0)
    (tile arg3 harg3 x2 ![192, 0] S64x256.size inb_S256x1024_S64x256_192_0)
    (tile arg5 harg5 x4 ![192, 0] S64x256.size inb_S256x1024_S64x256_192_0)
    (tile arg1 harg1 x0 ![192, 0] S64x128.size inb_S256x512_S64x128_192_0)
    (tile arg6 harg6 x5 ![0, 3, 0, 0] S1x1x256x128.size inb_S4x4x256x128_S1x1x256x128_0_3_0_0)
    (kernelRun0_A.sl.v34 (F := Ideal) c arg11) :=
  ⟨load_cols ha 3 0 _ rfl, load_cols hk 3 0 _ rfl, load_wide hv 3 0 _ rfl, load_wide hd 3 0 _ rfl, load_cols hq 3 0 _ rfl,
    fun b a => (load_state 0 3 _ rfl b a).trans (hp 0 3 b a), owed_3_0 hN ha hk hq hv hd hp hz⟩

theorem owed_3_1 (b : Fin 256) (a : Fin 128) : ((kernelRun0_A.sl.v91 (F := Ideal) c arg1 harg1 arg4 harg4 arg5 harg5 arg11 x0 x3 x4) (ix3 (0 : Fin 1) b a) : EReal) = ((owed Q A G (N 3) 1 a b : ℝ) : EReal) := by
  rw [owed_last _ _ _ _ hz, EReal.coe_zero]
  exact ((read_skip arg11.view (h := 1) (h1 := 0) (by decide) (by decide) inb_S4x256x128_S1x256x128_1_0_0 inb_S4x256x128_S1x256x128_0_0_0 _ _ b a).trans (read_fresh arg11.view inb_S4x256x128_S1x256x128_1_0_0 _ _ _ fill_val _ b a))

theorem tiles_3_1 : Tiles A K Q W G (N 3) 1
    (tile arg4 harg4 x3 ![192, 128] S64x128.size inb_S256x512_S64x128_192_128)
    (tile arg2 harg2 x1 ![192, 128] S64x128.size inb_S256x512_S64x128_192_128)
    (tile arg3 harg3 x2 ![192, 256] S64x256.size inb_S256x1024_S64x256_192_256)
    (tile arg5 harg5 x4 ![192, 256] S64x256.size inb_S256x1024_S64x256_192_256)
    (tile arg1 harg1 x0 ![192, 128] S64x128.size inb_S256x512_S64x128_192_128)
    (tile arg6 harg6 x5 ![1, 3, 0, 0] S1x1x256x128.size inb_S4x4x256x128_S1x1x256x128_1_3_0_0)
    (kernelRun0_A.sl.v91 (F := Ideal) c arg1 harg1 arg4 harg4 arg5 harg5 arg11 x0 x3 x4) :=
  ⟨load_cols ha 3 1 _ rfl, load_cols hk 3 1 _ rfl, load_wide hv 3 1 _ rfl, load_wide hd 3 1 _ rfl, load_cols hq 3 1 _ rfl,
    fun b a => (load_state 1 3 _ rfl b a).trans (hp 1 3 b a), owed_3_1 hN ha hk hq hv hd hp hz⟩

theorem owed_3_2 (b : Fin 256) (a : Fin 128) : ((kernelRun0_A.sl.v148 (F := Ideal) c arg1 harg1 arg4 harg4 arg5 harg5 arg11 x0 x3 x4) (ix3 (0 : Fin 1) b a) : EReal) = ((owed Q A G (N 3) 2 a b : ℝ) : EReal) := by
  rw [owed_last _ _ _ _ hz, EReal.coe_zero]
  exact ((read_skip arg11.view (h := 2) (h1 := 1) (by decide) (by decide) inb_S4x256x128_S1x256x128_2_0_0 inb_S4x256x128_S1x256x128_1_0_0 _ _ b a).trans ((read_skip arg11.view (h := 2) (h1 := 0) (by decide) (by decide) inb_S4x256x128_S1x256x128_2_0_0 inb_S4x256x128_S1x256x128_0_0_0 _ _ b a).trans (read_fresh arg11.view inb_S4x256x128_S1x256x128_2_0_0 _ _ _ fill_val _ b a)))

theorem tiles_3_2 : Tiles A K Q W G (N 3) 2
    (tile arg4 harg4 x3 ![192, 256] S64x128.size inb_S256x512_S64x128_192_256)
    (tile arg2 harg2 x1 ![192, 256] S64x128.size inb_S256x512_S64x128_192_256)
    (tile arg3 harg3 x2 ![192, 512] S64x256.size inb_S256x1024_S64x256_192_512)
    (tile arg5 harg5 x4 ![192, 512] S64x256.size inb_S256x1024_S64x256_192_512)
    (tile arg1 harg1 x0 ![192, 256] S64x128.size inb_S256x512_S64x128_192_256)
    (tile arg6 harg6 x5 ![2, 3, 0, 0] S1x1x256x128.size inb_S4x4x256x128_S1x1x256x128_2_3_0_0)
    (kernelRun0_A.sl.v148 (F := Ideal) c arg1 harg1 arg4 harg4 arg5 harg5 arg11 x0 x3 x4) :=
  ⟨load_cols ha 3 2 _ rfl, load_cols hk 3 2 _ rfl, load_wide hv 3 2 _ rfl, load_wide hd 3 2 _ rfl, load_cols hq 3 2 _ rfl,
    fun b a => (load_state 2 3 _ rfl b a).trans (hp 2 3 b a), owed_3_2 hN ha hk hq hv hd hp hz⟩

theorem owed_3_3 (b : Fin 256) (a : Fin 128) : ((kernelRun0_A.sl.v205 (F := Ideal) c arg1 harg1 arg4 harg4 arg5 harg5 arg11 x0 x3 x4) (ix3 (0 : Fin 1) b a) : EReal) = ((owed Q A G (N 3) 3 a b : ℝ) : EReal) := by
  rw [owed_last _ _ _ _ hz, EReal.coe_zero]
  exact ((read_skip arg11.view (h := 3) (h1 := 2) (by decide) (by decide) inb_S4x256x128_S1x256x128_3_0_0 inb_S4x256x128_S1x256x128_2_0_0 _ _ b a).trans ((read_skip arg11.view (h := 3) (h1 := 1) (by decide) (by decide) inb_S4x256x128_S1x256x128_3_0_0 inb_S4x256x128_S1x256x128_1_0_0 _ _ b a).trans ((read_skip arg11.view (h := 3) (h1 := 0) (by decide) (by decide) inb_S4x256x128_S1x256x128_3_0_0 inb_S4x256x128_S1x256x128_0_0_0 _ _ b a).trans (read_fresh arg11.view inb_S4x256x128_S1x256x128_3_0_0 _ _ _ fill_val _ b a))))

theorem tiles_3_3 : Tiles A K Q W G (N 3) 3
    (tile arg4 harg4 x3 ![192, 384] S64x128.size inb_S256x512_S64x128_192_384)
    (tile arg2 harg2 x1 ![192, 384] S64x128.size inb_S256x512_S64x128_192_384)
    (tile arg3 harg3 x2 ![192, 768] S64x256.size inb_S256x1024_S64x256_192_768)
    (tile arg5 harg5 x4 ![192, 768] S64x256.size inb_S256x1024_S64x256_192_768)
    (tile arg1 harg1 x0 ![192, 384] S64x128.size inb_S256x512_S64x128_192_384)
    (tile arg6 harg6 x5 ![3, 3, 0, 0] S1x1x256x128.size inb_S4x4x256x128_S1x1x256x128_3_3_0_0)
    (kernelRun0_A.sl.v205 (F := Ideal) c arg1 harg1 arg4 harg4 arg5 harg5 arg11 x0 x3 x4) :=
  ⟨load_cols ha 3 3 _ rfl, load_cols hk 3 3 _ rfl, load_wide hv 3 3 _ rfl, load_wide hd 3 3 _ rfl, load_cols hq 3 3 _ rfl,
    fun b a => (load_state 3 3 _ rfl b a).trans (hp 3 3 b a), owed_3_3 hN ha hk hq hv hd hp hz⟩

theorem owed_2_0 (b : Fin 256) (a : Fin 128) : ((kernelRun0_A.sl.v262 (F := Ideal) c arg1 harg1 arg4 harg4 arg5 harg5 arg11 x0 x3 x4) (ix3 (0 : Fin 1) b a) : EReal) = ((owed Q A G (N 2) 0 a b : ℝ) : EReal) := by
  have e : (kernelRun0_A.sl.v262 (F := Ideal) c arg1 harg1 arg4 harg4 arg5 harg5 arg11 x0 x3 x4) (ix3 (0 : Fin 1) b a) = k0_pay22 (F := Ideal) (k0_pay7 (tile arg4 harg4 x3 ![192, 0] S64x128.size inb_S256x512_S64x128_192_0)) (k0_pay11 (tile arg5 harg5 x4 ![192, 0] S64x256.size inb_S256x1024_S64x256_192_0)) (k0_pay14 (kernelRun0_A.sl.v34 (F := Ideal) c arg11)) (tile arg1 harg1 x0 ![192, 0] S64x128.size inb_S256x512_S64x128_192_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 2) (N 3) (hN 2)]
  exact handed_of (load_cols ha 3 0 _ rfl) (load_wide hd 3 0 _ rfl) (owed_3_0 hN ha hk hq hv hd hp hz) (load_cols hq 3 0 _ rfl) b a

theorem tiles_2_0 : Tiles A K Q W G (N 2) 0
    (tile arg4 harg4 x3 ![128, 0] S64x128.size inb_S256x512_S64x128_128_0)
    (tile arg2 harg2 x1 ![128, 0] S64x128.size inb_S256x512_S64x128_128_0)
    (tile arg3 harg3 x2 ![128, 0] S64x256.size inb_S256x1024_S64x256_128_0)
    (tile arg5 harg5 x4 ![128, 0] S64x256.size inb_S256x1024_S64x256_128_0)
    (tile arg1 harg1 x0 ![128, 0] S64x128.size inb_S256x512_S64x128_128_0)
    (tile arg6 harg6 x5 ![0, 2, 0, 0] S1x1x256x128.size inb_S4x4x256x128_S1x1x256x128_0_2_0_0)
    (kernelRun0_A.sl.v262 (F := Ideal) c arg1 harg1 arg4 harg4 arg5 harg5 arg11 x0 x3 x4) :=
  ⟨load_cols ha 2 0 _ rfl, load_cols hk 2 0 _ rfl, load_wide hv 2 0 _ rfl, load_wide hd 2 0 _ rfl, load_cols hq 2 0 _ rfl,
    fun b a => (load_state 0 2 _ rfl b a).trans (hp 0 2 b a), owed_2_0 hN ha hk hq hv hd hp hz⟩

theorem owed_2_1 (b : Fin 256) (a : Fin 128) : ((kernelRun0_A.sl.v319 (F := Ideal) c arg1 harg1 arg4 harg4 arg5 harg5 arg11 x0 x3 x4) (ix3 (0 : Fin 1) b a) : EReal) = ((owed Q A G (N 2) 1 a b : ℝ) : EReal) := by
  have e : (kernelRun0_A.sl.v319 (F := Ideal) c arg1 harg1 arg4 harg4 arg5 harg5 arg11 x0 x3 x4) (ix3 (0 : Fin 1) b a) = k0_pay22 (F := Ideal) (k0_pay7 (tile arg4 harg4 x3 ![192, 128] S64x128.size inb_S256x512_S64x128_192_128)) (k0_pay11 (tile arg5 harg5 x4 ![192, 256] S64x256.size inb_S256x1024_S64x256_192_256)) (k0_pay14 (kernelRun0_A.sl.v91 (F := Ideal) c arg1 harg1 arg4 harg4 arg5 harg5 arg11 x0 x3 x4)) (tile arg1 harg1 x0 ![192, 128] S64x128.size inb_S256x512_S64x128_192_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 2) (N 3) (hN 2)]
  exact handed_of (load_cols ha 3 1 _ rfl) (load_wide hd 3 1 _ rfl) (owed_3_1 hN ha hk hq hv hd hp hz) (load_cols hq 3 1 _ rfl) b a

theorem tiles_2_1 : Tiles A K Q W G (N 2) 1
    (tile arg4 harg4 x3 ![128, 128] S64x128.size inb_S256x512_S64x128_128_128)
    (tile arg2 harg2 x1 ![128, 128] S64x128.size inb_S256x512_S64x128_128_128)
    (tile arg3 harg3 x2 ![128, 256] S64x256.size inb_S256x1024_S64x256_128_256)
    (tile arg5 harg5 x4 ![128, 256] S64x256.size inb_S256x1024_S64x256_128_256)
    (tile arg1 harg1 x0 ![128, 128] S64x128.size inb_S256x512_S64x128_128_128)
    (tile arg6 harg6 x5 ![1, 2, 0, 0] S1x1x256x128.size inb_S4x4x256x128_S1x1x256x128_1_2_0_0)
    (kernelRun0_A.sl.v319 (F := Ideal) c arg1 harg1 arg4 harg4 arg5 harg5 arg11 x0 x3 x4) :=
  ⟨load_cols ha 2 1 _ rfl, load_cols hk 2 1 _ rfl, load_wide hv 2 1 _ rfl, load_wide hd 2 1 _ rfl, load_cols hq 2 1 _ rfl,
    fun b a => (load_state 1 2 _ rfl b a).trans (hp 1 2 b a), owed_2_1 hN ha hk hq hv hd hp hz⟩

theorem owed_2_2 (b : Fin 256) (a : Fin 128) : ((kernelRun0_A.sl.v376 (F := Ideal) c arg1 harg1 arg4 harg4 arg5 harg5 arg11 x0 x3 x4) (ix3 (0 : Fin 1) b a) : EReal) = ((owed Q A G (N 2) 2 a b : ℝ) : EReal) := by
  have e : (kernelRun0_A.sl.v376 (F := Ideal) c arg1 harg1 arg4 harg4 arg5 harg5 arg11 x0 x3 x4) (ix3 (0 : Fin 1) b a) = k0_pay22 (F := Ideal) (k0_pay7 (tile arg4 harg4 x3 ![192, 256] S64x128.size inb_S256x512_S64x128_192_256)) (k0_pay11 (tile arg5 harg5 x4 ![192, 512] S64x256.size inb_S256x1024_S64x256_192_512)) (k0_pay14 (kernelRun0_A.sl.v148 (F := Ideal) c arg1 harg1 arg4 harg4 arg5 harg5 arg11 x0 x3 x4)) (tile arg1 harg1 x0 ![192, 256] S64x128.size inb_S256x512_S64x128_192_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 2) (N 3) (hN 2)]
  exact handed_of (load_cols ha 3 2 _ rfl) (load_wide hd 3 2 _ rfl) (owed_3_2 hN ha hk hq hv hd hp hz) (load_cols hq 3 2 _ rfl) b a

theorem tiles_2_2 : Tiles A K Q W G (N 2) 2
    (tile arg4 harg4 x3 ![128, 256] S64x128.size inb_S256x512_S64x128_128_256)
    (tile arg2 harg2 x1 ![128, 256] S64x128.size inb_S256x512_S64x128_128_256)
    (tile arg3 harg3 x2 ![128, 512] S64x256.size inb_S256x1024_S64x256_128_512)
    (tile arg5 harg5 x4 ![128, 512] S64x256.size inb_S256x1024_S64x256_128_512)
    (tile arg1 harg1 x0 ![128, 256] S64x128.size inb_S256x512_S64x128_128_256)
    (tile arg6 harg6 x5 ![2, 2, 0, 0] S1x1x256x128.size inb_S4x4x256x128_S1x1x256x128_2_2_0_0)
    (kernelRun0_A.sl.v376 (F := Ideal) c arg1 harg1 arg4 harg4 arg5 harg5 arg11 x0 x3 x4) :=
  ⟨load_cols ha 2 2 _ rfl, load_cols hk 2 2 _ rfl, load_wide hv 2 2 _ rfl, load_wide hd 2 2 _ rfl, load_cols hq 2 2 _ rfl,
    fun b a => (load_state 2 2 _ rfl b a).trans (hp 2 2 b a), owed_2_2 hN ha hk hq hv hd hp hz⟩

theorem owed_2_3 (b : Fin 256) (a : Fin 128) : ((kernelRun0_A.sl.v433 (F := Ideal) c arg1 harg1 arg4 harg4 arg5 harg5 arg11 x0 x3 x4) (ix3 (0 : Fin 1) b a) : EReal) = ((owed Q A G (N 2) 3 a b : ℝ) : EReal) := by
  have e : (kernelRun0_A.sl.v433 (F := Ideal) c arg1 harg1 arg4 harg4 arg5 harg5 arg11 x0 x3 x4) (ix3 (0 : Fin 1) b a) = k0_pay22 (F := Ideal) (k0_pay7 (tile arg4 harg4 x3 ![192, 384] S64x128.size inb_S256x512_S64x128_192_384)) (k0_pay11 (tile arg5 harg5 x4 ![192, 768] S64x256.size inb_S256x1024_S64x256_192_768)) (k0_pay14 (kernelRun0_A.sl.v205 (F := Ideal) c arg1 harg1 arg4 harg4 arg5 harg5 arg11 x0 x3 x4)) (tile arg1 harg1 x0 ![192, 384] S64x128.size inb_S256x512_S64x128_192_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 2) (N 3) (hN 2)]
  exact handed_of (load_cols ha 3 3 _ rfl) (load_wide hd 3 3 _ rfl) (owed_3_3 hN ha hk hq hv hd hp hz) (load_cols hq 3 3 _ rfl) b a

theorem tiles_2_3 : Tiles A K Q W G (N 2) 3
    (tile arg4 harg4 x3 ![128, 384] S64x128.size inb_S256x512_S64x128_128_384)
    (tile arg2 harg2 x1 ![128, 384] S64x128.size inb_S256x512_S64x128_128_384)
    (tile arg3 harg3 x2 ![128, 768] S64x256.size inb_S256x1024_S64x256_128_768)
    (tile arg5 harg5 x4 ![128, 768] S64x256.size inb_S256x1024_S64x256_128_768)
    (tile arg1 harg1 x0 ![128, 384] S64x128.size inb_S256x512_S64x128_128_384)
    (tile arg6 harg6 x5 ![3, 2, 0, 0] S1x1x256x128.size inb_S4x4x256x128_S1x1x256x128_3_2_0_0)
    (kernelRun0_A.sl.v433 (F := Ideal) c arg1 harg1 arg4 harg4 arg5 harg5 arg11 x0 x3 x4) :=
  ⟨load_cols ha 2 3 _ rfl, load_cols hk 2 3 _ rfl, load_wide hv 2 3 _ rfl, load_wide hd 2 3 _ rfl, load_cols hq 2 3 _ rfl,
    fun b a => (load_state 3 2 _ rfl b a).trans (hp 3 2 b a), owed_2_3 hN ha hk hq hv hd hp hz⟩

theorem owed_1_0 (b : Fin 256) (a : Fin 128) : ((kernelRun0_A.sl.v490 (F := Ideal) c arg1 harg1 arg4 harg4 arg5 harg5 arg11 x0 x3 x4) (ix3 (0 : Fin 1) b a) : EReal) = ((owed Q A G (N 1) 0 a b : ℝ) : EReal) := by
  have e : (kernelRun0_A.sl.v490 (F := Ideal) c arg1 harg1 arg4 harg4 arg5 harg5 arg11 x0 x3 x4) (ix3 (0 : Fin 1) b a) = k0_pay22 (F := Ideal) (k0_pay7 (tile arg4 harg4 x3 ![128, 0] S64x128.size inb_S256x512_S64x128_128_0)) (k0_pay11 (tile arg5 harg5 x4 ![128, 0] S64x256.size inb_S256x1024_S64x256_128_0)) (k0_pay14 (kernelRun0_A.sl.v262 (F := Ideal) c arg1 harg1 arg4 harg4 arg5 harg5 arg11 x0 x3 x4)) (tile arg1 harg1 x0 ![128, 0] S64x128.size inb_S256x512_S64x128_128_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 1) (N 2) (hN 1)]
  exact handed_of (load_cols ha 2 0 _ rfl) (load_wide hd 2 0 _ rfl) (owed_2_0 hN ha hk hq hv hd hp hz) (load_cols hq 2 0 _ rfl) b a

theorem tiles_1_0 : Tiles A K Q W G (N 1) 0
    (tile arg4 harg4 x3 ![64, 0] S64x128.size inb_S256x512_S64x128_64_0)
    (tile arg2 harg2 x1 ![64, 0] S64x128.size inb_S256x512_S64x128_64_0)
    (tile arg3 harg3 x2 ![64, 0] S64x256.size inb_S256x1024_S64x256_64_0)
    (tile arg5 harg5 x4 ![64, 0] S64x256.size inb_S256x1024_S64x256_64_0)
    (tile arg1 harg1 x0 ![64, 0] S64x128.size inb_S256x512_S64x128_64_0)
    (tile arg6 harg6 x5 ![0, 1, 0, 0] S1x1x256x128.size inb_S4x4x256x128_S1x1x256x128_0_1_0_0)
    (kernelRun0_A.sl.v490 (F := Ideal) c arg1 harg1 arg4 harg4 arg5 harg5 arg11 x0 x3 x4) :=
  ⟨load_cols ha 1 0 _ rfl, load_cols hk 1 0 _ rfl, load_wide hv 1 0 _ rfl, load_wide hd 1 0 _ rfl, load_cols hq 1 0 _ rfl,
    fun b a => (load_state 0 1 _ rfl b a).trans (hp 0 1 b a), owed_1_0 hN ha hk hq hv hd hp hz⟩

theorem owed_1_1 (b : Fin 256) (a : Fin 128) : ((kernelRun0_A.sl.v547 (F := Ideal) c arg1 harg1 arg4 harg4 arg5 harg5 arg11 x0 x3 x4) (ix3 (0 : Fin 1) b a) : EReal) = ((owed Q A G (N 1) 1 a b : ℝ) : EReal) := by
  have e : (kernelRun0_A.sl.v547 (F := Ideal) c arg1 harg1 arg4 harg4 arg5 harg5 arg11 x0 x3 x4) (ix3 (0 : Fin 1) b a) = k0_pay22 (F := Ideal) (k0_pay7 (tile arg4 harg4 x3 ![128, 128] S64x128.size inb_S256x512_S64x128_128_128)) (k0_pay11 (tile arg5 harg5 x4 ![128, 256] S64x256.size inb_S256x1024_S64x256_128_256)) (k0_pay14 (kernelRun0_A.sl.v319 (F := Ideal) c arg1 harg1 arg4 harg4 arg5 harg5 arg11 x0 x3 x4)) (tile arg1 harg1 x0 ![128, 128] S64x128.size inb_S256x512_S64x128_128_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 1) (N 2) (hN 1)]
  exact handed_of (load_cols ha 2 1 _ rfl) (load_wide hd 2 1 _ rfl) (owed_2_1 hN ha hk hq hv hd hp hz) (load_cols hq 2 1 _ rfl) b a

theorem tiles_1_1 : Tiles A K Q W G (N 1) 1
    (tile arg4 harg4 x3 ![64, 128] S64x128.size inb_S256x512_S64x128_64_128)
    (tile arg2 harg2 x1 ![64, 128] S64x128.size inb_S256x512_S64x128_64_128)
    (tile arg3 harg3 x2 ![64, 256] S64x256.size inb_S256x1024_S64x256_64_256)
    (tile arg5 harg5 x4 ![64, 256] S64x256.size inb_S256x1024_S64x256_64_256)
    (tile arg1 harg1 x0 ![64, 128] S64x128.size inb_S256x512_S64x128_64_128)
    (tile arg6 harg6 x5 ![1, 1, 0, 0] S1x1x256x128.size inb_S4x4x256x128_S1x1x256x128_1_1_0_0)
    (kernelRun0_A.sl.v547 (F := Ideal) c arg1 harg1 arg4 harg4 arg5 harg5 arg11 x0 x3 x4) :=
  ⟨load_cols ha 1 1 _ rfl, load_cols hk 1 1 _ rfl, load_wide hv 1 1 _ rfl, load_wide hd 1 1 _ rfl, load_cols hq 1 1 _ rfl,
    fun b a => (load_state 1 1 _ rfl b a).trans (hp 1 1 b a), owed_1_1 hN ha hk hq hv hd hp hz⟩

theorem owed_1_2 (b : Fin 256) (a : Fin 128) : ((kernelRun0_A.sl.v604 (F := Ideal) c arg1 harg1 arg4 harg4 arg5 harg5 arg11 x0 x3 x4) (ix3 (0 : Fin 1) b a) : EReal) = ((owed Q A G (N 1) 2 a b : ℝ) : EReal) := by
  have e : (kernelRun0_A.sl.v604 (F := Ideal) c arg1 harg1 arg4 harg4 arg5 harg5 arg11 x0 x3 x4) (ix3 (0 : Fin 1) b a) = k0_pay22 (F := Ideal) (k0_pay7 (tile arg4 harg4 x3 ![128, 256] S64x128.size inb_S256x512_S64x128_128_256)) (k0_pay11 (tile arg5 harg5 x4 ![128, 512] S64x256.size inb_S256x1024_S64x256_128_512)) (k0_pay14 (kernelRun0_A.sl.v376 (F := Ideal) c arg1 harg1 arg4 harg4 arg5 harg5 arg11 x0 x3 x4)) (tile arg1 harg1 x0 ![128, 256] S64x128.size inb_S256x512_S64x128_128_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 1) (N 2) (hN 1)]
  exact handed_of (load_cols ha 2 2 _ rfl) (load_wide hd 2 2 _ rfl) (owed_2_2 hN ha hk hq hv hd hp hz) (load_cols hq 2 2 _ rfl) b a

theorem tiles_1_2 : Tiles A K Q W G (N 1) 2
    (tile arg4 harg4 x3 ![64, 256] S64x128.size inb_S256x512_S64x128_64_256)
    (tile arg2 harg2 x1 ![64, 256] S64x128.size inb_S256x512_S64x128_64_256)
    (tile arg3 harg3 x2 ![64, 512] S64x256.size inb_S256x1024_S64x256_64_512)
    (tile arg5 harg5 x4 ![64, 512] S64x256.size inb_S256x1024_S64x256_64_512)
    (tile arg1 harg1 x0 ![64, 256] S64x128.size inb_S256x512_S64x128_64_256)
    (tile arg6 harg6 x5 ![2, 1, 0, 0] S1x1x256x128.size inb_S4x4x256x128_S1x1x256x128_2_1_0_0)
    (kernelRun0_A.sl.v604 (F := Ideal) c arg1 harg1 arg4 harg4 arg5 harg5 arg11 x0 x3 x4) :=
  ⟨load_cols ha 1 2 _ rfl, load_cols hk 1 2 _ rfl, load_wide hv 1 2 _ rfl, load_wide hd 1 2 _ rfl, load_cols hq 1 2 _ rfl,
    fun b a => (load_state 2 1 _ rfl b a).trans (hp 2 1 b a), owed_1_2 hN ha hk hq hv hd hp hz⟩

theorem owed_1_3 (b : Fin 256) (a : Fin 128) : ((kernelRun0_A.sl.v661 (F := Ideal) c arg1 harg1 arg4 harg4 arg5 harg5 arg11 x0 x3 x4) (ix3 (0 : Fin 1) b a) : EReal) = ((owed Q A G (N 1) 3 a b : ℝ) : EReal) := by
  have e : (kernelRun0_A.sl.v661 (F := Ideal) c arg1 harg1 arg4 harg4 arg5 harg5 arg11 x0 x3 x4) (ix3 (0 : Fin 1) b a) = k0_pay22 (F := Ideal) (k0_pay7 (tile arg4 harg4 x3 ![128, 384] S64x128.size inb_S256x512_S64x128_128_384)) (k0_pay11 (tile arg5 harg5 x4 ![128, 768] S64x256.size inb_S256x1024_S64x256_128_768)) (k0_pay14 (kernelRun0_A.sl.v433 (F := Ideal) c arg1 harg1 arg4 harg4 arg5 harg5 arg11 x0 x3 x4)) (tile arg1 harg1 x0 ![128, 384] S64x128.size inb_S256x512_S64x128_128_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 1) (N 2) (hN 1)]
  exact handed_of (load_cols ha 2 3 _ rfl) (load_wide hd 2 3 _ rfl) (owed_2_3 hN ha hk hq hv hd hp hz) (load_cols hq 2 3 _ rfl) b a

theorem tiles_1_3 : Tiles A K Q W G (N 1) 3
    (tile arg4 harg4 x3 ![64, 384] S64x128.size inb_S256x512_S64x128_64_384)
    (tile arg2 harg2 x1 ![64, 384] S64x128.size inb_S256x512_S64x128_64_384)
    (tile arg3 harg3 x2 ![64, 768] S64x256.size inb_S256x1024_S64x256_64_768)
    (tile arg5 harg5 x4 ![64, 768] S64x256.size inb_S256x1024_S64x256_64_768)
    (tile arg1 harg1 x0 ![64, 384] S64x128.size inb_S256x512_S64x128_64_384)
    (tile arg6 harg6 x5 ![3, 1, 0, 0] S1x1x256x128.size inb_S4x4x256x128_S1x1x256x128_3_1_0_0)
    (kernelRun0_A.sl.v661 (F := Ideal) c arg1 harg1 arg4 harg4 arg5 harg5 arg11 x0 x3 x4) :=
  ⟨load_cols ha 1 3 _ rfl, load_cols hk 1 3 _ rfl, load_wide hv 1 3 _ rfl, load_wide hd 1 3 _ rfl, load_cols hq 1 3 _ rfl,
    fun b a => (load_state 3 1 _ rfl b a).trans (hp 3 1 b a), owed_1_3 hN ha hk hq hv hd hp hz⟩

theorem owed_0_0 (b : Fin 256) (a : Fin 128) : ((kernelRun0_A.sl.v718 (F := Ideal) c arg1 harg1 arg4 harg4 arg5 harg5 arg11 x0 x3 x4) (ix3 (0 : Fin 1) b a) : EReal) = ((owed Q A G (N 0) 0 a b : ℝ) : EReal) := by
  have e : (kernelRun0_A.sl.v718 (F := Ideal) c arg1 harg1 arg4 harg4 arg5 harg5 arg11 x0 x3 x4) (ix3 (0 : Fin 1) b a) = k0_pay22 (F := Ideal) (k0_pay7 (tile arg4 harg4 x3 ![64, 0] S64x128.size inb_S256x512_S64x128_64_0)) (k0_pay11 (tile arg5 harg5 x4 ![64, 0] S64x256.size inb_S256x1024_S64x256_64_0)) (k0_pay14 (kernelRun0_A.sl.v490 (F := Ideal) c arg1 harg1 arg4 harg4 arg5 harg5 arg11 x0 x3 x4)) (tile arg1 harg1 x0 ![64, 0] S64x128.size inb_S256x512_S64x128_64_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 0) (N 1) (hN 0)]
  exact handed_of (load_cols ha 1 0 _ rfl) (load_wide hd 1 0 _ rfl) (owed_1_0 hN ha hk hq hv hd hp hz) (load_cols hq 1 0 _ rfl) b a

theorem tiles_0_0 : Tiles A K Q W G (N 0) 0
    (tile arg4 harg4 x3 ![0, 0] S64x128.size inb_S256x512_S64x128_0_0)
    (tile arg2 harg2 x1 ![0, 0] S64x128.size inb_S256x512_S64x128_0_0)
    (tile arg3 harg3 x2 ![0, 0] S64x256.size inb_S256x1024_S64x256_0_0)
    (tile arg5 harg5 x4 ![0, 0] S64x256.size inb_S256x1024_S64x256_0_0)
    (tile arg1 harg1 x0 ![0, 0] S64x128.size inb_S256x512_S64x128_0_0)
    (tile arg6 harg6 x5 ![0, 0, 0, 0] S1x1x256x128.size inb_S4x4x256x128_S1x1x256x128_0_0_0_0)
    (kernelRun0_A.sl.v718 (F := Ideal) c arg1 harg1 arg4 harg4 arg5 harg5 arg11 x0 x3 x4) :=
  ⟨load_cols ha 0 0 _ rfl, load_cols hk 0 0 _ rfl, load_wide hv 0 0 _ rfl, load_wide hd 0 0 _ rfl, load_cols hq 0 0 _ rfl,
    fun b a => (load_state 0 0 _ rfl b a).trans (hp 0 0 b a), owed_0_0 hN ha hk hq hv hd hp hz⟩

theorem owed_0_1 (b : Fin 256) (a : Fin 128) : ((kernelRun0_A.sl.v775 (F := Ideal) c arg1 harg1 arg4 harg4 arg5 harg5 arg11 x0 x3 x4) (ix3 (0 : Fin 1) b a) : EReal) = ((owed Q A G (N 0) 1 a b : ℝ) : EReal) := by
  have e : (kernelRun0_A.sl.v775 (F := Ideal) c arg1 harg1 arg4 harg4 arg5 harg5 arg11 x0 x3 x4) (ix3 (0 : Fin 1) b a) = k0_pay22 (F := Ideal) (k0_pay7 (tile arg4 harg4 x3 ![64, 128] S64x128.size inb_S256x512_S64x128_64_128)) (k0_pay11 (tile arg5 harg5 x4 ![64, 256] S64x256.size inb_S256x1024_S64x256_64_256)) (k0_pay14 (kernelRun0_A.sl.v547 (F := Ideal) c arg1 harg1 arg4 harg4 arg5 harg5 arg11 x0 x3 x4)) (tile arg1 harg1 x0 ![64, 128] S64x128.size inb_S256x512_S64x128_64_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 0) (N 1) (hN 0)]
  exact handed_of (load_cols ha 1 1 _ rfl) (load_wide hd 1 1 _ rfl) (owed_1_1 hN ha hk hq hv hd hp hz) (load_cols hq 1 1 _ rfl) b a

theorem tiles_0_1 : Tiles A K Q W G (N 0) 1
    (tile arg4 harg4 x3 ![0, 128] S64x128.size inb_S256x512_S64x128_0_128)
    (tile arg2 harg2 x1 ![0, 128] S64x128.size inb_S256x512_S64x128_0_128)
    (tile arg3 harg3 x2 ![0, 256] S64x256.size inb_S256x1024_S64x256_0_256)
    (tile arg5 harg5 x4 ![0, 256] S64x256.size inb_S256x1024_S64x256_0_256)
    (tile arg1 harg1 x0 ![0, 128] S64x128.size inb_S256x512_S64x128_0_128)
    (tile arg6 harg6 x5 ![1, 0, 0, 0] S1x1x256x128.size inb_S4x4x256x128_S1x1x256x128_1_0_0_0)
    (kernelRun0_A.sl.v775 (F := Ideal) c arg1 harg1 arg4 harg4 arg5 harg5 arg11 x0 x3 x4) :=
  ⟨load_cols ha 0 1 _ rfl, load_cols hk 0 1 _ rfl, load_wide hv 0 1 _ rfl, load_wide hd 0 1 _ rfl, load_cols hq 0 1 _ rfl,
    fun b a => (load_state 1 0 _ rfl b a).trans (hp 1 0 b a), owed_0_1 hN ha hk hq hv hd hp hz⟩

theorem owed_0_2 (b : Fin 256) (a : Fin 128) : ((kernelRun0_A.sl.v832 (F := Ideal) c arg1 harg1 arg4 harg4 arg5 harg5 arg11 x0 x3 x4) (ix3 (0 : Fin 1) b a) : EReal) = ((owed Q A G (N 0) 2 a b : ℝ) : EReal) := by
  have e : (kernelRun0_A.sl.v832 (F := Ideal) c arg1 harg1 arg4 harg4 arg5 harg5 arg11 x0 x3 x4) (ix3 (0 : Fin 1) b a) = k0_pay22 (F := Ideal) (k0_pay7 (tile arg4 harg4 x3 ![64, 256] S64x128.size inb_S256x512_S64x128_64_256)) (k0_pay11 (tile arg5 harg5 x4 ![64, 512] S64x256.size inb_S256x1024_S64x256_64_512)) (k0_pay14 (kernelRun0_A.sl.v604 (F := Ideal) c arg1 harg1 arg4 harg4 arg5 harg5 arg11 x0 x3 x4)) (tile arg1 harg1 x0 ![64, 256] S64x128.size inb_S256x512_S64x128_64_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 0) (N 1) (hN 0)]
  exact handed_of (load_cols ha 1 2 _ rfl) (load_wide hd 1 2 _ rfl) (owed_1_2 hN ha hk hq hv hd hp hz) (load_cols hq 1 2 _ rfl) b a

theorem tiles_0_2 : Tiles A K Q W G (N 0) 2
    (tile arg4 harg4 x3 ![0, 256] S64x128.size inb_S256x512_S64x128_0_256)
    (tile arg2 harg2 x1 ![0, 256] S64x128.size inb_S256x512_S64x128_0_256)
    (tile arg3 harg3 x2 ![0, 512] S64x256.size inb_S256x1024_S64x256_0_512)
    (tile arg5 harg5 x4 ![0, 512] S64x256.size inb_S256x1024_S64x256_0_512)
    (tile arg1 harg1 x0 ![0, 256] S64x128.size inb_S256x512_S64x128_0_256)
    (tile arg6 harg6 x5 ![2, 0, 0, 0] S1x1x256x128.size inb_S4x4x256x128_S1x1x256x128_2_0_0_0)
    (kernelRun0_A.sl.v832 (F := Ideal) c arg1 harg1 arg4 harg4 arg5 harg5 arg11 x0 x3 x4) :=
  ⟨load_cols ha 0 2 _ rfl, load_cols hk 0 2 _ rfl, load_wide hv 0 2 _ rfl, load_wide hd 0 2 _ rfl, load_cols hq 0 2 _ rfl,
    fun b a => (load_state 2 0 _ rfl b a).trans (hp 2 0 b a), owed_0_2 hN ha hk hq hv hd hp hz⟩

theorem owed_0_3 (b : Fin 256) (a : Fin 128) : ((kernelRun0_A.sl.v889 (F := Ideal) c arg1 harg1 arg4 harg4 arg5 harg5 arg11 x0 x3 x4) (ix3 (0 : Fin 1) b a) : EReal) = ((owed Q A G (N 0) 3 a b : ℝ) : EReal) := by
  have e : (kernelRun0_A.sl.v889 (F := Ideal) c arg1 harg1 arg4 harg4 arg5 harg5 arg11 x0 x3 x4) (ix3 (0 : Fin 1) b a) = k0_pay22 (F := Ideal) (k0_pay7 (tile arg4 harg4 x3 ![64, 384] S64x128.size inb_S256x512_S64x128_64_384)) (k0_pay11 (tile arg5 harg5 x4 ![64, 768] S64x256.size inb_S256x1024_S64x256_64_768)) (k0_pay14 (kernelRun0_A.sl.v661 (F := Ideal) c arg1 harg1 arg4 harg4 arg5 harg5 arg11 x0 x3 x4)) (tile arg1 harg1 x0 ![64, 384] S64x128.size inb_S256x512_S64x128_64_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 0) (N 1) (hN 0)]
  exact handed_of (load_cols ha 1 3 _ rfl) (load_wide hd 1 3 _ rfl) (owed_1_3 hN ha hk hq hv hd hp hz) (load_cols hq 1 3 _ rfl) b a

theorem tiles_0_3 : Tiles A K Q W G (N 0) 3
    (tile arg4 harg4 x3 ![0, 384] S64x128.size inb_S256x512_S64x128_0_384)
    (tile arg2 harg2 x1 ![0, 384] S64x128.size inb_S256x512_S64x128_0_384)
    (tile arg3 harg3 x2 ![0, 768] S64x256.size inb_S256x1024_S64x256_0_768)
    (tile arg5 harg5 x4 ![0, 768] S64x256.size inb_S256x1024_S64x256_0_768)
    (tile arg1 harg1 x0 ![0, 384] S64x128.size inb_S256x512_S64x128_0_384)
    (tile arg6 harg6 x5 ![3, 0, 0, 0] S1x1x256x128.size inb_S4x4x256x128_S1x1x256x128_3_0_0_0)
    (kernelRun0_A.sl.v889 (F := Ideal) c arg1 harg1 arg4 harg4 arg5 harg5 arg11 x0 x3 x4) :=
  ⟨load_cols ha 0 3 _ rfl, load_cols hk 0 3 _ rfl, load_wide hv 0 3 _ rfl, load_wide hd 0 3 _ rfl, load_cols hq 0 3 _ rfl,
    fun b a => (load_state 3 0 _ rfl b a).trans (hp 3 0 b a), owed_0_3 hN ha hk hq hv hd hp hz⟩

/-- The block of the gradient of the queries. -/
theorem gradQ_block (hc0 : cond0_0 i) : out0_A_6 c i arg1 harg1 arg2 harg2 arg3 harg3 arg4 harg4 arg5 harg5 arg6 harg6 arg7 harg7 arg8 harg8 arg9 harg9 arg10 harg10 arg11 harg11 hc0 x0 x1 x2 x3 x4 x5 =
    fun y : B512.Idx => ((gradQ A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (fun y : B512.Idx => ((gradQ A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_A_6 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradQ A K W G (N t) c h a) 0 3 inb_S256x512_S64x128_0_384 rfl _ (gradQ_val (tiles_0_3 (c := c) (harg1 := harg1) (arg11 := arg11) hN ha hk hq hv hd hp hz))
  · exact piece_cols (fun t c h a => gradQ A K W G (N t) c h a) 0 2 inb_S256x512_S64x128_0_256 rfl _ (gradQ_val (tiles_0_2 (c := c) (harg1 := harg1) (arg11 := arg11) hN ha hk hq hv hd hp hz))
  · exact piece_cols (fun t c h a => gradQ A K W G (N t) c h a) 0 1 inb_S256x512_S64x128_0_128 rfl _ (gradQ_val (tiles_0_1 (c := c) (harg1 := harg1) (arg11 := arg11) hN ha hk hq hv hd hp hz))
  · exact piece_cols (fun t c h a => gradQ A K W G (N t) c h a) 0 0 inb_S256x512_S64x128_0_0 rfl _ (gradQ_val (tiles_0_0 (c := c) (harg1 := harg1) (arg11 := arg11) hN ha hk hq hv hd hp hz))
  · exact piece_cols (fun t c h a => gradQ A K W G (N t) c h a) 1 3 inb_S256x512_S64x128_64_384 rfl _ (gradQ_val (tiles_1_3 (c := c) (harg1 := harg1) (arg11 := arg11) hN ha hk hq hv hd hp hz))
  · exact piece_cols (fun t c h a => gradQ A K W G (N t) c h a) 1 2 inb_S256x512_S64x128_64_256 rfl _ (gradQ_val (tiles_1_2 (c := c) (harg1 := harg1) (arg11 := arg11) hN ha hk hq hv hd hp hz))
  · exact piece_cols (fun t c h a => gradQ A K W G (N t) c h a) 1 1 inb_S256x512_S64x128_64_128 rfl _ (gradQ_val (tiles_1_1 (c := c) (harg1 := harg1) (arg11 := arg11) hN ha hk hq hv hd hp hz))
  · exact piece_cols (fun t c h a => gradQ A K W G (N t) c h a) 1 0 inb_S256x512_S64x128_64_0 rfl _ (gradQ_val (tiles_1_0 (c := c) (harg1 := harg1) (arg11 := arg11) hN ha hk hq hv hd hp hz))
  · exact piece_cols (fun t c h a => gradQ A K W G (N t) c h a) 2 3 inb_S256x512_S64x128_128_384 rfl _ (gradQ_val (tiles_2_3 (c := c) (harg1 := harg1) (arg11 := arg11) hN ha hk hq hv hd hp hz))
  · exact piece_cols (fun t c h a => gradQ A K W G (N t) c h a) 2 2 inb_S256x512_S64x128_128_256 rfl _ (gradQ_val (tiles_2_2 (c := c) (harg1 := harg1) (arg11 := arg11) hN ha hk hq hv hd hp hz))
  · exact piece_cols (fun t c h a => gradQ A K W G (N t) c h a) 2 1 inb_S256x512_S64x128_128_128 rfl _ (gradQ_val (tiles_2_1 (c := c) (harg1 := harg1) (arg11 := arg11) hN ha hk hq hv hd hp hz))
  · exact piece_cols (fun t c h a => gradQ A K W G (N t) c h a) 2 0 inb_S256x512_S64x128_128_0 rfl _ (gradQ_val (tiles_2_0 (c := c) (harg1 := harg1) (arg11 := arg11) hN ha hk hq hv hd hp hz))
  · exact piece_cols (fun t c h a => gradQ A K W G (N t) c h a) 3 3 inb_S256x512_S64x128_192_384 rfl _ (gradQ_val (tiles_3_3 (c := c) (harg1 := harg1) (arg11 := arg11) hN ha hk hq hv hd hp hz))
  · exact piece_cols (fun t c h a => gradQ A K W G (N t) c h a) 3 2 inb_S256x512_S64x128_192_256 rfl _ (gradQ_val (tiles_3_2 (c := c) (harg1 := harg1) (arg11 := arg11) hN ha hk hq hv hd hp hz))
  · exact piece_cols (fun t c h a => gradQ A K W G (N t) c h a) 3 1 inb_S256x512_S64x128_192_128 rfl _ (gradQ_val (tiles_3_1 (c := c) (harg1 := harg1) (arg11 := arg11) hN ha hk hq hv hd hp hz))
  · exact piece_cols (fun t c h a => gradQ A K W G (N t) c h a) 3 0 inb_S256x512_S64x128_192_0 rfl _ (gradQ_val (tiles_3_0 (c := c) (harg1 := harg1) (arg11 := arg11) hN ha hk hq hv hd hp hz))

/-- The block of the gradient of the keys. -/
theorem gradK_block (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5 =
    fun y : B512.Idx => ((gradK Q A W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (fun y : B512.Idx => ((gradK Q A W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_A_7 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradK Q A W G (N t) c h a) 0 3 inb_S256x512_S64x128_0_384 rfl _ (gradK_val (tiles_0_3 (harg2 := harg2) (harg6 := harg6) hN ha hk hq hv hd hp hz))
  · exact piece_cols (fun t c h a => gradK Q A W G (N t) c h a) 0 2 inb_S256x512_S64x128_0_256 rfl _ (gradK_val (tiles_0_2 (harg2 := harg2) (harg6 := harg6) hN ha hk hq hv hd hp hz))
  · exact piece_cols (fun t c h a => gradK Q A W G (N t) c h a) 0 1 inb_S256x512_S64x128_0_128 rfl _ (gradK_val (tiles_0_1 (harg2 := harg2) (harg6 := harg6) hN ha hk hq hv hd hp hz))
  · exact piece_cols (fun t c h a => gradK Q A W G (N t) c h a) 0 0 inb_S256x512_S64x128_0_0 rfl _ (gradK_val (tiles_0_0 (harg2 := harg2) (harg6 := harg6) hN ha hk hq hv hd hp hz))
  · exact piece_cols (fun t c h a => gradK Q A W G (N t) c h a) 1 3 inb_S256x512_S64x128_64_384 rfl _ (gradK_val (tiles_1_3 (harg2 := harg2) (harg6 := harg6) hN ha hk hq hv hd hp hz))
  · exact piece_cols (fun t c h a => gradK Q A W G (N t) c h a) 1 2 inb_S256x512_S64x128_64_256 rfl _ (gradK_val (tiles_1_2 (harg2 := harg2) (harg6 := harg6) hN ha hk hq hv hd hp hz))
  · exact piece_cols (fun t c h a => gradK Q A W G (N t) c h a) 1 1 inb_S256x512_S64x128_64_128 rfl _ (gradK_val (tiles_1_1 (harg2 := harg2) (harg6 := harg6) hN ha hk hq hv hd hp hz))
  · exact piece_cols (fun t c h a => gradK Q A W G (N t) c h a) 1 0 inb_S256x512_S64x128_64_0 rfl _ (gradK_val (tiles_1_0 (harg2 := harg2) (harg6 := harg6) hN ha hk hq hv hd hp hz))
  · exact piece_cols (fun t c h a => gradK Q A W G (N t) c h a) 2 3 inb_S256x512_S64x128_128_384 rfl _ (gradK_val (tiles_2_3 (harg2 := harg2) (harg6 := harg6) hN ha hk hq hv hd hp hz))
  · exact piece_cols (fun t c h a => gradK Q A W G (N t) c h a) 2 2 inb_S256x512_S64x128_128_256 rfl _ (gradK_val (tiles_2_2 (harg2 := harg2) (harg6 := harg6) hN ha hk hq hv hd hp hz))
  · exact piece_cols (fun t c h a => gradK Q A W G (N t) c h a) 2 1 inb_S256x512_S64x128_128_128 rfl _ (gradK_val (tiles_2_1 (harg2 := harg2) (harg6 := harg6) hN ha hk hq hv hd hp hz))
  · exact piece_cols (fun t c h a => gradK Q A W G (N t) c h a) 2 0 inb_S256x512_S64x128_128_0 rfl _ (gradK_val (tiles_2_0 (harg2 := harg2) (harg6 := harg6) hN ha hk hq hv hd hp hz))
  · exact piece_cols (fun t c h a => gradK Q A W G (N t) c h a) 3 3 inb_S256x512_S64x128_192_384 rfl _ (gradK_val (tiles_3_3 (harg2 := harg2) (harg6 := harg6) hN ha hk hq hv hd hp hz))
  · exact piece_cols (fun t c h a => gradK Q A W G (N t) c h a) 3 2 inb_S256x512_S64x128_192_256 rfl _ (gradK_val (tiles_3_2 (harg2 := harg2) (harg6 := harg6) hN ha hk hq hv hd hp hz))
  · exact piece_cols (fun t c h a => gradK Q A W G (N t) c h a) 3 1 inb_S256x512_S64x128_192_128 rfl _ (gradK_val (tiles_3_1 (harg2 := harg2) (harg6 := harg6) hN ha hk hq hv hd hp hz))
  · exact piece_cols (fun t c h a => gradK Q A W G (N t) c h a) 3 0 inb_S256x512_S64x128_192_0 rfl _ (gradK_val (tiles_3_0 (harg2 := harg2) (harg6 := harg6) hN ha hk hq hv hd hp hz))

/-- The block of the gradient of the values. -/
theorem gradV_block (hc0 : cond0_0 i) : out0_A_8 c i arg1 harg1 arg2 harg2 arg3 harg3 arg4 harg4 arg5 harg5 arg6 harg6 arg7 harg7 arg8 harg8 arg9 harg9 arg10 harg10 arg11 harg11 hc0 x0 x1 x2 x3 x4 x5 =
    fun y : B1024.Idx => ((gradV Q A K G (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (fun y : B1024.Idx => ((gradV Q A K G (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal)) _ ?_ y (cover0_A_8 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_wide (fun t c h b => gradV Q A K G (N t) c h b) 0 3 inb_S256x1024_S64x256_0_768 rfl _ (gradV_val (tiles_0_3 (harg3 := harg3) (harg6 := harg6) hN ha hk hq hv hd hp hz))
  · exact piece_wide (fun t c h b => gradV Q A K G (N t) c h b) 0 2 inb_S256x1024_S64x256_0_512 rfl _ (gradV_val (tiles_0_2 (harg3 := harg3) (harg6 := harg6) hN ha hk hq hv hd hp hz))
  · exact piece_wide (fun t c h b => gradV Q A K G (N t) c h b) 0 1 inb_S256x1024_S64x256_0_256 rfl _ (gradV_val (tiles_0_1 (harg3 := harg3) (harg6 := harg6) hN ha hk hq hv hd hp hz))
  · exact piece_wide (fun t c h b => gradV Q A K G (N t) c h b) 0 0 inb_S256x1024_S64x256_0_0 rfl _ (gradV_val (tiles_0_0 (harg3 := harg3) (harg6 := harg6) hN ha hk hq hv hd hp hz))
  · exact piece_wide (fun t c h b => gradV Q A K G (N t) c h b) 1 3 inb_S256x1024_S64x256_64_768 rfl _ (gradV_val (tiles_1_3 (harg3 := harg3) (harg6 := harg6) hN ha hk hq hv hd hp hz))
  · exact piece_wide (fun t c h b => gradV Q A K G (N t) c h b) 1 2 inb_S256x1024_S64x256_64_512 rfl _ (gradV_val (tiles_1_2 (harg3 := harg3) (harg6 := harg6) hN ha hk hq hv hd hp hz))
  · exact piece_wide (fun t c h b => gradV Q A K G (N t) c h b) 1 1 inb_S256x1024_S64x256_64_256 rfl _ (gradV_val (tiles_1_1 (harg3 := harg3) (harg6 := harg6) hN ha hk hq hv hd hp hz))
  · exact piece_wide (fun t c h b => gradV Q A K G (N t) c h b) 1 0 inb_S256x1024_S64x256_64_0 rfl _ (gradV_val (tiles_1_0 (harg3 := harg3) (harg6 := harg6) hN ha hk hq hv hd hp hz))
  · exact piece_wide (fun t c h b => gradV Q A K G (N t) c h b) 2 3 inb_S256x1024_S64x256_128_768 rfl _ (gradV_val (tiles_2_3 (harg3 := harg3) (harg6 := harg6) hN ha hk hq hv hd hp hz))
  · exact piece_wide (fun t c h b => gradV Q A K G (N t) c h b) 2 2 inb_S256x1024_S64x256_128_512 rfl _ (gradV_val (tiles_2_2 (harg3 := harg3) (harg6 := harg6) hN ha hk hq hv hd hp hz))
  · exact piece_wide (fun t c h b => gradV Q A K G (N t) c h b) 2 1 inb_S256x1024_S64x256_128_256 rfl _ (gradV_val (tiles_2_1 (harg3 := harg3) (harg6 := harg6) hN ha hk hq hv hd hp hz))
  · exact piece_wide (fun t c h b => gradV Q A K G (N t) c h b) 2 0 inb_S256x1024_S64x256_128_0 rfl _ (gradV_val (tiles_2_0 (harg3 := harg3) (harg6 := harg6) hN ha hk hq hv hd hp hz))
  · exact piece_wide (fun t c h b => gradV Q A K G (N t) c h b) 3 3 inb_S256x1024_S64x256_192_768 rfl _ (gradV_val (tiles_3_3 (harg3 := harg3) (harg6 := harg6) hN ha hk hq hv hd hp hz))
  · exact piece_wide (fun t c h b => gradV Q A K G (N t) c h b) 3 2 inb_S256x1024_S64x256_192_512 rfl _ (gradV_val (tiles_3_2 (harg3 := harg3) (harg6 := harg6) hN ha hk hq hv hd hp hz))
  · exact piece_wide (fun t c h b => gradV Q A K G (N t) c h b) 3 1 inb_S256x1024_S64x256_192_256 rfl _ (gradV_val (tiles_3_1 (harg3 := harg3) (harg6 := harg6) hN ha hk hq hv hd hp hz))
  · exact piece_wide (fun t c h b => gradV Q A K G (N t) c h b) 3 0 inb_S256x1024_S64x256_192_0 rfl _ (gradV_val (tiles_3_0 (harg3 := harg3) (harg6 := harg6) hN ha hk hq hv hd hp hz))

/-- The block of the gradient of the log decays. -/
theorem gradA_block (hc0 : cond0_0 i) : out0_A_9 c i arg1 harg1 arg2 harg2 arg3 harg3 arg4 harg4 arg5 harg5 arg6 harg6 arg7 harg7 arg8 harg8 arg9 harg9 arg10 harg10 arg11 harg11 hc0 x0 x1 x2 x3 x4 x5 =
    fun y : B512.Idx => ((gradA Q A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (fun y : B512.Idx => ((gradA Q A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_A_9 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradA Q A K W G (N t) c h a) 0 3 inb_S256x512_S64x128_0_384 rfl _ (gradA_val (tiles_0_3 hN ha hk hq hv hd hp hz))
  · exact piece_cols (fun t c h a => gradA Q A K W G (N t) c h a) 0 2 inb_S256x512_S64x128_0_256 rfl _ (gradA_val (tiles_0_2 hN ha hk hq hv hd hp hz))
  · exact piece_cols (fun t c h a => gradA Q A K W G (N t) c h a) 0 1 inb_S256x512_S64x128_0_128 rfl _ (gradA_val (tiles_0_1 hN ha hk hq hv hd hp hz))
  · exact piece_cols (fun t c h a => gradA Q A K W G (N t) c h a) 0 0 inb_S256x512_S64x128_0_0 rfl _ (gradA_val (tiles_0_0 hN ha hk hq hv hd hp hz))
  · exact piece_cols (fun t c h a => gradA Q A K W G (N t) c h a) 1 3 inb_S256x512_S64x128_64_384 rfl _ (gradA_val (tiles_1_3 hN ha hk hq hv hd hp hz))
  · exact piece_cols (fun t c h a => gradA Q A K W G (N t) c h a) 1 2 inb_S256x512_S64x128_64_256 rfl _ (gradA_val (tiles_1_2 hN ha hk hq hv hd hp hz))
  · exact piece_cols (fun t c h a => gradA Q A K W G (N t) c h a) 1 1 inb_S256x512_S64x128_64_128 rfl _ (gradA_val (tiles_1_1 hN ha hk hq hv hd hp hz))
  · exact piece_cols (fun t c h a => gradA Q A K W G (N t) c h a) 1 0 inb_S256x512_S64x128_64_0 rfl _ (gradA_val (tiles_1_0 hN ha hk hq hv hd hp hz))
  · exact piece_cols (fun t c h a => gradA Q A K W G (N t) c h a) 2 3 inb_S256x512_S64x128_128_384 rfl _ (gradA_val (tiles_2_3 hN ha hk hq hv hd hp hz))
  · exact piece_cols (fun t c h a => gradA Q A K W G (N t) c h a) 2 2 inb_S256x512_S64x128_128_256 rfl _ (gradA_val (tiles_2_2 hN ha hk hq hv hd hp hz))
  · exact piece_cols (fun t c h a => gradA Q A K W G (N t) c h a) 2 1 inb_S256x512_S64x128_128_128 rfl _ (gradA_val (tiles_2_1 hN ha hk hq hv hd hp hz))
  · exact piece_cols (fun t c h a => gradA Q A K W G (N t) c h a) 2 0 inb_S256x512_S64x128_128_0 rfl _ (gradA_val (tiles_2_0 hN ha hk hq hv hd hp hz))
  · exact piece_cols (fun t c h a => gradA Q A K W G (N t) c h a) 3 3 inb_S256x512_S64x128_192_384 rfl _ (gradA_val (tiles_3_3 hN ha hk hq hv hd hp hz))
  · exact piece_cols (fun t c h a => gradA Q A K W G (N t) c h a) 3 2 inb_S256x512_S64x128_192_256 rfl _ (gradA_val (tiles_3_2 hN ha hk hq hv hd hp hz))
  · exact piece_cols (fun t c h a => gradA Q A K W G (N t) c h a) 3 1 inb_S256x512_S64x128_192_128 rfl _ (gradA_val (tiles_3_1 hN ha hk hq hv hd hp hz))
  · exact piece_cols (fun t c h a => gradA Q A K W G (N t) c h a) 3 0 inb_S256x512_S64x128_192_0 rfl _ (gradA_val (tiles_3_0 hN ha hk hq hv hd hp hz))

/-- The carried gradient after the block. -/
theorem carried_block (hc0 : cond0_0 i) (h : Fin 4) (b : Fin 256) (a : Fin 128) : (sout0_A_0 c i arg1 harg1 arg2 harg2 arg3 harg3 arg4 harg4 arg5 harg5 arg6 harg6 arg7 harg7 arg8 harg8 arg9 harg9 arg10 harg10 arg11 harg11 hc0 x0 x1 x2 x3 x4 x5 (ix3 h b a) : EReal) = ((handed Q A G (N 0) h a b : ℝ) : EReal) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  exact canon_heads (fun h b a => handed Q A G (N 0) h a b) inb_S4x256x128_S1x256x128_0_0_0 inb_S4x256x128_S1x256x128_1_0_0 inb_S4x256x128_S1x256x128_2_0_0 inb_S4x256x128_S1x256x128_3_0_0 _ _ _ _ _
    (handed_of (load_cols ha 0 0 _ rfl) (load_wide hd 0 0 _ rfl) (owed_0_0 hN ha hk hq hv hd hp hz) (load_cols hq 0 0 _ rfl))
    (handed_of (load_cols ha 0 1 _ rfl) (load_wide hd 0 1 _ rfl) (owed_0_1 hN ha hk hq hv hd hp hz) (load_cols hq 0 1 _ rfl))
    (handed_of (load_cols ha 0 2 _ rfl) (load_wide hd 0 2 _ rfl) (owed_0_2 hN ha hk hq hv hd hp hz) (load_cols hq 0 2 _ rfl))
    (handed_of (load_cols ha 0 3 _ rfl) (load_wide hd 0 3 _ rfl) (owed_0_3 hN ha hk hq hv hd hp hz) (load_cols hq 0 3 _ rfl)) h b a

end Cert.Kernel2Ideal.Gla.First
-- ==== Proof.Gla.Later2.lean ====
/- The gradient call at a point other than the first: what its body leaves in the four gradients' blocks and in the carried gradient of the state. -/
module

public import proofs.«01_k».proof.Proof.Gen.Kernel2Ideal.Frame
public import proofs.«01_k».proof.Proof.Gla.Step2
public import proofs.«01_k».proof.Proof.Gla.Tiles

@[expose] public section

set_option maxRecDepth 16384
set_option maxHeartbeats 1600000

noncomputable section

namespace Cert.Kernel2Ideal.Gla.Later

open Cert.Kernel2Ideal Cert.Kernel2Ideal.Gen Cert.Kernel2Ideal.Gla Cert.Gla Idealize.ShloMosaic Idealize.ShloMosaic.TcCoe Idealize.SL.Sem

variable {c : Dev nD} {i : grid0.Coords}
  {arg1 : Memref sig .tc .vmem S256x512 .f32} {harg1 : arg1.IsWhole}
  {arg2 : Memref sig .tc .vmem S256x512 .f32} {harg2 : arg2.IsWhole}
  {arg3 : Memref sig .tc .vmem S256x1024 .f32} {harg3 : arg3.IsWhole}
  {arg4 : Memref sig .tc .vmem S256x512 .f32} {harg4 : arg4.IsWhole}
  {arg5 : Memref sig .tc .vmem S256x1024 .f32} {harg5 : arg5.IsWhole}
  {arg6 : Memref sig .tc .vmem S4x4x256x128 .f32} {harg6 : arg6.IsWhole}
  {arg7 : Memref sig .tc .vmem S256x512 .f32} {harg7 : arg7.IsWhole}
  {arg8 : Memref sig .tc .vmem S256x512 .f32} {harg8 : arg8.IsWhole}
  {arg9 : Memref sig .tc .vmem S256x1024 .f32} {harg9 : arg9.IsWhole}
  {arg10 : Memref sig .tc .vmem S256x512 .f32} {harg10 : arg10.IsWhole}
  {arg11 : Memref sig .tc .vmem S4x256x128 .f32} {harg11 : arg11.IsWhole}
  {x0 : Vec Ideal S256x512 .f32} {x1 : Vec Ideal S256x512 .f32} {x2 : Vec Ideal S256x1024 .f32} {x3 : Vec Ideal S256x512 .f32} {x4 : Vec Ideal S256x1024 .f32} {x5 : Vec Ideal S4x4x256x128 .f32} {xs0 : Vec Ideal S4x256x128 .f32}

variable {A K Q : Cols} {W G : Wide} {N : Fin 4 → Fin 64}
  (hN : ∀ t : Fin 3, (N t.succ).val = (N t.castSucc).val + 1) (ha : IsCols x3 A N) (hk : IsCols x1 K N) (hq : IsCols x0 Q N) (hv : IsWide x2 W N) (hd : IsWide x4 G N)
  (hp : ∀ h t b a, (x5 (ix4 h t b a) : EReal) = ((stBefore A K W (N t) h a b : ℝ) : EReal))
  (hs : ∀ h b a, (xs0 (ix3 h b a) : EReal) = ((owed Q A G (N 3) h a b : ℝ) : EReal))
include hN ha hk hq hv hd hp hs

theorem owed_3_0 (b : Fin 256) (a : Fin 128) : ((tile arg11 harg11 xs0 ![0, 0, 0] S1x256x128.size inb_S4x256x128_S1x256x128_0_0_0) (ix3 (0 : Fin 1) b a) : EReal) = ((owed Q A G (N 3) 0 a b : ℝ) : EReal) := by
  exact (load_head 0 _ rfl b a).trans (hs 0 b a)

theorem tiles_3_0 : Tiles A K Q W G (N 3) 0
    (tile arg4 harg4 x3 ![192, 0] S64x128.size inb_S256x512_S64x128_192_0)
    (tile arg2 harg2 x1 ![192, 0] S64x128.size inb_S256x512_S64x128_192_0)
    (tile arg3 harg3 x2 ![192, 0] S64x256.size inb_S256x1024_S64x256_192_0)
    (tile arg5 harg5 x4 ![192, 0] S64x256.size inb_S256x1024_S64x256_192_0)
    (tile arg1 harg1 x0 ![192, 0] S64x128.size inb_S256x512_S64x128_192_0)
    (tile arg6 harg6 x5 ![0, 3, 0, 0] S1x1x256x128.size inb_S4x4x256x128_S1x1x256x128_0_3_0_0)
    (tile arg11 harg11 xs0 ![0, 0, 0] S1x256x128.size inb_S4x256x128_S1x256x128_0_0_0) :=
  ⟨load_cols ha 3 0 _ rfl, load_cols hk 3 0 _ rfl, load_wide hv 3 0 _ rfl, load_wide hd 3 0 _ rfl, load_cols hq 3 0 _ rfl,
    fun b a => (load_state 0 3 _ rfl b a).trans (hp 0 3 b a), owed_3_0 hN ha hk hq hv hd hp hs⟩

theorem owed_3_1 (b : Fin 256) (a : Fin 128) : ((tile arg11 harg11 xs0 ![1, 0, 0] S1x256x128.size inb_S4x256x128_S1x256x128_1_0_0) (ix3 (0 : Fin 1) b a) : EReal) = ((owed Q A G (N 3) 1 a b : ℝ) : EReal) := by
  exact (load_head 1 _ rfl b a).trans (hs 1 b a)

theorem tiles_3_1 : Tiles A K Q W G (N 3) 1
    (tile arg4 harg4 x3 ![192, 128] S64x128.size inb_S256x512_S64x128_192_128)
    (tile arg2 harg2 x1 ![192, 128] S64x128.size inb_S256x512_S64x128_192_128)
    (tile arg3 harg3 x2 ![192, 256] S64x256.size inb_S256x1024_S64x256_192_256)
    (tile arg5 harg5 x4 ![192, 256] S64x256.size inb_S256x1024_S64x256_192_256)
    (tile arg1 harg1 x0 ![192, 128] S64x128.size inb_S256x512_S64x128_192_128)
    (tile arg6 harg6 x5 ![1, 3, 0, 0] S1x1x256x128.size inb_S4x4x256x128_S1x1x256x128_1_3_0_0)
    (tile arg11 harg11 xs0 ![1, 0, 0] S1x256x128.size inb_S4x256x128_S1x256x128_1_0_0) :=
  ⟨load_cols ha 3 1 _ rfl, load_cols hk 3 1 _ rfl, load_wide hv 3 1 _ rfl, load_wide hd 3 1 _ rfl, load_cols hq 3 1 _ rfl,
    fun b a => (load_state 1 3 _ rfl b a).trans (hp 1 3 b a), owed_3_1 hN ha hk hq hv hd hp hs⟩

theorem owed_3_2 (b : Fin 256) (a : Fin 128) : ((tile arg11 harg11 xs0 ![2, 0, 0] S1x256x128.size inb_S4x256x128_S1x256x128_2_0_0) (ix3 (0 : Fin 1) b a) : EReal) = ((owed Q A G (N 3) 2 a b : ℝ) : EReal) := by
  exact (load_head 2 _ rfl b a).trans (hs 2 b a)

theorem tiles_3_2 : Tiles A K Q W G (N 3) 2
    (tile arg4 harg4 x3 ![192, 256] S64x128.size inb_S256x512_S64x128_192_256)
    (tile arg2 harg2 x1 ![192, 256] S64x128.size inb_S256x512_S64x128_192_256)
    (tile arg3 harg3 x2 ![192, 512] S64x256.size inb_S256x1024_S64x256_192_512)
    (tile arg5 harg5 x4 ![192, 512] S64x256.size inb_S256x1024_S64x256_192_512)
    (tile arg1 harg1 x0 ![192, 256] S64x128.size inb_S256x512_S64x128_192_256)
    (tile arg6 harg6 x5 ![2, 3, 0, 0] S1x1x256x128.size inb_S4x4x256x128_S1x1x256x128_2_3_0_0)
    (tile arg11 harg11 xs0 ![2, 0, 0] S1x256x128.size inb_S4x256x128_S1x256x128_2_0_0) :=
  ⟨load_cols ha 3 2 _ rfl, load_cols hk 3 2 _ rfl, load_wide hv 3 2 _ rfl, load_wide hd 3 2 _ rfl, load_cols hq 3 2 _ rfl,
    fun b a => (load_state 2 3 _ rfl b a).trans (hp 2 3 b a), owed_3_2 hN ha hk hq hv hd hp hs⟩

theorem owed_3_3 (b : Fin 256) (a : Fin 128) : ((tile arg11 harg11 xs0 ![3, 0, 0] S1x256x128.size inb_S4x256x128_S1x256x128_3_0_0) (ix3 (0 : Fin 1) b a) : EReal) = ((owed Q A G (N 3) 3 a b : ℝ) : EReal) := by
  exact (load_head 3 _ rfl b a).trans (hs 3 b a)

theorem tiles_3_3 : Tiles A K Q W G (N 3) 3
    (tile arg4 harg4 x3 ![192, 384] S64x128.size inb_S256x512_S64x128_192_384)
    (tile arg2 harg2 x1 ![192, 384] S64x128.size inb_S256x512_S64x128_192_384)
    (tile arg3 harg3 x2 ![192, 768] S64x256.size inb_S256x1024_S64x256_192_768)
    (tile arg5 harg5 x4 ![192, 768] S64x256.size inb_S256x1024_S64x256_192_768)
    (tile arg1 harg1 x0 ![192, 384] S64x128.size inb_S256x512_S64x128_192_384)
    (tile arg6 harg6 x5 ![3, 3, 0, 0] S1x1x256x128.size inb_S4x4x256x128_S1x1x256x128_3_3_0_0)
    (tile arg11 harg11 xs0 ![3, 0, 0] S1x256x128.size inb_S4x256x128_S1x256x128_3_0_0) :=
  ⟨load_cols ha 3 3 _ rfl, load_cols hk 3 3 _ rfl, load_wide hv 3 3 _ rfl, load_wide hd 3 3 _ rfl, load_cols hq 3 3 _ rfl,
    fun b a => (load_state 3 3 _ rfl b a).trans (hp 3 3 b a), owed_3_3 hN ha hk hq hv hd hp hs⟩

theorem owed_2_0 (b : Fin 256) (a : Fin 128) : ((kernelRun0_B.sl.v262 (F := Ideal) c arg1 harg1 arg4 harg4 arg5 harg5 arg11 harg11 x0 x3 x4 xs0) (ix3 (0 : Fin 1) b a) : EReal) = ((owed Q A G (N 2) 0 a b : ℝ) : EReal) := by
  have e : (kernelRun0_B.sl.v262 (F := Ideal) c arg1 harg1 arg4 harg4 arg5 harg5 arg11 harg11 x0 x3 x4 xs0) (ix3 (0 : Fin 1) b a) = k0_pay22 (F := Ideal) (k0_pay7 (tile arg4 harg4 x3 ![192, 0] S64x128.size inb_S256x512_S64x128_192_0)) (k0_pay11 (tile arg5 harg5 x4 ![192, 0] S64x256.size inb_S256x1024_S64x256_192_0)) (k0_pay14 (tile arg11 harg11 xs0 ![0, 0, 0] S1x256x128.size inb_S4x256x128_S1x256x128_0_0_0)) (tile arg1 harg1 x0 ![192, 0] S64x128.size inb_S256x512_S64x128_192_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 2) (N 3) (hN 2)]
  exact handed_of (load_cols ha 3 0 _ rfl) (load_wide hd 3 0 _ rfl) (owed_3_0 hN ha hk hq hv hd hp hs) (load_cols hq 3 0 _ rfl) b a

theorem tiles_2_0 : Tiles A K Q W G (N 2) 0
    (tile arg4 harg4 x3 ![128, 0] S64x128.size inb_S256x512_S64x128_128_0)
    (tile arg2 harg2 x1 ![128, 0] S64x128.size inb_S256x512_S64x128_128_0)
    (tile arg3 harg3 x2 ![128, 0] S64x256.size inb_S256x1024_S64x256_128_0)
    (tile arg5 harg5 x4 ![128, 0] S64x256.size inb_S256x1024_S64x256_128_0)
    (tile arg1 harg1 x0 ![128, 0] S64x128.size inb_S256x512_S64x128_128_0)
    (tile arg6 harg6 x5 ![0, 2, 0, 0] S1x1x256x128.size inb_S4x4x256x128_S1x1x256x128_0_2_0_0)
    (kernelRun0_B.sl.v262 (F := Ideal) c arg1 harg1 arg4 harg4 arg5 harg5 arg11 harg11 x0 x3 x4 xs0) :=
  ⟨load_cols ha 2 0 _ rfl, load_cols hk 2 0 _ rfl, load_wide hv 2 0 _ rfl, load_wide hd 2 0 _ rfl, load_cols hq 2 0 _ rfl,
    fun b a => (load_state 0 2 _ rfl b a).trans (hp 0 2 b a), owed_2_0 hN ha hk hq hv hd hp hs⟩

theorem owed_2_1 (b : Fin 256) (a : Fin 128) : ((kernelRun0_B.sl.v319 (F := Ideal) c arg1 harg1 arg4 harg4 arg5 harg5 arg11 harg11 x0 x3 x4 xs0) (ix3 (0 : Fin 1) b a) : EReal) = ((owed Q A G (N 2) 1 a b : ℝ) : EReal) := by
  have e : (kernelRun0_B.sl.v319 (F := Ideal) c arg1 harg1 arg4 harg4 arg5 harg5 arg11 harg11 x0 x3 x4 xs0) (ix3 (0 : Fin 1) b a) = k0_pay22 (F := Ideal) (k0_pay7 (tile arg4 harg4 x3 ![192, 128] S64x128.size inb_S256x512_S64x128_192_128)) (k0_pay11 (tile arg5 harg5 x4 ![192, 256] S64x256.size inb_S256x1024_S64x256_192_256)) (k0_pay14 (tile arg11 harg11 xs0 ![1, 0, 0] S1x256x128.size inb_S4x256x128_S1x256x128_1_0_0)) (tile arg1 harg1 x0 ![192, 128] S64x128.size inb_S256x512_S64x128_192_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 2) (N 3) (hN 2)]
  exact handed_of (load_cols ha 3 1 _ rfl) (load_wide hd 3 1 _ rfl) (owed_3_1 hN ha hk hq hv hd hp hs) (load_cols hq 3 1 _ rfl) b a

theorem tiles_2_1 : Tiles A K Q W G (N 2) 1
    (tile arg4 harg4 x3 ![128, 128] S64x128.size inb_S256x512_S64x128_128_128)
    (tile arg2 harg2 x1 ![128, 128] S64x128.size inb_S256x512_S64x128_128_128)
    (tile arg3 harg3 x2 ![128, 256] S64x256.size inb_S256x1024_S64x256_128_256)
    (tile arg5 harg5 x4 ![128, 256] S64x256.size inb_S256x1024_S64x256_128_256)
    (tile arg1 harg1 x0 ![128, 128] S64x128.size inb_S256x512_S64x128_128_128)
    (tile arg6 harg6 x5 ![1, 2, 0, 0] S1x1x256x128.size inb_S4x4x256x128_S1x1x256x128_1_2_0_0)
    (kernelRun0_B.sl.v319 (F := Ideal) c arg1 harg1 arg4 harg4 arg5 harg5 arg11 harg11 x0 x3 x4 xs0) :=
  ⟨load_cols ha 2 1 _ rfl, load_cols hk 2 1 _ rfl, load_wide hv 2 1 _ rfl, load_wide hd 2 1 _ rfl, load_cols hq 2 1 _ rfl,
    fun b a => (load_state 1 2 _ rfl b a).trans (hp 1 2 b a), owed_2_1 hN ha hk hq hv hd hp hs⟩

theorem owed_2_2 (b : Fin 256) (a : Fin 128) : ((kernelRun0_B.sl.v376 (F := Ideal) c arg1 harg1 arg4 harg4 arg5 harg5 arg11 harg11 x0 x3 x4 xs0) (ix3 (0 : Fin 1) b a) : EReal) = ((owed Q A G (N 2) 2 a b : ℝ) : EReal) := by
  have e : (kernelRun0_B.sl.v376 (F := Ideal) c arg1 harg1 arg4 harg4 arg5 harg5 arg11 harg11 x0 x3 x4 xs0) (ix3 (0 : Fin 1) b a) = k0_pay22 (F := Ideal) (k0_pay7 (tile arg4 harg4 x3 ![192, 256] S64x128.size inb_S256x512_S64x128_192_256)) (k0_pay11 (tile arg5 harg5 x4 ![192, 512] S64x256.size inb_S256x1024_S64x256_192_512)) (k0_pay14 (tile arg11 harg11 xs0 ![2, 0, 0] S1x256x128.size inb_S4x256x128_S1x256x128_2_0_0)) (tile arg1 harg1 x0 ![192, 256] S64x128.size inb_S256x512_S64x128_192_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 2) (N 3) (hN 2)]
  exact handed_of (load_cols ha 3 2 _ rfl) (load_wide hd 3 2 _ rfl) (owed_3_2 hN ha hk hq hv hd hp hs) (load_cols hq 3 2 _ rfl) b a

theorem tiles_2_2 : Tiles A K Q W G (N 2) 2
    (tile arg4 harg4 x3 ![128, 256] S64x128.size inb_S256x512_S64x128_128_256)
    (tile arg2 harg2 x1 ![128, 256] S64x128.size inb_S256x512_S64x128_128_256)
    (tile arg3 harg3 x2 ![128, 512] S64x256.size inb_S256x1024_S64x256_128_512)
    (tile arg5 harg5 x4 ![128, 512] S64x256.size inb_S256x1024_S64x256_128_512)
    (tile arg1 harg1 x0 ![128, 256] S64x128.size inb_S256x512_S64x128_128_256)
    (tile arg6 harg6 x5 ![2, 2, 0, 0] S1x1x256x128.size inb_S4x4x256x128_S1x1x256x128_2_2_0_0)
    (kernelRun0_B.sl.v376 (F := Ideal) c arg1 harg1 arg4 harg4 arg5 harg5 arg11 harg11 x0 x3 x4 xs0) :=
  ⟨load_cols ha 2 2 _ rfl, load_cols hk 2 2 _ rfl, load_wide hv 2 2 _ rfl, load_wide hd 2 2 _ rfl, load_cols hq 2 2 _ rfl,
    fun b a => (load_state 2 2 _ rfl b a).trans (hp 2 2 b a), owed_2_2 hN ha hk hq hv hd hp hs⟩

theorem owed_2_3 (b : Fin 256) (a : Fin 128) : ((kernelRun0_B.sl.v433 (F := Ideal) c arg1 harg1 arg4 harg4 arg5 harg5 arg11 harg11 x0 x3 x4 xs0) (ix3 (0 : Fin 1) b a) : EReal) = ((owed Q A G (N 2) 3 a b : ℝ) : EReal) := by
  have e : (kernelRun0_B.sl.v433 (F := Ideal) c arg1 harg1 arg4 harg4 arg5 harg5 arg11 harg11 x0 x3 x4 xs0) (ix3 (0 : Fin 1) b a) = k0_pay22 (F := Ideal) (k0_pay7 (tile arg4 harg4 x3 ![192, 384] S64x128.size inb_S256x512_S64x128_192_384)) (k0_pay11 (tile arg5 harg5 x4 ![192, 768] S64x256.size inb_S256x1024_S64x256_192_768)) (k0_pay14 (tile arg11 harg11 xs0 ![3, 0, 0] S1x256x128.size inb_S4x256x128_S1x256x128_3_0_0)) (tile arg1 harg1 x0 ![192, 384] S64x128.size inb_S256x512_S64x128_192_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 2) (N 3) (hN 2)]
  exact handed_of (load_cols ha 3 3 _ rfl) (load_wide hd 3 3 _ rfl) (owed_3_3 hN ha hk hq hv hd hp hs) (load_cols hq 3 3 _ rfl) b a

theorem tiles_2_3 : Tiles A K Q W G (N 2) 3
    (tile arg4 harg4 x3 ![128, 384] S64x128.size inb_S256x512_S64x128_128_384)
    (tile arg2 harg2 x1 ![128, 384] S64x128.size inb_S256x512_S64x128_128_384)
    (tile arg3 harg3 x2 ![128, 768] S64x256.size inb_S256x1024_S64x256_128_768)
    (tile arg5 harg5 x4 ![128, 768] S64x256.size inb_S256x1024_S64x256_128_768)
    (tile arg1 harg1 x0 ![128, 384] S64x128.size inb_S256x512_S64x128_128_384)
    (tile arg6 harg6 x5 ![3, 2, 0, 0] S1x1x256x128.size inb_S4x4x256x128_S1x1x256x128_3_2_0_0)
    (kernelRun0_B.sl.v433 (F := Ideal) c arg1 harg1 arg4 harg4 arg5 harg5 arg11 harg11 x0 x3 x4 xs0) :=
  ⟨load_cols ha 2 3 _ rfl, load_cols hk 2 3 _ rfl, load_wide hv 2 3 _ rfl, load_wide hd 2 3 _ rfl, load_cols hq 2 3 _ rfl,
    fun b a => (load_state 3 2 _ rfl b a).trans (hp 3 2 b a), owed_2_3 hN ha hk hq hv hd hp hs⟩

theorem owed_1_0 (b : Fin 256) (a : Fin 128) : ((kernelRun0_B.sl.v490 (F := Ideal) c arg1 harg1 arg4 harg4 arg5 harg5 arg11 harg11 x0 x3 x4 xs0) (ix3 (0 : Fin 1) b a) : EReal) = ((owed Q A G (N 1) 0 a b : ℝ) : EReal) := by
  have e : (kernelRun0_B.sl.v490 (F := Ideal) c arg1 harg1 arg4 harg4 arg5 harg5 arg11 harg11 x0 x3 x4 xs0) (ix3 (0 : Fin 1) b a) = k0_pay22 (F := Ideal) (k0_pay7 (tile arg4 harg4 x3 ![128, 0] S64x128.size inb_S256x512_S64x128_128_0)) (k0_pay11 (tile arg5 harg5 x4 ![128, 0] S64x256.size inb_S256x1024_S64x256_128_0)) (k0_pay14 (kernelRun0_B.sl.v262 (F := Ideal) c arg1 harg1 arg4 harg4 arg5 harg5 arg11 harg11 x0 x3 x4 xs0)) (tile arg1 harg1 x0 ![128, 0] S64x128.size inb_S256x512_S64x128_128_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 1) (N 2) (hN 1)]
  exact handed_of (load_cols ha 2 0 _ rfl) (load_wide hd 2 0 _ rfl) (owed_2_0 hN ha hk hq hv hd hp hs) (load_cols hq 2 0 _ rfl) b a

theorem tiles_1_0 : Tiles A K Q W G (N 1) 0
    (tile arg4 harg4 x3 ![64, 0] S64x128.size inb_S256x512_S64x128_64_0)
    (tile arg2 harg2 x1 ![64, 0] S64x128.size inb_S256x512_S64x128_64_0)
    (tile arg3 harg3 x2 ![64, 0] S64x256.size inb_S256x1024_S64x256_64_0)
    (tile arg5 harg5 x4 ![64, 0] S64x256.size inb_S256x1024_S64x256_64_0)
    (tile arg1 harg1 x0 ![64, 0] S64x128.size inb_S256x512_S64x128_64_0)
    (tile arg6 harg6 x5 ![0, 1, 0, 0] S1x1x256x128.size inb_S4x4x256x128_S1x1x256x128_0_1_0_0)
    (kernelRun0_B.sl.v490 (F := Ideal) c arg1 harg1 arg4 harg4 arg5 harg5 arg11 harg11 x0 x3 x4 xs0) :=
  ⟨load_cols ha 1 0 _ rfl, load_cols hk 1 0 _ rfl, load_wide hv 1 0 _ rfl, load_wide hd 1 0 _ rfl, load_cols hq 1 0 _ rfl,
    fun b a => (load_state 0 1 _ rfl b a).trans (hp 0 1 b a), owed_1_0 hN ha hk hq hv hd hp hs⟩

theorem owed_1_1 (b : Fin 256) (a : Fin 128) : ((kernelRun0_B.sl.v547 (F := Ideal) c arg1 harg1 arg4 harg4 arg5 harg5 arg11 harg11 x0 x3 x4 xs0) (ix3 (0 : Fin 1) b a) : EReal) = ((owed Q A G (N 1) 1 a b : ℝ) : EReal) := by
  have e : (kernelRun0_B.sl.v547 (F := Ideal) c arg1 harg1 arg4 harg4 arg5 harg5 arg11 harg11 x0 x3 x4 xs0) (ix3 (0 : Fin 1) b a) = k0_pay22 (F := Ideal) (k0_pay7 (tile arg4 harg4 x3 ![128, 128] S64x128.size inb_S256x512_S64x128_128_128)) (k0_pay11 (tile arg5 harg5 x4 ![128, 256] S64x256.size inb_S256x1024_S64x256_128_256)) (k0_pay14 (kernelRun0_B.sl.v319 (F := Ideal) c arg1 harg1 arg4 harg4 arg5 harg5 arg11 harg11 x0 x3 x4 xs0)) (tile arg1 harg1 x0 ![128, 128] S64x128.size inb_S256x512_S64x128_128_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 1) (N 2) (hN 1)]
  exact handed_of (load_cols ha 2 1 _ rfl) (load_wide hd 2 1 _ rfl) (owed_2_1 hN ha hk hq hv hd hp hs) (load_cols hq 2 1 _ rfl) b a

theorem tiles_1_1 : Tiles A K Q W G (N 1) 1
    (tile arg4 harg4 x3 ![64, 128] S64x128.size inb_S256x512_S64x128_64_128)
    (tile arg2 harg2 x1 ![64, 128] S64x128.size inb_S256x512_S64x128_64_128)
    (tile arg3 harg3 x2 ![64, 256] S64x256.size inb_S256x1024_S64x256_64_256)
    (tile arg5 harg5 x4 ![64, 256] S64x256.size inb_S256x1024_S64x256_64_256)
    (tile arg1 harg1 x0 ![64, 128] S64x128.size inb_S256x512_S64x128_64_128)
    (tile arg6 harg6 x5 ![1, 1, 0, 0] S1x1x256x128.size inb_S4x4x256x128_S1x1x256x128_1_1_0_0)
    (kernelRun0_B.sl.v547 (F := Ideal) c arg1 harg1 arg4 harg4 arg5 harg5 arg11 harg11 x0 x3 x4 xs0) :=
  ⟨load_cols ha 1 1 _ rfl, load_cols hk 1 1 _ rfl, load_wide hv 1 1 _ rfl, load_wide hd 1 1 _ rfl, load_cols hq 1 1 _ rfl,
    fun b a => (load_state 1 1 _ rfl b a).trans (hp 1 1 b a), owed_1_1 hN ha hk hq hv hd hp hs⟩

theorem owed_1_2 (b : Fin 256) (a : Fin 128) : ((kernelRun0_B.sl.v604 (F := Ideal) c arg1 harg1 arg4 harg4 arg5 harg5 arg11 harg11 x0 x3 x4 xs0) (ix3 (0 : Fin 1) b a) : EReal) = ((owed Q A G (N 1) 2 a b : ℝ) : EReal) := by
  have e : (kernelRun0_B.sl.v604 (F := Ideal) c arg1 harg1 arg4 harg4 arg5 harg5 arg11 harg11 x0 x3 x4 xs0) (ix3 (0 : Fin 1) b a) = k0_pay22 (F := Ideal) (k0_pay7 (tile arg4 harg4 x3 ![128, 256] S64x128.size inb_S256x512_S64x128_128_256)) (k0_pay11 (tile arg5 harg5 x4 ![128, 512] S64x256.size inb_S256x1024_S64x256_128_512)) (k0_pay14 (kernelRun0_B.sl.v376 (F := Ideal) c arg1 harg1 arg4 harg4 arg5 harg5 arg11 harg11 x0 x3 x4 xs0)) (tile arg1 harg1 x0 ![128, 256] S64x128.size inb_S256x512_S64x128_128_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 1) (N 2) (hN 1)]
  exact handed_of (load_cols ha 2 2 _ rfl) (load_wide hd 2 2 _ rfl) (owed_2_2 hN ha hk hq hv hd hp hs) (load_cols hq 2 2 _ rfl) b a

theorem tiles_1_2 : Tiles A K Q W G (N 1) 2
    (tile arg4 harg4 x3 ![64, 256] S64x128.size inb_S256x512_S64x128_64_256)
    (tile arg2 harg2 x1 ![64, 256] S64x128.size inb_S256x512_S64x128_64_256)
    (tile arg3 harg3 x2 ![64, 512] S64x256.size inb_S256x1024_S64x256_64_512)
    (tile arg5 harg5 x4 ![64, 512] S64x256.size inb_S256x1024_S64x256_64_512)
    (tile arg1 harg1 x0 ![64, 256] S64x128.size inb_S256x512_S64x128_64_256)
    (tile arg6 harg6 x5 ![2, 1, 0, 0] S1x1x256x128.size inb_S4x4x256x128_S1x1x256x128_2_1_0_0)
    (kernelRun0_B.sl.v604 (F := Ideal) c arg1 harg1 arg4 harg4 arg5 harg5 arg11 harg11 x0 x3 x4 xs0) :=
  ⟨load_cols ha 1 2 _ rfl, load_cols hk 1 2 _ rfl, load_wide hv 1 2 _ rfl, load_wide hd 1 2 _ rfl, load_cols hq 1 2 _ rfl,
    fun b a => (load_state 2 1 _ rfl b a).trans (hp 2 1 b a), owed_1_2 hN ha hk hq hv hd hp hs⟩

theorem owed_1_3 (b : Fin 256) (a : Fin 128) : ((kernelRun0_B.sl.v661 (F := Ideal) c arg1 harg1 arg4 harg4 arg5 harg5 arg11 harg11 x0 x3 x4 xs0) (ix3 (0 : Fin 1) b a) : EReal) = ((owed Q A G (N 1) 3 a b : ℝ) : EReal) := by
  have e : (kernelRun0_B.sl.v661 (F := Ideal) c arg1 harg1 arg4 harg4 arg5 harg5 arg11 harg11 x0 x3 x4 xs0) (ix3 (0 : Fin 1) b a) = k0_pay22 (F := Ideal) (k0_pay7 (tile arg4 harg4 x3 ![128, 384] S64x128.size inb_S256x512_S64x128_128_384)) (k0_pay11 (tile arg5 harg5 x4 ![128, 768] S64x256.size inb_S256x1024_S64x256_128_768)) (k0_pay14 (kernelRun0_B.sl.v433 (F := Ideal) c arg1 harg1 arg4 harg4 arg5 harg5 arg11 harg11 x0 x3 x4 xs0)) (tile arg1 harg1 x0 ![128, 384] S64x128.size inb_S256x512_S64x128_128_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 1) (N 2) (hN 1)]
  exact handed_of (load_cols ha 2 3 _ rfl) (load_wide hd 2 3 _ rfl) (owed_2_3 hN ha hk hq hv hd hp hs) (load_cols hq 2 3 _ rfl) b a

theorem tiles_1_3 : Tiles A K Q W G (N 1) 3
    (tile arg4 harg4 x3 ![64, 384] S64x128.size inb_S256x512_S64x128_64_384)
    (tile arg2 harg2 x1 ![64, 384] S64x128.size inb_S256x512_S64x128_64_384)
    (tile arg3 harg3 x2 ![64, 768] S64x256.size inb_S256x1024_S64x256_64_768)
    (tile arg5 harg5 x4 ![64, 768] S64x256.size inb_S256x1024_S64x256_64_768)
    (tile arg1 harg1 x0 ![64, 384] S64x128.size inb_S256x512_S64x128_64_384)
    (tile arg6 harg6 x5 ![3, 1, 0, 0] S1x1x256x128.size inb_S4x4x256x128_S1x1x256x128_3_1_0_0)
    (kernelRun0_B.sl.v661 (F := Ideal) c arg1 harg1 arg4 harg4 arg5 harg5 arg11 harg11 x0 x3 x4 xs0) :=
  ⟨load_cols ha 1 3 _ rfl, load_cols hk 1 3 _ rfl, load_wide hv 1 3 _ rfl, load_wide hd 1 3 _ rfl, load_cols hq 1 3 _ rfl,
    fun b a => (load_state 3 1 _ rfl b a).trans (hp 3 1 b a), owed_1_3 hN ha hk hq hv hd hp hs⟩

theorem owed_0_0 (b : Fin 256) (a : Fin 128) : ((kernelRun0_B.sl.v718 (F := Ideal) c arg1 harg1 arg4 harg4 arg5 harg5 arg11 harg11 x0 x3 x4 xs0) (ix3 (0 : Fin 1) b a) : EReal) = ((owed Q A G (N 0) 0 a b : ℝ) : EReal) := by
  have e : (kernelRun0_B.sl.v718 (F := Ideal) c arg1 harg1 arg4 harg4 arg5 harg5 arg11 harg11 x0 x3 x4 xs0) (ix3 (0 : Fin 1) b a) = k0_pay22 (F := Ideal) (k0_pay7 (tile arg4 harg4 x3 ![64, 0] S64x128.size inb_S256x512_S64x128_64_0)) (k0_pay11 (tile arg5 harg5 x4 ![64, 0] S64x256.size inb_S256x1024_S64x256_64_0)) (k0_pay14 (kernelRun0_B.sl.v490 (F := Ideal) c arg1 harg1 arg4 harg4 arg5 harg5 arg11 harg11 x0 x3 x4 xs0)) (tile arg1 harg1 x0 ![64, 0] S64x128.size inb_S256x512_S64x128_64_0) (ix3 (0 : Fin 1) b a) :=
    read_head arg11.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, owed_next _ _ _ (N 0) (N 1) (hN 0)]
  exact handed_of (load_cols ha 1 0 _ rfl) (load_wide hd 1 0 _ rfl) (owed_1_0 hN ha hk hq hv hd hp hs) (load_cols hq 1 0 _ rfl) b a

theorem tiles_0_0 : Tiles A K Q W G (N 0) 0
    (tile arg4 harg4 x3 ![0, 0] S64x128.size inb_S256x512_S64x128_0_0)
    (tile arg2 harg2 x1 ![0, 0] S64x128.size inb_S256x512_S64x128_0_0)
    (tile arg3 harg3 x2 ![0, 0] S64x256.size inb_S256x1024_S64x256_0_0)
    (tile arg5 harg5 x4 ![0, 0] S64x256.size inb_S256x1024_S64x256_0_0)
    (tile arg1 harg1 x0 ![0, 0] S64x128.size inb_S256x512_S64x128_0_0)
    (tile arg6 harg6 x5 ![0, 0, 0, 0] S1x1x256x128.size inb_S4x4x256x128_S1x1x256x128_0_0_0_0)
    (kernelRun0_B.sl.v718 (F := Ideal) c arg1 harg1 arg4 harg4 arg5 harg5 arg11 harg11 x0 x3 x4 xs0) :=
  ⟨load_cols ha 0 0 _ rfl, load_cols hk 0 0 _ rfl, load_wide hv 0 0 _ rfl, load_wide hd 0 0 _ rfl, load_cols hq 0 0 _ rfl,
    fun b a => (load_state 0 0 _ rfl b a).trans (hp 0 0 b a), owed_0_0 hN ha hk hq hv hd hp hs⟩

theorem owed_0_1 (b : Fin 256) (a : Fin 128) : ((kernelRun0_B.sl.v775 (F := Ideal) c arg1 harg1 arg4 harg4 arg5 harg5 arg11 harg11 x0 x3 x4 xs0) (ix3 (0 : Fin 1) b a) : EReal) = ((owed Q A G (N 0) 1 a b : ℝ) : EReal) := by
  have e : (kernelRun0_B.sl.v775 (F := Ideal) c arg1 harg1 arg4 harg4 arg5 harg5 arg11 harg11 x0 x3 x4 xs0) (ix3 (0 : Fin 1) b a) = k0_pay22 (F := Ideal) (k0_pay7 (tile arg4 harg4 x3 ![64, 128] S64x128.size inb_S256x512_S64x128_64_128)) (k0_pay11 (tile arg5 harg5 x4 ![64, 256] S64x256.size inb_S256x1024_S64x256_64_256)) (k0_pay14 (kernelRun0_B.sl.v547 (F := Ideal) c arg1 harg1 arg4 harg4 arg5 harg5 arg11 harg11 x0 x3 x4 xs0)) (tile arg1 harg1 x0 ![64, 128] S64x128.size inb_S256x512_S64x128_64_128) (ix3 (0 : Fin 1) b a) :=
    read_head arg11.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, owed_next _ _ _ (N 0) (N 1) (hN 0)]
  exact handed_of (load_cols ha 1 1 _ rfl) (load_wide hd 1 1 _ rfl) (owed_1_1 hN ha hk hq hv hd hp hs) (load_cols hq 1 1 _ rfl) b a

theorem tiles_0_1 : Tiles A K Q W G (N 0) 1
    (tile arg4 harg4 x3 ![0, 128] S64x128.size inb_S256x512_S64x128_0_128)
    (tile arg2 harg2 x1 ![0, 128] S64x128.size inb_S256x512_S64x128_0_128)
    (tile arg3 harg3 x2 ![0, 256] S64x256.size inb_S256x1024_S64x256_0_256)
    (tile arg5 harg5 x4 ![0, 256] S64x256.size inb_S256x1024_S64x256_0_256)
    (tile arg1 harg1 x0 ![0, 128] S64x128.size inb_S256x512_S64x128_0_128)
    (tile arg6 harg6 x5 ![1, 0, 0, 0] S1x1x256x128.size inb_S4x4x256x128_S1x1x256x128_1_0_0_0)
    (kernelRun0_B.sl.v775 (F := Ideal) c arg1 harg1 arg4 harg4 arg5 harg5 arg11 harg11 x0 x3 x4 xs0) :=
  ⟨load_cols ha 0 1 _ rfl, load_cols hk 0 1 _ rfl, load_wide hv 0 1 _ rfl, load_wide hd 0 1 _ rfl, load_cols hq 0 1 _ rfl,
    fun b a => (load_state 1 0 _ rfl b a).trans (hp 1 0 b a), owed_0_1 hN ha hk hq hv hd hp hs⟩

theorem owed_0_2 (b : Fin 256) (a : Fin 128) : ((kernelRun0_B.sl.v832 (F := Ideal) c arg1 harg1 arg4 harg4 arg5 harg5 arg11 harg11 x0 x3 x4 xs0) (ix3 (0 : Fin 1) b a) : EReal) = ((owed Q A G (N 0) 2 a b : ℝ) : EReal) := by
  have e : (kernelRun0_B.sl.v832 (F := Ideal) c arg1 harg1 arg4 harg4 arg5 harg5 arg11 harg11 x0 x3 x4 xs0) (ix3 (0 : Fin 1) b a) = k0_pay22 (F := Ideal) (k0_pay7 (tile arg4 harg4 x3 ![64, 256] S64x128.size inb_S256x512_S64x128_64_256)) (k0_pay11 (tile arg5 harg5 x4 ![64, 512] S64x256.size inb_S256x1024_S64x256_64_512)) (k0_pay14 (kernelRun0_B.sl.v604 (F := Ideal) c arg1 harg1 arg4 harg4 arg5 harg5 arg11 harg11 x0 x3 x4 xs0)) (tile arg1 harg1 x0 ![64, 256] S64x128.size inb_S256x512_S64x128_64_256) (ix3 (0 : Fin 1) b a) :=
    read_head arg11.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, owed_next _ _ _ (N 0) (N 1) (hN 0)]
  exact handed_of (load_cols ha 1 2 _ rfl) (load_wide hd 1 2 _ rfl) (owed_1_2 hN ha hk hq hv hd hp hs) (load_cols hq 1 2 _ rfl) b a

theorem tiles_0_2 : Tiles A K Q W G (N 0) 2
    (tile arg4 harg4 x3 ![0, 256] S64x128.size inb_S256x512_S64x128_0_256)
    (tile arg2 harg2 x1 ![0, 256] S64x128.size inb_S256x512_S64x128_0_256)
    (tile arg3 harg3 x2 ![0, 512] S64x256.size inb_S256x1024_S64x256_0_512)
    (tile arg5 harg5 x4 ![0, 512] S64x256.size inb_S256x1024_S64x256_0_512)
    (tile arg1 harg1 x0 ![0, 256] S64x128.size inb_S256x512_S64x128_0_256)
    (tile arg6 harg6 x5 ![2, 0, 0, 0] S1x1x256x128.size inb_S4x4x256x128_S1x1x256x128_2_0_0_0)
    (kernelRun0_B.sl.v832 (F := Ideal) c arg1 harg1 arg4 harg4 arg5 harg5 arg11 harg11 x0 x3 x4 xs0) :=
  ⟨load_cols ha 0 2 _ rfl, load_cols hk 0 2 _ rfl, load_wide hv 0 2 _ rfl, load_wide hd 0 2 _ rfl, load_cols hq 0 2 _ rfl,
    fun b a => (load_state 2 0 _ rfl b a).trans (hp 2 0 b a), owed_0_2 hN ha hk hq hv hd hp hs⟩

theorem owed_0_3 (b : Fin 256) (a : Fin 128) : ((kernelRun0_B.sl.v889 (F := Ideal) c arg1 harg1 arg4 harg4 arg5 harg5 arg11 harg11 x0 x3 x4 xs0) (ix3 (0 : Fin 1) b a) : EReal) = ((owed Q A G (N 0) 3 a b : ℝ) : EReal) := by
  have e : (kernelRun0_B.sl.v889 (F := Ideal) c arg1 harg1 arg4 harg4 arg5 harg5 arg11 harg11 x0 x3 x4 xs0) (ix3 (0 : Fin 1) b a) = k0_pay22 (F := Ideal) (k0_pay7 (tile arg4 harg4 x3 ![64, 384] S64x128.size inb_S256x512_S64x128_64_384)) (k0_pay11 (tile arg5 harg5 x4 ![64, 768] S64x256.size inb_S256x1024_S64x256_64_768)) (k0_pay14 (kernelRun0_B.sl.v661 (F := Ideal) c arg1 harg1 arg4 harg4 arg5 harg5 arg11 harg11 x0 x3 x4 xs0)) (tile arg1 harg1 x0 ![64, 384] S64x128.size inb_S256x512_S64x128_64_384) (ix3 (0 : Fin 1) b a) :=
    read_head arg11.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, owed_next _ _ _ (N 0) (N 1) (hN 0)]
  exact handed_of (load_cols ha 1 3 _ rfl) (load_wide hd 1 3 _ rfl) (owed_1_3 hN ha hk hq hv hd hp hs) (load_cols hq 1 3 _ rfl) b a

theorem tiles_0_3 : Tiles A K Q W G (N 0) 3
    (tile arg4 harg4 x3 ![0, 384] S64x128.size inb_S256x512_S64x128_0_384)
    (tile arg2 harg2 x1 ![0, 384] S64x128.size inb_S256x512_S64x128_0_384)
    (tile arg3 harg3 x2 ![0, 768] S64x256.size inb_S256x1024_S64x256_0_768)
    (tile arg5 harg5 x4 ![0, 768] S64x256.size inb_S256x1024_S64x256_0_768)
    (tile arg1 harg1 x0 ![0, 384] S64x128.size inb_S256x512_S64x128_0_384)
    (tile arg6 harg6 x5 ![3, 0, 0, 0] S1x1x256x128.size inb_S4x4x256x128_S1x1x256x128_3_0_0_0)
    (kernelRun0_B.sl.v889 (F := Ideal) c arg1 harg1 arg4 harg4 arg5 harg5 arg11 harg11 x0 x3 x4 xs0) :=
  ⟨load_cols ha 0 3 _ rfl, load_cols hk 0 3 _ rfl, load_wide hv 0 3 _ rfl, load_wide hd 0 3 _ rfl, load_cols hq 0 3 _ rfl,
    fun b a => (load_state 3 0 _ rfl b a).trans (hp 3 0 b a), owed_0_3 hN ha hk hq hv hd hp hs⟩

/-- The block of the gradient of the queries. -/
theorem gradQ_block (hc0 : ¬cond0_0 i) : out0_B_6 c i arg1 harg1 arg2 harg2 arg3 harg3 arg4 harg4 arg5 harg5 arg6 harg6 arg7 harg7 arg8 harg8 arg9 harg9 arg10 harg10 arg11 harg11 hc0 x0 x1 x2 x3 x4 x5 xs0 =
    fun y : B512.Idx => ((gradQ A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xs0)]
  funext y
  refine View.canon_apply_of_pieces (fun y : B512.Idx => ((gradQ A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradQ A K W G (N t) c h a) 0 3 inb_S256x512_S64x128_0_384 rfl _ (gradQ_val (tiles_0_3 (c := c) (harg1 := harg1) (harg11 := harg11) hN ha hk hq hv hd hp hs))
  · exact piece_cols (fun t c h a => gradQ A K W G (N t) c h a) 0 2 inb_S256x512_S64x128_0_256 rfl _ (gradQ_val (tiles_0_2 (c := c) (harg1 := harg1) (harg11 := harg11) hN ha hk hq hv hd hp hs))
  · exact piece_cols (fun t c h a => gradQ A K W G (N t) c h a) 0 1 inb_S256x512_S64x128_0_128 rfl _ (gradQ_val (tiles_0_1 (c := c) (harg1 := harg1) (harg11 := harg11) hN ha hk hq hv hd hp hs))
  · exact piece_cols (fun t c h a => gradQ A K W G (N t) c h a) 0 0 inb_S256x512_S64x128_0_0 rfl _ (gradQ_val (tiles_0_0 (c := c) (harg1 := harg1) (harg11 := harg11) hN ha hk hq hv hd hp hs))
  · exact piece_cols (fun t c h a => gradQ A K W G (N t) c h a) 1 3 inb_S256x512_S64x128_64_384 rfl _ (gradQ_val (tiles_1_3 (c := c) (harg1 := harg1) (harg11 := harg11) hN ha hk hq hv hd hp hs))
  · exact piece_cols (fun t c h a => gradQ A K W G (N t) c h a) 1 2 inb_S256x512_S64x128_64_256 rfl _ (gradQ_val (tiles_1_2 (c := c) (harg1 := harg1) (harg11 := harg11) hN ha hk hq hv hd hp hs))
  · exact piece_cols (fun t c h a => gradQ A K W G (N t) c h a) 1 1 inb_S256x512_S64x128_64_128 rfl _ (gradQ_val (tiles_1_1 (c := c) (harg1 := harg1) (harg11 := harg11) hN ha hk hq hv hd hp hs))
  · exact piece_cols (fun t c h a => gradQ A K W G (N t) c h a) 1 0 inb_S256x512_S64x128_64_0 rfl _ (gradQ_val (tiles_1_0 (c := c) (harg1 := harg1) (harg11 := harg11) hN ha hk hq hv hd hp hs))
  · exact piece_cols (fun t c h a => gradQ A K W G (N t) c h a) 2 3 inb_S256x512_S64x128_128_384 rfl _ (gradQ_val (tiles_2_3 (c := c) (harg1 := harg1) (harg11 := harg11) hN ha hk hq hv hd hp hs))
  · exact piece_cols (fun t c h a => gradQ A K W G (N t) c h a) 2 2 inb_S256x512_S64x128_128_256 rfl _ (gradQ_val (tiles_2_2 (c := c) (harg1 := harg1) (harg11 := harg11) hN ha hk hq hv hd hp hs))
  · exact piece_cols (fun t c h a => gradQ A K W G (N t) c h a) 2 1 inb_S256x512_S64x128_128_128 rfl _ (gradQ_val (tiles_2_1 (c := c) (harg1 := harg1) (harg11 := harg11) hN ha hk hq hv hd hp hs))
  · exact piece_cols (fun t c h a => gradQ A K W G (N t) c h a) 2 0 inb_S256x512_S64x128_128_0 rfl _ (gradQ_val (tiles_2_0 (c := c) (harg1 := harg1) (harg11 := harg11) hN ha hk hq hv hd hp hs))
  · exact piece_cols (fun t c h a => gradQ A K W G (N t) c h a) 3 3 inb_S256x512_S64x128_192_384 rfl _ (gradQ_val (tiles_3_3 (harg1 := harg1) (harg11 := harg11) hN ha hk hq hv hd hp hs))
  · exact piece_cols (fun t c h a => gradQ A K W G (N t) c h a) 3 2 inb_S256x512_S64x128_192_256 rfl _ (gradQ_val (tiles_3_2 (harg1 := harg1) (harg11 := harg11) hN ha hk hq hv hd hp hs))
  · exact piece_cols (fun t c h a => gradQ A K W G (N t) c h a) 3 1 inb_S256x512_S64x128_192_128 rfl _ (gradQ_val (tiles_3_1 (harg1 := harg1) (harg11 := harg11) hN ha hk hq hv hd hp hs))
  · exact piece_cols (fun t c h a => gradQ A K W G (N t) c h a) 3 0 inb_S256x512_S64x128_192_0 rfl _ (gradQ_val (tiles_3_0 (harg1 := harg1) (harg11 := harg11) hN ha hk hq hv hd hp hs))

/-- The block of the gradient of the keys. -/
theorem gradK_block (hc0 : ¬cond0_0 i) : out0_B_7 c i arg1 harg1 arg2 harg2 arg3 harg3 arg4 harg4 arg5 harg5 arg6 harg6 arg7 harg7 arg8 harg8 arg9 harg9 arg10 harg10 arg11 harg11 hc0 x0 x1 x2 x3 x4 x5 xs0 =
    fun y : B512.Idx => ((gradK Q A W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xs0)]
  funext y
  refine View.canon_apply_of_pieces (fun y : B512.Idx => ((gradK Q A W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_B_7 c i arg1 harg1 arg2 harg2 arg3 harg3 arg4 harg4 arg5 harg5 arg6 harg6 arg7 harg7 arg8 harg8 arg9 harg9 arg10 harg10 arg11 harg11 hc0 x0 x1 x2 x3 x4 x5 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradK Q A W G (N t) c h a) 0 3 inb_S256x512_S64x128_0_384 rfl _ (gradK_val (tiles_0_3 (harg2 := harg2) (harg6 := harg6) hN ha hk hq hv hd hp hs))
  · exact piece_cols (fun t c h a => gradK Q A W G (N t) c h a) 0 2 inb_S256x512_S64x128_0_256 rfl _ (gradK_val (tiles_0_2 (harg2 := harg2) (harg6 := harg6) hN ha hk hq hv hd hp hs))
  · exact piece_cols (fun t c h a => gradK Q A W G (N t) c h a) 0 1 inb_S256x512_S64x128_0_128 rfl _ (gradK_val (tiles_0_1 (harg2 := harg2) (harg6 := harg6) hN ha hk hq hv hd hp hs))
  · exact piece_cols (fun t c h a => gradK Q A W G (N t) c h a) 0 0 inb_S256x512_S64x128_0_0 rfl _ (gradK_val (tiles_0_0 (harg2 := harg2) (harg6 := harg6) hN ha hk hq hv hd hp hs))
  · exact piece_cols (fun t c h a => gradK Q A W G (N t) c h a) 1 3 inb_S256x512_S64x128_64_384 rfl _ (gradK_val (tiles_1_3 (harg2 := harg2) (harg6 := harg6) hN ha hk hq hv hd hp hs))
  · exact piece_cols (fun t c h a => gradK Q A W G (N t) c h a) 1 2 inb_S256x512_S64x128_64_256 rfl _ (gradK_val (tiles_1_2 (harg2 := harg2) (harg6 := harg6) hN ha hk hq hv hd hp hs))
  · exact piece_cols (fun t c h a => gradK Q A W G (N t) c h a) 1 1 inb_S256x512_S64x128_64_128 rfl _ (gradK_val (tiles_1_1 (harg2 := harg2) (harg6 := harg6) hN ha hk hq hv hd hp hs))
  · exact piece_cols (fun t c h a => gradK Q A W G (N t) c h a) 1 0 inb_S256x512_S64x128_64_0 rfl _ (gradK_val (tiles_1_0 (harg2 := harg2) (harg6 := harg6) hN ha hk hq hv hd hp hs))
  · exact piece_cols (fun t c h a => gradK Q A W G (N t) c h a) 2 3 inb_S256x512_S64x128_128_384 rfl _ (gradK_val (tiles_2_3 (harg2 := harg2) (harg6 := harg6) hN ha hk hq hv hd hp hs))
  · exact piece_cols (fun t c h a => gradK Q A W G (N t) c h a) 2 2 inb_S256x512_S64x128_128_256 rfl _ (gradK_val (tiles_2_2 (harg2 := harg2) (harg6 := harg6) hN ha hk hq hv hd hp hs))
  · exact piece_cols (fun t c h a => gradK Q A W G (N t) c h a) 2 1 inb_S256x512_S64x128_128_128 rfl _ (gradK_val (tiles_2_1 (harg2 := harg2) (harg6 := harg6) hN ha hk hq hv hd hp hs))
  · exact piece_cols (fun t c h a => gradK Q A W G (N t) c h a) 2 0 inb_S256x512_S64x128_128_0 rfl _ (gradK_val (tiles_2_0 (harg2 := harg2) (harg6 := harg6) hN ha hk hq hv hd hp hs))
  · exact piece_cols (fun t c h a => gradK Q A W G (N t) c h a) 3 3 inb_S256x512_S64x128_192_384 rfl _ (gradK_val (tiles_3_3 (harg2 := harg2) (harg6 := harg6) hN ha hk hq hv hd hp hs))
  · exact piece_cols (fun t c h a => gradK Q A W G (N t) c h a) 3 2 inb_S256x512_S64x128_192_256 rfl _ (gradK_val (tiles_3_2 (harg2 := harg2) (harg6 := harg6) hN ha hk hq hv hd hp hs))
  · exact piece_cols (fun t c h a => gradK Q A W G (N t) c h a) 3 1 inb_S256x512_S64x128_192_128 rfl _ (gradK_val (tiles_3_1 (harg2 := harg2) (harg6 := harg6) hN ha hk hq hv hd hp hs))
  · exact piece_cols (fun t c h a => gradK Q A W G (N t) c h a) 3 0 inb_S256x512_S64x128_192_0 rfl _ (gradK_val (tiles_3_0 (harg2 := harg2) (harg6 := harg6) hN ha hk hq hv hd hp hs))

/-- The block of the gradient of the values. -/
theorem gradV_block (hc0 : ¬cond0_0 i) : out0_B_8 c i arg1 harg1 arg2 harg2 arg3 harg3 arg4 harg4 arg5 harg5 arg6 harg6 arg7 harg7 arg8 harg8 arg9 harg9 arg10 harg10 arg11 harg11 hc0 x0 x1 x2 x3 x4 x5 xs0 =
    fun y : B1024.Idx => ((gradV Q A K G (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xs0)]
  funext y
  refine View.canon_apply_of_pieces (fun y : B1024.Idx => ((gradV Q A K G (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal)) _ ?_ y (cover0_B_8 c i arg1 harg1 arg2 harg2 arg3 harg3 arg4 harg4 arg5 harg5 arg6 harg6 arg7 harg7 arg8 harg8 arg9 harg9 arg10 harg10 arg11 harg11 hc0 x0 x1 x2 x3 x4 x5 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_wide (fun t c h b => gradV Q A K G (N t) c h b) 0 3 inb_S256x1024_S64x256_0_768 rfl _ (gradV_val (tiles_0_3 (harg3 := harg3) (harg6 := harg6) hN ha hk hq hv hd hp hs))
  · exact piece_wide (fun t c h b => gradV Q A K G (N t) c h b) 0 2 inb_S256x1024_S64x256_0_512 rfl _ (gradV_val (tiles_0_2 (harg3 := harg3) (harg6 := harg6) hN ha hk hq hv hd hp hs))
  · exact piece_wide (fun t c h b => gradV Q A K G (N t) c h b) 0 1 inb_S256x1024_S64x256_0_256 rfl _ (gradV_val (tiles_0_1 (harg3 := harg3) (harg6 := harg6) hN ha hk hq hv hd hp hs))
  · exact piece_wide (fun t c h b => gradV Q A K G (N t) c h b) 0 0 inb_S256x1024_S64x256_0_0 rfl _ (gradV_val (tiles_0_0 (harg3 := harg3) (harg6 := harg6) hN ha hk hq hv hd hp hs))
  · exact piece_wide (fun t c h b => gradV Q A K G (N t) c h b) 1 3 inb_S256x1024_S64x256_64_768 rfl _ (gradV_val (tiles_1_3 (harg3 := harg3) (harg6 := harg6) hN ha hk hq hv hd hp hs))
  · exact piece_wide (fun t c h b => gradV Q A K G (N t) c h b) 1 2 inb_S256x1024_S64x256_64_512 rfl _ (gradV_val (tiles_1_2 (harg3 := harg3) (harg6 := harg6) hN ha hk hq hv hd hp hs))
  · exact piece_wide (fun t c h b => gradV Q A K G (N t) c h b) 1 1 inb_S256x1024_S64x256_64_256 rfl _ (gradV_val (tiles_1_1 (harg3 := harg3) (harg6 := harg6) hN ha hk hq hv hd hp hs))
  · exact piece_wide (fun t c h b => gradV Q A K G (N t) c h b) 1 0 inb_S256x1024_S64x256_64_0 rfl _ (gradV_val (tiles_1_0 (harg3 := harg3) (harg6 := harg6) hN ha hk hq hv hd hp hs))
  · exact piece_wide (fun t c h b => gradV Q A K G (N t) c h b) 2 3 inb_S256x1024_S64x256_128_768 rfl _ (gradV_val (tiles_2_3 (harg3 := harg3) (harg6 := harg6) hN ha hk hq hv hd hp hs))
  · exact piece_wide (fun t c h b => gradV Q A K G (N t) c h b) 2 2 inb_S256x1024_S64x256_128_512 rfl _ (gradV_val (tiles_2_2 (harg3 := harg3) (harg6 := harg6) hN ha hk hq hv hd hp hs))
  · exact piece_wide (fun t c h b => gradV Q A K G (N t) c h b) 2 1 inb_S256x1024_S64x256_128_256 rfl _ (gradV_val (tiles_2_1 (harg3 := harg3) (harg6 := harg6) hN ha hk hq hv hd hp hs))
  · exact piece_wide (fun t c h b => gradV Q A K G (N t) c h b) 2 0 inb_S256x1024_S64x256_128_0 rfl _ (gradV_val (tiles_2_0 (harg3 := harg3) (harg6 := harg6) hN ha hk hq hv hd hp hs))
  · exact piece_wide (fun t c h b => gradV Q A K G (N t) c h b) 3 3 inb_S256x1024_S64x256_192_768 rfl _ (gradV_val (tiles_3_3 (harg3 := harg3) (harg6 := harg6) hN ha hk hq hv hd hp hs))
  · exact piece_wide (fun t c h b => gradV Q A K G (N t) c h b) 3 2 inb_S256x1024_S64x256_192_512 rfl _ (gradV_val (tiles_3_2 (harg3 := harg3) (harg6 := harg6) hN ha hk hq hv hd hp hs))
  · exact piece_wide (fun t c h b => gradV Q A K G (N t) c h b) 3 1 inb_S256x1024_S64x256_192_256 rfl _ (gradV_val (tiles_3_1 (harg3 := harg3) (harg6 := harg6) hN ha hk hq hv hd hp hs))
  · exact piece_wide (fun t c h b => gradV Q A K G (N t) c h b) 3 0 inb_S256x1024_S64x256_192_0 rfl _ (gradV_val (tiles_3_0 (harg3 := harg3) (harg6 := harg6) hN ha hk hq hv hd hp hs))

/-- The block of the gradient of the log decays. -/
theorem gradA_block (hc0 : ¬cond0_0 i) : out0_B_9 c i arg1 harg1 arg2 harg2 arg3 harg3 arg4 harg4 arg5 harg5 arg6 harg6 arg7 harg7 arg8 harg8 arg9 harg9 arg10 harg10 arg11 harg11 hc0 x0 x1 x2 x3 x4 x5 xs0 =
    fun y : B512.Idx => ((gradA Q A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xs0)]
  funext y
  refine View.canon_apply_of_pieces (fun y : B512.Idx => ((gradA Q A K W G (N ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal)) _ ?_ y (cover0_B_9 c i arg1 harg1 arg2 harg2 arg3 harg3 arg4 harg4 arg5 harg5 arg6 harg6 arg7 harg7 arg8 harg8 arg9 harg9 arg10 harg10 arg11 harg11 hc0 x0 x1 x2 x3 x4 x5 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_cols (fun t c h a => gradA Q A K W G (N t) c h a) 0 3 inb_S256x512_S64x128_0_384 rfl _ (gradA_val (tiles_0_3 hN ha hk hq hv hd hp hs))
  · exact piece_cols (fun t c h a => gradA Q A K W G (N t) c h a) 0 2 inb_S256x512_S64x128_0_256 rfl _ (gradA_val (tiles_0_2 hN ha hk hq hv hd hp hs))
  · exact piece_cols (fun t c h a => gradA Q A K W G (N t) c h a) 0 1 inb_S256x512_S64x128_0_128 rfl _ (gradA_val (tiles_0_1 hN ha hk hq hv hd hp hs))
  · exact piece_cols (fun t c h a => gradA Q A K W G (N t) c h a) 0 0 inb_S256x512_S64x128_0_0 rfl _ (gradA_val (tiles_0_0 hN ha hk hq hv hd hp hs))
  · exact piece_cols (fun t c h a => gradA Q A K W G (N t) c h a) 1 3 inb_S256x512_S64x128_64_384 rfl _ (gradA_val (tiles_1_3 hN ha hk hq hv hd hp hs))
  · exact piece_cols (fun t c h a => gradA Q A K W G (N t) c h a) 1 2 inb_S256x512_S64x128_64_256 rfl _ (gradA_val (tiles_1_2 hN ha hk hq hv hd hp hs))
  · exact piece_cols (fun t c h a => gradA Q A K W G (N t) c h a) 1 1 inb_S256x512_S64x128_64_128 rfl _ (gradA_val (tiles_1_1 hN ha hk hq hv hd hp hs))
  · exact piece_cols (fun t c h a => gradA Q A K W G (N t) c h a) 1 0 inb_S256x512_S64x128_64_0 rfl _ (gradA_val (tiles_1_0 hN ha hk hq hv hd hp hs))
  · exact piece_cols (fun t c h a => gradA Q A K W G (N t) c h a) 2 3 inb_S256x512_S64x128_128_384 rfl _ (gradA_val (tiles_2_3 hN ha hk hq hv hd hp hs))
  · exact piece_cols (fun t c h a => gradA Q A K W G (N t) c h a) 2 2 inb_S256x512_S64x128_128_256 rfl _ (gradA_val (tiles_2_2 hN ha hk hq hv hd hp hs))
  · exact piece_cols (fun t c h a => gradA Q A K W G (N t) c h a) 2 1 inb_S256x512_S64x128_128_128 rfl _ (gradA_val (tiles_2_1 hN ha hk hq hv hd hp hs))
  · exact piece_cols (fun t c h a => gradA Q A K W G (N t) c h a) 2 0 inb_S256x512_S64x128_128_0 rfl _ (gradA_val (tiles_2_0 hN ha hk hq hv hd hp hs))
  · exact piece_cols (fun t c h a => gradA Q A K W G (N t) c h a) 3 3 inb_S256x512_S64x128_192_384 rfl _ (gradA_val (tiles_3_3 hN ha hk hq hv hd hp hs))
  · exact piece_cols (fun t c h a => gradA Q A K W G (N t) c h a) 3 2 inb_S256x512_S64x128_192_256 rfl _ (gradA_val (tiles_3_2 hN ha hk hq hv hd hp hs))
  · exact piece_cols (fun t c h a => gradA Q A K W G (N t) c h a) 3 1 inb_S256x512_S64x128_192_128 rfl _ (gradA_val (tiles_3_1 hN ha hk hq hv hd hp hs))
  · exact piece_cols (fun t c h a => gradA Q A K W G (N t) c h a) 3 0 inb_S256x512_S64x128_192_0 rfl _ (gradA_val (tiles_3_0 hN ha hk hq hv hd hp hs))

/-- The carried gradient after the block. -/
theorem carried_block (hc0 : ¬cond0_0 i) (h : Fin 4) (b : Fin 256) (a : Fin 128) : (sout0_B_0 c i arg1 harg1 arg2 harg2 arg3 harg3 arg4 harg4 arg5 harg5 arg6 harg6 arg7 harg7 arg8 harg8 arg9 harg9 arg10 harg10 arg11 harg11 hc0 x0 x1 x2 x3 x4 x5 xs0 (ix3 h b a) : EReal) = ((handed Q A G (N 0) h a b : ℝ) : EReal) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 xs0)]
  unfold kernelRun0_B
  dsimp only
  exact canon_heads (fun h b a => handed Q A G (N 0) h a b) inb_S4x256x128_S1x256x128_0_0_0 inb_S4x256x128_S1x256x128_1_0_0 inb_S4x256x128_S1x256x128_2_0_0 inb_S4x256x128_S1x256x128_3_0_0 _ _ _ _ _
    (handed_of (load_cols ha 0 0 _ rfl) (load_wide hd 0 0 _ rfl) (owed_0_0 hN ha hk hq hv hd hp hs) (load_cols hq 0 0 _ rfl))
    (handed_of (load_cols ha 0 1 _ rfl) (load_wide hd 0 1 _ rfl) (owed_0_1 hN ha hk hq hv hd hp hs) (load_cols hq 0 1 _ rfl))
    (handed_of (load_cols ha 0 2 _ rfl) (load_wide hd 0 2 _ rfl) (owed_0_2 hN ha hk hq hv hd hp hs) (load_cols hq 0 2 _ rfl))
    (handed_of (load_cols ha 0 3 _ rfl) (load_wide hd 0 3 _ rfl) (owed_0_3 hN ha hk hq hv hd hp hs) (load_cols hq 0 3 _ rfl)) h b a

end Cert.Kernel2Ideal.Gla.Later
-- ==== Proof.Gla.Whole.lean ====
/- Whole arrays of the recurrence: rows and columns of an array of all chunks, and the four chunks of one block of rows. -/
module

public import proofs.«01_k».proof.Proof.Gla.Tiles

@[expose] public section

set_option maxRecDepth 16384

noncomputable section

namespace Cert.Gla

open Idealize.ShloMosaic Idealize.ShloMosaic.TcCoe

abbrev A512 : Shape := ⟨2, ![4096, 512]⟩
abbrev A1024 : Shape := ⟨2, ![4096, 1024]⟩
abbrev AStates : Shape := ⟨4, ![4, 64, 256, 128]⟩

/-- A row of a chunk among all rows. -/
def grow (n c : Fin 64) : Fin 4096 := ⟨64 * n.val + c.val, by omega⟩

/-- An array of narrow columns holds `X`. -/
def AllCols (x : FVec Ideal A512 .f32) (X : Cols) : Prop :=
  ∀ n c h a, (x (ix2 (grow n c) (col h a)) : EReal) = ((X n c h a : ℝ) : EReal)

/-- An array of wide columns holds `X`. -/
def AllWide (x : FVec Ideal A1024 .f32) (X : Wide) : Prop :=
  ∀ n c h b, (x (ix2 (grow n c) (wcol h b)) : EReal) = ((X n c h b : ℝ) : EReal)

/-- A finite array of narrow columns, as real numbers. -/
def colsOf (x : FVec Ideal A512 .f32) : Cols := fun n c h a => (x (ix2 (grow n c) (col h a)) : EReal).toReal

/-- A finite array of wide columns, as real numbers. -/
def wideOf (x : FVec Ideal A1024 .f32) : Wide := fun n c h b => (x (ix2 (grow n c) (wcol h b)) : EReal).toReal

theorem allCols_colsOf (x : FVec Ideal A512 .f32) (h : ∀ i, ∃ r : ℝ, (x i : EReal) = (r : EReal)) : AllCols x (colsOf x) := fun n c hd a => by
  obtain ⟨r, hr⟩ := h (ix2 (grow n c) (col hd a))
  unfold colsOf
  rw [hr]; rfl

theorem allWide_wideOf (x : FVec Ideal A1024 .f32) (h : ∀ i, ∃ r : ℝ, (x i : EReal) = (r : EReal)) : AllWide x (wideOf x) := fun n c hd a => by
  obtain ⟨r, hr⟩ := h (ix2 (grow n c) (wcol hd a))
  unfold wideOf
  rw [hr]; rfl

/-- The array of narrow columns that holds `X`. -/
def colsArr (X : Cols) : FVec Ideal A512 .f32 := fun y =>
  ((X ⟨(y 0).val / 64, by have := (y 0).isLt; simp at this; omega⟩ ⟨(y 0).val % 64, Nat.mod_lt _ (by decide)⟩ ⟨(y 1).val / 128, by have := (y 1).isLt; simp at this; omega⟩ ⟨(y 1).val % 128, Nat.mod_lt _ (by decide)⟩ : ℝ) : EReal)

/-- The array of wide columns that holds `X`. -/
def wideArr (X : Wide) : FVec Ideal A1024 .f32 := fun y =>
  ((X ⟨(y 0).val / 64, by have := (y 0).isLt; simp at this; omega⟩ ⟨(y 0).val % 64, Nat.mod_lt _ (by decide)⟩ ⟨(y 1).val / 256, by have := (y 1).isLt; simp at this; omega⟩ ⟨(y 1).val % 256, Nat.mod_lt _ (by decide)⟩ : ℝ) : EReal)

/-- The chunks of the `i`-th block of rows. -/
def chunkAt (i : Fin 16) (u : Fin 4) : Fin 64 := ⟨4 * i.val + u.val, by omega⟩

theorem chunkAt_succ (i : Fin 16) (t : Fin 3) : (chunkAt i t.succ).val = (chunkAt i t.castSucc).val + 1 := by
  simp [chunkAt]; omega

/-- One block of narrow columns, read in the array. -/
theorem colsArr_block (X : Cols) (i : Fin 16) (r : Fin 256) (j : Fin 512) (y : A512.Idx) (h0 : (y 0).val = 256 * i.val + r.val) (h1 : (y 1).val = j.val) :
    (colsArr X y : EReal) = ((X (chunkAt i ⟨r.val / 64, by omega⟩) ⟨r.val % 64, Nat.mod_lt _ (by decide)⟩ ⟨j.val / 128, by omega⟩ ⟨j.val % 128, Nat.mod_lt _ (by decide)⟩ : ℝ) : EReal) := by
  have e0 : (y 0).val / 64 = 4 * i.val + r.val / 64 := by omega
  have e1 : (y 0).val % 64 = r.val % 64 := by omega
  unfold colsArr chunkAt
  simp only [e0, e1, h1]

/-- One block of wide columns, read in the array. -/
theorem wideArr_block (X : Wide) (i : Fin 16) (r : Fin 256) (j : Fin 1024) (y : A1024.Idx) (h0 : (y 0).val = 256 * i.val + r.val) (h1 : (y 1).val = j.val) :
    (wideArr X y : EReal) = ((X (chunkAt i ⟨r.val / 64, by omega⟩) ⟨r.val % 64, Nat.mod_lt _ (by decide)⟩ ⟨j.val / 256, by omega⟩ ⟨j.val % 256, Nat.mod_lt _ (by decide)⟩ : ℝ) : EReal) := by
  have e0 : (y 0).val / 64 = 4 * i.val + r.val / 64 := by omega
  have e1 : (y 0).val % 64 = r.val % 64 := by omega
  unfold wideArr chunkAt
  simp only [e0, e1, h1]

theorem eq_colsArr {x : FVec Ideal A512 .f32} {X : Cols} (h : AllCols x X) : x = colsArr X := funext fun y => by
  have h0 : (y 0).val < 4096 := (y 0).isLt
  have h1 : (y 1).val < 512 := (y 1).isLt
  refine (congrArg x (funext fun d => Fin.ext ?_)).trans
    (h ⟨(y 0).val / 64, by omega⟩ ⟨(y 0).val % 64, by omega⟩ ⟨(y 1).val / 128, by omega⟩ ⟨(y 1).val % 128, by omega⟩)
  fin_cases d
  · show (y 0).val = 64 * ((y 0).val / 64) + (y 0).val % 64
    omega
  · show (y 1).val = 128 * ((y 1).val / 128) + (y 1).val % 128
    omega

theorem eq_wideArr {x : FVec Ideal A1024 .f32} {X : Wide} (h : AllWide x X) : x = wideArr X := funext fun y => by
  have h0 : (y 0).val < 4096 := (y 0).isLt
  have h1 : (y 1).val < 1024 := (y 1).isLt
  refine (congrArg x (funext fun d => Fin.ext ?_)).trans
    (h ⟨(y 0).val / 64, by omega⟩ ⟨(y 0).val % 64, by omega⟩ ⟨(y 1).val / 256, by omega⟩ ⟨(y 1).val % 256, by omega⟩)
  fin_cases d
  · show (y 0).val = 64 * ((y 0).val / 64) + (y 0).val % 64
    omega
  · show (y 1).val = 256 * ((y 1).val / 256) + (y 1).val % 256
    omega

end Cert.Gla

end
-- ==== Proof.Gla.WindowSums.lean ====
/- Running sums, from the front and from the back, written as sums over a window: read at an index. -/
module

public import Idealize.ShloMosaic.PureOps.Ideal
public import Idealize.ShloMosaic.PureOps.Ideal.Laws
public import Idealize.ShloMosaic.Lib.Pointwise

@[expose] public section

set_option maxRecDepth 16384

noncomputable section

namespace Cert.Gla

open Idealize.ShloMosaic

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A sum over the indices of a shape, in row-major order. -/
theorem sum_rowMajor (s : Shape) (f : s.Idx → EReal) : ((List.finRange s.numel).map fun n => f (s.rowMajor.symm n)).sum = ∑ i, f i := by
  rw [← Fin.sum_univ_def]
  exact Equiv.sum_comp s.rowMajor.symm f

/-- The float window sum, as the sum over the window's positions. -/
theorem window_apply {s t u : Shape} (window strides lo hi : Fin s.rank → Nat) (x : FVec Ideal s .f32) (init : u.Idx → Ideal .f32)
    (h : s.ReduceWindows window strides lo hi t) (hu : 0 < u.numel) (hv : ∀ i, init i = (0 : EReal)) (j : t.Idx) :
    Host.reduceWindowAdd (F := Ideal) window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else 0 := by
  show Host.reduceWindow (α := EReal) (· + ·) window strides lo hi x (fun _ : (⟨0, ![]⟩ : Shape).Idx => init (Shape.Idx.first hu)) h (by decide) j = _
  unfold Host.reduceWindow
  simp only [hv]
  rw [foldl_add, zero_add]
  exact sum_rowMajor ⟨s.rank, window⟩ (fun w => if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else 0)

/-- From the front: window positions that reach back from `c`. -/
theorem sum_reaching_back (c : Fin 64) (f : Fin 64 → EReal) (g : Fin 64 → EReal)
    (h1 : ∀ w c' : Fin 64, 63 ≤ c.val + w.val → c'.val = c.val + w.val - 63 → g w = f c') (h2 : ∀ w : Fin 64, c.val + w.val < 63 → g w = 0) :
    ∑ w, g w = ∑ c', if c' ≤ c then f c' else 0 := by
  rw [← Equiv.sum_comp (Equiv.addLeft (c + 1)) (fun c' => if c' ≤ c then f c' else 0)]
  refine Finset.sum_congr rfl fun w _ => ?_
  have e : ((Equiv.addLeft (c + 1)) w : Fin 64).val = (c.val + 1 + w.val) % 64 := by
    show (c + 1 + w).val = _
    rw [Fin.val_add, Fin.val_add]; simp
  by_cases h : 63 ≤ c.val + w.val
  · have hlt := w.isLt; have hlt' := c.isLt
    have e2 : ((Equiv.addLeft (c + 1)) w : Fin 64).val = c.val + w.val - 63 := by rw [e]; omega
    rw [if_pos (by rw [Fin.le_def, e2]; omega)]
    exact h1 w _ h e2
  · have e2 : ((Equiv.addLeft (c + 1)) w : Fin 64).val = c.val + 1 + w.val := by rw [e]; omega
    rw [if_neg (by rw [Fin.le_def, e2]; omega)]
    exact h2 w (by omega)

/-- From the back: window positions that reach on from `c`. -/
theorem sum_reaching_on (c : Fin 64) (f : Fin 64 → EReal) (g : Fin 64 → EReal)
    (h1 : ∀ w c' : Fin 64, c'.val = c.val + w.val → g w = f c') (h2 : ∀ w : Fin 64, 64 ≤ c.val + w.val → g w = 0) :
    ∑ w, g w = ∑ c', if c ≤ c' then f c' else 0 := by
  rw [← Equiv.sum_comp (Equiv.addLeft c) (fun c' => if c ≤ c' then f c' else 0)]
  refine Finset.sum_congr rfl fun w _ => ?_
  have e : ((Equiv.addLeft c) w : Fin 64).val = (c.val + w.val) % 64 := by
    show (c + w).val = _
    rw [Fin.val_add]
  have hlt := w.isLt; have hlt' := c.isLt
  by_cases h : c.val + w.val < 64
  · have e2 : ((Equiv.addLeft c) w : Fin 64).val = c.val + w.val := by rw [e]; omega
    rw [if_pos (by rw [Fin.le_def, e2]; omega)]
    exact h1 w _ e2
  · have e2 : ((Equiv.addLeft c) w : Fin 64).val = c.val + w.val - 64 := by rw [e]; omega
    rw [if_neg (by rw [Fin.le_def, e2]; omega)]
    exact h2 w (by omega)

abbrev Rows : Shape := ⟨5, ![64, 1, 64, 4, 128]⟩
abbrev Tots : Shape := ⟨4, ![64, 1, 4, 128]⟩

/-- The running sum within each chunk. -/
theorem cumRows {u : Shape} (x : FVec Ideal Rows .f32) (init : u.Idx → Ideal .f32) (h) (hu : 0 < u.numel) (hv : ∀ i, init i = (0 : EReal))
    (n : Fin 64) (b : Fin 1) (c : Fin 64) (i : Fin 4) (k : Fin 128) :
    Host.reduceWindowAdd (F := Ideal) (s := Rows) (t := Rows) ![1, 1, 64, 1, 1] ![1, 1, 1, 1, 1] ![0, 0, 63, 0, 0] ![0, 0, 0, 0, 0] x init h hu (ix5 n b c i k)
      = ∑ c' : Fin 64, if c' ≤ c then (x (ix5 n b c' i k) : EReal) else 0 := by
  rw [window_apply _ _ _ _ x init h hu hv, sum_idx5]
  simp only [Fin.sum_univ_one]
  refine sum_reaching_back _ (fun c' => (x (ix5 n b c' i k) : EReal)) _ (fun w c' hw e => ?_) fun w hw => ?_
  · have hin : ∀ a, (![0, 0, 63, 0, 0] : Fin 5 → Nat) a ≤ ((ix5 n b c i k : (Rows : Shape).Idx) a).val * (![1, 1, 1, 1, 1] : Fin 5 → Nat) a + ((ix5 0 0 w 0 0 : (⟨5, ![1, 1, 64, 1, 1]⟩ : Shape).Idx) a).val ∧ ((ix5 n b c i k : (Rows : Shape).Idx) a).val * (![1, 1, 1, 1, 1] : Fin 5 → Nat) a + ((ix5 0 0 w 0 0 : (⟨5, ![1, 1, 64, 1, 1]⟩ : Shape).Idx) a).val - (![0, 0, 63, 0, 0] : Fin 5 → Nat) a < (Rows : Shape).size a := by
      intro a; have := c'.isLt; have hb := b.isLt
      fin_cases a <;> simp <;> omega
    refine (dif_pos hin).trans (congrArg x (funext fun a => Fin.ext ?_))
    have := c'.isLt
    fin_cases a <;> simp <;> omega
  · refine dif_neg fun hin => ?_
    have := hin 2
    simp at this
    omega

/-- The running sum over the chunks. -/
theorem cumTots {u : Shape} (x : FVec Ideal Tots .f32) (init : u.Idx → Ideal .f32) (h) (hu : 0 < u.numel) (hv : ∀ i, init i = (0 : EReal))
    (n : Fin 64) (b : Fin 1) (i : Fin 4) (k : Fin 128) :
    Host.reduceWindowAdd (F := Ideal) (s := Tots) (t := Tots) ![64, 1, 1, 1] ![1, 1, 1, 1] ![63, 0, 0, 0] ![0, 0, 0, 0] x init h hu (ix4 n b i k)
      = ∑ c' : Fin 64, if c' ≤ n then (x (ix4 c' b i k) : EReal) else 0 := by
  rw [window_apply _ _ _ _ x init h hu hv, sum_idx4]
  simp only [Fin.sum_univ_one]
  refine sum_reaching_back _ (fun c' => (x (ix4 c' b i k) : EReal)) _ (fun w c' hw e => ?_) fun w hw => ?_
  · have hin : ∀ a, (![63, 0, 0, 0] : Fin 4 → Nat) a ≤ ((ix4 n b i k : (Tots : Shape).Idx) a).val * (![1, 1, 1, 1] : Fin 4 → Nat) a + ((ix4 w 0 0 0 : (⟨4, ![64, 1, 1, 1]⟩ : Shape).Idx) a).val ∧ ((ix4 n b i k : (Tots : Shape).Idx) a).val * (![1, 1, 1, 1] : Fin 4 → Nat) a + ((ix4 w 0 0 0 : (⟨4, ![64, 1, 1, 1]⟩ : Shape).Idx) a).val - (![63, 0, 0, 0] : Fin 4 → Nat) a < (Tots : Shape).size a := by
      intro a; have := c'.isLt; have hb := b.isLt
      fin_cases a <;> simp <;> omega
    refine (dif_pos hin).trans (congrArg x (funext fun a => Fin.ext ?_))
    have := c'.isLt
    fin_cases a <;> simp <;> omega
  · refine dif_neg fun hin => ?_
    have := hin 0
    simp at this
    omega

/-- The running sum from the back within each chunk. -/
theorem restRows {u : Shape} (x : FVec Ideal Rows .f32) (init : u.Idx → Ideal .f32) (h) (hu : 0 < u.numel) (hv : ∀ i, init i = (0 : EReal))
    (n : Fin 64) (b : Fin 1) (c : Fin 64) (i : Fin 4) (k : Fin 128) :
    Host.reduceWindowAdd (F := Ideal) (s := Rows) (t := Rows) ![1, 1, 64, 1, 1] ![1, 1, 1, 1, 1] ![0, 0, 0, 0, 0] ![0, 0, 63, 0, 0] x init h hu (ix5 n b c i k)
      = ∑ c' : Fin 64, if c ≤ c' then (x (ix5 n b c' i k) : EReal) else 0 := by
  rw [window_apply _ _ _ _ x init h hu hv, sum_idx5]
  simp only [Fin.sum_univ_one]
  refine sum_reaching_on _ (fun c' => (x (ix5 n b c' i k) : EReal)) _ (fun w c' e => ?_) fun w hw => ?_
  · have hin : ∀ a, (![0, 0, 0, 0, 0] : Fin 5 → Nat) a ≤ ((ix5 n b c i k : (Rows : Shape).Idx) a).val * (![1, 1, 1, 1, 1] : Fin 5 → Nat) a + ((ix5 0 0 w 0 0 : (⟨5, ![1, 1, 64, 1, 1]⟩ : Shape).Idx) a).val ∧ ((ix5 n b c i k : (Rows : Shape).Idx) a).val * (![1, 1, 1, 1, 1] : Fin 5 → Nat) a + ((ix5 0 0 w 0 0 : (⟨5, ![1, 1, 64, 1, 1]⟩ : Shape).Idx) a).val - (![0, 0, 0, 0, 0] : Fin 5 → Nat) a < (Rows : Shape).size a := by
      intro a; have := c'.isLt; have hb := b.isLt
      fin_cases a <;> simp <;> omega
    refine (dif_pos hin).trans (congrArg x (funext fun a => Fin.ext ?_))
    have := c'.isLt
    fin_cases a <;> simp <;> omega
  · refine dif_neg fun hin => ?_
    have := hin 2
    simp at this
    omega

/-- The running sum from the back over the chunks. -/
theorem restTots {u : Shape} (x : FVec Ideal Tots .f32) (init : u.Idx → Ideal .f32) (h) (hu : 0 < u.numel) (hv : ∀ i, init i = (0 : EReal))
    (n : Fin 64) (b : Fin 1) (i : Fin 4) (k : Fin 128) :
    Host.reduceWindowAdd (F := Ideal) (s := Tots) (t := Tots) ![64, 1, 1, 1] ![1, 1, 1, 1] ![0, 0, 0, 0] ![63, 0, 0, 0] x init h hu (ix4 n b i k)
      = ∑ c' : Fin 64, if n ≤ c' then (x (ix4 c' b i k) : EReal) else 0 := by
  rw [window_apply _ _ _ _ x init h hu hv, sum_idx4]
  simp only [Fin.sum_univ_one]
  refine sum_reaching_on _ (fun c' => (x (ix4 c' b i k) : EReal)) _ (fun w c' e => ?_) fun w hw => ?_
  · have hin : ∀ a, (![0, 0, 0, 0] : Fin 4 → Nat) a ≤ ((ix4 n b i k : (Tots : Shape).Idx) a).val * (![1, 1, 1, 1] : Fin 4 → Nat) a + ((ix4 w 0 0 0 : (⟨4, ![64, 1, 1, 1]⟩ : Shape).Idx) a).val ∧ ((ix4 n b i k : (Tots : Shape).Idx) a).val * (![1, 1, 1, 1] : Fin 4 → Nat) a + ((ix4 w 0 0 0 : (⟨4, ![64, 1, 1, 1]⟩ : Shape).Idx) a).val - (![0, 0, 0, 0] : Fin 4 → Nat) a < (Tots : Shape).size a := by
      intro a; have := c'.isLt; have hb := b.isLt
      fin_cases a <;> simp <;> omega
    refine (dif_pos hin).trans (congrArg x (funext fun a => Fin.ext ?_))
    have := c'.isLt
    fin_cases a <;> simp <;> omega
  · refine dif_neg fun hin => ?_
    have := hin 0
    simp at this
    omega

end Cert.Gla

end
-- ==== Proof.Gla.Reading3.lean ====
/- The forward reference, element by element, in real numbers. -/
module

public import proofs.«01_k».proof.Proof.Gen.Reference3Ideal.Read
public import proofs.«01_k».proof.Proof.Gla.Whole
public import proofs.«01_k».proof.Proof.Gla.WindowSums

@[expose] public section

set_option maxRecDepth 16384

noncomputable section

namespace Cert.Reference3Ideal.Gla

open Cert.Reference3Ideal Cert.Reference3Ideal.Gen Cert.Reference3Ideal.Read Cert.Gla Idealize.ShloMosaic Idealize.ShloMosaic.TcCoe Idealize.SL.Sem

theorem zero_bits : Ideal.ofBits .f32 0x00000000#32 = (0 : EReal) := by simp [Ideal.ofBits, Ideal.ieee]

theorem bottom_bits : Ideal.ofBits .f32 0xFF800000#32 = (⊥ : EReal) := by simp [Ideal.ofBits, Ideal.ieee]

/-- The order of two chunks, as the mask compares their numbers. -/
theorem order_word (m n : Fin 64) : IntOp.cmpi .sle (BitVec.ofNat 32 m.val) (BitVec.ofNat 32 n.val) = if m ≤ n then 1#1 else 0#1 := by
  revert m n; decide +kernel

variable {q k a : FVec Ideal S4096x512 .f32} {v : FVec Ideal S4096x1024 .f32} {Q K A : Cols} {V : Wide}

theorem cols_at {x : FVec Ideal S4096x512 .f32} {X : Cols} (hx : AllCols x X) (n : Fin 64) (b : Fin 1) (c : Fin 64) (h : Fin 4) (j : Fin 128) :
    (val_main_v1 (F := Ideal) x (ix5 n b c h j) : EReal) = ((X n c h j : ℝ) : EReal) := by
  rw [val_main_v1_apply, val_main_v0_apply]
  refine (congrArg x (funext fun d => Fin.ext ?_)).trans (hx n c h j)
  have hb := b.isLt
  fin_cases d
  · show ((((b.val * 64 + n.val) * 64 + c.val) * 4 + h.val) * 128 + j.val) / 512 = 64 * n.val + c.val
    omega
  · show ((((b.val * 64 + n.val) * 64 + c.val) * 4 + h.val) * 128 + j.val) % 512 = 128 * h.val + j.val
    omega

theorem wide_at (hv : AllWide v V) (n : Fin 64) (b : Fin 1) (c : Fin 64) (h : Fin 4) (j : Fin 256) :
    (val_main_v28 (F := Ideal) v (ix5 n b c h j) : EReal) = ((V n c h j : ℝ) : EReal) := by
  rw [val_main_v28_apply, val_main_v27_apply]
  refine (congrArg v (funext fun d => Fin.ext ?_)).trans (hv n c h j)
  have hb := b.isLt
  fin_cases d
  · show ((((b.val * 64 + n.val) * 64 + c.val) * 4 + h.val) * 256 + j.val) / 1024 = 64 * n.val + c.val
    omega
  · show ((((b.val * 64 + n.val) * 64 + c.val) * 4 + h.val) * 256 + j.val) % 1024 = 256 * h.val + j.val
    omega

theorem cum_at (ha : AllCols a A) (n : Fin 64) (b : Fin 1) (c : Fin 64) (h : Fin 4) (j : Fin 128) :
    (val_main_v2 (F := Ideal) a (ix5 n b c h j) : EReal) = ((cum A n c h j : ℝ) : EReal) := by
  unfold val_main_v2
  refine (cumRows (val_main_v1 (F := Ideal) a) (val_main_call0_call0_v0 (F := Ideal)) _ _ (fun i => ?_) n b c h j).trans ?_
  · exact zero_bits
  · simp only [cols_at ha, cum, coe_sum, coe_ite]

theorem tot_at (ha : AllCols a A) (n : Fin 64) (h : Fin 4) (j : Fin 128) :
    (val_main_v4 (F := Ideal) a (ix4 n 0 h j) : EReal) = ((tot A h j n : ℝ) : EReal) := by
  rw [val_main_v4_apply, val_main_v3_apply]
  have e : idx_main_v3 (idx_main_v4 (ix4 n 0 h j)) = ix5 n 0 63 h j := funext fun d => Fin.ext (by
    fin_cases d
    · show (((n.val * 1 + 0) * 4 + h.val) * 128 + j.val) / 512 = n.val
      omega
    · rfl
    · rfl
    · show (((n.val * 1 + 0) * 4 + h.val) * 128 + j.val) / 128 % 4 = h.val
      omega
    · show (((n.val * 1 + 0) * 4 + h.val) * 128 + j.val) % 128 = j.val
      omega)
  refine (congrArg (val_main_v2 (F := Ideal) a) e).trans ((cum_at ha n 0 63 h j).trans ?_)
  unfold cum tot
  refine congrArg _ (Finset.sum_congr rfl fun c' _ => if_pos (Fin.le_def.mpr ?_))
  show c'.val ≤ 63
  omega

theorem left_at (ha : AllCols a A) (n : Fin 64) (c : Fin 64) (h : Fin 4) (j : Fin 128) :
    (val_main_v10 (F := Ideal) a (ix5 n 0 c h j) : EReal) = ((left A n c h j : ℝ) : EReal) := by
  rw [val_main_v10_apply, val_main_v9_apply, val_main_v8_apply, val_main_v7_apply]
  have e : idx_main_v7 (idx_main_v8 (ix5 n 0 c h j)) = ix4 n 0 h j := funext fun d => by fin_cases d <;> rfl
  rw [e]
  show Ideal.exp ((val_main_v4 (F := Ideal) a (ix4 n 0 h j) : EReal) - (val_main_v2 (F := Ideal) a (ix5 n 0 c h j) : EReal)) = _
  rw [tot_at ha, cum_at ha, ← EReal.coe_sub]
  rfl

theorem kept_at (hk : AllCols k K) (ha : AllCols a A) (n : Fin 64) (c : Fin 64) (h : Fin 4) (j : Fin 128) :
    (val_main_v11 (F := Ideal) k a (ix5 n 0 c h j) : EReal) = ((kept A K n c h j : ℝ) : EReal) := by
  rw [val_main_v11_apply]
  show (val_main_v1 (F := Ideal) k (ix5 n 0 c h j) : EReal) * (val_main_v10 (F := Ideal) a (ix5 n 0 c h j) : EReal) = _
  rw [cols_at hk, left_at ha, ← EReal.coe_mul]
  rfl

theorem upTo_at (ha : AllCols a A) (n : Fin 64) (h : Fin 4) (j : Fin 128) :
    (val_main_v12 (F := Ideal) a (ix4 n 0 h j) : EReal) = ((upTo (tot A h j) n : ℝ) : EReal) := by
  unfold val_main_v12
  refine (cumTots (val_main_v4 (F := Ideal) a) (val_main_call1_call0_v0 (F := Ideal)) _ _ (fun i => ?_) n 0 h j).trans ?_
  · exact zero_bits
  · simp only [tot_at ha, upTo, coe_sum, coe_ite]

theorem decay_at (ha : AllCols a A) (n m : Fin 64) (h : Fin 4) (j : Fin 128) :
    (val_main_v26 (F := Ideal) a (ix5 n m 0 h j) : EReal) = ((decay (tot A h j) n m : ℝ) : EReal) := by
  rw [val_main_v26_apply, val_main_v25_apply, val_main_call2_v1_apply, val_main_v19_apply, val_main_v18_apply, val_main_v16_apply,
    val_main_v14_apply, val_main_v13_apply, val_main_v17_apply, val_main_v15_apply, val_main_v13_apply, val_main_v24_apply, val_main_v22_apply,
    val_main_v20_apply, val_main_v23_apply, val_main_v21_apply]
  have e1 : idx_main_v20 (idx_main_v22 (ix5 n m 0 h j)) = ix4 n 0 h j := funext fun d => by fin_cases d <;> rfl
  have e2 : idx_main_v21 (idx_main_v23 (ix5 n m 0 h j)) = ix4 m 0 h j := funext fun d => by fin_cases d <;> rfl
  rw [e1, e2]
  show Ideal.exp (Scalar.select (IntOp.cmpi .sle (BitVec.ofNat 32 m.val) (BitVec.ofNat 32 n.val))
    ((val_main_v12 (F := Ideal) a (ix4 n 0 h j) : EReal) - (val_main_v12 (F := Ideal) a (ix4 m 0 h j) : EReal)) (Ideal.ofBits .f32 0xFF800000#32)) = _
  rw [upTo_at ha, upTo_at ha, order_word, bottom_bits, ← EReal.coe_sub]
  unfold decay
  by_cases hmn : m ≤ n
  · rw [if_pos hmn, if_pos hmn]
    rfl
  · rw [if_neg hmn, if_neg hmn]
    rfl

theorem added_at (hk : AllCols k K) (hv : AllWide v V) (ha : AllCols a A) (n : Fin 64) (h : Fin 4) (j : Fin 128) (w : Fin 256) :
    (val_main_v29 (F := Ideal) k v a (ix5 n 0 h j w) : EReal) = ((added A K V h j w n : ℝ) : EReal) := by
  rw [val_main_v29_apply]
  unfold added
  rw [coe_sum]
  refine Finset.sum_congr rfl fun c _ => ?_
  have e1 : lidx_main_v29 (ix5 n 0 h j w) c = ix5 n 0 c h j := funext fun d => by fin_cases d <;> rfl
  have e2 : ridx_main_v29 (ix5 n 0 h j w) c = ix5 n 0 c h w := funext fun d => by fin_cases d <;> rfl
  rw [e1, e2, EReal.coe_mul]
  exact congrArg₂ (fun x y : EReal => x * y) (kept_at hk ha n c h j) (wide_at hv n 0 c h w)

theorem after_at (hk : AllCols k K) (hv : AllWide v V) (ha : AllCols a A) (n : Fin 64) (h : Fin 4) (j : Fin 128) (w : Fin 256) :
    (val_main_v31 (F := Ideal) k v a (ix5 n 0 h j w) : EReal) = ((stAfter A K V n h j w : ℝ) : EReal) := by
  rw [val_main_v31_apply, val_main_v30_apply]
  unfold stAfter state
  rw [coe_sum]
  refine Finset.sum_congr rfl fun m _ => ?_
  have e1 : lidx_main_v30 (idx_main_v31 (ix5 n 0 h j w)) m = ix5 m 0 h j w := funext fun d => by fin_cases d <;> rfl
  have e2 : ridx_main_v30 (idx_main_v31 (ix5 n 0 h j w)) m = ix5 n m 0 h j := funext fun d => by fin_cases d <;> rfl
  rw [e1, e2, EReal.coe_mul]
  exact congrArg₂ (fun x y : EReal => x * y) (added_at hk hv ha m h j w) (decay_at ha n m h j)

/-- The states before the chunks: nothing, and then the states after all but the last. -/
theorem before_at (hk : AllCols k K) (hv : AllWide v V) (ha : AllCols a A) (n : Fin 64) (h : Fin 4) (j : Fin 128) (w : Fin 256) :
    (val_main_v35 (F := Ideal) k v a (ix4 n h j w) : EReal) = ((stBefore A K V n h j w : ℝ) : EReal) := by
  unfold val_main_v35
  pointwise
  by_cases hn : n.val < 1
  · rw [dif_pos hn, stBefore_first _ _ _ _ (by omega)]
    exact zero_bits
  · rw [dif_neg hn, stBefore_next _ _ _ ⟨n.val - 1, by omega⟩ n (by show n.val = n.val - 1 + 1; omega)]
    refine Eq.trans ?_ (after_at hk hv ha ⟨n.val - 1, by omega⟩ h j w)
    show (val_main_v33 (F := Ideal) k v a _ : EReal) = _
    rw [val_main_v33_apply, val_main_v32_apply]
    refine congrArg (val_main_v31 (F := Ideal) k v a) (funext fun d => Fin.ext ?_)
    fin_cases d
    · show ((((n.val - 1) * 4 + h.val) * 128 + j.val) * 256 + w.val) / 131072 = n.val - 1
      omega
    · rfl
    · show ((((n.val - 1) * 4 + h.val) * 128 + j.val) * 256 + w.val) / 32768 % 4 = h.val
      omega
    · show ((((n.val - 1) * 4 + h.val) * 128 + j.val) * 256 + w.val) / 256 % 128 = j.val
      omega
    · show ((((n.val - 1) * 4 + h.val) * 128 + j.val) * 256 + w.val) % 256 = w.val
      omega

theorem query_at (hq : AllCols q Q) (n : Fin 64) (c : Fin 64) (h : Fin 4) (j : Fin 128) :
    (val_main_v39 (F := Ideal) q (ix5 n 0 c h j) : EReal) = ((Q n c h j * gain : ℝ) : EReal) := by
  rw [val_main_v39_apply]
  show (val_main_v1 (F := Ideal) q (ix5 n 0 c h j) : EReal) * Ideal.ofBits .f32 0x3DB504F3#32 = _
  rw [cols_at hq, gain_eq, ← EReal.coe_mul]

/-- The states after the chunks are computed twice. -/
theorem after_again {i : S64x1x4x128x256.Idx} : val_main_v71 (F := Ideal) k v a i = val_main_v31 (F := Ideal) k v a i := rfl

/-- The reference's output. -/
theorem output_eq (hq : AllCols q Q) (hk : AllCols k K) (hv : AllWide v V) (ha : AllCols a A) :
    val_main_v75 (F := Ideal) q k v a = wideArr (out Q A K V) := eq_wideArr fun n c h w => by
  rw [val_main_v75_apply, val_main_v74_apply, val_main_v73_apply]
  have e : idx_main_v73 (idx_main_v74 (idx_main_v75 (ix2 (grow n c) (wcol h w)))) = ix5 n 0 h w c := funext fun d => Fin.ext (by
    fin_cases d
    · show ((64 * n.val + c.val) * 1024 + (256 * h.val + w.val)) / 65536 % 64 = n.val
      omega
    · rfl
    · show ((64 * n.val + c.val) * 1024 + (256 * h.val + w.val)) / 256 % 4 = h.val
      omega
    · show ((64 * n.val + c.val) * 1024 + (256 * h.val + w.val)) % 256 = w.val
      omega
    · show ((64 * n.val + c.val) * 1024 + (256 * h.val + w.val)) / 1024 % 64 = c.val
      omega)
  rw [e, val_main_v72_apply]
  unfold out
  rw [coe_sum]
  refine Finset.sum_congr rfl fun j _ => ?_
  have e1 : lidx_main_v72 (ix5 n 0 h w c) j = ix5 n 0 h j w := funext fun d => by fin_cases d <;> rfl
  have e2 : ridx_main_v72 (ix5 n 0 h w c) j = ix5 n 0 c h j := funext fun d => by fin_cases d <;> rfl
  rw [e1, e2, mul_comm (Q n c h j * gain), EReal.coe_mul]
  exact congrArg₂ (fun x y : EReal => x * y) (after_again.trans (after_at hk hv ha n h j w)) (query_at hq n c h j)

/-- The reference's states. -/
theorem states_eq (hk : AllCols k K) (hv : AllWide v V) (ha : AllCols a A) :
    val_main_v76 (F := Ideal) k v a = fun y : AStates.Idx => ((stBefore A K V (y 1) (y 0) (y 3) (y 2) : ℝ) : EReal) := by
  funext y
  rw [val_main_v76_apply]
  have e : idx_main_v76 y = ix4 (y 1) (y 0) (y 3) (y 2) := funext fun d => by fin_cases d <;> rfl
  rw [e]
  exact before_at hk hv ha (y 1) (y 0) (y 3) (y 2)

end Cert.Reference3Ideal.Gla

end
-- ==== Proof.Gla.Found2.lean ====
/- The gradient call's operands: the packed columns and the states, as the host lines before it leave them. -/
module

public import proofs.«01_k».proof.Proof.Gen.Kernel2Ideal.Frame
public import proofs.«01_k».proof.Proof.Gla.Reading3
public import Idealize.ShloMosaic.Lib.Pipeline.ValueKit

@[expose] public section

set_option maxRecDepth 16384

noncomputable section

namespace Cert.Kernel2Ideal.Gla

open Cert.Kernel2Ideal Cert.Kernel2Ideal.Gen Cert.Gla Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 8000000 in
/-- The packed columns as the call finds them. -/
theorem packed_eq : V m c main_v38 = concatenate S4096x3328 1
    [⟨S4096x1024, (m ((c : Thread nD τ).loc main_arg2) : FVec Ideal S4096x1024 .f32)⟩,
     ⟨S4096x1024, (broadcastInDim S4096x1024 ![] bcast_S_S4096x1024 (constant (F := Ideal) S_ .f32 0x00000000#32) : FVec Ideal S4096x1024 .f32)⟩,
     ⟨S4096x512, (m ((c : Thread nD τ).loc main_arg0) : FVec Ideal S4096x512 .f32)⟩,
     ⟨S4096x512, (m ((c : Thread nD τ).loc main_arg1) : FVec Ideal S4096x512 .f32)⟩,
     ⟨S4096x256, (broadcastInDim S4096x256 ![] bcast_S_S4096x256 (constant (F := Ideal) S_ .f32 0x00000000#32) : FVec Ideal S4096x256 .f32)⟩]
    concatenates_S4096x1024_S4096x1024_S4096x512_S4096x512_S4096x256_S4096x3328_d1 := by
  show StableHlo.after (List.flatten [hostOps0, hostOps0_1, hostOps0_2, hostOps0_3, hostOps0_4, hostOps0_5, hostOps0_6]) (fun b => m (c, b)) (Proc.devRef .tc main_v38) = _
  simp only [hostOps0, hostOps0_1, hostOps0_2, hostOps0_3, hostOps0_4, hostOps0_5, hostOps0_6, List.flatten_cons, List.flatten_nil, List.append_nil, List.cons_append, List.nil_append]
  after_results_simp
  dsimp only [Matrix.cons_val]
  rfl

set_option maxHeartbeats 38000000 in
/-- The states as the call finds them: those that the forward lines leave. -/
theorem states_found : V m c main_v39 = Cert.Reference3Ideal.Read.val_main_v76 (F := Ideal) (m ((c : Thread nD τ).loc main_arg1))
    (m ((c : Thread nD τ).loc main_arg2)) (m ((c : Thread nD τ).loc main_arg3)) := by
  show StableHlo.after (List.flatten [hostOps0, hostOps0_1, hostOps0_2, hostOps0_3, hostOps0_4, hostOps0_5, hostOps0_6]) (fun b => m (c, b)) (Proc.devRef .tc main_v39) = _
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

end Cert.Kernel2Ideal.Gla

end
-- ==== Proof.Gla.Blocks2.lean ====
/- The gradient call's blocks: what its windows hold at a grid point. -/
module

public import proofs.«01_k».proof.Proof.Gen.Kernel2Ideal.Value
public import proofs.«01_k».proof.Proof.Gla.First2
public import proofs.«01_k».proof.Proof.Gla.Later2
public import proofs.«01_k».proof.Proof.Gla.Found2
public import Idealize.ShloMosaic.Lib.Pipeline.ValueKit

@[expose] public section

set_option maxRecDepth 16384

noncomputable section

namespace Cert.Kernel2Ideal.Gla

open Cert.Kernel2Ideal Cert.Kernel2Ideal.Gen Cert.Gla Idealize.ShloMosaic Idealize.ShloMosaic.TcCoe Idealize.SL.Sem
open Idealize.ShloMosaic.Pipeline (Dat)

variable (m : (ℓ : Loc nD τ sig) → Buf (Elt Ideal) ℓ) (c : Dev nD)

theorem packed_v (r : Fin 4096) (j : Fin 1024) : V m c main_v38 (ix2 r ⟨j.val, by omega⟩) = m ((c : Thread nD τ).loc main_arg2) (ix2 r j) := by
  rw [packed_eq]
  pointwise

theorem packed_q (r : Fin 4096) (j : Fin 512) : V m c main_v38 (ix2 r ⟨2048 + j.val, by omega⟩) = m ((c : Thread nD τ).loc main_arg0) (ix2 r j) := by
  rw [packed_eq]
  pointwise
  rw [dif_neg (by omega), dif_neg (by omega), dif_pos (by omega)]
  exact congrArg (fun j => m ((c : Thread nD τ).loc main_arg0) (ix2 r j)) (Fin.ext (by dsimp only; omega))

theorem packed_k (r : Fin 4096) (j : Fin 512) : V m c main_v38 (ix2 r ⟨2560 + j.val, by omega⟩) = m ((c : Thread nD τ).loc main_arg1) (ix2 r j) := by
  rw [packed_eq]
  pointwise
  rw [dif_neg (by omega), dif_neg (by omega), dif_neg (by omega), dif_pos (by omega)]
  exact congrArg (fun j => m ((c : Thread nD τ).loc main_arg1) (ix2 r j)) (Fin.ext (by dsimp only; omega))

theorem idx0 : ∀ t : Fin cfg0.N, win0_0.index t = ![15 - t.val, 4] ∧ win0_1.index t = ![15 - t.val, 5] ∧ win0_2.index t = ![15 - t.val, 0] ∧ win0_3.index t = ![15 - t.val, 0]
    ∧ win0_4.index t = ![15 - t.val, 0] ∧ win0_5.index t = ![0, 15 - t.val, 0, 0] ∧ win0_6.index t = ![15 - t.val, 0] ∧ win0_7.index t = ![15 - t.val, 0]
    ∧ win0_8.index t = ![15 - t.val, 0] ∧ win0_9.index t = ![15 - t.val, 0] :=
  (by decide +kernel : ∀ t : Fin grid0.N, _)

theorem points (t : Fin cfg0.N) : t.val < 16 := t.isLt

/-- A block's row among all rows; the blocks are taken from the last to the first. -/
def rowAt (t : Fin cfg0.N) (r : Fin 256) : Fin 4096 := ⟨256 * (15 - t.val) + r.val, by have := points t; omega⟩

theorem block_q (t : Fin cfg0.N) (r : Fin 256) (j : Fin 512) : X0_0 m c t (ix2 r j) = m ((c : Thread nD τ).loc main_arg0) (ix2 (rowAt t r) j) := by
  rw [← packed_q m c]
  unfold X0_0 Pipeline.Window.fill
  rw [dif_pos (moved0_0 t _)]
  blk_point [iblk, idx0 t, rowAt]

theorem block_k (t : Fin cfg0.N) (r : Fin 256) (j : Fin 512) : X0_1 m c t (ix2 r j) = m ((c : Thread nD τ).loc main_arg1) (ix2 (rowAt t r) j) := by
  rw [← packed_k m c]
  unfold X0_1 Pipeline.Window.fill
  rw [dif_pos (moved0_1 t _)]
  blk_point [iblk, idx0 t, rowAt]

theorem block_v (t : Fin cfg0.N) (r : Fin 256) (j : Fin 1024) : X0_2 m c t (ix2 r j) = m ((c : Thread nD τ).loc main_arg2) (ix2 (rowAt t r) j) := by
  rw [← packed_v m c]
  unfold X0_2 Pipeline.Window.fill
  rw [dif_pos (moved0_2 t _)]
  blk_point [iblk, idx0 t, rowAt]

theorem block_a (t : Fin cfg0.N) (r : Fin 256) (j : Fin 512) : iblk m c 3 t (ix2 r j) = m ((c : Thread nD τ).loc main_arg3) (ix2 (rowAt t r) j) := by
  rw [← V_main_arg3 m c]
  blk_point [iblk, idx0 t, rowAt]

theorem block_d (t : Fin cfg0.N) (r : Fin 256) (j : Fin 1024) : iblk m c 4 t (ix2 r j) = m ((c : Thread nD τ).loc main_arg4) (ix2 (rowAt t r) j) := by
  rw [← V_main_arg4 m c]
  blk_point [iblk, idx0 t, rowAt]

/-- A block's chunk among all chunks. -/
def chunkOf (t : Fin cfg0.N) (u : Fin 4) : Fin 64 := ⟨4 * (15 - t.val) + u.val, by have := points t; omega⟩

theorem block_s (t : Fin cfg0.N) (h u : Fin 4) (b : Fin 256) (a : Fin 128) :
    iblk m c 5 t (ix4 h u b a) = V m c main_v39 (ix4 h (chunkOf t u) b a) := by
  blk_point [iblk, idx0 t, chunkOf]

end Cert.Kernel2Ideal.Gla

end
-- ==== Proof.Gla.Arrays2.lean ====
/- The gradient call's four result arrays. -/
module

public import proofs.«01_k».proof.Proof.Gla.Blocks2
public import proofs.«01_k».proof.Proof.Gla.Whole

@[expose] public section

set_option maxRecDepth 16384

noncomputable section

namespace Cert.Kernel2Ideal.Gla

open Cert.Kernel2Ideal Cert.Kernel2Ideal.Gen Cert.Gla Idealize.ShloMosaic Idealize.ShloMosaic.TcCoe Idealize.SL.Sem
open Idealize.ShloMosaic.Pipeline (Dat)

variable (m : (ℓ : Loc nD τ sig) → Buf (Elt Ideal) ℓ) (c : Dev nD)

/-- The block of rows of a grid point. -/
abbrev pt (t : Fin cfg0.N) : Fin 16 := ⟨15 - t.val, by omega⟩

theorem rowAt_row (t : Fin cfg0.N) (u : Fin 4) (s : Fin 64) : rowAt t (row u s) = grow (chunkAt (pt t) u) s := Fin.ext (by
  show 256 * (15 - t.val) + (64 * u.val + s.val) = 64 * (4 * (15 - t.val) + u.val) + s.val
  omega)

theorem last_first (t : Fin cfg0.N) (h0 : t.val % 16 = 0) : (chunkAt (pt t) 3).val = 63 := by
  have := points t
  show 4 * (15 - t.val) + 3 = 63
  omega

section Holds

variable {A K Q : Cols} {W G : Wide}
  (hq : AllCols (m ((c : Thread nD τ).loc main_arg0)) Q) (hk : AllCols (m ((c : Thread nD τ).loc main_arg1)) K)
  (hv : AllWide (m ((c : Thread nD τ).loc main_arg2)) W) (ha : AllCols (m ((c : Thread nD τ).loc main_arg3)) A)
  (hd : AllWide (m ((c : Thread nD τ).loc main_arg4)) G)

include hq in
theorem holds_q (t : Fin cfg0.N) : IsCols (X0_0 m c t) Q (chunkAt (pt t)) := fun u s h a => by
  rw [block_q, rowAt_row]; exact hq _ _ _ _

include hk in
theorem holds_k (t : Fin cfg0.N) : IsCols (X0_1 m c t) K (chunkAt (pt t)) := fun u s h a => by
  rw [block_k, rowAt_row]; exact hk _ _ _ _

include hv in
theorem holds_v (t : Fin cfg0.N) : IsWide (X0_2 m c t) W (chunkAt (pt t)) := fun u s h a => by
  rw [block_v, rowAt_row]; exact hv _ _ _ _

include ha in
theorem holds_a (t : Fin cfg0.N) : IsCols (iblk m c 3 t) A (chunkAt (pt t)) := fun u s h a => by
  rw [block_a, rowAt_row]; exact ha _ _ _ _

include hd in
theorem holds_d (t : Fin cfg0.N) : IsWide (iblk m c 4 t) G (chunkAt (pt t)) := fun u s h a => by
  rw [block_d, rowAt_row]; exact hd _ _ _ _

include hk hv ha in
theorem holds_s (t : Fin cfg0.N) (h u : Fin 4) (b : Fin 256) (a : Fin 128) :
    (iblk m c 5 t (ix4 h u b a) : EReal) = ((stBefore A K W (chunkAt (pt t) u) h a b : ℝ) : EReal) := by
  rw [block_s, states_found, Cert.Reference3Ideal.Gla.states_eq hk hv ha]
  rfl

include hq hk hv ha hd

/-- The gradient of the state carried out of a grid point is what its first chunk hands back. -/
theorem carried : ∀ (n : ℕ) (hn : n < cfg0.N) (h : Fin 4) (b : Fin 256) (a : Fin 128),
    ((outsAt0 m c n hn).2.2.2.2 (ix3 h b a) : EReal) = ((handed Q A G (chunkAt (pt ⟨n, hn⟩) 0) h a b : ℝ) : EReal)
  | 0, hn, h, b, a => by
    rw [show outsAt0 m c 0 hn = _ from outsAt0_A m c ⟨0, hn⟩ rfl]
    dsimp only
    exact First.carried_block (chunkAt_succ _) (holds_a m c ha _) (holds_k m c hk _) (holds_q m c hq _) (holds_v m c hv _) (holds_d m c hd _)
      (fun h u b a => holds_s m c hk hv ha _ h u b a) (last_first _ rfl) _ h b a
  | n + 1, hn, h, b, a => by
    have h16 : n + 1 < 16 := hn
    rw [show outsAt0 m c (n + 1) hn = _ from outsAt0_B m c ⟨n + 1, hn⟩ (by show ¬(n + 1) % 16 = 0; omega)]
    dsimp only
    exact Later.carried_block (chunkAt_succ _) (holds_a m c ha _) (holds_k m c hk _) (holds_q m c hq _) (holds_v m c hv _) (holds_d m c hd _)
      (fun h u b a => holds_s m c hk hv ha _ h u b a)
      (fun h b a => (carried n (Nat.lt_of_succ_lt hn) h b a).trans (by
        rw [owed_next _ _ _ (chunkAt (pt ⟨n + 1, hn⟩) 3) (chunkAt (pt ⟨n, Nat.lt_of_succ_lt hn⟩) 0) (by
          show 4 * (15 - n) + 0 = 4 * (15 - (n + 1)) + 3 + 1; omega)])) _ h b a

/-- What a point other than the first finds in the carried gradient. -/
theorem found (t : Fin cfg0.N) (h0 : ¬t.val % 16 = 0) (h : Fin 4) (b : Fin 256) (a : Fin 128) :
    ((outsAt0 m c (t.val - 1) (Nat.lt_of_le_of_lt (Nat.sub_le _ _) t.isLt)).2.2.2.2 (ix3 h b a) : EReal)
      = ((owed Q A G (chunkAt (pt t) 3) h a b : ℝ) : EReal) := by
  have h16 := points t
  refine (carried m c hq hk hv ha hd (t.val - 1) (Nat.lt_of_le_of_lt (Nat.sub_le _ _) t.isLt) h b a).trans ?_
  rw [owed_next _ _ _ (chunkAt (pt t) 3) (chunkAt (pt ⟨t.val - 1, Nat.lt_of_le_of_lt (Nat.sub_le _ _) t.isLt⟩) 0) (by
    show 4 * (15 - (t.val - 1)) + 0 = 4 * (15 - t.val) + 3 + 1; omega)]

/-- What a grid point leaves of the gradient of the queries. -/
theorem gradQ_at (t : Fin cfg0.N) : (outsAt0 m c t.val t.isLt).1 =
    fun y : B512.Idx => ((gradQ A K W G (chunkAt (pt t) ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  by_cases h0 : t.val % 16 = 0
  · rw [outsAt0_A m c t h0]
    dsimp only
    exact First.gradQ_block (chunkAt_succ _) (holds_a m c ha _) (holds_k m c hk _) (holds_q m c hq _) (holds_v m c hv _) (holds_d m c hd _)
      (fun h u b a => holds_s m c hk hv ha _ h u b a) (last_first t h0) _
  · rw [outsAt0_B m c t h0]
    dsimp only
    exact Later.gradQ_block (chunkAt_succ _) (holds_a m c ha _) (holds_k m c hk _) (holds_q m c hq _) (holds_v m c hv _) (holds_d m c hd _)
      (fun h u b a => holds_s m c hk hv ha _ h u b a) (fun h b a => found m c hq hk hv ha hd t h0 h b a) _

/-- The gradient of the queries after the call. -/
theorem final_q : (dats m 0 c).arrAt 6 cfg0.N = colsArr (gradQ A K W G) := by
  refine (dats m 0 c).arrAt_eq_of_covers 6 _ (by decide +kernel) fun t _ y => ?_
  blk_simp
  rw [after0_6, gradQ_at m c hq hk hv ha hd t]
  refine (colsArr_block _ (pt t) ⟨(y 0).val, (y 0).isLt⟩ ⟨(y 1).val, (y 1).isLt⟩ _ ?_ ?_).symm
  · show win0_6.index t 0 * 256 + 1 * (y 0).val = _
    rw [(idx0 t).2.2.2.2.2.2.1]; show (15 - t.val) * 256 + 1 * (y 0).val = 256 * (15 - t.val) + (y 0).val; omega
  · show win0_6.index t 1 * 512 + 1 * (y 1).val = _
    rw [(idx0 t).2.2.2.2.2.2.1]; show 0 * 512 + 1 * (y 1).val = (y 1).val; omega

/-- What a grid point leaves of the gradient of the keys. -/
theorem gradK_at (t : Fin cfg0.N) : (outsAt0 m c t.val t.isLt).2.1 =
    fun y : B512.Idx => ((gradK Q A W G (chunkAt (pt t) ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  by_cases h0 : t.val % 16 = 0
  · rw [outsAt0_A m c t h0]
    dsimp only
    exact First.gradK_block (chunkAt_succ _) (holds_a m c ha _) (holds_k m c hk _) (holds_q m c hq _) (holds_v m c hv _) (holds_d m c hd _)
      (fun h u b a => holds_s m c hk hv ha _ h u b a) (last_first t h0) _
  · rw [outsAt0_B m c t h0]
    dsimp only
    exact Later.gradK_block (chunkAt_succ _) (holds_a m c ha _) (holds_k m c hk _) (holds_q m c hq _) (holds_v m c hv _) (holds_d m c hd _)
      (fun h u b a => holds_s m c hk hv ha _ h u b a) (fun h b a => found m c hq hk hv ha hd t h0 h b a) _

/-- The gradient of the keys after the call. -/
theorem final_k : (dats m 0 c).arrAt 7 cfg0.N = colsArr (gradK Q A W G) := by
  refine (dats m 0 c).arrAt_eq_of_covers 7 _ (by decide +kernel) fun t _ y => ?_
  blk_simp
  rw [after0_7, gradK_at m c hq hk hv ha hd t]
  refine (colsArr_block _ (pt t) ⟨(y 0).val, (y 0).isLt⟩ ⟨(y 1).val, (y 1).isLt⟩ _ ?_ ?_).symm
  · show win0_7.index t 0 * 256 + 1 * (y 0).val = _
    rw [(idx0 t).2.2.2.2.2.2.2.1]; show (15 - t.val) * 256 + 1 * (y 0).val = 256 * (15 - t.val) + (y 0).val; omega
  · show win0_7.index t 1 * 512 + 1 * (y 1).val = _
    rw [(idx0 t).2.2.2.2.2.2.2.1]; show 0 * 512 + 1 * (y 1).val = (y 1).val; omega

/-- What a grid point leaves of the gradient of the values. -/
theorem gradV_at (t : Fin cfg0.N) : (outsAt0 m c t.val t.isLt).2.2.1 =
    fun y : B1024.Idx => ((gradV Q A K G (chunkAt (pt t) ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  by_cases h0 : t.val % 16 = 0
  · rw [outsAt0_A m c t h0]
    dsimp only
    exact First.gradV_block (chunkAt_succ _) (holds_a m c ha _) (holds_k m c hk _) (holds_q m c hq _) (holds_v m c hv _) (holds_d m c hd _)
      (fun h u b a => holds_s m c hk hv ha _ h u b a) (last_first t h0) _
  · rw [outsAt0_B m c t h0]
    dsimp only
    exact Later.gradV_block (chunkAt_succ _) (holds_a m c ha _) (holds_k m c hk _) (holds_q m c hq _) (holds_v m c hv _) (holds_d m c hd _)
      (fun h u b a => holds_s m c hk hv ha _ h u b a) (fun h b a => found m c hq hk hv ha hd t h0 h b a) _

/-- The gradient of the values after the call. -/
theorem final_v : (dats m 0 c).arrAt 8 cfg0.N = wideArr (gradV Q A K G) := by
  refine (dats m 0 c).arrAt_eq_of_covers 8 _ (by decide +kernel) fun t _ y => ?_
  blk_simp
  rw [after0_8, gradV_at m c hq hk hv ha hd t]
  refine (wideArr_block _ (pt t) ⟨(y 0).val, (y 0).isLt⟩ ⟨(y 1).val, (y 1).isLt⟩ _ ?_ ?_).symm
  · show win0_8.index t 0 * 256 + 1 * (y 0).val = _
    rw [(idx0 t).2.2.2.2.2.2.2.2.1]; show (15 - t.val) * 256 + 1 * (y 0).val = 256 * (15 - t.val) + (y 0).val; omega
  · show win0_8.index t 1 * 1024 + 1 * (y 1).val = _
    rw [(idx0 t).2.2.2.2.2.2.2.2.1]; show 0 * 1024 + 1 * (y 1).val = (y 1).val; omega

/-- What a grid point leaves of the gradient of the log decays. -/
theorem gradA_at (t : Fin cfg0.N) : (outsAt0 m c t.val t.isLt).2.2.2.1 =
    fun y : B512.Idx => ((gradA Q A K W G (chunkAt (pt t) ⟨(y 0).val / 64, by have := (y 0).isLt; simp at this; omega⟩) ⟨(y 0).val % 64, Nat.mod_lt _ (by decide)⟩ ⟨(y 1).val / 128, by have := (y 1).isLt; simp at this; omega⟩ ⟨(y 1).val % 128, Nat.mod_lt _ (by decide)⟩ : ℝ) : EReal) := by
  by_cases h0 : t.val % 16 = 0
  · rw [outsAt0_A m c t h0]
    dsimp only
    exact First.gradA_block (chunkAt_succ _) (holds_a m c ha _) (holds_k m c hk _) (holds_q m c hq _) (holds_v m c hv _) (holds_d m c hd _)
      (fun h u b a => holds_s m c hk hv ha _ h u b a) (last_first t h0) _
  · rw [outsAt0_B m c t h0]
    dsimp only
    exact Later.gradA_block (chunkAt_succ _) (holds_a m c ha _) (holds_k m c hk _) (holds_q m c hq _) (holds_v m c hv _) (holds_d m c hd _)
      (fun h u b a => holds_s m c hk hv ha _ h u b a) (fun h b a => found m c hq hk hv ha hd t h0 h b a) _

/-- The gradient of the log decays after the call. -/
theorem final_a : (dats m 0 c).arrAt 9 cfg0.N = colsArr (gradA Q A K W G) := by
  refine (dats m 0 c).arrAt_eq_of_covers 9 _ (by decide +kernel) fun t _ y => ?_
  blk_simp
  rw [after0_9, gradA_at m c hq hk hv ha hd t]
  refine (colsArr_block _ (pt t) ⟨(y 0).val, (y 0).isLt⟩ ⟨(y 1).val, (y 1).isLt⟩ _ ?_ ?_).symm
  · show win0_9.index t 0 * 256 + 1 * (y 0).val = _
    rw [(idx0 t).2.2.2.2.2.2.2.2.2]; show (15 - t.val) * 256 + 1 * (y 0).val = 256 * (15 - t.val) + (y 0).val; omega
  · show win0_9.index t 1 * 512 + 1 * (y 1).val = _
    rw [(idx0 t).2.2.2.2.2.2.2.2.2]; show 0 * 512 + 1 * (y 1).val = (y 1).val; omega

end Holds

end Cert.Kernel2Ideal.Gla

end
-- ==== Proof.Gla.Reading2.lean ====
/- The reference's four gradients, element by element, in real numbers. -/
module

public import proofs.«01_k».proof.Proof.Gen.Reference2Ideal.Read
public import proofs.«01_k».proof.Proof.Gla.BackTerms
public import proofs.«01_k».proof.Proof.Gla.Reading3

@[expose] public section

set_option maxRecDepth 16384

noncomputable section

namespace Cert.Reference2Ideal.Gla

open Cert.Reference2Ideal Cert.Reference2Ideal.Gen Cert.Reference2Ideal.Read Cert.Gla Idealize.ShloMosaic Idealize.ShloMosaic.TcCoe Idealize.SL.Sem
open Cert.Reference3Ideal.Gla (zero_bits bottom_bits order_word)

variable {q k a : FVec Ideal S4096x512 .f32} {v d : FVec Ideal S4096x1024 .f32} {Q K A : Cols} {V G : Wide}

/- The forward lines, as the forward reference has them. -/

theorem query_at (hq : AllCols q Q) (n : Fin 64) (c : Fin 64) (h : Fin 4) (j : Fin 128) :
    (val_main_v3 (F := Ideal) q (ix5 n 0 c h j) : EReal) = ((Q n c h j * gain : ℝ) : EReal) := Cert.Reference3Ideal.Gla.query_at hq n c h j

theorem left_at (ha : AllCols a A) (n : Fin 64) (c : Fin 64) (h : Fin 4) (j : Fin 128) :
    (val_main_v14 (F := Ideal) a (ix5 n 0 c h j) : EReal) = ((left A n c h j : ℝ) : EReal) := Cert.Reference3Ideal.Gla.left_at ha n c h j

theorem key_at (hk : AllCols k K) (n : Fin 64) (c : Fin 64) (h : Fin 4) (j : Fin 128) :
    (val_main_v10 (F := Ideal) k (ix5 n 0 c h j) : EReal) = ((K n c h j : ℝ) : EReal) := Cert.Reference3Ideal.Gla.cols_at hk n 0 c h j

theorem kept_at (hk : AllCols k K) (ha : AllCols a A) (n : Fin 64) (c : Fin 64) (h : Fin 4) (j : Fin 128) :
    (val_main_v15 (F := Ideal) k a (ix5 n 0 c h j) : EReal) = ((kept A K n c h j : ℝ) : EReal) := Cert.Reference3Ideal.Gla.kept_at hk ha n c h j

theorem decay_at (ha : AllCols a A) (n m : Fin 64) (h : Fin 4) (j : Fin 128) :
    (val_main_v30 (F := Ideal) a (ix5 n m 0 h j) : EReal) = ((decay (tot A h j) n m : ℝ) : EReal) := Cert.Reference3Ideal.Gla.decay_at ha n m h j

theorem wide_at (hv : AllWide v V) (n : Fin 64) (c : Fin 64) (h : Fin 4) (w : Fin 256) :
    (val_main_v32 (F := Ideal) v (ix5 n 0 c h w) : EReal) = ((V n c h w : ℝ) : EReal) := Cert.Reference3Ideal.Gla.wide_at hv n 0 c h w

theorem added_at (hk : AllCols k K) (hv : AllWide v V) (ha : AllCols a A) (n : Fin 64) (h : Fin 4) (j : Fin 128) (w : Fin 256) :
    (val_main_v33 (F := Ideal) k v a (ix5 n 0 h j w) : EReal) = ((added A K V h j w n : ℝ) : EReal) := Cert.Reference3Ideal.Gla.added_at hk hv ha n h j w

theorem after_at (hk : AllCols k K) (hv : AllWide v V) (ha : AllCols a A) (n : Fin 64) (h : Fin 4) (j : Fin 128) (w : Fin 256) :
    (val_main_v35 (F := Ideal) k v a (ix5 n 0 h j w) : EReal) = ((stAfter A K V n h j w : ℝ) : EReal) := Cert.Reference3Ideal.Gla.after_at hk hv ha n h j w

/- The output's gradient, by chunks, and what it feeds into the states. -/

theorem outGrad_at (hd : AllWide d G) (n : Fin 64) (c : Fin 64) (h : Fin 4) (w : Fin 256) :
    (val_main_v42 (F := Ideal) d (ix5 n 0 h w c) : EReal) = ((G n c h w : ℝ) : EReal) := by
  rw [val_main_v42_apply]
  have e : idx_main_v42 (ix5 n 0 h w c) = ix5 n 0 c h w := funext fun d => by fin_cases d <;> rfl
  exact (congrArg (val_main_v41 (F := Ideal) d) e).trans (Cert.Reference3Ideal.Gla.wide_at hd n 0 c h w)

theorem fed_at (hq : AllCols q Q) (hd : AllWide d G) (n : Fin 64) (h : Fin 4) (j : Fin 128) (w : Fin 256) :
    (val_main_v47 (F := Ideal) q d (ix5 0 h j w n) : EReal) = ((fed Q G h j w n : ℝ) : EReal) := by
  rw [val_main_v47_apply, val_main_v46_apply]
  have e : idx_main_v46 (idx_main_v47 (ix5 0 h j w n)) = ix5 n 0 h w j := funext fun d => by fin_cases d <;> rfl
  rw [e, val_main_v45_apply]
  unfold fed
  rw [coe_sum]
  refine Finset.sum_congr rfl fun c _ => ?_
  have e1 : lidx_main_v45 (ix5 n 0 h w j) c = ix5 n 0 h w c := funext fun d => by fin_cases d <;> rfl
  have e2 : ridx_main_v45 (ix5 n 0 h w j) c = ix5 n 0 c h j := funext fun d => by fin_cases d <;> rfl
  rw [e1, e2, EReal.coe_mul]
  exact congrArg₂ (fun x y : EReal => x * y) (outGrad_at hd n c h w) (query_at hq n c h j)

theorem stGrad_at (hq : AllCols q Q) (ha : AllCols a A) (hd : AllWide d G) (m : Fin 64) (h : Fin 4) (j : Fin 128) (w : Fin 256) :
    (val_main_v51 (F := Ideal) q a d (ix5 m 0 h j w) : EReal) = ((stGrad Q A G m h j w : ℝ) : EReal) := by
  rw [val_main_v51_apply]
  have e : idx_main_v51 (ix5 m 0 h j w) = ix5 0 h j w m := funext fun d => by fin_cases d <;> rfl
  rw [e, val_main_v50_apply]
  unfold stGrad back
  rw [coe_sum]
  refine Finset.sum_congr rfl fun n _ => ?_
  have e1 : lidx_main_v50 (ix5 0 h j w m) n = ix5 0 h j w n := funext fun d => by fin_cases d <;> rfl
  have e2 : ridx_main_v50 (ix5 0 h j w m) n = ix5 n m 0 h j := funext fun d => by fin_cases d <;> rfl
  rw [e1, e2, EReal.coe_mul]
  exact congrArg₂ (fun x y : EReal => x * y) (fed_at hq hd n h j w) (decay_at ha n m h j)

theorem keptGrad_at (hq : AllCols q Q) (hv : AllWide v V) (ha : AllCols a A) (hd : AllWide d G) (n : Fin 64) (c : Fin 64) (h : Fin 4) (j : Fin 128) :
    (val_main_v55 (F := Ideal) q v a d (ix5 n 0 c h j) : EReal) = ((keptGrad Q A V G n c h j : ℝ) : EReal) := by
  rw [val_main_v55_apply]
  have e : idx_main_v55 (ix5 n 0 c h j) = ix5 n 0 h j c := funext fun d => by fin_cases d <;> rfl
  rw [e, val_main_v54_apply]
  unfold keptGrad
  rw [coe_sum]
  refine Finset.sum_congr rfl fun w _ => ?_
  have e1 : lidx_main_v54 (ix5 n 0 h j c) w = ix5 n 0 h j w := funext fun d => by fin_cases d <;> rfl
  have e2 : ridx_main_v54 (ix5 n 0 h j c) w = ix5 n 0 c h w := funext fun d => by fin_cases d <;> rfl
  rw [e1, e2, mul_comm (V n c h w), EReal.coe_mul]
  exact congrArg₂ (fun x y : EReal => x * y) (stGrad_at hq ha hd n h j w) (wide_at hv n c h w)

/- An array's rows from its chunks. -/

theorem cols_index (n c : Fin 64) (h : Fin 4) (j : Fin 128) : idx_main_v90 (idx_main_v91 (ix2 (grow n c) (col h j))) = ix5 n 0 c h j :=
  funext fun d => Fin.ext (by
    fin_cases d
    · show ((64 * n.val + c.val) * 512 + (128 * h.val + j.val)) / 32768 % 64 = n.val
      omega
    · rfl
    · show ((64 * n.val + c.val) * 512 + (128 * h.val + j.val)) / 512 % 64 = c.val
      omega
    · show ((64 * n.val + c.val) * 512 + (128 * h.val + j.val)) / 128 % 4 = h.val
      omega
    · show ((64 * n.val + c.val) * 512 + (128 * h.val + j.val)) % 128 = j.val
      omega)

theorem wide_index (n c : Fin 64) (h : Fin 4) (w : Fin 256) : idx_main_v53 (idx_main_v56 (idx_main_v57 (ix2 (grow n c) (wcol h w)))) = ix5 n 0 h w c :=
  funext fun d => Fin.ext (by
    fin_cases d
    · show ((64 * n.val + c.val) * 1024 + (256 * h.val + w.val)) / 65536 % 64 = n.val
      omega
    · rfl
    · show ((64 * n.val + c.val) * 1024 + (256 * h.val + w.val)) / 256 % 4 = h.val
      omega
    · show ((64 * n.val + c.val) * 1024 + (256 * h.val + w.val)) % 256 = w.val
      omega
    · show ((64 * n.val + c.val) * 1024 + (256 * h.val + w.val)) / 1024 % 64 = c.val
      omega)

/-- The gradient of the queries. -/
theorem gradQ_eq (hk : AllCols k K) (hv : AllWide v V) (ha : AllCols a A) (hd : AllWide d G) :
    val_main_v91 (F := Ideal) k v a d = colsArr (gradQ A K V G) := eq_colsArr fun n c h j => by
  rw [val_main_v91_apply, val_main_v90_apply, cols_index, val_main_v89_apply]
  have e : idx_main_v44 (ix5 n 0 c h j) = ix5 n 0 h c j := funext fun d => by fin_cases d <;> rfl
  have h1 : (val_main_v44 (F := Ideal) k v a d (ix5 n 0 c h j) : EReal) = ((∑ w, G n c h w * stAfter A K V n h j w : ℝ) : EReal) := by
    rw [val_main_v44_apply, e, val_main_v43_apply, coe_sum]
    refine Finset.sum_congr rfl fun w _ => ?_
    have e1 : lidx_main_v43 (ix5 n 0 h c j) w = ix5 n 0 h w c := funext fun d => by fin_cases d <;> rfl
    have e2 : ridx_main_v43 (ix5 n 0 h c j) w = ix5 n 0 h j w := funext fun d => by fin_cases d <;> rfl
    rw [e1, e2, EReal.coe_mul]
    exact congrArg₂ (fun x y : EReal => x * y) (outGrad_at hd n c h w) (after_at hk hv ha n h j w)
  show (val_main_v44 (F := Ideal) k v a d (ix5 n 0 c h j) : EReal) * Ideal.ofBits .f32 0x3DB504F3#32 = _
  rw [h1, gain_eq, ← EReal.coe_mul]
  rfl

/-- The gradient of the keys. -/
theorem gradK_eq (hq : AllCols q Q) (hv : AllWide v V) (ha : AllCols a A) (hd : AllWide d G) :
    val_main_v81 (F := Ideal) q v a d = colsArr (gradK Q A V G) := eq_colsArr fun n c h j => by
  rw [val_main_v81_apply, val_main_v80_apply]
  refine (congrArg (val_main_v72 (F := Ideal) q v a d) (cols_index n c h j)).trans ?_
  rw [val_main_v72_apply]
  show (val_main_v55 (F := Ideal) q v a d (ix5 n 0 c h j) : EReal) * (val_main_v14 (F := Ideal) a (ix5 n 0 c h j) : EReal) = _
  rw [keptGrad_at hq hv ha hd, left_at ha, ← EReal.coe_mul]
  rfl

/-- The gradient of the values. -/
theorem gradV_eq (hq : AllCols q Q) (hk : AllCols k K) (ha : AllCols a A) (hd : AllWide d G) :
    val_main_v57 (F := Ideal) q k a d = wideArr (gradV Q A K G) := eq_wideArr fun n c h w => by
  rw [val_main_v57_apply, val_main_v56_apply, val_main_v53_apply, wide_index, val_main_v52_apply]
  unfold gradV
  rw [coe_sum]
  refine Finset.sum_congr rfl fun j _ => ?_
  have e1 : lidx_main_v52 (ix5 n 0 h w c) j = ix5 n 0 h j w := funext fun d => by fin_cases d <;> rfl
  have e2 : ridx_main_v52 (ix5 n 0 h w c) j = ix5 n 0 c h j := funext fun d => by fin_cases d <;> rfl
  rw [e1, e2, mul_comm (kept A K n c h j), EReal.coe_mul]
  exact congrArg₂ (fun x y : EReal => x * y) (stGrad_at hq ha hd n h j w) (kept_at hk ha n c h j)

end Cert.Reference2Ideal.Gla

end
-- ==== Proof.Gla.DecayReading.lean ====
/- The reference's gradient of the log decays, element by element, in real numbers. -/
module

public import proofs.«01_k».proof.Proof.Gla.Reading2

@[expose] public section

set_option maxRecDepth 16384

noncomputable section

namespace Cert.Reference2Ideal.Gla

open Cert.Reference2Ideal Cert.Reference2Ideal.Gen Cert.Reference2Ideal.Read Cert.Gla Idealize.ShloMosaic Idealize.ShloMosaic.TcCoe Idealize.SL.Sem
open Cert.Reference3Ideal.Gla (zero_bits bottom_bits order_word)

/- Sums over two axes of extent one keep each element. -/

theorem drop12 (x : FVec Ideal S64x1x1x4x128 .f32) (init : FVec Ideal S_ .f32) (hi : ∀ i, init i = (0 : EReal)) (n : Fin 64) (h : Fin 4) (j : Fin 128) :
    (Host.reduceAdd (F := Ideal) x init reducesTo_S64x1x1x4x128_S64x4x128_d1_2 h_S_ (ix3 n h j) : EReal) = x (ix5 n 0 0 h j) := by
  have hf : ∀ i : S64x1x1x4x128.Idx, reducesTo_S64x1x1x4x128_S64x4x128_d1_2.drop i = ix3 n h j ↔ i = ix5 n 0 0 h j := by
    intro i
    constructor
    · intro e
      funext b; apply Fin.ext
      match b with
      | ⟨0, _⟩ => exact congrArg Fin.val (congrFun e 0)
      | ⟨1, hb⟩ => exact Nat.lt_one_iff.mp (i ⟨1, hb⟩).isLt
      | ⟨2, hb⟩ => exact Nat.lt_one_iff.mp (i ⟨2, hb⟩).isLt
      | ⟨3, _⟩ => exact congrArg Fin.val (congrFun e 1)
      | ⟨4, _⟩ => exact congrArg Fin.val (congrFun e 2)
    · rintro rfl
      funext b; apply Fin.ext
      match b with
      | ⟨0, _⟩ => rfl
      | ⟨1, _⟩ => rfl
      | ⟨2, _⟩ => rfl
  show (init _ : EReal) + ∑ i ∈ Finset.univ.filter (fun i => reducesTo_S64x1x1x4x128_S64x4x128_d1_2.drop i = ix3 n h j), (x i : EReal) = _
  rw [hi, zero_add, Finset.filter_congr (fun i _ => hf i), Finset.filter_eq' Finset.univ (ix5 n 0 0 h j), if_pos (Finset.mem_univ _), Finset.sum_singleton]

theorem drop02 (x : FVec Ideal S1x64x1x4x128 .f32) (init : FVec Ideal S_ .f32) (hi : ∀ i, init i = (0 : EReal)) (n : Fin 64) (h : Fin 4) (j : Fin 128) :
    (Host.reduceAdd (F := Ideal) x init reducesTo_S1x64x1x4x128_S64x4x128_d0_2 h_S_ (ix3 n h j) : EReal) = x (ix5 0 n 0 h j) := by
  have hf : ∀ i : S1x64x1x4x128.Idx, reducesTo_S1x64x1x4x128_S64x4x128_d0_2.drop i = ix3 n h j ↔ i = ix5 0 n 0 h j := by
    intro i
    constructor
    · intro e
      funext b; apply Fin.ext
      match b with
      | ⟨0, hb⟩ => exact Nat.lt_one_iff.mp (i ⟨0, hb⟩).isLt
      | ⟨1, _⟩ => exact congrArg Fin.val (congrFun e 0)
      | ⟨2, hb⟩ => exact Nat.lt_one_iff.mp (i ⟨2, hb⟩).isLt
      | ⟨3, _⟩ => exact congrArg Fin.val (congrFun e 1)
      | ⟨4, _⟩ => exact congrArg Fin.val (congrFun e 2)
    · rintro rfl
      funext b; apply Fin.ext
      match b with
      | ⟨0, _⟩ => rfl
      | ⟨1, _⟩ => rfl
      | ⟨2, _⟩ => rfl
  show (init _ : EReal) + ∑ i ∈ Finset.univ.filter (fun i => reducesTo_S1x64x1x4x128_S64x4x128_d0_2.drop i = ix3 n h j), (x i : EReal) = _
  rw [hi, zero_add, Finset.filter_congr (fun i _ => hf i), Finset.filter_eq' Finset.univ (ix5 0 n 0 h j), if_pos (Finset.mem_univ _), Finset.sum_singleton]

variable {q k a : FVec Ideal S4096x512 .f32} {v d : FVec Ideal S4096x1024 .f32} {Q K A : Cols} {V G : Wide}

/-- The gradient of the log of what remains of one chunk at the end of another. -/
def pairGrad (Q A K : Cols) (V G : Wide) (h : Fin 4) (j : Fin 128) (n m : Fin 64) : ℝ :=
  if m ≤ n then (∑ w, fed Q G h j w n * added A K V h j w m) * decay (tot A h j) n m else 0

/-- The rows from one on: less their own parts, with the last row's share of the whole, leave the rows before. -/
theorem rest_sum (x : Fin 64 → ℝ) (T : ℝ) (c : Fin 64) :
    (∑ c', if c ≤ c' then -x c' + (if c'.val = 63 then T + ∑ i, x i else 0) else 0) = T + ∑ c', if c' < c then x c' else 0 := by
  have e : ∀ c' : Fin 64, (if c ≤ c' then -x c' + (if c'.val = 63 then T + ∑ i, x i else 0) else 0)
      = (if c' < c then x c' else 0) - x c' + if c' = 63 then T + ∑ i, x i else 0 := by
    intro c'
    have h63 : c' = 63 ↔ c'.val = 63 := ⟨fun h => by rw [h]; rfl, fun h => Fin.ext h⟩
    simp only [h63]
    by_cases h1 : c ≤ c'
    · rw [if_pos h1, if_neg (not_lt.mpr h1)]; ring
    · rw [if_neg h1, if_pos (not_le.mp h1), if_neg (by rw [Fin.le_def] at h1; omega)]; ring
  rw [Finset.sum_congr rfl fun c' _ => e c', Finset.sum_add_distrib, Finset.sum_sub_distrib, Finset.sum_ite_eq' Finset.univ (63 : Fin 64), if_pos (Finset.mem_univ _)]
  ring

section Stages

variable (hq : AllCols q Q) (hk : AllCols k K) (hv : AllWide v V) (ha : AllCols a A) (hd : AllWide d G)
include hq hk hv ha hd

theorem pairs_at (n m : Fin 64) (h : Fin 4) (j : Fin 128) :
    (val_main_v59 (F := Ideal) q k v a d (ix5 n m 0 h j) : EReal) = ((pairGrad Q A K V G h j n m : ℝ) : EReal) := by
  have e : idx_main_v49 (ix5 n m 0 h j) = ix5 0 h j n m := funext fun d => by fin_cases d <;> rfl
  have h1 : (val_main_v49 (F := Ideal) q k v a d (ix5 n m 0 h j) : EReal) = ((∑ w, fed Q G h j w n * added A K V h j w m : ℝ) : EReal) := by
    rw [val_main_v49_apply, e, val_main_v48_apply, coe_sum]
    refine Finset.sum_congr rfl fun w _ => ?_
    have e1 : lidx_main_v48 (ix5 0 h j n m) w = ix5 0 h j w n := funext fun d => by fin_cases d <;> rfl
    have e2 : ridx_main_v48 (ix5 0 h j n m) w = ix5 m 0 h j w := funext fun d => by fin_cases d <;> rfl
    rw [e1, e2, EReal.coe_mul]
    exact congrArg₂ (fun x y : EReal => x * y) (fed_at hq hd n h j w) (added_at hk hv ha m h j w)
  rw [val_main_v59_apply, val_main_v58_apply, val_main_v29_1_apply, val_main_v23_apply, val_main_v22_apply, val_main_v20_apply, val_main_v18_apply, val_main_v17_apply,
    val_main_v21_apply, val_main_v19_apply, val_main_v17_apply, val_main_call3_v0_apply]
  show Scalar.select (IntOp.cmpi .sle (BitVec.ofNat 32 m.val) (BitVec.ofNat 32 n.val))
    ((val_main_v49 (F := Ideal) q k v a d (ix5 n m 0 h j) : EReal) * (val_main_v30 (F := Ideal) a (ix5 n m 0 h j) : EReal)) (Ideal.ofBits .f32 0x00000000#32) = _
  rw [h1, decay_at ha, order_word, zero_bits, ← EReal.coe_mul]
  unfold pairGrad
  by_cases hmn : m ≤ n
  · rw [if_pos hmn, if_pos hmn]
    rfl
  · rw [if_neg hmn, if_neg hmn]
    rfl

/-- A row's sum. -/
theorem rowSum_at (n : Fin 64) (h : Fin 4) (j : Fin 128) :
    (val_main_v61 (F := Ideal) q k v a d (ix5 n 0 0 h j) : EReal) = ((∑ m, pairGrad Q A K V G h j n m : ℝ) : EReal) := by
  rw [val_main_v61_apply]
  have e : idx_main_v61 (ix5 n 0 0 h j) = ix4 n 0 h j := funext fun d => Fin.ext (by
    fin_cases d
    · show ((((n.val * 1 + 0) * 1 + 0) * 4 + h.val) * 128 + j.val) / 512 = n.val
      omega
    · rfl
    · show ((((n.val * 1 + 0) * 1 + 0) * 4 + h.val) * 128 + j.val) / 128 % 4 = h.val
      omega
    · show ((((n.val * 1 + 0) * 1 + 0) * 4 + h.val) * 128 + j.val) % 128 = j.val
      omega)
  rw [e, val_main_v60_apply]
  show (Ideal.ofBits .f32 0x00000000#32 : EReal) + ∑ m : Fin 64, (val_main_v59 (F := Ideal) q k v a d (idx_main_v60 (ix4 n 0 h j) m) : EReal) = _
  rw [zero_bits, zero_add, coe_sum]
  refine Finset.sum_congr rfl fun m _ => ?_
  have e1 : idx_main_v60 (ix4 n 0 h j) m = ix5 n m 0 h j := funext fun d => by fin_cases d <;> rfl
  rw [e1]
  exact pairs_at hq hk hv ha hd n m h j

/-- A column's sum, negated. -/
theorem colSum_at (m : Fin 64) (h : Fin 4) (j : Fin 128) :
    (val_main_v64 (F := Ideal) q k v a d (ix5 0 m 0 h j) : EReal) = ((∑ n, -pairGrad Q A K V G h j n m : ℝ) : EReal) := by
  rw [val_main_v64_apply]
  have e : idx_main_v64 (ix5 0 m 0 h j) = ix4 m 0 h j := funext fun d => Fin.ext (by
    fin_cases d
    · show ((((0 * 64 + m.val) * 1 + 0) * 4 + h.val) * 128 + j.val) / 512 = m.val
      omega
    · rfl
    · show ((((0 * 64 + m.val) * 1 + 0) * 4 + h.val) * 128 + j.val) / 128 % 4 = h.val
      omega
    · show ((((0 * 64 + m.val) * 1 + 0) * 4 + h.val) * 128 + j.val) % 128 = j.val
      omega)
  rw [e, val_main_v63_apply]
  show (Ideal.ofBits .f32 0x00000000#32 : EReal) + ∑ n : Fin 64, (-(val_main_v59 (F := Ideal) q k v a d (idx_main_v63 (ix4 m 0 h j) n)) : EReal) = _
  rw [zero_bits, zero_add, coe_sum]
  refine Finset.sum_congr rfl fun n _ => ?_
  have e1 : idx_main_v63 (ix4 m 0 h j) n = ix5 n m 0 h j := funext fun d => by fin_cases d <;> rfl
  rw [e1, pairs_at hq hk hv ha hd n m h j, EReal.coe_neg]

theorem totGrad_at (n : Fin 64) (h : Fin 4) (j : Fin 128) :
    (val_main_v69 (F := Ideal) q k v a d (ix4 n 0 h j) : EReal) = (((∑ l, -pairGrad Q A K V G h j l n) + ∑ m, pairGrad Q A K V G h j n m : ℝ) : EReal) := by
  rw [val_main_v69_apply, val_main_v66_apply, val_main_v68_apply]
  have e1 : idx_main_v66 (ix4 n 0 h j) = ix3 n h j := funext fun d => by fin_cases d <;> rfl
  have e2 : idx_main_v68 (ix4 n 0 h j) = ix3 n h j := funext fun d => by fin_cases d <;> rfl
  rw [e1, e2]
  show (val_main_v65 (F := Ideal) q k v a d (ix3 n h j) : EReal) + (val_main_v67 (F := Ideal) q k v a d (ix3 n h j) : EReal) = _
  rw [EReal.coe_add]
  refine congrArg₂ (fun x y : EReal => x + y) ?_ ?_
  · exact (drop02 _ (val_main_cst_3 (F := Ideal)) (fun i => zero_bits) n h j).trans (colSum_at hq hk hv ha hd n h j)
  · exact (drop12 _ (val_main_cst_4 (F := Ideal)) (fun i => zero_bits) n h j).trans (rowSum_at hq hk hv ha hd n h j)

/-- The gradient of a chunk's whole log decay through the states. -/
theorem through_at (n : Fin 64) (h : Fin 4) (j : Fin 128) :
    (val_main_v70 (F := Ideal) q k v a d (ix4 n 0 h j) : EReal)
      = ((Real.exp (tot A h j n) * ∑ w, stGrad Q A G n h j w * stBefore A K V n h j w : ℝ) : EReal) := by
  unfold val_main_v70
  refine (restTots (val_main_v69 (F := Ideal) q k v a d) (val_main_call4_call0_v0 (F := Ideal)) _ _ (fun i => ?_) n 0 h j).trans ?_
  · exact zero_bits
  · simp only [totGrad_at hq hk hv ha hd]
    refine Eq.trans ?_ (congrArg (fun r : ℝ => (r : EReal)) (decay_gradient (tot A h j) (fed Q G h j) (added A K V h j) n))
    rw [coe_sum]
    refine Finset.sum_congr rfl fun l _ => ?_
    rw [coe_ite]
    rfl

/-- A row's gradient through the log decays left to it. -/
theorem own_at (n c : Fin 64) (h : Fin 4) (j : Fin 128) :
    (val_main_v73 (F := Ideal) q k v a d (ix5 n 0 c h j) : EReal) = ((keptGrad Q A V G n c h j * kept A K n c h j : ℝ) : EReal) := by
  rw [val_main_v73_apply, val_main_v71_apply]
  show ((val_main_v10 (F := Ideal) k (ix5 n 0 c h j) : EReal) * (val_main_v55 (F := Ideal) q v a d (ix5 n 0 c h j) : EReal)) * (val_main_v14 (F := Ideal) a (ix5 n 0 c h j) : EReal) = _
  rw [key_at hk, keptGrad_at hq hv ha hd, left_at ha, ← EReal.coe_mul, ← EReal.coe_mul, kept]
  congr 1
  ring

theorem ownSum_at (n : Fin 64) (h : Fin 4) (j : Fin 128) :
    (val_main_v75 (F := Ideal) q k v a d (ix5 n 0 0 h j) : EReal) = ((∑ c, keptGrad Q A V G n c h j * kept A K n c h j : ℝ) : EReal) := by
  rw [val_main_v75_apply]
  have e : idx_main_v75 (ix5 n 0 0 h j) = ix4 n 0 h j := funext fun d => Fin.ext (by
    fin_cases d
    · show ((((n.val * 1 + 0) * 1 + 0) * 4 + h.val) * 128 + j.val) / 512 = n.val
      omega
    · rfl
    · show ((((n.val * 1 + 0) * 1 + 0) * 4 + h.val) * 128 + j.val) / 128 % 4 = h.val
      omega
    · show ((((n.val * 1 + 0) * 1 + 0) * 4 + h.val) * 128 + j.val) % 128 = j.val
      omega)
  rw [e, val_main_v74_apply]
  show (Ideal.ofBits .f32 0x00000000#32 : EReal) + ∑ c : Fin 64, (val_main_v73 (F := Ideal) q k v a d (idx_main_v74 (ix4 n 0 h j) c) : EReal) = _
  rw [zero_bits, zero_add, coe_sum]
  refine Finset.sum_congr rfl fun c _ => ?_
  have e1 : idx_main_v74 (ix4 n 0 h j) c = ix5 n 0 c h j := funext fun d => by fin_cases d <;> rfl
  rw [e1]
  exact own_at hq hk hv ha hd n c h j

/-- What the last row of a chunk receives for the whole chunk. -/
theorem lastRow_at (n : Fin 64) (h : Fin 4) (j : Fin 128) :
    (val_main_v82 (F := Ideal) q k v a d (ix5 n 0 0 h j) : EReal)
      = ((Real.exp (tot A h j n) * (∑ w, stGrad Q A G n h j w * stBefore A K V n h j w) + ∑ c, keptGrad Q A V G n c h j * kept A K n c h j : ℝ) : EReal) := by
  rw [val_main_v82_apply]
  have e : idx_main_v82 (ix5 n 0 0 h j) = ix4 n 0 h j := funext fun d => by fin_cases d <;> rfl
  have e1 : idx_main_v78 (ix4 n 0 h j) = ix3 n h j := funext fun d => by fin_cases d <;> rfl
  rw [e, val_main_v79_apply, val_main_v78_apply, e1]
  show (val_main_v70 (F := Ideal) q k v a d (ix4 n 0 h j) : EReal) + (val_main_v77 (F := Ideal) q k v a d (ix3 n h j) : EReal) = _
  rw [EReal.coe_add]
  refine congrArg₂ (fun x y : EReal => x + y) (through_at hq hk hv ha hd n h j) ?_
  exact (drop12 _ (val_main_cst_6 (F := Ideal)) (fun i => zero_bits) n h j).trans (ownSum_at hq hk hv ha hd n h j)

theorem padded_at (n c : Fin 64) (h : Fin 4) (j : Fin 128) :
    (val_main_v83 (F := Ideal) q k v a d (ix5 n 0 c h j) : EReal)
      = ((if c.val = 63 then Real.exp (tot A h j n) * (∑ w, stGrad Q A G n h j w * stBefore A K V n h j w) + ∑ c, keptGrad Q A V G n c h j * kept A K n c h j else 0 : ℝ) : EReal) := by
  unfold val_main_v83
  pointwise
  by_cases hc : c.val = 63
  · rw [if_pos hc]
    rw [dif_pos (by omega)]
    refine Eq.trans ?_ (lastRow_at hq hk hv ha hd n h j)
    refine congrArg (val_main_v82 (F := Ideal) q k v a d) (funext fun b => Fin.ext ?_)
    fin_cases b
    · rfl
    · rfl
    · show c.val - 63 = 0
      omega
    · rfl
    · rfl
  · rw [if_neg hc]
    rw [dif_neg (by omega)]
    exact zero_bits

/-- The gradient of the log decays. -/
theorem gradA_eq : val_main_v87 (F := Ideal) q k v a d = colsArr (gradA Q A K V G) := eq_colsArr fun n c h j => by
  rw [val_main_v87_apply, val_main_v86_apply]
  refine (congrArg (val_main_v85 (F := Ideal) q k v a d) (cols_index n c h j)).trans ?_
  unfold val_main_v85
  refine (restRows (val_main_v84 (F := Ideal) q k v a d) (val_main_call5_call0_v0 (F := Ideal)) _ _ (fun i => ?_) n 0 c h j).trans ?_
  · exact zero_bits
  have h84 : ∀ c' : Fin 64, (val_main_v84 (F := Ideal) q k v a d (ix5 n 0 c' h j) : EReal)
      = ((-(keptGrad Q A V G n c' h j * kept A K n c' h j)
        + (if c'.val = 63 then Real.exp (tot A h j n) * (∑ w, stGrad Q A G n h j w * stBefore A K V n h j w) + ∑ c, keptGrad Q A V G n c h j * kept A K n c h j else 0) : ℝ) : EReal) := by
    intro c'
    rw [val_main_v84_apply, val_main_v76_apply]
    show -(val_main_v73 (F := Ideal) q k v a d (ix5 n 0 c' h j) : EReal) + (val_main_v83 (F := Ideal) q k v a d (ix5 n 0 c' h j) : EReal) = _
    rw [own_at hq hk hv ha hd, padded_at hq hk hv ha hd, EReal.coe_add, EReal.coe_neg]
  simp only [h84]
  refine Eq.trans ?_ (congrArg (fun r : ℝ => (r : EReal)) (rest_sum (fun c' => keptGrad Q A V G n c' h j * kept A K n c' h j)
    (Real.exp (tot A h j n) * (∑ w, stGrad Q A G n h j w * stBefore A K V n h j w)) c))
  rw [coe_sum]
  exact Finset.sum_congr rfl fun c' _ => (coe_ite _ _).symm

end Stages

end Cert.Reference2Ideal.Gla

end
-- ==== Proof.Gla.Step3.lean ====
/- The forward call, one chunk of one head: what the body computes from the tiles it loads, in real numbers. -/
module

public import proofs.«01_k».proof.Proof.Gen.Kernel3Ideal.Skeleton
public import proofs.«01_k».proof.Proof.Gla.Terms
public import Idealize.ShloMosaic.Lib.Pipeline.ValueKit

@[expose] public section

set_option maxRecDepth 16384

noncomputable section

namespace Cert.Kernel3Ideal.Gla

open Cert.Kernel3Ideal Cert.Kernel3Ideal.Gen Cert.Gla Idealize.ShloMosaic Idealize.ShloMosaic.TcCoe Idealize.SL.Sem

theorem lower_word (r c : Fin 64) :
    (FloatOps.sitofp (F := Ideal) FTy.f32 (BitVec.setWidth 32 (IntOp.cmpi CmpIPredicate.sge (BitVec.ofNat 32 r.val) (BitVec.ofNat 32 c.val))) : EReal) = if c ≤ r then ((1 : ℝ) : EReal) else 0 := by
  have hw : ∀ r c : Fin 64, BitVec.setWidth 32 (IntOp.cmpi CmpIPredicate.sge (BitVec.ofNat 32 r.val) (BitVec.ofNat 32 c.val)) = if c ≤ r then 1#32 else 0#32 := by decide +kernel
  rw [hw]
  split_ifs
  · show (((1#32 : BitVec 32).toInt : ℝ) : EReal) = _
    norm_num
  · show (((0#32 : BitVec 32).toInt : ℝ) : EReal) = _
    norm_num

/-- The matrix that sums the rows up to each row. -/
theorem lower_apply (r c : Fin 64) : (k0_pay4 (F := Ideal) (ix2 r c) : EReal) = if c ≤ r then ((1 : ℝ) : EReal) else 0 := by
  pointwise [k0_pay4]
  exact lower_word r c

variable {A K Q : Cols} {V : Wide} {n : Fin 64} {h : Fin 4}

/-- The state after the chunk. -/
theorem after_val (la k : Vec Ideal S64x128 .f32) (s : Vec Ideal S1x256x128 .f32) (v : Vec Ideal S64x256 .f32)
    (hla : ∀ c a, (la (ix2 c a) : EReal) = ((A n c h a : ℝ) : EReal)) (hk : ∀ c a, (k (ix2 c a) : EReal) = ((K n c h a : ℝ) : EReal))
    (hv : ∀ c b, (v (ix2 c b) : EReal) = ((V n c h b : ℝ) : EReal)) (hs : ∀ b a, (s (ix3 0 b a) : EReal) = ((stBefore A K V n h a b : ℝ) : EReal))
    (b : Fin 256) (a : Fin 128) : (k0_pay6 la k s v (ix2 b a) : EReal) = ((stAfter A K V n h a b : ℝ) : EReal) := by
  have ecum : ∀ c : Fin 64, (∑ x, (k0_pay4 (F := Ideal) (ix2 c x) : EReal) * la (ix2 x a)) = ((cum A n c h a : ℝ) : EReal) := by
    intro c
    rw [cum, coe_sum]
    refine Finset.sum_congr rfl fun x _ => ?_
    rw [lower_apply, hla, coe_ite]
    split_ifs
    · rw [EReal.coe_one, one_mul]
    · rw [zero_mul]
  have etot : (∑ x, (la (ix2 x a) : EReal)) = ((tot A h a n : ℝ) : EReal) := by
    rw [tot, coe_sum]
    exact Finset.sum_congr rfl fun x _ => hla x a
  pointwise [k0_pay6]
  rw [stAfter_eq, EReal.coe_add, EReal.coe_mul, hs, etot, exp_coe, added, coe_sum]
  congr 1
  refine Finset.sum_congr rfl fun c _ => ?_
  rw [ecum, hv, hk, ← EReal.coe_sub, exp_coe, kept, left, mul_comm (_ * _ : ℝ), EReal.coe_mul, EReal.coe_mul]

/-- The output of the chunk. -/
theorem out_val (s : FVec Ideal S256x128 .f32) (q : Vec Ideal S64x128 .f32)
    (hq : ∀ c a, (q (ix2 c a) : EReal) = ((Q n c h a : ℝ) : EReal)) (hs : ∀ b a, (s (ix2 b a) : EReal) = ((stAfter A K V n h a b : ℝ) : EReal))
    (c : Fin 64) (b : Fin 256) : (k0_pay8 s q (ix2 c b) : EReal) = ((out Q A K V n c h b : ℝ) : EReal) := by
  pointwise [k0_pay8]
  rw [out, coe_sum]
  refine Finset.sum_congr rfl fun x _ => ?_
  rw [hq, hs, EReal.coe_mul, EReal.coe_mul, ← gain_eq]

theorem pay7_val (s : FVec Ideal S256x128 .f32) (b : Fin 256) (a : Fin 128) : k0_pay7 s (ix3 0 b a) = s (ix2 b a) := by
  pointwise [k0_pay7]

theorem pay5_val (s : Vec Ideal S1x256x128 .f32) (b : Fin 256) (a : Fin 128) : k0_pay5 s (ix4 0 0 b a) = s (ix3 0 b a) := by
  pointwise [k0_pay5]

/-- What the first point stores in the carried state. -/
theorem fill_val (y : S4x256x128.Idx) : (k0_pay3 (F := Ideal) y : EReal) = 0 := by
  show Ideal.ofBits .f32 0#32 = 0
  simp [Ideal.ofBits, Ideal.ieee]

end Cert.Kernel3Ideal.Gla
-- ==== Proof.Gla.First3.lean ====
/- The forward call at a first point: what its body leaves in the output's block, in the states' block and in the carried state. -/
module

public import proofs.«01_k».proof.Proof.Gen.Kernel3Ideal.Frame
public import proofs.«01_k».proof.Proof.Gla.Step3
public import proofs.«01_k».proof.Proof.Gla.Tiles

@[expose] public section

set_option maxRecDepth 16384
set_option maxHeartbeats 1600000

noncomputable section

namespace Cert.Kernel3Ideal.Gla.First

open Cert.Kernel3Ideal Cert.Kernel3Ideal.Gen Cert.Kernel3Ideal.Gla Cert.Gla Idealize.ShloMosaic Idealize.ShloMosaic.TcCoe Idealize.SL.Sem

variable {c : Dev nD} {i : grid0.Coords} {arg1 : Memref sig .tc .vmem S256x512 .f32} {harg1 : arg1.IsWhole} {arg2 : Memref sig .tc .vmem S256x512 .f32} {harg2 : arg2.IsWhole} {arg3 : Memref sig .tc .vmem S256x1024 .f32} {harg3 : arg3.IsWhole} {arg4 : Memref sig .tc .vmem S256x512 .f32} {harg4 : arg4.IsWhole} {arg5 : Memref sig .tc .vmem S256x1024 .f32} {harg5 : arg5.IsWhole} {arg6 : Memref sig .tc .vmem S4x4x256x128 .f32} {harg6 : arg6.IsWhole} {arg7 : Memref sig .tc .vmem S4x256x128 .f32} {harg7 : arg7.IsWhole}
  {x0 : Vec Ideal S256x512 .f32} {x1 : Vec Ideal S256x512 .f32} {x2 : Vec Ideal S256x1024 .f32} {x3 : Vec Ideal S256x512 .f32}

variable {A K Q : Cols} {W : Wide} {N : Fin 4 → Fin 64}
  (hN : ∀ t : Fin 3, (N t.succ).val = (N t.castSucc).val + 1) (ha : IsCols x3 A N) (hk : IsCols x1 K N) (hv : IsWide x2 W N) (hz : (N 0).val = 0)
include hN ha hk hv hz

theorem before_0_0 : ∀ b a, ((kernelRun0_A.sl.v19 (F := Ideal) c arg7) (ix3 (0 : Fin 1) b a) : EReal) = ((stBefore A K W (N 0) 0 a b : ℝ) : EReal) := by
  intro b a
  rw [stBefore_first _ _ _ _ hz, EReal.coe_zero]
  exact (read_fresh arg7.view inb_S4x256x128_S1x256x128_0_0_0 _ _ _ fill_val _ b a)

theorem after_0_0 : ∀ b a, (k0_pay6 (F := Ideal) (tile arg4 harg4 x3 ![0, 0] S64x128.size inb_S256x512_S64x128_0_0) (tile arg2 harg2 x1 ![0, 0] S64x128.size inb_S256x512_S64x128_0_0) (kernelRun0_A.sl.v19 (F := Ideal) c arg7) (tile arg3 harg3 x2 ![0, 0] S64x256.size inb_S256x1024_S64x256_0_0) (ix2 b a) : EReal) = ((stAfter A K W (N 0) 0 a b : ℝ) : EReal) :=
  after_val _ _ _ _ (load_cols ha 0 0 _ rfl) (load_cols hk 0 0 _ rfl) (load_wide hv 0 0 _ rfl) (before_0_0 hN ha hk hv hz)

theorem before_0_1 : ∀ b a, ((kernelRun0_A.sl.v56 (F := Ideal) c arg2 harg2 arg3 harg3 arg4 harg4 arg7 x1 x2 x3) (ix3 (0 : Fin 1) b a) : EReal) = ((stBefore A K W (N 0) 1 a b : ℝ) : EReal) := by
  intro b a
  rw [stBefore_first _ _ _ _ hz, EReal.coe_zero]
  exact ((read_skip arg7.view (h := 1) (h1 := 0) (by decide) (by decide) inb_S4x256x128_S1x256x128_1_0_0 inb_S4x256x128_S1x256x128_0_0_0 _ _ b a).trans (read_fresh arg7.view inb_S4x256x128_S1x256x128_1_0_0 _ _ _ fill_val _ b a))

theorem after_0_1 : ∀ b a, (k0_pay6 (F := Ideal) (tile arg4 harg4 x3 ![0, 128] S64x128.size inb_S256x512_S64x128_0_128) (tile arg2 harg2 x1 ![0, 128] S64x128.size inb_S256x512_S64x128_0_128) (kernelRun0_A.sl.v56 (F := Ideal) c arg2 harg2 arg3 harg3 arg4 harg4 arg7 x1 x2 x3) (tile arg3 harg3 x2 ![0, 256] S64x256.size inb_S256x1024_S64x256_0_256) (ix2 b a) : EReal) = ((stAfter A K W (N 0) 1 a b : ℝ) : EReal) :=
  after_val _ _ _ _ (load_cols ha 0 1 _ rfl) (load_cols hk 0 1 _ rfl) (load_wide hv 0 1 _ rfl) (before_0_1 hN ha hk hv hz)

theorem before_0_2 : ∀ b a, ((kernelRun0_A.sl.v93 (F := Ideal) c arg2 harg2 arg3 harg3 arg4 harg4 arg7 x1 x2 x3) (ix3 (0 : Fin 1) b a) : EReal) = ((stBefore A K W (N 0) 2 a b : ℝ) : EReal) := by
  intro b a
  rw [stBefore_first _ _ _ _ hz, EReal.coe_zero]
  exact ((read_skip arg7.view (h := 2) (h1 := 1) (by decide) (by decide) inb_S4x256x128_S1x256x128_2_0_0 inb_S4x256x128_S1x256x128_1_0_0 _ _ b a).trans ((read_skip arg7.view (h := 2) (h1 := 0) (by decide) (by decide) inb_S4x256x128_S1x256x128_2_0_0 inb_S4x256x128_S1x256x128_0_0_0 _ _ b a).trans (read_fresh arg7.view inb_S4x256x128_S1x256x128_2_0_0 _ _ _ fill_val _ b a)))

theorem after_0_2 : ∀ b a, (k0_pay6 (F := Ideal) (tile arg4 harg4 x3 ![0, 256] S64x128.size inb_S256x512_S64x128_0_256) (tile arg2 harg2 x1 ![0, 256] S64x128.size inb_S256x512_S64x128_0_256) (kernelRun0_A.sl.v93 (F := Ideal) c arg2 harg2 arg3 harg3 arg4 harg4 arg7 x1 x2 x3) (tile arg3 harg3 x2 ![0, 512] S64x256.size inb_S256x1024_S64x256_0_512) (ix2 b a) : EReal) = ((stAfter A K W (N 0) 2 a b : ℝ) : EReal) :=
  after_val _ _ _ _ (load_cols ha 0 2 _ rfl) (load_cols hk 0 2 _ rfl) (load_wide hv 0 2 _ rfl) (before_0_2 hN ha hk hv hz)

theorem before_0_3 : ∀ b a, ((kernelRun0_A.sl.v130 (F := Ideal) c arg2 harg2 arg3 harg3 arg4 harg4 arg7 x1 x2 x3) (ix3 (0 : Fin 1) b a) : EReal) = ((stBefore A K W (N 0) 3 a b : ℝ) : EReal) := by
  intro b a
  rw [stBefore_first _ _ _ _ hz, EReal.coe_zero]
  exact ((read_skip arg7.view (h := 3) (h1 := 2) (by decide) (by decide) inb_S4x256x128_S1x256x128_3_0_0 inb_S4x256x128_S1x256x128_2_0_0 _ _ b a).trans ((read_skip arg7.view (h := 3) (h1 := 1) (by decide) (by decide) inb_S4x256x128_S1x256x128_3_0_0 inb_S4x256x128_S1x256x128_1_0_0 _ _ b a).trans ((read_skip arg7.view (h := 3) (h1 := 0) (by decide) (by decide) inb_S4x256x128_S1x256x128_3_0_0 inb_S4x256x128_S1x256x128_0_0_0 _ _ b a).trans (read_fresh arg7.view inb_S4x256x128_S1x256x128_3_0_0 _ _ _ fill_val _ b a))))

theorem after_0_3 : ∀ b a, (k0_pay6 (F := Ideal) (tile arg4 harg4 x3 ![0, 384] S64x128.size inb_S256x512_S64x128_0_384) (tile arg2 harg2 x1 ![0, 384] S64x128.size inb_S256x512_S64x128_0_384) (kernelRun0_A.sl.v130 (F := Ideal) c arg2 harg2 arg3 harg3 arg4 harg4 arg7 x1 x2 x3) (tile arg3 harg3 x2 ![0, 768] S64x256.size inb_S256x1024_S64x256_0_768) (ix2 b a) : EReal) = ((stAfter A K W (N 0) 3 a b : ℝ) : EReal) :=
  after_val _ _ _ _ (load_cols ha 0 3 _ rfl) (load_cols hk 0 3 _ rfl) (load_wide hv 0 3 _ rfl) (before_0_3 hN ha hk hv hz)

theorem before_1_0 : ∀ b a, ((kernelRun0_A.sl.v167 (F := Ideal) c arg2 harg2 arg3 harg3 arg4 harg4 arg7 x1 x2 x3) (ix3 (0 : Fin 1) b a) : EReal) = ((stBefore A K W (N 1) 0 a b : ℝ) : EReal) := by
  intro b a
  have e : (kernelRun0_A.sl.v167 (F := Ideal) c arg2 harg2 arg3 harg3 arg4 harg4 arg7 x1 x2 x3) (ix3 (0 : Fin 1) b a) = k0_pay7 (F := Ideal) (k0_pay6 (F := Ideal) (tile arg4 harg4 x3 ![0, 0] S64x128.size inb_S256x512_S64x128_0_0) (tile arg2 harg2 x1 ![0, 0] S64x128.size inb_S256x512_S64x128_0_0) (kernelRun0_A.sl.v19 (F := Ideal) c arg7) (tile arg3 harg3 x2 ![0, 0] S64x256.size inb_S256x1024_S64x256_0_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 0) (N 1) (hN 0)]
  exact after_0_0 hN ha hk hv hz b a

theorem after_1_0 : ∀ b a, (k0_pay6 (F := Ideal) (tile arg4 harg4 x3 ![64, 0] S64x128.size inb_S256x512_S64x128_64_0) (tile arg2 harg2 x1 ![64, 0] S64x128.size inb_S256x512_S64x128_64_0) (kernelRun0_A.sl.v167 (F := Ideal) c arg2 harg2 arg3 harg3 arg4 harg4 arg7 x1 x2 x3) (tile arg3 harg3 x2 ![64, 0] S64x256.size inb_S256x1024_S64x256_64_0) (ix2 b a) : EReal) = ((stAfter A K W (N 1) 0 a b : ℝ) : EReal) :=
  after_val _ _ _ _ (load_cols ha 1 0 _ rfl) (load_cols hk 1 0 _ rfl) (load_wide hv 1 0 _ rfl) (before_1_0 hN ha hk hv hz)

theorem before_1_1 : ∀ b a, ((kernelRun0_A.sl.v204 (F := Ideal) c arg2 harg2 arg3 harg3 arg4 harg4 arg7 x1 x2 x3) (ix3 (0 : Fin 1) b a) : EReal) = ((stBefore A K W (N 1) 1 a b : ℝ) : EReal) := by
  intro b a
  have e : (kernelRun0_A.sl.v204 (F := Ideal) c arg2 harg2 arg3 harg3 arg4 harg4 arg7 x1 x2 x3) (ix3 (0 : Fin 1) b a) = k0_pay7 (F := Ideal) (k0_pay6 (F := Ideal) (tile arg4 harg4 x3 ![0, 128] S64x128.size inb_S256x512_S64x128_0_128) (tile arg2 harg2 x1 ![0, 128] S64x128.size inb_S256x512_S64x128_0_128) (kernelRun0_A.sl.v56 (F := Ideal) c arg2 harg2 arg3 harg3 arg4 harg4 arg7 x1 x2 x3) (tile arg3 harg3 x2 ![0, 256] S64x256.size inb_S256x1024_S64x256_0_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 0) (N 1) (hN 0)]
  exact after_0_1 hN ha hk hv hz b a

theorem after_1_1 : ∀ b a, (k0_pay6 (F := Ideal) (tile arg4 harg4 x3 ![64, 128] S64x128.size inb_S256x512_S64x128_64_128) (tile arg2 harg2 x1 ![64, 128] S64x128.size inb_S256x512_S64x128_64_128) (kernelRun0_A.sl.v204 (F := Ideal) c arg2 harg2 arg3 harg3 arg4 harg4 arg7 x1 x2 x3) (tile arg3 harg3 x2 ![64, 256] S64x256.size inb_S256x1024_S64x256_64_256) (ix2 b a) : EReal) = ((stAfter A K W (N 1) 1 a b : ℝ) : EReal) :=
  after_val _ _ _ _ (load_cols ha 1 1 _ rfl) (load_cols hk 1 1 _ rfl) (load_wide hv 1 1 _ rfl) (before_1_1 hN ha hk hv hz)

theorem before_1_2 : ∀ b a, ((kernelRun0_A.sl.v241 (F := Ideal) c arg2 harg2 arg3 harg3 arg4 harg4 arg7 x1 x2 x3) (ix3 (0 : Fin 1) b a) : EReal) = ((stBefore A K W (N 1) 2 a b : ℝ) : EReal) := by
  intro b a
  have e : (kernelRun0_A.sl.v241 (F := Ideal) c arg2 harg2 arg3 harg3 arg4 harg4 arg7 x1 x2 x3) (ix3 (0 : Fin 1) b a) = k0_pay7 (F := Ideal) (k0_pay6 (F := Ideal) (tile arg4 harg4 x3 ![0, 256] S64x128.size inb_S256x512_S64x128_0_256) (tile arg2 harg2 x1 ![0, 256] S64x128.size inb_S256x512_S64x128_0_256) (kernelRun0_A.sl.v93 (F := Ideal) c arg2 harg2 arg3 harg3 arg4 harg4 arg7 x1 x2 x3) (tile arg3 harg3 x2 ![0, 512] S64x256.size inb_S256x1024_S64x256_0_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 0) (N 1) (hN 0)]
  exact after_0_2 hN ha hk hv hz b a

theorem after_1_2 : ∀ b a, (k0_pay6 (F := Ideal) (tile arg4 harg4 x3 ![64, 256] S64x128.size inb_S256x512_S64x128_64_256) (tile arg2 harg2 x1 ![64, 256] S64x128.size inb_S256x512_S64x128_64_256) (kernelRun0_A.sl.v241 (F := Ideal) c arg2 harg2 arg3 harg3 arg4 harg4 arg7 x1 x2 x3) (tile arg3 harg3 x2 ![64, 512] S64x256.size inb_S256x1024_S64x256_64_512) (ix2 b a) : EReal) = ((stAfter A K W (N 1) 2 a b : ℝ) : EReal) :=
  after_val _ _ _ _ (load_cols ha 1 2 _ rfl) (load_cols hk 1 2 _ rfl) (load_wide hv 1 2 _ rfl) (before_1_2 hN ha hk hv hz)

theorem before_1_3 : ∀ b a, ((kernelRun0_A.sl.v278 (F := Ideal) c arg2 harg2 arg3 harg3 arg4 harg4 arg7 x1 x2 x3) (ix3 (0 : Fin 1) b a) : EReal) = ((stBefore A K W (N 1) 3 a b : ℝ) : EReal) := by
  intro b a
  have e : (kernelRun0_A.sl.v278 (F := Ideal) c arg2 harg2 arg3 harg3 arg4 harg4 arg7 x1 x2 x3) (ix3 (0 : Fin 1) b a) = k0_pay7 (F := Ideal) (k0_pay6 (F := Ideal) (tile arg4 harg4 x3 ![0, 384] S64x128.size inb_S256x512_S64x128_0_384) (tile arg2 harg2 x1 ![0, 384] S64x128.size inb_S256x512_S64x128_0_384) (kernelRun0_A.sl.v130 (F := Ideal) c arg2 harg2 arg3 harg3 arg4 harg4 arg7 x1 x2 x3) (tile arg3 harg3 x2 ![0, 768] S64x256.size inb_S256x1024_S64x256_0_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 0) (N 1) (hN 0)]
  exact after_0_3 hN ha hk hv hz b a

theorem after_1_3 : ∀ b a, (k0_pay6 (F := Ideal) (tile arg4 harg4 x3 ![64, 384] S64x128.size inb_S256x512_S64x128_64_384) (tile arg2 harg2 x1 ![64, 384] S64x128.size inb_S256x512_S64x128_64_384) (kernelRun0_A.sl.v278 (F := Ideal) c arg2 harg2 arg3 harg3 arg4 harg4 arg7 x1 x2 x3) (tile arg3 harg3 x2 ![64, 768] S64x256.size inb_S256x1024_S64x256_64_768) (ix2 b a) : EReal) = ((stAfter A K W (N 1) 3 a b : ℝ) : EReal) :=
  after_val _ _ _ _ (load_cols ha 1 3 _ rfl) (load_cols hk 1 3 _ rfl) (load_wide hv 1 3 _ rfl) (before_1_3 hN ha hk hv hz)

theorem before_2_0 : ∀ b a, ((kernelRun0_A.sl.v315 (F := Ideal) c arg2 harg2 arg3 harg3 arg4 harg4 arg7 x1 x2 x3) (ix3 (0 : Fin 1) b a) : EReal) = ((stBefore A K W (N 2) 0 a b : ℝ) : EReal) := by
  intro b a
  have e : (kernelRun0_A.sl.v315 (F := Ideal) c arg2 harg2 arg3 harg3 arg4 harg4 arg7 x1 x2 x3) (ix3 (0 : Fin 1) b a) = k0_pay7 (F := Ideal) (k0_pay6 (F := Ideal) (tile arg4 harg4 x3 ![64, 0] S64x128.size inb_S256x512_S64x128_64_0) (tile arg2 harg2 x1 ![64, 0] S64x128.size inb_S256x512_S64x128_64_0) (kernelRun0_A.sl.v167 (F := Ideal) c arg2 harg2 arg3 harg3 arg4 harg4 arg7 x1 x2 x3) (tile arg3 harg3 x2 ![64, 0] S64x256.size inb_S256x1024_S64x256_64_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 1) (N 2) (hN 1)]
  exact after_1_0 hN ha hk hv hz b a

theorem after_2_0 : ∀ b a, (k0_pay6 (F := Ideal) (tile arg4 harg4 x3 ![128, 0] S64x128.size inb_S256x512_S64x128_128_0) (tile arg2 harg2 x1 ![128, 0] S64x128.size inb_S256x512_S64x128_128_0) (kernelRun0_A.sl.v315 (F := Ideal) c arg2 harg2 arg3 harg3 arg4 harg4 arg7 x1 x2 x3) (tile arg3 harg3 x2 ![128, 0] S64x256.size inb_S256x1024_S64x256_128_0) (ix2 b a) : EReal) = ((stAfter A K W (N 2) 0 a b : ℝ) : EReal) :=
  after_val _ _ _ _ (load_cols ha 2 0 _ rfl) (load_cols hk 2 0 _ rfl) (load_wide hv 2 0 _ rfl) (before_2_0 hN ha hk hv hz)

theorem before_2_1 : ∀ b a, ((kernelRun0_A.sl.v352 (F := Ideal) c arg2 harg2 arg3 harg3 arg4 harg4 arg7 x1 x2 x3) (ix3 (0 : Fin 1) b a) : EReal) = ((stBefore A K W (N 2) 1 a b : ℝ) : EReal) := by
  intro b a
  have e : (kernelRun0_A.sl.v352 (F := Ideal) c arg2 harg2 arg3 harg3 arg4 harg4 arg7 x1 x2 x3) (ix3 (0 : Fin 1) b a) = k0_pay7 (F := Ideal) (k0_pay6 (F := Ideal) (tile arg4 harg4 x3 ![64, 128] S64x128.size inb_S256x512_S64x128_64_128) (tile arg2 harg2 x1 ![64, 128] S64x128.size inb_S256x512_S64x128_64_128) (kernelRun0_A.sl.v204 (F := Ideal) c arg2 harg2 arg3 harg3 arg4 harg4 arg7 x1 x2 x3) (tile arg3 harg3 x2 ![64, 256] S64x256.size inb_S256x1024_S64x256_64_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 1) (N 2) (hN 1)]
  exact after_1_1 hN ha hk hv hz b a

theorem after_2_1 : ∀ b a, (k0_pay6 (F := Ideal) (tile arg4 harg4 x3 ![128, 128] S64x128.size inb_S256x512_S64x128_128_128) (tile arg2 harg2 x1 ![128, 128] S64x128.size inb_S256x512_S64x128_128_128) (kernelRun0_A.sl.v352 (F := Ideal) c arg2 harg2 arg3 harg3 arg4 harg4 arg7 x1 x2 x3) (tile arg3 harg3 x2 ![128, 256] S64x256.size inb_S256x1024_S64x256_128_256) (ix2 b a) : EReal) = ((stAfter A K W (N 2) 1 a b : ℝ) : EReal) :=
  after_val _ _ _ _ (load_cols ha 2 1 _ rfl) (load_cols hk 2 1 _ rfl) (load_wide hv 2 1 _ rfl) (before_2_1 hN ha hk hv hz)

theorem before_2_2 : ∀ b a, ((kernelRun0_A.sl.v389 (F := Ideal) c arg2 harg2 arg3 harg3 arg4 harg4 arg7 x1 x2 x3) (ix3 (0 : Fin 1) b a) : EReal) = ((stBefore A K W (N 2) 2 a b : ℝ) : EReal) := by
  intro b a
  have e : (kernelRun0_A.sl.v389 (F := Ideal) c arg2 harg2 arg3 harg3 arg4 harg4 arg7 x1 x2 x3) (ix3 (0 : Fin 1) b a) = k0_pay7 (F := Ideal) (k0_pay6 (F := Ideal) (tile arg4 harg4 x3 ![64, 256] S64x128.size inb_S256x512_S64x128_64_256) (tile arg2 harg2 x1 ![64, 256] S64x128.size inb_S256x512_S64x128_64_256) (kernelRun0_A.sl.v241 (F := Ideal) c arg2 harg2 arg3 harg3 arg4 harg4 arg7 x1 x2 x3) (tile arg3 harg3 x2 ![64, 512] S64x256.size inb_S256x1024_S64x256_64_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 1) (N 2) (hN 1)]
  exact after_1_2 hN ha hk hv hz b a

theorem after_2_2 : ∀ b a, (k0_pay6 (F := Ideal) (tile arg4 harg4 x3 ![128, 256] S64x128.size inb_S256x512_S64x128_128_256) (tile arg2 harg2 x1 ![128, 256] S64x128.size inb_S256x512_S64x128_128_256) (kernelRun0_A.sl.v389 (F := Ideal) c arg2 harg2 arg3 harg3 arg4 harg4 arg7 x1 x2 x3) (tile arg3 harg3 x2 ![128, 512] S64x256.size inb_S256x1024_S64x256_128_512) (ix2 b a) : EReal) = ((stAfter A K W (N 2) 2 a b : ℝ) : EReal) :=
  after_val _ _ _ _ (load_cols ha 2 2 _ rfl) (load_cols hk 2 2 _ rfl) (load_wide hv 2 2 _ rfl) (before_2_2 hN ha hk hv hz)

theorem before_2_3 : ∀ b a, ((kernelRun0_A.sl.v426 (F := Ideal) c arg2 harg2 arg3 harg3 arg4 harg4 arg7 x1 x2 x3) (ix3 (0 : Fin 1) b a) : EReal) = ((stBefore A K W (N 2) 3 a b : ℝ) : EReal) := by
  intro b a
  have e : (kernelRun0_A.sl.v426 (F := Ideal) c arg2 harg2 arg3 harg3 arg4 harg4 arg7 x1 x2 x3) (ix3 (0 : Fin 1) b a) = k0_pay7 (F := Ideal) (k0_pay6 (F := Ideal) (tile arg4 harg4 x3 ![64, 384] S64x128.size inb_S256x512_S64x128_64_384) (tile arg2 harg2 x1 ![64, 384] S64x128.size inb_S256x512_S64x128_64_384) (kernelRun0_A.sl.v278 (F := Ideal) c arg2 harg2 arg3 harg3 arg4 harg4 arg7 x1 x2 x3) (tile arg3 harg3 x2 ![64, 768] S64x256.size inb_S256x1024_S64x256_64_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 1) (N 2) (hN 1)]
  exact after_1_3 hN ha hk hv hz b a

theorem after_2_3 : ∀ b a, (k0_pay6 (F := Ideal) (tile arg4 harg4 x3 ![128, 384] S64x128.size inb_S256x512_S64x128_128_384) (tile arg2 harg2 x1 ![128, 384] S64x128.size inb_S256x512_S64x128_128_384) (kernelRun0_A.sl.v426 (F := Ideal) c arg2 harg2 arg3 harg3 arg4 harg4 arg7 x1 x2 x3) (tile arg3 harg3 x2 ![128, 768] S64x256.size inb_S256x1024_S64x256_128_768) (ix2 b a) : EReal) = ((stAfter A K W (N 2) 3 a b : ℝ) : EReal) :=
  after_val _ _ _ _ (load_cols ha 2 3 _ rfl) (load_cols hk 2 3 _ rfl) (load_wide hv 2 3 _ rfl) (before_2_3 hN ha hk hv hz)

theorem before_3_0 : ∀ b a, ((kernelRun0_A.sl.v463 (F := Ideal) c arg2 harg2 arg3 harg3 arg4 harg4 arg7 x1 x2 x3) (ix3 (0 : Fin 1) b a) : EReal) = ((stBefore A K W (N 3) 0 a b : ℝ) : EReal) := by
  intro b a
  have e : (kernelRun0_A.sl.v463 (F := Ideal) c arg2 harg2 arg3 harg3 arg4 harg4 arg7 x1 x2 x3) (ix3 (0 : Fin 1) b a) = k0_pay7 (F := Ideal) (k0_pay6 (F := Ideal) (tile arg4 harg4 x3 ![128, 0] S64x128.size inb_S256x512_S64x128_128_0) (tile arg2 harg2 x1 ![128, 0] S64x128.size inb_S256x512_S64x128_128_0) (kernelRun0_A.sl.v315 (F := Ideal) c arg2 harg2 arg3 harg3 arg4 harg4 arg7 x1 x2 x3) (tile arg3 harg3 x2 ![128, 0] S64x256.size inb_S256x1024_S64x256_128_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 2) (N 3) (hN 2)]
  exact after_2_0 hN ha hk hv hz b a

theorem after_3_0 : ∀ b a, (k0_pay6 (F := Ideal) (tile arg4 harg4 x3 ![192, 0] S64x128.size inb_S256x512_S64x128_192_0) (tile arg2 harg2 x1 ![192, 0] S64x128.size inb_S256x512_S64x128_192_0) (kernelRun0_A.sl.v463 (F := Ideal) c arg2 harg2 arg3 harg3 arg4 harg4 arg7 x1 x2 x3) (tile arg3 harg3 x2 ![192, 0] S64x256.size inb_S256x1024_S64x256_192_0) (ix2 b a) : EReal) = ((stAfter A K W (N 3) 0 a b : ℝ) : EReal) :=
  after_val _ _ _ _ (load_cols ha 3 0 _ rfl) (load_cols hk 3 0 _ rfl) (load_wide hv 3 0 _ rfl) (before_3_0 hN ha hk hv hz)

theorem before_3_1 : ∀ b a, ((kernelRun0_A.sl.v500 (F := Ideal) c arg2 harg2 arg3 harg3 arg4 harg4 arg7 x1 x2 x3) (ix3 (0 : Fin 1) b a) : EReal) = ((stBefore A K W (N 3) 1 a b : ℝ) : EReal) := by
  intro b a
  have e : (kernelRun0_A.sl.v500 (F := Ideal) c arg2 harg2 arg3 harg3 arg4 harg4 arg7 x1 x2 x3) (ix3 (0 : Fin 1) b a) = k0_pay7 (F := Ideal) (k0_pay6 (F := Ideal) (tile arg4 harg4 x3 ![128, 128] S64x128.size inb_S256x512_S64x128_128_128) (tile arg2 harg2 x1 ![128, 128] S64x128.size inb_S256x512_S64x128_128_128) (kernelRun0_A.sl.v352 (F := Ideal) c arg2 harg2 arg3 harg3 arg4 harg4 arg7 x1 x2 x3) (tile arg3 harg3 x2 ![128, 256] S64x256.size inb_S256x1024_S64x256_128_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 2) (N 3) (hN 2)]
  exact after_2_1 hN ha hk hv hz b a

theorem after_3_1 : ∀ b a, (k0_pay6 (F := Ideal) (tile arg4 harg4 x3 ![192, 128] S64x128.size inb_S256x512_S64x128_192_128) (tile arg2 harg2 x1 ![192, 128] S64x128.size inb_S256x512_S64x128_192_128) (kernelRun0_A.sl.v500 (F := Ideal) c arg2 harg2 arg3 harg3 arg4 harg4 arg7 x1 x2 x3) (tile arg3 harg3 x2 ![192, 256] S64x256.size inb_S256x1024_S64x256_192_256) (ix2 b a) : EReal) = ((stAfter A K W (N 3) 1 a b : ℝ) : EReal) :=
  after_val _ _ _ _ (load_cols ha 3 1 _ rfl) (load_cols hk 3 1 _ rfl) (load_wide hv 3 1 _ rfl) (before_3_1 hN ha hk hv hz)

theorem before_3_2 : ∀ b a, ((kernelRun0_A.sl.v537 (F := Ideal) c arg2 harg2 arg3 harg3 arg4 harg4 arg7 x1 x2 x3) (ix3 (0 : Fin 1) b a) : EReal) = ((stBefore A K W (N 3) 2 a b : ℝ) : EReal) := by
  intro b a
  have e : (kernelRun0_A.sl.v537 (F := Ideal) c arg2 harg2 arg3 harg3 arg4 harg4 arg7 x1 x2 x3) (ix3 (0 : Fin 1) b a) = k0_pay7 (F := Ideal) (k0_pay6 (F := Ideal) (tile arg4 harg4 x3 ![128, 256] S64x128.size inb_S256x512_S64x128_128_256) (tile arg2 harg2 x1 ![128, 256] S64x128.size inb_S256x512_S64x128_128_256) (kernelRun0_A.sl.v389 (F := Ideal) c arg2 harg2 arg3 harg3 arg4 harg4 arg7 x1 x2 x3) (tile arg3 harg3 x2 ![128, 512] S64x256.size inb_S256x1024_S64x256_128_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 2) (N 3) (hN 2)]
  exact after_2_2 hN ha hk hv hz b a

theorem after_3_2 : ∀ b a, (k0_pay6 (F := Ideal) (tile arg4 harg4 x3 ![192, 256] S64x128.size inb_S256x512_S64x128_192_256) (tile arg2 harg2 x1 ![192, 256] S64x128.size inb_S256x512_S64x128_192_256) (kernelRun0_A.sl.v537 (F := Ideal) c arg2 harg2 arg3 harg3 arg4 harg4 arg7 x1 x2 x3) (tile arg3 harg3 x2 ![192, 512] S64x256.size inb_S256x1024_S64x256_192_512) (ix2 b a) : EReal) = ((stAfter A K W (N 3) 2 a b : ℝ) : EReal) :=
  after_val _ _ _ _ (load_cols ha 3 2 _ rfl) (load_cols hk 3 2 _ rfl) (load_wide hv 3 2 _ rfl) (before_3_2 hN ha hk hv hz)

theorem before_3_3 : ∀ b a, ((kernelRun0_A.sl.v574 (F := Ideal) c arg2 harg2 arg3 harg3 arg4 harg4 arg7 x1 x2 x3) (ix3 (0 : Fin 1) b a) : EReal) = ((stBefore A K W (N 3) 3 a b : ℝ) : EReal) := by
  intro b a
  have e : (kernelRun0_A.sl.v574 (F := Ideal) c arg2 harg2 arg3 harg3 arg4 harg4 arg7 x1 x2 x3) (ix3 (0 : Fin 1) b a) = k0_pay7 (F := Ideal) (k0_pay6 (F := Ideal) (tile arg4 harg4 x3 ![128, 384] S64x128.size inb_S256x512_S64x128_128_384) (tile arg2 harg2 x1 ![128, 384] S64x128.size inb_S256x512_S64x128_128_384) (kernelRun0_A.sl.v426 (F := Ideal) c arg2 harg2 arg3 harg3 arg4 harg4 arg7 x1 x2 x3) (tile arg3 harg3 x2 ![128, 768] S64x256.size inb_S256x1024_S64x256_128_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 2) (N 3) (hN 2)]
  exact after_2_3 hN ha hk hv hz b a

theorem after_3_3 : ∀ b a, (k0_pay6 (F := Ideal) (tile arg4 harg4 x3 ![192, 384] S64x128.size inb_S256x512_S64x128_192_384) (tile arg2 harg2 x1 ![192, 384] S64x128.size inb_S256x512_S64x128_192_384) (kernelRun0_A.sl.v574 (F := Ideal) c arg2 harg2 arg3 harg3 arg4 harg4 arg7 x1 x2 x3) (tile arg3 harg3 x2 ![192, 768] S64x256.size inb_S256x1024_S64x256_192_768) (ix2 b a) : EReal) = ((stAfter A K W (N 3) 3 a b : ℝ) : EReal) :=
  after_val _ _ _ _ (load_cols ha 3 3 _ rfl) (load_cols hk 3 3 _ rfl) (load_wide hv 3 3 _ rfl) (before_3_3 hN ha hk hv hz)

/-- The block of the output. -/
theorem out_block (hq : IsCols x0 Q N) (hc0 : cond0_0 i) : out0_A_4 c i arg1 harg1 arg2 harg2 arg3 harg3 arg4 harg4 arg5 harg5 arg6 harg6 arg7 harg7 hc0 x0 x1 x2 x3 =
    fun y : B1024.Idx => ((out Q A K W (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  unfold out0_A_4
  rw [View.read_writes_eq_canon _ _ _ (cover0_A_4 c i arg1 harg1 arg2 harg2 arg3 harg3 arg4 harg4 arg5 harg5 arg6 harg6 arg7 harg7 hc0 x0 x1 x2 x3)]
  funext y
  refine View.canon_apply_of_pieces (fun y : B1024.Idx => ((out Q A K W (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal)) _ ?_ y (cover0_A_4 c i arg1 harg1 arg2 harg2 arg3 harg3 arg4 harg4 arg5 harg5 arg6 harg6 arg7 harg7 hc0 x0 x1 x2 x3 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_wide (fun t c h b => out Q A K W (N t) c h b) 3 3 inb_S256x1024_S64x256_192_768 rfl _ (out_val (k0_pay6 (F := Ideal) (tile arg4 harg4 x3 ![192, 384] S64x128.size inb_S256x512_S64x128_192_384) (tile arg2 harg2 x1 ![192, 384] S64x128.size inb_S256x512_S64x128_192_384) (kernelRun0_A.sl.v574 (F := Ideal) c arg2 harg2 arg3 harg3 arg4 harg4 arg7 x1 x2 x3) (tile arg3 harg3 x2 ![192, 768] S64x256.size inb_S256x1024_S64x256_192_768)) (tile arg1 harg1 x0 ![192, 384] S64x128.size inb_S256x512_S64x128_192_384) (load_cols hq 3 3 _ rfl) (after_3_3 hN ha hk hv hz))
  · exact piece_wide (fun t c h b => out Q A K W (N t) c h b) 3 2 inb_S256x1024_S64x256_192_512 rfl _ (out_val (k0_pay6 (F := Ideal) (tile arg4 harg4 x3 ![192, 256] S64x128.size inb_S256x512_S64x128_192_256) (tile arg2 harg2 x1 ![192, 256] S64x128.size inb_S256x512_S64x128_192_256) (kernelRun0_A.sl.v537 (F := Ideal) c arg2 harg2 arg3 harg3 arg4 harg4 arg7 x1 x2 x3) (tile arg3 harg3 x2 ![192, 512] S64x256.size inb_S256x1024_S64x256_192_512)) (tile arg1 harg1 x0 ![192, 256] S64x128.size inb_S256x512_S64x128_192_256) (load_cols hq 3 2 _ rfl) (after_3_2 hN ha hk hv hz))
  · exact piece_wide (fun t c h b => out Q A K W (N t) c h b) 3 1 inb_S256x1024_S64x256_192_256 rfl _ (out_val (k0_pay6 (F := Ideal) (tile arg4 harg4 x3 ![192, 128] S64x128.size inb_S256x512_S64x128_192_128) (tile arg2 harg2 x1 ![192, 128] S64x128.size inb_S256x512_S64x128_192_128) (kernelRun0_A.sl.v500 (F := Ideal) c arg2 harg2 arg3 harg3 arg4 harg4 arg7 x1 x2 x3) (tile arg3 harg3 x2 ![192, 256] S64x256.size inb_S256x1024_S64x256_192_256)) (tile arg1 harg1 x0 ![192, 128] S64x128.size inb_S256x512_S64x128_192_128) (load_cols hq 3 1 _ rfl) (after_3_1 hN ha hk hv hz))
  · exact piece_wide (fun t c h b => out Q A K W (N t) c h b) 3 0 inb_S256x1024_S64x256_192_0 rfl _ (out_val (k0_pay6 (F := Ideal) (tile arg4 harg4 x3 ![192, 0] S64x128.size inb_S256x512_S64x128_192_0) (tile arg2 harg2 x1 ![192, 0] S64x128.size inb_S256x512_S64x128_192_0) (kernelRun0_A.sl.v463 (F := Ideal) c arg2 harg2 arg3 harg3 arg4 harg4 arg7 x1 x2 x3) (tile arg3 harg3 x2 ![192, 0] S64x256.size inb_S256x1024_S64x256_192_0)) (tile arg1 harg1 x0 ![192, 0] S64x128.size inb_S256x512_S64x128_192_0) (load_cols hq 3 0 _ rfl) (after_3_0 hN ha hk hv hz))
  · exact piece_wide (fun t c h b => out Q A K W (N t) c h b) 2 3 inb_S256x1024_S64x256_128_768 rfl _ (out_val (k0_pay6 (F := Ideal) (tile arg4 harg4 x3 ![128, 384] S64x128.size inb_S256x512_S64x128_128_384) (tile arg2 harg2 x1 ![128, 384] S64x128.size inb_S256x512_S64x128_128_384) (kernelRun0_A.sl.v426 (F := Ideal) c arg2 harg2 arg3 harg3 arg4 harg4 arg7 x1 x2 x3) (tile arg3 harg3 x2 ![128, 768] S64x256.size inb_S256x1024_S64x256_128_768)) (tile arg1 harg1 x0 ![128, 384] S64x128.size inb_S256x512_S64x128_128_384) (load_cols hq 2 3 _ rfl) (after_2_3 hN ha hk hv hz))
  · exact piece_wide (fun t c h b => out Q A K W (N t) c h b) 2 2 inb_S256x1024_S64x256_128_512 rfl _ (out_val (k0_pay6 (F := Ideal) (tile arg4 harg4 x3 ![128, 256] S64x128.size inb_S256x512_S64x128_128_256) (tile arg2 harg2 x1 ![128, 256] S64x128.size inb_S256x512_S64x128_128_256) (kernelRun0_A.sl.v389 (F := Ideal) c arg2 harg2 arg3 harg3 arg4 harg4 arg7 x1 x2 x3) (tile arg3 harg3 x2 ![128, 512] S64x256.size inb_S256x1024_S64x256_128_512)) (tile arg1 harg1 x0 ![128, 256] S64x128.size inb_S256x512_S64x128_128_256) (load_cols hq 2 2 _ rfl) (after_2_2 hN ha hk hv hz))
  · exact piece_wide (fun t c h b => out Q A K W (N t) c h b) 2 1 inb_S256x1024_S64x256_128_256 rfl _ (out_val (k0_pay6 (F := Ideal) (tile arg4 harg4 x3 ![128, 128] S64x128.size inb_S256x512_S64x128_128_128) (tile arg2 harg2 x1 ![128, 128] S64x128.size inb_S256x512_S64x128_128_128) (kernelRun0_A.sl.v352 (F := Ideal) c arg2 harg2 arg3 harg3 arg4 harg4 arg7 x1 x2 x3) (tile arg3 harg3 x2 ![128, 256] S64x256.size inb_S256x1024_S64x256_128_256)) (tile arg1 harg1 x0 ![128, 128] S64x128.size inb_S256x512_S64x128_128_128) (load_cols hq 2 1 _ rfl) (after_2_1 hN ha hk hv hz))
  · exact piece_wide (fun t c h b => out Q A K W (N t) c h b) 2 0 inb_S256x1024_S64x256_128_0 rfl _ (out_val (k0_pay6 (F := Ideal) (tile arg4 harg4 x3 ![128, 0] S64x128.size inb_S256x512_S64x128_128_0) (tile arg2 harg2 x1 ![128, 0] S64x128.size inb_S256x512_S64x128_128_0) (kernelRun0_A.sl.v315 (F := Ideal) c arg2 harg2 arg3 harg3 arg4 harg4 arg7 x1 x2 x3) (tile arg3 harg3 x2 ![128, 0] S64x256.size inb_S256x1024_S64x256_128_0)) (tile arg1 harg1 x0 ![128, 0] S64x128.size inb_S256x512_S64x128_128_0) (load_cols hq 2 0 _ rfl) (after_2_0 hN ha hk hv hz))
  · exact piece_wide (fun t c h b => out Q A K W (N t) c h b) 1 3 inb_S256x1024_S64x256_64_768 rfl _ (out_val (k0_pay6 (F := Ideal) (tile arg4 harg4 x3 ![64, 384] S64x128.size inb_S256x512_S64x128_64_384) (tile arg2 harg2 x1 ![64, 384] S64x128.size inb_S256x512_S64x128_64_384) (kernelRun0_A.sl.v278 (F := Ideal) c arg2 harg2 arg3 harg3 arg4 harg4 arg7 x1 x2 x3) (tile arg3 harg3 x2 ![64, 768] S64x256.size inb_S256x1024_S64x256_64_768)) (tile arg1 harg1 x0 ![64, 384] S64x128.size inb_S256x512_S64x128_64_384) (load_cols hq 1 3 _ rfl) (after_1_3 hN ha hk hv hz))
  · exact piece_wide (fun t c h b => out Q A K W (N t) c h b) 1 2 inb_S256x1024_S64x256_64_512 rfl _ (out_val (k0_pay6 (F := Ideal) (tile arg4 harg4 x3 ![64, 256] S64x128.size inb_S256x512_S64x128_64_256) (tile arg2 harg2 x1 ![64, 256] S64x128.size inb_S256x512_S64x128_64_256) (kernelRun0_A.sl.v241 (F := Ideal) c arg2 harg2 arg3 harg3 arg4 harg4 arg7 x1 x2 x3) (tile arg3 harg3 x2 ![64, 512] S64x256.size inb_S256x1024_S64x256_64_512)) (tile arg1 harg1 x0 ![64, 256] S64x128.size inb_S256x512_S64x128_64_256) (load_cols hq 1 2 _ rfl) (after_1_2 hN ha hk hv hz))
  · exact piece_wide (fun t c h b => out Q A K W (N t) c h b) 1 1 inb_S256x1024_S64x256_64_256 rfl _ (out_val (k0_pay6 (F := Ideal) (tile arg4 harg4 x3 ![64, 128] S64x128.size inb_S256x512_S64x128_64_128) (tile arg2 harg2 x1 ![64, 128] S64x128.size inb_S256x512_S64x128_64_128) (kernelRun0_A.sl.v204 (F := Ideal) c arg2 harg2 arg3 harg3 arg4 harg4 arg7 x1 x2 x3) (tile arg3 harg3 x2 ![64, 256] S64x256.size inb_S256x1024_S64x256_64_256)) (tile arg1 harg1 x0 ![64, 128] S64x128.size inb_S256x512_S64x128_64_128) (load_cols hq 1 1 _ rfl) (after_1_1 hN ha hk hv hz))
  · exact piece_wide (fun t c h b => out Q A K W (N t) c h b) 1 0 inb_S256x1024_S64x256_64_0 rfl _ (out_val (k0_pay6 (F := Ideal) (tile arg4 harg4 x3 ![64, 0] S64x128.size inb_S256x512_S64x128_64_0) (tile arg2 harg2 x1 ![64, 0] S64x128.size inb_S256x512_S64x128_64_0) (kernelRun0_A.sl.v167 (F := Ideal) c arg2 harg2 arg3 harg3 arg4 harg4 arg7 x1 x2 x3) (tile arg3 harg3 x2 ![64, 0] S64x256.size inb_S256x1024_S64x256_64_0)) (tile arg1 harg1 x0 ![64, 0] S64x128.size inb_S256x512_S64x128_64_0) (load_cols hq 1 0 _ rfl) (after_1_0 hN ha hk hv hz))
  · exact piece_wide (fun t c h b => out Q A K W (N t) c h b) 0 3 inb_S256x1024_S64x256_0_768 rfl _ (out_val (k0_pay6 (F := Ideal) (tile arg4 harg4 x3 ![0, 384] S64x128.size inb_S256x512_S64x128_0_384) (tile arg2 harg2 x1 ![0, 384] S64x128.size inb_S256x512_S64x128_0_384) (kernelRun0_A.sl.v130 (F := Ideal) c arg2 harg2 arg3 harg3 arg4 harg4 arg7 x1 x2 x3) (tile arg3 harg3 x2 ![0, 768] S64x256.size inb_S256x1024_S64x256_0_768)) (tile arg1 harg1 x0 ![0, 384] S64x128.size inb_S256x512_S64x128_0_384) (load_cols hq 0 3 _ rfl) (after_0_3 hN ha hk hv hz))
  · exact piece_wide (fun t c h b => out Q A K W (N t) c h b) 0 2 inb_S256x1024_S64x256_0_512 rfl _ (out_val (k0_pay6 (F := Ideal) (tile arg4 harg4 x3 ![0, 256] S64x128.size inb_S256x512_S64x128_0_256) (tile arg2 harg2 x1 ![0, 256] S64x128.size inb_S256x512_S64x128_0_256) (kernelRun0_A.sl.v93 (F := Ideal) c arg2 harg2 arg3 harg3 arg4 harg4 arg7 x1 x2 x3) (tile arg3 harg3 x2 ![0, 512] S64x256.size inb_S256x1024_S64x256_0_512)) (tile arg1 harg1 x0 ![0, 256] S64x128.size inb_S256x512_S64x128_0_256) (load_cols hq 0 2 _ rfl) (after_0_2 hN ha hk hv hz))
  · exact piece_wide (fun t c h b => out Q A K W (N t) c h b) 0 1 inb_S256x1024_S64x256_0_256 rfl _ (out_val (k0_pay6 (F := Ideal) (tile arg4 harg4 x3 ![0, 128] S64x128.size inb_S256x512_S64x128_0_128) (tile arg2 harg2 x1 ![0, 128] S64x128.size inb_S256x512_S64x128_0_128) (kernelRun0_A.sl.v56 (F := Ideal) c arg2 harg2 arg3 harg3 arg4 harg4 arg7 x1 x2 x3) (tile arg3 harg3 x2 ![0, 256] S64x256.size inb_S256x1024_S64x256_0_256)) (tile arg1 harg1 x0 ![0, 128] S64x128.size inb_S256x512_S64x128_0_128) (load_cols hq 0 1 _ rfl) (after_0_1 hN ha hk hv hz))
  · exact piece_wide (fun t c h b => out Q A K W (N t) c h b) 0 0 inb_S256x1024_S64x256_0_0 rfl _ (out_val (k0_pay6 (F := Ideal) (tile arg4 harg4 x3 ![0, 0] S64x128.size inb_S256x512_S64x128_0_0) (tile arg2 harg2 x1 ![0, 0] S64x128.size inb_S256x512_S64x128_0_0) (kernelRun0_A.sl.v19 (F := Ideal) c arg7) (tile arg3 harg3 x2 ![0, 0] S64x256.size inb_S256x1024_S64x256_0_0)) (tile arg1 harg1 x0 ![0, 0] S64x128.size inb_S256x512_S64x128_0_0) (load_cols hq 0 0 _ rfl) (after_0_0 hN ha hk hv hz))

/-- The block of the states before the chunks. -/
theorem states_block (hc0 : cond0_0 i) : out0_A_5 c i arg1 harg1 arg2 harg2 arg3 harg3 arg4 harg4 arg5 harg5 arg6 harg6 arg7 harg7 hc0 x0 x1 x2 x3 = fun y : BStates.Idx => ((stBefore A K W (N (y 1)) (y 0) (y 3) (y 2) : ℝ) : EReal) := by
  unfold out0_A_5
  rw [View.read_writes_eq_canon _ _ _ (cover0_A_5 c i arg1 harg1 arg2 harg2 arg3 harg3 arg4 harg4 arg5 harg5 arg6 harg6 arg7 harg7 hc0 x0 x1 x2 x3)]
  funext y
  refine View.canon_apply_of_pieces (fun y : BStates.Idx => ((stBefore A K W (N (y 1)) (y 0) (y 3) (y 2) : ℝ) : EReal)) _ ?_ y (cover0_A_5 c i arg1 harg1 arg2 harg2 arg3 harg3 arg4 harg4 arg5 harg5 arg6 harg6 arg7 harg7 hc0 x0 x1 x2 x3 y)
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_state (fun h t b a => stBefore A K W (N t) h a b) 3 3 inb_S4x4x256x128_S1x1x256x128_3_3_0_0 rfl _ (fun b a => (pay5_val (kernelRun0_A.sl.v574 (F := Ideal) c arg2 harg2 arg3 harg3 arg4 harg4 arg7 x1 x2 x3) b a).trans (before_3_3 hN ha hk hv hz b a))
  · exact piece_state (fun h t b a => stBefore A K W (N t) h a b) 2 3 inb_S4x4x256x128_S1x1x256x128_2_3_0_0 rfl _ (fun b a => (pay5_val (kernelRun0_A.sl.v537 (F := Ideal) c arg2 harg2 arg3 harg3 arg4 harg4 arg7 x1 x2 x3) b a).trans (before_3_2 hN ha hk hv hz b a))
  · exact piece_state (fun h t b a => stBefore A K W (N t) h a b) 1 3 inb_S4x4x256x128_S1x1x256x128_1_3_0_0 rfl _ (fun b a => (pay5_val (kernelRun0_A.sl.v500 (F := Ideal) c arg2 harg2 arg3 harg3 arg4 harg4 arg7 x1 x2 x3) b a).trans (before_3_1 hN ha hk hv hz b a))
  · exact piece_state (fun h t b a => stBefore A K W (N t) h a b) 0 3 inb_S4x4x256x128_S1x1x256x128_0_3_0_0 rfl _ (fun b a => (pay5_val (kernelRun0_A.sl.v463 (F := Ideal) c arg2 harg2 arg3 harg3 arg4 harg4 arg7 x1 x2 x3) b a).trans (before_3_0 hN ha hk hv hz b a))
  · exact piece_state (fun h t b a => stBefore A K W (N t) h a b) 3 2 inb_S4x4x256x128_S1x1x256x128_3_2_0_0 rfl _ (fun b a => (pay5_val (kernelRun0_A.sl.v426 (F := Ideal) c arg2 harg2 arg3 harg3 arg4 harg4 arg7 x1 x2 x3) b a).trans (before_2_3 hN ha hk hv hz b a))
  · exact piece_state (fun h t b a => stBefore A K W (N t) h a b) 2 2 inb_S4x4x256x128_S1x1x256x128_2_2_0_0 rfl _ (fun b a => (pay5_val (kernelRun0_A.sl.v389 (F := Ideal) c arg2 harg2 arg3 harg3 arg4 harg4 arg7 x1 x2 x3) b a).trans (before_2_2 hN ha hk hv hz b a))
  · exact piece_state (fun h t b a => stBefore A K W (N t) h a b) 1 2 inb_S4x4x256x128_S1x1x256x128_1_2_0_0 rfl _ (fun b a => (pay5_val (kernelRun0_A.sl.v352 (F := Ideal) c arg2 harg2 arg3 harg3 arg4 harg4 arg7 x1 x2 x3) b a).trans (before_2_1 hN ha hk hv hz b a))
  · exact piece_state (fun h t b a => stBefore A K W (N t) h a b) 0 2 inb_S4x4x256x128_S1x1x256x128_0_2_0_0 rfl _ (fun b a => (pay5_val (kernelRun0_A.sl.v315 (F := Ideal) c arg2 harg2 arg3 harg3 arg4 harg4 arg7 x1 x2 x3) b a).trans (before_2_0 hN ha hk hv hz b a))
  · exact piece_state (fun h t b a => stBefore A K W (N t) h a b) 3 1 inb_S4x4x256x128_S1x1x256x128_3_1_0_0 rfl _ (fun b a => (pay5_val (kernelRun0_A.sl.v278 (F := Ideal) c arg2 harg2 arg3 harg3 arg4 harg4 arg7 x1 x2 x3) b a).trans (before_1_3 hN ha hk hv hz b a))
  · exact piece_state (fun h t b a => stBefore A K W (N t) h a b) 2 1 inb_S4x4x256x128_S1x1x256x128_2_1_0_0 rfl _ (fun b a => (pay5_val (kernelRun0_A.sl.v241 (F := Ideal) c arg2 harg2 arg3 harg3 arg4 harg4 arg7 x1 x2 x3) b a).trans (before_1_2 hN ha hk hv hz b a))
  · exact piece_state (fun h t b a => stBefore A K W (N t) h a b) 1 1 inb_S4x4x256x128_S1x1x256x128_1_1_0_0 rfl _ (fun b a => (pay5_val (kernelRun0_A.sl.v204 (F := Ideal) c arg2 harg2 arg3 harg3 arg4 harg4 arg7 x1 x2 x3) b a).trans (before_1_1 hN ha hk hv hz b a))
  · exact piece_state (fun h t b a => stBefore A K W (N t) h a b) 0 1 inb_S4x4x256x128_S1x1x256x128_0_1_0_0 rfl _ (fun b a => (pay5_val (kernelRun0_A.sl.v167 (F := Ideal) c arg2 harg2 arg3 harg3 arg4 harg4 arg7 x1 x2 x3) b a).trans (before_1_0 hN ha hk hv hz b a))
  · exact piece_state (fun h t b a => stBefore A K W (N t) h a b) 3 0 inb_S4x4x256x128_S1x1x256x128_3_0_0_0 rfl _ (fun b a => (pay5_val (kernelRun0_A.sl.v130 (F := Ideal) c arg2 harg2 arg3 harg3 arg4 harg4 arg7 x1 x2 x3) b a).trans (before_0_3 hN ha hk hv hz b a))
  · exact piece_state (fun h t b a => stBefore A K W (N t) h a b) 2 0 inb_S4x4x256x128_S1x1x256x128_2_0_0_0 rfl _ (fun b a => (pay5_val (kernelRun0_A.sl.v93 (F := Ideal) c arg2 harg2 arg3 harg3 arg4 harg4 arg7 x1 x2 x3) b a).trans (before_0_2 hN ha hk hv hz b a))
  · exact piece_state (fun h t b a => stBefore A K W (N t) h a b) 1 0 inb_S4x4x256x128_S1x1x256x128_1_0_0_0 rfl _ (fun b a => (pay5_val (kernelRun0_A.sl.v56 (F := Ideal) c arg2 harg2 arg3 harg3 arg4 harg4 arg7 x1 x2 x3) b a).trans (before_0_1 hN ha hk hv hz b a))
  · exact piece_state (fun h t b a => stBefore A K W (N t) h a b) 0 0 inb_S4x4x256x128_S1x1x256x128_0_0_0_0 rfl _ (fun b a => (pay5_val (kernelRun0_A.sl.v19 (F := Ideal) c arg7) b a).trans (before_0_0 hN ha hk hv hz b a))

/-- The carried state after the block. -/
theorem carried_block (hc0 : cond0_0 i) (h : Fin 4) (b : Fin 256) (a : Fin 128) : (sout0_A_0 c i arg1 harg1 arg2 harg2 arg3 harg3 arg4 harg4 arg5 harg5 arg6 harg6 arg7 harg7 hc0 x0 x1 x2 x3 (ix3 h b a) : EReal) = ((stAfter A K W (N 3) h a b : ℝ) : EReal) := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  exact canon_heads (fun h b a => stAfter A K W (N 3) h a b) inb_S4x256x128_S1x256x128_0_0_0 inb_S4x256x128_S1x256x128_1_0_0 inb_S4x256x128_S1x256x128_2_0_0 inb_S4x256x128_S1x256x128_3_0_0 (k0_pay7 (k0_pay6 (F := Ideal) (tile arg4 harg4 x3 ![192, 0] S64x128.size inb_S256x512_S64x128_192_0) (tile arg2 harg2 x1 ![192, 0] S64x128.size inb_S256x512_S64x128_192_0) (kernelRun0_A.sl.v463 (F := Ideal) c arg2 harg2 arg3 harg3 arg4 harg4 arg7 x1 x2 x3) (tile arg3 harg3 x2 ![192, 0] S64x256.size inb_S256x1024_S64x256_192_0))) (k0_pay7 (k0_pay6 (F := Ideal) (tile arg4 harg4 x3 ![192, 128] S64x128.size inb_S256x512_S64x128_192_128) (tile arg2 harg2 x1 ![192, 128] S64x128.size inb_S256x512_S64x128_192_128) (kernelRun0_A.sl.v500 (F := Ideal) c arg2 harg2 arg3 harg3 arg4 harg4 arg7 x1 x2 x3) (tile arg3 harg3 x2 ![192, 256] S64x256.size inb_S256x1024_S64x256_192_256))) (k0_pay7 (k0_pay6 (F := Ideal) (tile arg4 harg4 x3 ![192, 256] S64x128.size inb_S256x512_S64x128_192_256) (tile arg2 harg2 x1 ![192, 256] S64x128.size inb_S256x512_S64x128_192_256) (kernelRun0_A.sl.v537 (F := Ideal) c arg2 harg2 arg3 harg3 arg4 harg4 arg7 x1 x2 x3) (tile arg3 harg3 x2 ![192, 512] S64x256.size inb_S256x1024_S64x256_192_512))) (k0_pay7 (k0_pay6 (F := Ideal) (tile arg4 harg4 x3 ![192, 384] S64x128.size inb_S256x512_S64x128_192_384) (tile arg2 harg2 x1 ![192, 384] S64x128.size inb_S256x512_S64x128_192_384) (kernelRun0_A.sl.v574 (F := Ideal) c arg2 harg2 arg3 harg3 arg4 harg4 arg7 x1 x2 x3) (tile arg3 harg3 x2 ![192, 768] S64x256.size inb_S256x1024_S64x256_192_768))) _ (fun b a => (pay7_val (k0_pay6 (F := Ideal) (tile arg4 harg4 x3 ![192, 0] S64x128.size inb_S256x512_S64x128_192_0) (tile arg2 harg2 x1 ![192, 0] S64x128.size inb_S256x512_S64x128_192_0) (kernelRun0_A.sl.v463 (F := Ideal) c arg2 harg2 arg3 harg3 arg4 harg4 arg7 x1 x2 x3) (tile arg3 harg3 x2 ![192, 0] S64x256.size inb_S256x1024_S64x256_192_0)) b a).trans (after_3_0 hN ha hk hv hz b a)) (fun b a => (pay7_val (k0_pay6 (F := Ideal) (tile arg4 harg4 x3 ![192, 128] S64x128.size inb_S256x512_S64x128_192_128) (tile arg2 harg2 x1 ![192, 128] S64x128.size inb_S256x512_S64x128_192_128) (kernelRun0_A.sl.v500 (F := Ideal) c arg2 harg2 arg3 harg3 arg4 harg4 arg7 x1 x2 x3) (tile arg3 harg3 x2 ![192, 256] S64x256.size inb_S256x1024_S64x256_192_256)) b a).trans (after_3_1 hN ha hk hv hz b a)) (fun b a => (pay7_val (k0_pay6 (F := Ideal) (tile arg4 harg4 x3 ![192, 256] S64x128.size inb_S256x512_S64x128_192_256) (tile arg2 harg2 x1 ![192, 256] S64x128.size inb_S256x512_S64x128_192_256) (kernelRun0_A.sl.v537 (F := Ideal) c arg2 harg2 arg3 harg3 arg4 harg4 arg7 x1 x2 x3) (tile arg3 harg3 x2 ![192, 512] S64x256.size inb_S256x1024_S64x256_192_512)) b a).trans (after_3_2 hN ha hk hv hz b a)) (fun b a => (pay7_val (k0_pay6 (F := Ideal) (tile arg4 harg4 x3 ![192, 384] S64x128.size inb_S256x512_S64x128_192_384) (tile arg2 harg2 x1 ![192, 384] S64x128.size inb_S256x512_S64x128_192_384) (kernelRun0_A.sl.v574 (F := Ideal) c arg2 harg2 arg3 harg3 arg4 harg4 arg7 x1 x2 x3) (tile arg3 harg3 x2 ![192, 768] S64x256.size inb_S256x1024_S64x256_192_768)) b a).trans (after_3_3 hN ha hk hv hz b a)) h b a

end Cert.Kernel3Ideal.Gla.First
-- ==== Proof.Gla.Later3.lean ====
/- The forward call at a point other than the first: what its body leaves in the output's block, in the states' block and in the carried state. -/
module

public import proofs.«01_k».proof.Proof.Gen.Kernel3Ideal.Frame
public import proofs.«01_k».proof.Proof.Gla.Step3
public import proofs.«01_k».proof.Proof.Gla.Tiles

@[expose] public section

set_option maxRecDepth 16384
set_option maxHeartbeats 1600000

noncomputable section

namespace Cert.Kernel3Ideal.Gla.Later

open Cert.Kernel3Ideal Cert.Kernel3Ideal.Gen Cert.Kernel3Ideal.Gla Cert.Gla Idealize.ShloMosaic Idealize.ShloMosaic.TcCoe Idealize.SL.Sem

variable {c : Dev nD} {i : grid0.Coords} {arg1 : Memref sig .tc .vmem S256x512 .f32} {harg1 : arg1.IsWhole} {arg2 : Memref sig .tc .vmem S256x512 .f32} {harg2 : arg2.IsWhole} {arg3 : Memref sig .tc .vmem S256x1024 .f32} {harg3 : arg3.IsWhole} {arg4 : Memref sig .tc .vmem S256x512 .f32} {harg4 : arg4.IsWhole} {arg5 : Memref sig .tc .vmem S256x1024 .f32} {harg5 : arg5.IsWhole} {arg6 : Memref sig .tc .vmem S4x4x256x128 .f32} {harg6 : arg6.IsWhole} {arg7 : Memref sig .tc .vmem S4x256x128 .f32} {harg7 : arg7.IsWhole}
  {x0 : Vec Ideal S256x512 .f32} {x1 : Vec Ideal S256x512 .f32} {x2 : Vec Ideal S256x1024 .f32} {x3 : Vec Ideal S256x512 .f32} {xs0 : Vec Ideal S4x256x128 .f32}

variable {A K Q : Cols} {W : Wide} {N : Fin 4 → Fin 64}
  (hN : ∀ t : Fin 3, (N t.succ).val = (N t.castSucc).val + 1) (ha : IsCols x3 A N) (hk : IsCols x1 K N) (hv : IsWide x2 W N) (hs : ∀ h b a, (xs0 (ix3 h b a) : EReal) = ((stBefore A K W (N 0) h a b : ℝ) : EReal))
include hN ha hk hv hs

theorem before_0_0 : ∀ b a, ((tile arg7 harg7 xs0 ![0, 0, 0] S1x256x128.size inb_S4x256x128_S1x256x128_0_0_0) (ix3 (0 : Fin 1) b a) : EReal) = ((stBefore A K W (N 0) 0 a b : ℝ) : EReal) := by
  intro b a
  exact (load_head 0 _ rfl b a).trans (hs 0 b a)

theorem after_0_0 : ∀ b a, (k0_pay6 (F := Ideal) (tile arg4 harg4 x3 ![0, 0] S64x128.size inb_S256x512_S64x128_0_0) (tile arg2 harg2 x1 ![0, 0] S64x128.size inb_S256x512_S64x128_0_0) (tile arg7 harg7 xs0 ![0, 0, 0] S1x256x128.size inb_S4x256x128_S1x256x128_0_0_0) (tile arg3 harg3 x2 ![0, 0] S64x256.size inb_S256x1024_S64x256_0_0) (ix2 b a) : EReal) = ((stAfter A K W (N 0) 0 a b : ℝ) : EReal) :=
  after_val _ _ _ _ (load_cols ha 0 0 _ rfl) (load_cols hk 0 0 _ rfl) (load_wide hv 0 0 _ rfl) (before_0_0 hN ha hk hv hs)

theorem before_0_1 : ∀ b a, ((tile arg7 harg7 xs0 ![1, 0, 0] S1x256x128.size inb_S4x256x128_S1x256x128_1_0_0) (ix3 (0 : Fin 1) b a) : EReal) = ((stBefore A K W (N 0) 1 a b : ℝ) : EReal) := by
  intro b a
  exact (load_head 1 _ rfl b a).trans (hs 1 b a)

theorem after_0_1 : ∀ b a, (k0_pay6 (F := Ideal) (tile arg4 harg4 x3 ![0, 128] S64x128.size inb_S256x512_S64x128_0_128) (tile arg2 harg2 x1 ![0, 128] S64x128.size inb_S256x512_S64x128_0_128) (tile arg7 harg7 xs0 ![1, 0, 0] S1x256x128.size inb_S4x256x128_S1x256x128_1_0_0) (tile arg3 harg3 x2 ![0, 256] S64x256.size inb_S256x1024_S64x256_0_256) (ix2 b a) : EReal) = ((stAfter A K W (N 0) 1 a b : ℝ) : EReal) :=
  after_val _ _ _ _ (load_cols ha 0 1 _ rfl) (load_cols hk 0 1 _ rfl) (load_wide hv 0 1 _ rfl) (before_0_1 hN ha hk hv hs)

theorem before_0_2 : ∀ b a, ((tile arg7 harg7 xs0 ![2, 0, 0] S1x256x128.size inb_S4x256x128_S1x256x128_2_0_0) (ix3 (0 : Fin 1) b a) : EReal) = ((stBefore A K W (N 0) 2 a b : ℝ) : EReal) := by
  intro b a
  exact (load_head 2 _ rfl b a).trans (hs 2 b a)

theorem after_0_2 : ∀ b a, (k0_pay6 (F := Ideal) (tile arg4 harg4 x3 ![0, 256] S64x128.size inb_S256x512_S64x128_0_256) (tile arg2 harg2 x1 ![0, 256] S64x128.size inb_S256x512_S64x128_0_256) (tile arg7 harg7 xs0 ![2, 0, 0] S1x256x128.size inb_S4x256x128_S1x256x128_2_0_0) (tile arg3 harg3 x2 ![0, 512] S64x256.size inb_S256x1024_S64x256_0_512) (ix2 b a) : EReal) = ((stAfter A K W (N 0) 2 a b : ℝ) : EReal) :=
  after_val _ _ _ _ (load_cols ha 0 2 _ rfl) (load_cols hk 0 2 _ rfl) (load_wide hv 0 2 _ rfl) (before_0_2 hN ha hk hv hs)

theorem before_0_3 : ∀ b a, ((tile arg7 harg7 xs0 ![3, 0, 0] S1x256x128.size inb_S4x256x128_S1x256x128_3_0_0) (ix3 (0 : Fin 1) b a) : EReal) = ((stBefore A K W (N 0) 3 a b : ℝ) : EReal) := by
  intro b a
  exact (load_head 3 _ rfl b a).trans (hs 3 b a)

theorem after_0_3 : ∀ b a, (k0_pay6 (F := Ideal) (tile arg4 harg4 x3 ![0, 384] S64x128.size inb_S256x512_S64x128_0_384) (tile arg2 harg2 x1 ![0, 384] S64x128.size inb_S256x512_S64x128_0_384) (tile arg7 harg7 xs0 ![3, 0, 0] S1x256x128.size inb_S4x256x128_S1x256x128_3_0_0) (tile arg3 harg3 x2 ![0, 768] S64x256.size inb_S256x1024_S64x256_0_768) (ix2 b a) : EReal) = ((stAfter A K W (N 0) 3 a b : ℝ) : EReal) :=
  after_val _ _ _ _ (load_cols ha 0 3 _ rfl) (load_cols hk 0 3 _ rfl) (load_wide hv 0 3 _ rfl) (before_0_3 hN ha hk hv hs)

theorem before_1_0 : ∀ b a, ((kernelRun0_B.sl.v167 (F := Ideal) c arg2 harg2 arg3 harg3 arg4 harg4 arg7 harg7 x1 x2 x3 xs0) (ix3 (0 : Fin 1) b a) : EReal) = ((stBefore A K W (N 1) 0 a b : ℝ) : EReal) := by
  intro b a
  have e : (kernelRun0_B.sl.v167 (F := Ideal) c arg2 harg2 arg3 harg3 arg4 harg4 arg7 harg7 x1 x2 x3 xs0) (ix3 (0 : Fin 1) b a) = k0_pay7 (F := Ideal) (k0_pay6 (F := Ideal) (tile arg4 harg4 x3 ![0, 0] S64x128.size inb_S256x512_S64x128_0_0) (tile arg2 harg2 x1 ![0, 0] S64x128.size inb_S256x512_S64x128_0_0) (tile arg7 harg7 xs0 ![0, 0, 0] S1x256x128.size inb_S4x256x128_S1x256x128_0_0_0) (tile arg3 harg3 x2 ![0, 0] S64x256.size inb_S256x1024_S64x256_0_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 0) (N 1) (hN 0)]
  exact after_0_0 hN ha hk hv hs b a

theorem after_1_0 : ∀ b a, (k0_pay6 (F := Ideal) (tile arg4 harg4 x3 ![64, 0] S64x128.size inb_S256x512_S64x128_64_0) (tile arg2 harg2 x1 ![64, 0] S64x128.size inb_S256x512_S64x128_64_0) (kernelRun0_B.sl.v167 (F := Ideal) c arg2 harg2 arg3 harg3 arg4 harg4 arg7 harg7 x1 x2 x3 xs0) (tile arg3 harg3 x2 ![64, 0] S64x256.size inb_S256x1024_S64x256_64_0) (ix2 b a) : EReal) = ((stAfter A K W (N 1) 0 a b : ℝ) : EReal) :=
  after_val _ _ _ _ (load_cols ha 1 0 _ rfl) (load_cols hk 1 0 _ rfl) (load_wide hv 1 0 _ rfl) (before_1_0 hN ha hk hv hs)

theorem before_1_1 : ∀ b a, ((kernelRun0_B.sl.v204 (F := Ideal) c arg2 harg2 arg3 harg3 arg4 harg4 arg7 harg7 x1 x2 x3 xs0) (ix3 (0 : Fin 1) b a) : EReal) = ((stBefore A K W (N 1) 1 a b : ℝ) : EReal) := by
  intro b a
  have e : (kernelRun0_B.sl.v204 (F := Ideal) c arg2 harg2 arg3 harg3 arg4 harg4 arg7 harg7 x1 x2 x3 xs0) (ix3 (0 : Fin 1) b a) = k0_pay7 (F := Ideal) (k0_pay6 (F := Ideal) (tile arg4 harg4 x3 ![0, 128] S64x128.size inb_S256x512_S64x128_0_128) (tile arg2 harg2 x1 ![0, 128] S64x128.size inb_S256x512_S64x128_0_128) (tile arg7 harg7 xs0 ![1, 0, 0] S1x256x128.size inb_S4x256x128_S1x256x128_1_0_0) (tile arg3 harg3 x2 ![0, 256] S64x256.size inb_S256x1024_S64x256_0_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 0) (N 1) (hN 0)]
  exact after_0_1 hN ha hk hv hs b a

theorem after_1_1 : ∀ b a, (k0_pay6 (F := Ideal) (tile arg4 harg4 x3 ![64, 128] S64x128.size inb_S256x512_S64x128_64_128) (tile arg2 harg2 x1 ![64, 128] S64x128.size inb_S256x512_S64x128_64_128) (kernelRun0_B.sl.v204 (F := Ideal) c arg2 harg2 arg3 harg3 arg4 harg4 arg7 harg7 x1 x2 x3 xs0) (tile arg3 harg3 x2 ![64, 256] S64x256.size inb_S256x1024_S64x256_64_256) (ix2 b a) : EReal) = ((stAfter A K W (N 1) 1 a b : ℝ) : EReal) :=
  after_val _ _ _ _ (load_cols ha 1 1 _ rfl) (load_cols hk 1 1 _ rfl) (load_wide hv 1 1 _ rfl) (before_1_1 hN ha hk hv hs)

theorem before_1_2 : ∀ b a, ((kernelRun0_B.sl.v241 (F := Ideal) c arg2 harg2 arg3 harg3 arg4 harg4 arg7 harg7 x1 x2 x3 xs0) (ix3 (0 : Fin 1) b a) : EReal) = ((stBefore A K W (N 1) 2 a b : ℝ) : EReal) := by
  intro b a
  have e : (kernelRun0_B.sl.v241 (F := Ideal) c arg2 harg2 arg3 harg3 arg4 harg4 arg7 harg7 x1 x2 x3 xs0) (ix3 (0 : Fin 1) b a) = k0_pay7 (F := Ideal) (k0_pay6 (F := Ideal) (tile arg4 harg4 x3 ![0, 256] S64x128.size inb_S256x512_S64x128_0_256) (tile arg2 harg2 x1 ![0, 256] S64x128.size inb_S256x512_S64x128_0_256) (tile arg7 harg7 xs0 ![2, 0, 0] S1x256x128.size inb_S4x256x128_S1x256x128_2_0_0) (tile arg3 harg3 x2 ![0, 512] S64x256.size inb_S256x1024_S64x256_0_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 0) (N 1) (hN 0)]
  exact after_0_2 hN ha hk hv hs b a

theorem after_1_2 : ∀ b a, (k0_pay6 (F := Ideal) (tile arg4 harg4 x3 ![64, 256] S64x128.size inb_S256x512_S64x128_64_256) (tile arg2 harg2 x1 ![64, 256] S64x128.size inb_S256x512_S64x128_64_256) (kernelRun0_B.sl.v241 (F := Ideal) c arg2 harg2 arg3 harg3 arg4 harg4 arg7 harg7 x1 x2 x3 xs0) (tile arg3 harg3 x2 ![64, 512] S64x256.size inb_S256x1024_S64x256_64_512) (ix2 b a) : EReal) = ((stAfter A K W (N 1) 2 a b : ℝ) : EReal) :=
  after_val _ _ _ _ (load_cols ha 1 2 _ rfl) (load_cols hk 1 2 _ rfl) (load_wide hv 1 2 _ rfl) (before_1_2 hN ha hk hv hs)

theorem before_1_3 : ∀ b a, ((kernelRun0_B.sl.v278 (F := Ideal) c arg2 harg2 arg3 harg3 arg4 harg4 arg7 harg7 x1 x2 x3 xs0) (ix3 (0 : Fin 1) b a) : EReal) = ((stBefore A K W (N 1) 3 a b : ℝ) : EReal) := by
  intro b a
  have e : (kernelRun0_B.sl.v278 (F := Ideal) c arg2 harg2 arg3 harg3 arg4 harg4 arg7 harg7 x1 x2 x3 xs0) (ix3 (0 : Fin 1) b a) = k0_pay7 (F := Ideal) (k0_pay6 (F := Ideal) (tile arg4 harg4 x3 ![0, 384] S64x128.size inb_S256x512_S64x128_0_384) (tile arg2 harg2 x1 ![0, 384] S64x128.size inb_S256x512_S64x128_0_384) (tile arg7 harg7 xs0 ![3, 0, 0] S1x256x128.size inb_S4x256x128_S1x256x128_3_0_0) (tile arg3 harg3 x2 ![0, 768] S64x256.size inb_S256x1024_S64x256_0_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 0) (N 1) (hN 0)]
  exact after_0_3 hN ha hk hv hs b a

theorem after_1_3 : ∀ b a, (k0_pay6 (F := Ideal) (tile arg4 harg4 x3 ![64, 384] S64x128.size inb_S256x512_S64x128_64_384) (tile arg2 harg2 x1 ![64, 384] S64x128.size inb_S256x512_S64x128_64_384) (kernelRun0_B.sl.v278 (F := Ideal) c arg2 harg2 arg3 harg3 arg4 harg4 arg7 harg7 x1 x2 x3 xs0) (tile arg3 harg3 x2 ![64, 768] S64x256.size inb_S256x1024_S64x256_64_768) (ix2 b a) : EReal) = ((stAfter A K W (N 1) 3 a b : ℝ) : EReal) :=
  after_val _ _ _ _ (load_cols ha 1 3 _ rfl) (load_cols hk 1 3 _ rfl) (load_wide hv 1 3 _ rfl) (before_1_3 hN ha hk hv hs)

theorem before_2_0 : ∀ b a, ((kernelRun0_B.sl.v315 (F := Ideal) c arg2 harg2 arg3 harg3 arg4 harg4 arg7 harg7 x1 x2 x3 xs0) (ix3 (0 : Fin 1) b a) : EReal) = ((stBefore A K W (N 2) 0 a b : ℝ) : EReal) := by
  intro b a
  have e : (kernelRun0_B.sl.v315 (F := Ideal) c arg2 harg2 arg3 harg3 arg4 harg4 arg7 harg7 x1 x2 x3 xs0) (ix3 (0 : Fin 1) b a) = k0_pay7 (F := Ideal) (k0_pay6 (F := Ideal) (tile arg4 harg4 x3 ![64, 0] S64x128.size inb_S256x512_S64x128_64_0) (tile arg2 harg2 x1 ![64, 0] S64x128.size inb_S256x512_S64x128_64_0) (kernelRun0_B.sl.v167 (F := Ideal) c arg2 harg2 arg3 harg3 arg4 harg4 arg7 harg7 x1 x2 x3 xs0) (tile arg3 harg3 x2 ![64, 0] S64x256.size inb_S256x1024_S64x256_64_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 1) (N 2) (hN 1)]
  exact after_1_0 hN ha hk hv hs b a

theorem after_2_0 : ∀ b a, (k0_pay6 (F := Ideal) (tile arg4 harg4 x3 ![128, 0] S64x128.size inb_S256x512_S64x128_128_0) (tile arg2 harg2 x1 ![128, 0] S64x128.size inb_S256x512_S64x128_128_0) (kernelRun0_B.sl.v315 (F := Ideal) c arg2 harg2 arg3 harg3 arg4 harg4 arg7 harg7 x1 x2 x3 xs0) (tile arg3 harg3 x2 ![128, 0] S64x256.size inb_S256x1024_S64x256_128_0) (ix2 b a) : EReal) = ((stAfter A K W (N 2) 0 a b : ℝ) : EReal) :=
  after_val _ _ _ _ (load_cols ha 2 0 _ rfl) (load_cols hk 2 0 _ rfl) (load_wide hv 2 0 _ rfl) (before_2_0 hN ha hk hv hs)

theorem before_2_1 : ∀ b a, ((kernelRun0_B.sl.v352 (F := Ideal) c arg2 harg2 arg3 harg3 arg4 harg4 arg7 harg7 x1 x2 x3 xs0) (ix3 (0 : Fin 1) b a) : EReal) = ((stBefore A K W (N 2) 1 a b : ℝ) : EReal) := by
  intro b a
  have e : (kernelRun0_B.sl.v352 (F := Ideal) c arg2 harg2 arg3 harg3 arg4 harg4 arg7 harg7 x1 x2 x3 xs0) (ix3 (0 : Fin 1) b a) = k0_pay7 (F := Ideal) (k0_pay6 (F := Ideal) (tile arg4 harg4 x3 ![64, 128] S64x128.size inb_S256x512_S64x128_64_128) (tile arg2 harg2 x1 ![64, 128] S64x128.size inb_S256x512_S64x128_64_128) (kernelRun0_B.sl.v204 (F := Ideal) c arg2 harg2 arg3 harg3 arg4 harg4 arg7 harg7 x1 x2 x3 xs0) (tile arg3 harg3 x2 ![64, 256] S64x256.size inb_S256x1024_S64x256_64_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 1) (N 2) (hN 1)]
  exact after_1_1 hN ha hk hv hs b a

theorem after_2_1 : ∀ b a, (k0_pay6 (F := Ideal) (tile arg4 harg4 x3 ![128, 128] S64x128.size inb_S256x512_S64x128_128_128) (tile arg2 harg2 x1 ![128, 128] S64x128.size inb_S256x512_S64x128_128_128) (kernelRun0_B.sl.v352 (F := Ideal) c arg2 harg2 arg3 harg3 arg4 harg4 arg7 harg7 x1 x2 x3 xs0) (tile arg3 harg3 x2 ![128, 256] S64x256.size inb_S256x1024_S64x256_128_256) (ix2 b a) : EReal) = ((stAfter A K W (N 2) 1 a b : ℝ) : EReal) :=
  after_val _ _ _ _ (load_cols ha 2 1 _ rfl) (load_cols hk 2 1 _ rfl) (load_wide hv 2 1 _ rfl) (before_2_1 hN ha hk hv hs)

theorem before_2_2 : ∀ b a, ((kernelRun0_B.sl.v389 (F := Ideal) c arg2 harg2 arg3 harg3 arg4 harg4 arg7 harg7 x1 x2 x3 xs0) (ix3 (0 : Fin 1) b a) : EReal) = ((stBefore A K W (N 2) 2 a b : ℝ) : EReal) := by
  intro b a
  have e : (kernelRun0_B.sl.v389 (F := Ideal) c arg2 harg2 arg3 harg3 arg4 harg4 arg7 harg7 x1 x2 x3 xs0) (ix3 (0 : Fin 1) b a) = k0_pay7 (F := Ideal) (k0_pay6 (F := Ideal) (tile arg4 harg4 x3 ![64, 256] S64x128.size inb_S256x512_S64x128_64_256) (tile arg2 harg2 x1 ![64, 256] S64x128.size inb_S256x512_S64x128_64_256) (kernelRun0_B.sl.v241 (F := Ideal) c arg2 harg2 arg3 harg3 arg4 harg4 arg7 harg7 x1 x2 x3 xs0) (tile arg3 harg3 x2 ![64, 512] S64x256.size inb_S256x1024_S64x256_64_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 1) (N 2) (hN 1)]
  exact after_1_2 hN ha hk hv hs b a

theorem after_2_2 : ∀ b a, (k0_pay6 (F := Ideal) (tile arg4 harg4 x3 ![128, 256] S64x128.size inb_S256x512_S64x128_128_256) (tile arg2 harg2 x1 ![128, 256] S64x128.size inb_S256x512_S64x128_128_256) (kernelRun0_B.sl.v389 (F := Ideal) c arg2 harg2 arg3 harg3 arg4 harg4 arg7 harg7 x1 x2 x3 xs0) (tile arg3 harg3 x2 ![128, 512] S64x256.size inb_S256x1024_S64x256_128_512) (ix2 b a) : EReal) = ((stAfter A K W (N 2) 2 a b : ℝ) : EReal) :=
  after_val _ _ _ _ (load_cols ha 2 2 _ rfl) (load_cols hk 2 2 _ rfl) (load_wide hv 2 2 _ rfl) (before_2_2 hN ha hk hv hs)

theorem before_2_3 : ∀ b a, ((kernelRun0_B.sl.v426 (F := Ideal) c arg2 harg2 arg3 harg3 arg4 harg4 arg7 harg7 x1 x2 x3 xs0) (ix3 (0 : Fin 1) b a) : EReal) = ((stBefore A K W (N 2) 3 a b : ℝ) : EReal) := by
  intro b a
  have e : (kernelRun0_B.sl.v426 (F := Ideal) c arg2 harg2 arg3 harg3 arg4 harg4 arg7 harg7 x1 x2 x3 xs0) (ix3 (0 : Fin 1) b a) = k0_pay7 (F := Ideal) (k0_pay6 (F := Ideal) (tile arg4 harg4 x3 ![64, 384] S64x128.size inb_S256x512_S64x128_64_384) (tile arg2 harg2 x1 ![64, 384] S64x128.size inb_S256x512_S64x128_64_384) (kernelRun0_B.sl.v278 (F := Ideal) c arg2 harg2 arg3 harg3 arg4 harg4 arg7 harg7 x1 x2 x3 xs0) (tile arg3 harg3 x2 ![64, 768] S64x256.size inb_S256x1024_S64x256_64_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 1) (N 2) (hN 1)]
  exact after_1_3 hN ha hk hv hs b a

theorem after_2_3 : ∀ b a, (k0_pay6 (F := Ideal) (tile arg4 harg4 x3 ![128, 384] S64x128.size inb_S256x512_S64x128_128_384) (tile arg2 harg2 x1 ![128, 384] S64x128.size inb_S256x512_S64x128_128_384) (kernelRun0_B.sl.v426 (F := Ideal) c arg2 harg2 arg3 harg3 arg4 harg4 arg7 harg7 x1 x2 x3 xs0) (tile arg3 harg3 x2 ![128, 768] S64x256.size inb_S256x1024_S64x256_128_768) (ix2 b a) : EReal) = ((stAfter A K W (N 2) 3 a b : ℝ) : EReal) :=
  after_val _ _ _ _ (load_cols ha 2 3 _ rfl) (load_cols hk 2 3 _ rfl) (load_wide hv 2 3 _ rfl) (before_2_3 hN ha hk hv hs)

theorem before_3_0 : ∀ b a, ((kernelRun0_B.sl.v463 (F := Ideal) c arg2 harg2 arg3 harg3 arg4 harg4 arg7 harg7 x1 x2 x3 xs0) (ix3 (0 : Fin 1) b a) : EReal) = ((stBefore A K W (N 3) 0 a b : ℝ) : EReal) := by
  intro b a
  have e : (kernelRun0_B.sl.v463 (F := Ideal) c arg2 harg2 arg3 harg3 arg4 harg4 arg7 harg7 x1 x2 x3 xs0) (ix3 (0 : Fin 1) b a) = k0_pay7 (F := Ideal) (k0_pay6 (F := Ideal) (tile arg4 harg4 x3 ![128, 0] S64x128.size inb_S256x512_S64x128_128_0) (tile arg2 harg2 x1 ![128, 0] S64x128.size inb_S256x512_S64x128_128_0) (kernelRun0_B.sl.v315 (F := Ideal) c arg2 harg2 arg3 harg3 arg4 harg4 arg7 harg7 x1 x2 x3 xs0) (tile arg3 harg3 x2 ![128, 0] S64x256.size inb_S256x1024_S64x256_128_0)) (ix3 (0 : Fin 1) b a) :=
    read_head arg7.view (h := 0) (h1 := 3) (h2 := 2) (h3 := 1) (by decide) (by decide) (by decide) (by decide) inb_S4x256x128_S1x256x128_0_0_0 inb_S4x256x128_S1x256x128_3_0_0 inb_S4x256x128_S1x256x128_2_0_0 inb_S4x256x128_S1x256x128_1_0_0 _ _ _ _ _ b a
  rw [e, pay7_val, stBefore_next _ _ _ (N 2) (N 3) (hN 2)]
  exact after_2_0 hN ha hk hv hs b a

theorem after_3_0 : ∀ b a, (k0_pay6 (F := Ideal) (tile arg4 harg4 x3 ![192, 0] S64x128.size inb_S256x512_S64x128_192_0) (tile arg2 harg2 x1 ![192, 0] S64x128.size inb_S256x512_S64x128_192_0) (kernelRun0_B.sl.v463 (F := Ideal) c arg2 harg2 arg3 harg3 arg4 harg4 arg7 harg7 x1 x2 x3 xs0) (tile arg3 harg3 x2 ![192, 0] S64x256.size inb_S256x1024_S64x256_192_0) (ix2 b a) : EReal) = ((stAfter A K W (N 3) 0 a b : ℝ) : EReal) :=
  after_val _ _ _ _ (load_cols ha 3 0 _ rfl) (load_cols hk 3 0 _ rfl) (load_wide hv 3 0 _ rfl) (before_3_0 hN ha hk hv hs)

theorem before_3_1 : ∀ b a, ((kernelRun0_B.sl.v500 (F := Ideal) c arg2 harg2 arg3 harg3 arg4 harg4 arg7 harg7 x1 x2 x3 xs0) (ix3 (0 : Fin 1) b a) : EReal) = ((stBefore A K W (N 3) 1 a b : ℝ) : EReal) := by
  intro b a
  have e : (kernelRun0_B.sl.v500 (F := Ideal) c arg2 harg2 arg3 harg3 arg4 harg4 arg7 harg7 x1 x2 x3 xs0) (ix3 (0 : Fin 1) b a) = k0_pay7 (F := Ideal) (k0_pay6 (F := Ideal) (tile arg4 harg4 x3 ![128, 128] S64x128.size inb_S256x512_S64x128_128_128) (tile arg2 harg2 x1 ![128, 128] S64x128.size inb_S256x512_S64x128_128_128) (kernelRun0_B.sl.v352 (F := Ideal) c arg2 harg2 arg3 harg3 arg4 harg4 arg7 harg7 x1 x2 x3 xs0) (tile arg3 harg3 x2 ![128, 256] S64x256.size inb_S256x1024_S64x256_128_256)) (ix3 (0 : Fin 1) b a) :=
    read_head arg7.view (h := 1) (h1 := 0) (h2 := 3) (h3 := 2) (by decide) (by decide) (by decide) (by decide) inb_S4x256x128_S1x256x128_1_0_0 inb_S4x256x128_S1x256x128_0_0_0 inb_S4x256x128_S1x256x128_3_0_0 inb_S4x256x128_S1x256x128_2_0_0 _ _ _ _ _ b a
  rw [e, pay7_val, stBefore_next _ _ _ (N 2) (N 3) (hN 2)]
  exact after_2_1 hN ha hk hv hs b a

theorem after_3_1 : ∀ b a, (k0_pay6 (F := Ideal) (tile arg4 harg4 x3 ![192, 128] S64x128.size inb_S256x512_S64x128_192_128) (tile arg2 harg2 x1 ![192, 128] S64x128.size inb_S256x512_S64x128_192_128) (kernelRun0_B.sl.v500 (F := Ideal) c arg2 harg2 arg3 harg3 arg4 harg4 arg7 harg7 x1 x2 x3 xs0) (tile arg3 harg3 x2 ![192, 256] S64x256.size inb_S256x1024_S64x256_192_256) (ix2 b a) : EReal) = ((stAfter A K W (N 3) 1 a b : ℝ) : EReal) :=
  after_val _ _ _ _ (load_cols ha 3 1 _ rfl) (load_cols hk 3 1 _ rfl) (load_wide hv 3 1 _ rfl) (before_3_1 hN ha hk hv hs)

theorem before_3_2 : ∀ b a, ((kernelRun0_B.sl.v537 (F := Ideal) c arg2 harg2 arg3 harg3 arg4 harg4 arg7 harg7 x1 x2 x3 xs0) (ix3 (0 : Fin 1) b a) : EReal) = ((stBefore A K W (N 3) 2 a b : ℝ) : EReal) := by
  intro b a
  have e : (kernelRun0_B.sl.v537 (F := Ideal) c arg2 harg2 arg3 harg3 arg4 harg4 arg7 harg7 x1 x2 x3 xs0) (ix3 (0 : Fin 1) b a) = k0_pay7 (F := Ideal) (k0_pay6 (F := Ideal) (tile arg4 harg4 x3 ![128, 256] S64x128.size inb_S256x512_S64x128_128_256) (tile arg2 harg2 x1 ![128, 256] S64x128.size inb_S256x512_S64x128_128_256) (kernelRun0_B.sl.v389 (F := Ideal) c arg2 harg2 arg3 harg3 arg4 harg4 arg7 harg7 x1 x2 x3 xs0) (tile arg3 harg3 x2 ![128, 512] S64x256.size inb_S256x1024_S64x256_128_512)) (ix3 (0 : Fin 1) b a) :=
    read_head arg7.view (h := 2) (h1 := 1) (h2 := 0) (h3 := 3) (by decide) (by decide) (by decide) (by decide) inb_S4x256x128_S1x256x128_2_0_0 inb_S4x256x128_S1x256x128_1_0_0 inb_S4x256x128_S1x256x128_0_0_0 inb_S4x256x128_S1x256x128_3_0_0 _ _ _ _ _ b a
  rw [e, pay7_val, stBefore_next _ _ _ (N 2) (N 3) (hN 2)]
  exact after_2_2 hN ha hk hv hs b a

theorem after_3_2 : ∀ b a, (k0_pay6 (F := Ideal) (tile arg4 harg4 x3 ![192, 256] S64x128.size inb_S256x512_S64x128_192_256) (tile arg2 harg2 x1 ![192, 256] S64x128.size inb_S256x512_S64x128_192_256) (kernelRun0_B.sl.v537 (F := Ideal) c arg2 harg2 arg3 harg3 arg4 harg4 arg7 harg7 x1 x2 x3 xs0) (tile arg3 harg3 x2 ![192, 512] S64x256.size inb_S256x1024_S64x256_192_512) (ix2 b a) : EReal) = ((stAfter A K W (N 3) 2 a b : ℝ) : EReal) :=
  after_val _ _ _ _ (load_cols ha 3 2 _ rfl) (load_cols hk 3 2 _ rfl) (load_wide hv 3 2 _ rfl) (before_3_2 hN ha hk hv hs)

theorem before_3_3 : ∀ b a, ((kernelRun0_B.sl.v574 (F := Ideal) c arg2 harg2 arg3 harg3 arg4 harg4 arg7 harg7 x1 x2 x3 xs0) (ix3 (0 : Fin 1) b a) : EReal) = ((stBefore A K W (N 3) 3 a b : ℝ) : EReal) := by
  intro b a
  have e : (kernelRun0_B.sl.v574 (F := Ideal) c arg2 harg2 arg3 harg3 arg4 harg4 arg7 harg7 x1 x2 x3 xs0) (ix3 (0 : Fin 1) b a) = k0_pay7 (F := Ideal) (k0_pay6 (F := Ideal) (tile arg4 harg4 x3 ![128, 384] S64x128.size inb_S256x512_S64x128_128_384) (tile arg2 harg2 x1 ![128, 384] S64x128.size inb_S256x512_S64x128_128_384) (kernelRun0_B.sl.v426 (F := Ideal) c arg2 harg2 arg3 harg3 arg4 harg4 arg7 harg7 x1 x2 x3 xs0) (tile arg3 harg3 x2 ![128, 768] S64x256.size inb_S256x1024_S64x256_128_768)) (ix3 (0 : Fin 1) b a) :=
    read_head arg7.view (h := 3) (h1 := 2) (h2 := 1) (h3 := 0) (by decide) (by decide) (by decide) (by decide) inb_S4x256x128_S1x256x128_3_0_0 inb_S4x256x128_S1x256x128_2_0_0 inb_S4x256x128_S1x256x128_1_0_0 inb_S4x256x128_S1x256x128_0_0_0 _ _ _ _ _ b a
  rw [e, pay7_val, stBefore_next _ _ _ (N 2) (N 3) (hN 2)]
  exact after_2_3 hN ha hk hv hs b a

theorem after_3_3 : ∀ b a, (k0_pay6 (F := Ideal) (tile arg4 harg4 x3 ![192, 384] S64x128.size inb_S256x512_S64x128_192_384) (tile arg2 harg2 x1 ![192, 384] S64x128.size inb_S256x512_S64x128_192_384) (kernelRun0_B.sl.v574 (F := Ideal) c arg2 harg2 arg3 harg3 arg4 harg4 arg7 harg7 x1 x2 x3 xs0) (tile arg3 harg3 x2 ![192, 768] S64x256.size inb_S256x1024_S64x256_192_768) (ix2 b a) : EReal) = ((stAfter A K W (N 3) 3 a b : ℝ) : EReal) :=
  after_val _ _ _ _ (load_cols ha 3 3 _ rfl) (load_cols hk 3 3 _ rfl) (load_wide hv 3 3 _ rfl) (before_3_3 hN ha hk hv hs)

/-- The block of the output. -/
theorem out_block (hq : IsCols x0 Q N) (hc0 : ¬cond0_0 i) : out0_B_4 c i arg1 harg1 arg2 harg2 arg3 harg3 arg4 harg4 arg5 harg5 arg6 harg6 arg7 harg7 hc0 x0 x1 x2 x3 xs0 =
    fun y : B1024.Idx => ((out Q A K W (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  funext y
  refine View.canon_apply_of_pieces (fun y : B1024.Idx => ((out Q A K W (N ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal)) _ ?_ y (cover0_B_4 c i arg1 harg1 arg2 harg2 arg3 harg3 arg4 harg4 arg5 harg5 arg6 harg6 arg7 harg7 hc0 x0 x1 x2 x3 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_wide (fun t c h b => out Q A K W (N t) c h b) 3 3 inb_S256x1024_S64x256_192_768 rfl _ (out_val (k0_pay6 (F := Ideal) (tile arg4 harg4 x3 ![192, 384] S64x128.size inb_S256x512_S64x128_192_384) (tile arg2 harg2 x1 ![192, 384] S64x128.size inb_S256x512_S64x128_192_384) (kernelRun0_B.sl.v574 (F := Ideal) c arg2 harg2 arg3 harg3 arg4 harg4 arg7 harg7 x1 x2 x3 xs0) (tile arg3 harg3 x2 ![192, 768] S64x256.size inb_S256x1024_S64x256_192_768)) (tile arg1 harg1 x0 ![192, 384] S64x128.size inb_S256x512_S64x128_192_384) (load_cols hq 3 3 _ rfl) (after_3_3 hN ha hk hv hs))
  · exact piece_wide (fun t c h b => out Q A K W (N t) c h b) 3 2 inb_S256x1024_S64x256_192_512 rfl _ (out_val (k0_pay6 (F := Ideal) (tile arg4 harg4 x3 ![192, 256] S64x128.size inb_S256x512_S64x128_192_256) (tile arg2 harg2 x1 ![192, 256] S64x128.size inb_S256x512_S64x128_192_256) (kernelRun0_B.sl.v537 (F := Ideal) c arg2 harg2 arg3 harg3 arg4 harg4 arg7 harg7 x1 x2 x3 xs0) (tile arg3 harg3 x2 ![192, 512] S64x256.size inb_S256x1024_S64x256_192_512)) (tile arg1 harg1 x0 ![192, 256] S64x128.size inb_S256x512_S64x128_192_256) (load_cols hq 3 2 _ rfl) (after_3_2 hN ha hk hv hs))
  · exact piece_wide (fun t c h b => out Q A K W (N t) c h b) 3 1 inb_S256x1024_S64x256_192_256 rfl _ (out_val (k0_pay6 (F := Ideal) (tile arg4 harg4 x3 ![192, 128] S64x128.size inb_S256x512_S64x128_192_128) (tile arg2 harg2 x1 ![192, 128] S64x128.size inb_S256x512_S64x128_192_128) (kernelRun0_B.sl.v500 (F := Ideal) c arg2 harg2 arg3 harg3 arg4 harg4 arg7 harg7 x1 x2 x3 xs0) (tile arg3 harg3 x2 ![192, 256] S64x256.size inb_S256x1024_S64x256_192_256)) (tile arg1 harg1 x0 ![192, 128] S64x128.size inb_S256x512_S64x128_192_128) (load_cols hq 3 1 _ rfl) (after_3_1 hN ha hk hv hs))
  · exact piece_wide (fun t c h b => out Q A K W (N t) c h b) 3 0 inb_S256x1024_S64x256_192_0 rfl _ (out_val (k0_pay6 (F := Ideal) (tile arg4 harg4 x3 ![192, 0] S64x128.size inb_S256x512_S64x128_192_0) (tile arg2 harg2 x1 ![192, 0] S64x128.size inb_S256x512_S64x128_192_0) (kernelRun0_B.sl.v463 (F := Ideal) c arg2 harg2 arg3 harg3 arg4 harg4 arg7 harg7 x1 x2 x3 xs0) (tile arg3 harg3 x2 ![192, 0] S64x256.size inb_S256x1024_S64x256_192_0)) (tile arg1 harg1 x0 ![192, 0] S64x128.size inb_S256x512_S64x128_192_0) (load_cols hq 3 0 _ rfl) (after_3_0 hN ha hk hv hs))
  · exact piece_wide (fun t c h b => out Q A K W (N t) c h b) 2 3 inb_S256x1024_S64x256_128_768 rfl _ (out_val (k0_pay6 (F := Ideal) (tile arg4 harg4 x3 ![128, 384] S64x128.size inb_S256x512_S64x128_128_384) (tile arg2 harg2 x1 ![128, 384] S64x128.size inb_S256x512_S64x128_128_384) (kernelRun0_B.sl.v426 (F := Ideal) c arg2 harg2 arg3 harg3 arg4 harg4 arg7 harg7 x1 x2 x3 xs0) (tile arg3 harg3 x2 ![128, 768] S64x256.size inb_S256x1024_S64x256_128_768)) (tile arg1 harg1 x0 ![128, 384] S64x128.size inb_S256x512_S64x128_128_384) (load_cols hq 2 3 _ rfl) (after_2_3 hN ha hk hv hs))
  · exact piece_wide (fun t c h b => out Q A K W (N t) c h b) 2 2 inb_S256x1024_S64x256_128_512 rfl _ (out_val (k0_pay6 (F := Ideal) (tile arg4 harg4 x3 ![128, 256] S64x128.size inb_S256x512_S64x128_128_256) (tile arg2 harg2 x1 ![128, 256] S64x128.size inb_S256x512_S64x128_128_256) (kernelRun0_B.sl.v389 (F := Ideal) c arg2 harg2 arg3 harg3 arg4 harg4 arg7 harg7 x1 x2 x3 xs0) (tile arg3 harg3 x2 ![128, 512] S64x256.size inb_S256x1024_S64x256_128_512)) (tile arg1 harg1 x0 ![128, 256] S64x128.size inb_S256x512_S64x128_128_256) (load_cols hq 2 2 _ rfl) (after_2_2 hN ha hk hv hs))
  · exact piece_wide (fun t c h b => out Q A K W (N t) c h b) 2 1 inb_S256x1024_S64x256_128_256 rfl _ (out_val (k0_pay6 (F := Ideal) (tile arg4 harg4 x3 ![128, 128] S64x128.size inb_S256x512_S64x128_128_128) (tile arg2 harg2 x1 ![128, 128] S64x128.size inb_S256x512_S64x128_128_128) (kernelRun0_B.sl.v352 (F := Ideal) c arg2 harg2 arg3 harg3 arg4 harg4 arg7 harg7 x1 x2 x3 xs0) (tile arg3 harg3 x2 ![128, 256] S64x256.size inb_S256x1024_S64x256_128_256)) (tile arg1 harg1 x0 ![128, 128] S64x128.size inb_S256x512_S64x128_128_128) (load_cols hq 2 1 _ rfl) (after_2_1 hN ha hk hv hs))
  · exact piece_wide (fun t c h b => out Q A K W (N t) c h b) 2 0 inb_S256x1024_S64x256_128_0 rfl _ (out_val (k0_pay6 (F := Ideal) (tile arg4 harg4 x3 ![128, 0] S64x128.size inb_S256x512_S64x128_128_0) (tile arg2 harg2 x1 ![128, 0] S64x128.size inb_S256x512_S64x128_128_0) (kernelRun0_B.sl.v315 (F := Ideal) c arg2 harg2 arg3 harg3 arg4 harg4 arg7 harg7 x1 x2 x3 xs0) (tile arg3 harg3 x2 ![128, 0] S64x256.size inb_S256x1024_S64x256_128_0)) (tile arg1 harg1 x0 ![128, 0] S64x128.size inb_S256x512_S64x128_128_0) (load_cols hq 2 0 _ rfl) (after_2_0 hN ha hk hv hs))
  · exact piece_wide (fun t c h b => out Q A K W (N t) c h b) 1 3 inb_S256x1024_S64x256_64_768 rfl _ (out_val (k0_pay6 (F := Ideal) (tile arg4 harg4 x3 ![64, 384] S64x128.size inb_S256x512_S64x128_64_384) (tile arg2 harg2 x1 ![64, 384] S64x128.size inb_S256x512_S64x128_64_384) (kernelRun0_B.sl.v278 (F := Ideal) c arg2 harg2 arg3 harg3 arg4 harg4 arg7 harg7 x1 x2 x3 xs0) (tile arg3 harg3 x2 ![64, 768] S64x256.size inb_S256x1024_S64x256_64_768)) (tile arg1 harg1 x0 ![64, 384] S64x128.size inb_S256x512_S64x128_64_384) (load_cols hq 1 3 _ rfl) (after_1_3 hN ha hk hv hs))
  · exact piece_wide (fun t c h b => out Q A K W (N t) c h b) 1 2 inb_S256x1024_S64x256_64_512 rfl _ (out_val (k0_pay6 (F := Ideal) (tile arg4 harg4 x3 ![64, 256] S64x128.size inb_S256x512_S64x128_64_256) (tile arg2 harg2 x1 ![64, 256] S64x128.size inb_S256x512_S64x128_64_256) (kernelRun0_B.sl.v241 (F := Ideal) c arg2 harg2 arg3 harg3 arg4 harg4 arg7 harg7 x1 x2 x3 xs0) (tile arg3 harg3 x2 ![64, 512] S64x256.size inb_S256x1024_S64x256_64_512)) (tile arg1 harg1 x0 ![64, 256] S64x128.size inb_S256x512_S64x128_64_256) (load_cols hq 1 2 _ rfl) (after_1_2 hN ha hk hv hs))
  · exact piece_wide (fun t c h b => out Q A K W (N t) c h b) 1 1 inb_S256x1024_S64x256_64_256 rfl _ (out_val (k0_pay6 (F := Ideal) (tile arg4 harg4 x3 ![64, 128] S64x128.size inb_S256x512_S64x128_64_128) (tile arg2 harg2 x1 ![64, 128] S64x128.size inb_S256x512_S64x128_64_128) (kernelRun0_B.sl.v204 (F := Ideal) c arg2 harg2 arg3 harg3 arg4 harg4 arg7 harg7 x1 x2 x3 xs0) (tile arg3 harg3 x2 ![64, 256] S64x256.size inb_S256x1024_S64x256_64_256)) (tile arg1 harg1 x0 ![64, 128] S64x128.size inb_S256x512_S64x128_64_128) (load_cols hq 1 1 _ rfl) (after_1_1 hN ha hk hv hs))
  · exact piece_wide (fun t c h b => out Q A K W (N t) c h b) 1 0 inb_S256x1024_S64x256_64_0 rfl _ (out_val (k0_pay6 (F := Ideal) (tile arg4 harg4 x3 ![64, 0] S64x128.size inb_S256x512_S64x128_64_0) (tile arg2 harg2 x1 ![64, 0] S64x128.size inb_S256x512_S64x128_64_0) (kernelRun0_B.sl.v167 (F := Ideal) c arg2 harg2 arg3 harg3 arg4 harg4 arg7 harg7 x1 x2 x3 xs0) (tile arg3 harg3 x2 ![64, 0] S64x256.size inb_S256x1024_S64x256_64_0)) (tile arg1 harg1 x0 ![64, 0] S64x128.size inb_S256x512_S64x128_64_0) (load_cols hq 1 0 _ rfl) (after_1_0 hN ha hk hv hs))
  · exact piece_wide (fun t c h b => out Q A K W (N t) c h b) 0 3 inb_S256x1024_S64x256_0_768 rfl _ (out_val (k0_pay6 (F := Ideal) (tile arg4 harg4 x3 ![0, 384] S64x128.size inb_S256x512_S64x128_0_384) (tile arg2 harg2 x1 ![0, 384] S64x128.size inb_S256x512_S64x128_0_384) (tile arg7 harg7 xs0 ![3, 0, 0] S1x256x128.size inb_S4x256x128_S1x256x128_3_0_0) (tile arg3 harg3 x2 ![0, 768] S64x256.size inb_S256x1024_S64x256_0_768)) (tile arg1 harg1 x0 ![0, 384] S64x128.size inb_S256x512_S64x128_0_384) (load_cols hq 0 3 _ rfl) (after_0_3 hN ha hk hv hs))
  · exact piece_wide (fun t c h b => out Q A K W (N t) c h b) 0 2 inb_S256x1024_S64x256_0_512 rfl _ (out_val (k0_pay6 (F := Ideal) (tile arg4 harg4 x3 ![0, 256] S64x128.size inb_S256x512_S64x128_0_256) (tile arg2 harg2 x1 ![0, 256] S64x128.size inb_S256x512_S64x128_0_256) (tile arg7 harg7 xs0 ![2, 0, 0] S1x256x128.size inb_S4x256x128_S1x256x128_2_0_0) (tile arg3 harg3 x2 ![0, 512] S64x256.size inb_S256x1024_S64x256_0_512)) (tile arg1 harg1 x0 ![0, 256] S64x128.size inb_S256x512_S64x128_0_256) (load_cols hq 0 2 _ rfl) (after_0_2 hN ha hk hv hs))
  · exact piece_wide (fun t c h b => out Q A K W (N t) c h b) 0 1 inb_S256x1024_S64x256_0_256 rfl _ (out_val (k0_pay6 (F := Ideal) (tile arg4 harg4 x3 ![0, 128] S64x128.size inb_S256x512_S64x128_0_128) (tile arg2 harg2 x1 ![0, 128] S64x128.size inb_S256x512_S64x128_0_128) (tile arg7 harg7 xs0 ![1, 0, 0] S1x256x128.size inb_S4x256x128_S1x256x128_1_0_0) (tile arg3 harg3 x2 ![0, 256] S64x256.size inb_S256x1024_S64x256_0_256)) (tile arg1 harg1 x0 ![0, 128] S64x128.size inb_S256x512_S64x128_0_128) (load_cols hq 0 1 _ rfl) (after_0_1 hN ha hk hv hs))
  · exact piece_wide (fun t c h b => out Q A K W (N t) c h b) 0 0 inb_S256x1024_S64x256_0_0 rfl _ (out_val (k0_pay6 (F := Ideal) (tile arg4 harg4 x3 ![0, 0] S64x128.size inb_S256x512_S64x128_0_0) (tile arg2 harg2 x1 ![0, 0] S64x128.size inb_S256x512_S64x128_0_0) (tile arg7 harg7 xs0 ![0, 0, 0] S1x256x128.size inb_S4x256x128_S1x256x128_0_0_0) (tile arg3 harg3 x2 ![0, 0] S64x256.size inb_S256x1024_S64x256_0_0)) (tile arg1 harg1 x0 ![0, 0] S64x128.size inb_S256x512_S64x128_0_0) (load_cols hq 0 0 _ rfl) (after_0_0 hN ha hk hv hs))

/-- The block of the states before the chunks. -/
theorem states_block (hc0 : ¬cond0_0 i) : out0_B_5 c i arg1 harg1 arg2 harg2 arg3 harg3 arg4 harg4 arg5 harg5 arg6 harg6 arg7 harg7 hc0 x0 x1 x2 x3 xs0 = fun y : BStates.Idx => ((stBefore A K W (N (y 1)) (y 0) (y 3) (y 2) : ℝ) : EReal) := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  funext y
  refine View.canon_apply_of_pieces (fun y : BStates.Idx => ((stBefore A K W (N (y 1)) (y 0) (y 3) (y 2) : ℝ) : EReal)) _ ?_ y (cover0_B_5 c i arg1 harg1 arg2 harg2 arg3 harg3 arg4 harg4 arg5 harg5 arg6 harg6 arg7 harg7 hc0 x0 x1 x2 x3 xs0 y)
  unfold kernelRun0_B
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · exact piece_state (fun h t b a => stBefore A K W (N t) h a b) 3 3 inb_S4x4x256x128_S1x1x256x128_3_3_0_0 rfl _ (fun b a => (pay5_val (kernelRun0_B.sl.v574 (F := Ideal) c arg2 harg2 arg3 harg3 arg4 harg4 arg7 harg7 x1 x2 x3 xs0) b a).trans (before_3_3 hN ha hk hv hs b a))
  · exact piece_state (fun h t b a => stBefore A K W (N t) h a b) 2 3 inb_S4x4x256x128_S1x1x256x128_2_3_0_0 rfl _ (fun b a => (pay5_val (kernelRun0_B.sl.v537 (F := Ideal) c arg2 harg2 arg3 harg3 arg4 harg4 arg7 harg7 x1 x2 x3 xs0) b a).trans (before_3_2 hN ha hk hv hs b a))
  · exact piece_state (fun h t b a => stBefore A K W (N t) h a b) 1 3 inb_S4x4x256x128_S1x1x256x128_1_3_0_0 rfl _ (fun b a => (pay5_val (kernelRun0_B.sl.v500 (F := Ideal) c arg2 harg2 arg3 harg3 arg4 harg4 arg7 harg7 x1 x2 x3 xs0) b a).trans (before_3_1 hN ha hk hv hs b a))
  · exact piece_state (fun h t b a => stBefore A K W (N t) h a b) 0 3 inb_S4x4x256x128_S1x1x256x128_0_3_0_0 rfl _ (fun b a => (pay5_val (kernelRun0_B.sl.v463 (F := Ideal) c arg2 harg2 arg3 harg3 arg4 harg4 arg7 harg7 x1 x2 x3 xs0) b a).trans (before_3_0 hN ha hk hv hs b a))
  · exact piece_state (fun h t b a => stBefore A K W (N t) h a b) 3 2 inb_S4x4x256x128_S1x1x256x128_3_2_0_0 rfl _ (fun b a => (pay5_val (kernelRun0_B.sl.v426 (F := Ideal) c arg2 harg2 arg3 harg3 arg4 harg4 arg7 harg7 x1 x2 x3 xs0) b a).trans (before_2_3 hN ha hk hv hs b a))
  · exact piece_state (fun h t b a => stBefore A K W (N t) h a b) 2 2 inb_S4x4x256x128_S1x1x256x128_2_2_0_0 rfl _ (fun b a => (pay5_val (kernelRun0_B.sl.v389 (F := Ideal) c arg2 harg2 arg3 harg3 arg4 harg4 arg7 harg7 x1 x2 x3 xs0) b a).trans (before_2_2 hN ha hk hv hs b a))
  · exact piece_state (fun h t b a => stBefore A K W (N t) h a b) 1 2 inb_S4x4x256x128_S1x1x256x128_1_2_0_0 rfl _ (fun b a => (pay5_val (kernelRun0_B.sl.v352 (F := Ideal) c arg2 harg2 arg3 harg3 arg4 harg4 arg7 harg7 x1 x2 x3 xs0) b a).trans (before_2_1 hN ha hk hv hs b a))
  · exact piece_state (fun h t b a => stBefore A K W (N t) h a b) 0 2 inb_S4x4x256x128_S1x1x256x128_0_2_0_0 rfl _ (fun b a => (pay5_val (kernelRun0_B.sl.v315 (F := Ideal) c arg2 harg2 arg3 harg3 arg4 harg4 arg7 harg7 x1 x2 x3 xs0) b a).trans (before_2_0 hN ha hk hv hs b a))
  · exact piece_state (fun h t b a => stBefore A K W (N t) h a b) 3 1 inb_S4x4x256x128_S1x1x256x128_3_1_0_0 rfl _ (fun b a => (pay5_val (kernelRun0_B.sl.v278 (F := Ideal) c arg2 harg2 arg3 harg3 arg4 harg4 arg7 harg7 x1 x2 x3 xs0) b a).trans (before_1_3 hN ha hk hv hs b a))
  · exact piece_state (fun h t b a => stBefore A K W (N t) h a b) 2 1 inb_S4x4x256x128_S1x1x256x128_2_1_0_0 rfl _ (fun b a => (pay5_val (kernelRun0_B.sl.v241 (F := Ideal) c arg2 harg2 arg3 harg3 arg4 harg4 arg7 harg7 x1 x2 x3 xs0) b a).trans (before_1_2 hN ha hk hv hs b a))
  · exact piece_state (fun h t b a => stBefore A K W (N t) h a b) 1 1 inb_S4x4x256x128_S1x1x256x128_1_1_0_0 rfl _ (fun b a => (pay5_val (kernelRun0_B.sl.v204 (F := Ideal) c arg2 harg2 arg3 harg3 arg4 harg4 arg7 harg7 x1 x2 x3 xs0) b a).trans (before_1_1 hN ha hk hv hs b a))
  · exact piece_state (fun h t b a => stBefore A K W (N t) h a b) 0 1 inb_S4x4x256x128_S1x1x256x128_0_1_0_0 rfl _ (fun b a => (pay5_val (kernelRun0_B.sl.v167 (F := Ideal) c arg2 harg2 arg3 harg3 arg4 harg4 arg7 harg7 x1 x2 x3 xs0) b a).trans (before_1_0 hN ha hk hv hs b a))
  · exact piece_state (fun h t b a => stBefore A K W (N t) h a b) 3 0 inb_S4x4x256x128_S1x1x256x128_3_0_0_0 rfl _ (fun b a => (pay5_val (tile arg7 harg7 xs0 ![3, 0, 0] S1x256x128.size inb_S4x256x128_S1x256x128_3_0_0) b a).trans (before_0_3 hN ha hk hv hs b a))
  · exact piece_state (fun h t b a => stBefore A K W (N t) h a b) 2 0 inb_S4x4x256x128_S1x1x256x128_2_0_0_0 rfl _ (fun b a => (pay5_val (tile arg7 harg7 xs0 ![2, 0, 0] S1x256x128.size inb_S4x256x128_S1x256x128_2_0_0) b a).trans (before_0_2 hN ha hk hv hs b a))
  · exact piece_state (fun h t b a => stBefore A K W (N t) h a b) 1 0 inb_S4x4x256x128_S1x1x256x128_1_0_0_0 rfl _ (fun b a => (pay5_val (tile arg7 harg7 xs0 ![1, 0, 0] S1x256x128.size inb_S4x256x128_S1x256x128_1_0_0) b a).trans (before_0_1 hN ha hk hv hs b a))
  · exact piece_state (fun h t b a => stBefore A K W (N t) h a b) 0 0 inb_S4x4x256x128_S1x1x256x128_0_0_0_0 rfl _ (fun b a => (pay5_val (tile arg7 harg7 xs0 ![0, 0, 0] S1x256x128.size inb_S4x256x128_S1x256x128_0_0_0) b a).trans (before_0_0 hN ha hk hv hs b a))

/-- The carried state after the block. -/
theorem carried_block (hc0 : ¬cond0_0 i) (h : Fin 4) (b : Fin 256) (a : Fin 128) : (sout0_B_0 c i arg1 harg1 arg2 harg2 arg3 harg3 arg4 harg4 arg5 harg5 arg6 harg6 arg7 harg7 hc0 x0 x1 x2 x3 xs0 (ix3 h b a) : EReal) = ((stAfter A K W (N 3) h a b : ℝ) : EReal) := by
  unfold sout0_B_0
  rw [View.read_writes_eq_canon _ _ _ (scover0_B_0 c i arg1 harg1 arg2 harg2 arg3 harg3 arg4 harg4 arg5 harg5 arg6 harg6 arg7 harg7 hc0 x0 x1 x2 x3 xs0)]
  unfold kernelRun0_B
  dsimp only
  exact canon_heads (fun h b a => stAfter A K W (N 3) h a b) inb_S4x256x128_S1x256x128_0_0_0 inb_S4x256x128_S1x256x128_1_0_0 inb_S4x256x128_S1x256x128_2_0_0 inb_S4x256x128_S1x256x128_3_0_0 (k0_pay7 (k0_pay6 (F := Ideal) (tile arg4 harg4 x3 ![192, 0] S64x128.size inb_S256x512_S64x128_192_0) (tile arg2 harg2 x1 ![192, 0] S64x128.size inb_S256x512_S64x128_192_0) (kernelRun0_B.sl.v463 (F := Ideal) c arg2 harg2 arg3 harg3 arg4 harg4 arg7 harg7 x1 x2 x3 xs0) (tile arg3 harg3 x2 ![192, 0] S64x256.size inb_S256x1024_S64x256_192_0))) (k0_pay7 (k0_pay6 (F := Ideal) (tile arg4 harg4 x3 ![192, 128] S64x128.size inb_S256x512_S64x128_192_128) (tile arg2 harg2 x1 ![192, 128] S64x128.size inb_S256x512_S64x128_192_128) (kernelRun0_B.sl.v500 (F := Ideal) c arg2 harg2 arg3 harg3 arg4 harg4 arg7 harg7 x1 x2 x3 xs0) (tile arg3 harg3 x2 ![192, 256] S64x256.size inb_S256x1024_S64x256_192_256))) (k0_pay7 (k0_pay6 (F := Ideal) (tile arg4 harg4 x3 ![192, 256] S64x128.size inb_S256x512_S64x128_192_256) (tile arg2 harg2 x1 ![192, 256] S64x128.size inb_S256x512_S64x128_192_256) (kernelRun0_B.sl.v537 (F := Ideal) c arg2 harg2 arg3 harg3 arg4 harg4 arg7 harg7 x1 x2 x3 xs0) (tile arg3 harg3 x2 ![192, 512] S64x256.size inb_S256x1024_S64x256_192_512))) (k0_pay7 (k0_pay6 (F := Ideal) (tile arg4 harg4 x3 ![192, 384] S64x128.size inb_S256x512_S64x128_192_384) (tile arg2 harg2 x1 ![192, 384] S64x128.size inb_S256x512_S64x128_192_384) (kernelRun0_B.sl.v574 (F := Ideal) c arg2 harg2 arg3 harg3 arg4 harg4 arg7 harg7 x1 x2 x3 xs0) (tile arg3 harg3 x2 ![192, 768] S64x256.size inb_S256x1024_S64x256_192_768))) _ (fun b a => (pay7_val (k0_pay6 (F := Ideal) (tile arg4 harg4 x3 ![192, 0] S64x128.size inb_S256x512_S64x128_192_0) (tile arg2 harg2 x1 ![192, 0] S64x128.size inb_S256x512_S64x128_192_0) (kernelRun0_B.sl.v463 (F := Ideal) c arg2 harg2 arg3 harg3 arg4 harg4 arg7 harg7 x1 x2 x3 xs0) (tile arg3 harg3 x2 ![192, 0] S64x256.size inb_S256x1024_S64x256_192_0)) b a).trans (after_3_0 hN ha hk hv hs b a)) (fun b a => (pay7_val (k0_pay6 (F := Ideal) (tile arg4 harg4 x3 ![192, 128] S64x128.size inb_S256x512_S64x128_192_128) (tile arg2 harg2 x1 ![192, 128] S64x128.size inb_S256x512_S64x128_192_128) (kernelRun0_B.sl.v500 (F := Ideal) c arg2 harg2 arg3 harg3 arg4 harg4 arg7 harg7 x1 x2 x3 xs0) (tile arg3 harg3 x2 ![192, 256] S64x256.size inb_S256x1024_S64x256_192_256)) b a).trans (after_3_1 hN ha hk hv hs b a)) (fun b a => (pay7_val (k0_pay6 (F := Ideal) (tile arg4 harg4 x3 ![192, 256] S64x128.size inb_S256x512_S64x128_192_256) (tile arg2 harg2 x1 ![192, 256] S64x128.size inb_S256x512_S64x128_192_256) (kernelRun0_B.sl.v537 (F := Ideal) c arg2 harg2 arg3 harg3 arg4 harg4 arg7 harg7 x1 x2 x3 xs0) (tile arg3 harg3 x2 ![192, 512] S64x256.size inb_S256x1024_S64x256_192_512)) b a).trans (after_3_2 hN ha hk hv hs b a)) (fun b a => (pay7_val (k0_pay6 (F := Ideal) (tile arg4 harg4 x3 ![192, 384] S64x128.size inb_S256x512_S64x128_192_384) (tile arg2 harg2 x1 ![192, 384] S64x128.size inb_S256x512_S64x128_192_384) (kernelRun0_B.sl.v574 (F := Ideal) c arg2 harg2 arg3 harg3 arg4 harg4 arg7 harg7 x1 x2 x3 xs0) (tile arg3 harg3 x2 ![192, 768] S64x256.size inb_S256x1024_S64x256_192_768)) b a).trans (after_3_3 hN ha hk hv hs b a)) h b a

end Cert.Kernel3Ideal.Gla.Later
-- ==== Proof.Gla.Blocks3.lean ====
/- The forward call's blocks: what its windows hold at a grid point, what it leaves there, and from that the two result arrays. -/
module

public import proofs.«01_k».proof.Proof.Gen.Kernel3Ideal.Value
public import proofs.«01_k».proof.Proof.Gla.First3
public import proofs.«01_k».proof.Proof.Gla.Later3
public import Idealize.ShloMosaic.Lib.Pipeline.ValueKit

@[expose] public section

set_option maxRecDepth 16384

noncomputable section

namespace Cert.Kernel3Ideal.Gla

open Cert.Kernel3Ideal Cert.Kernel3Ideal.Gen Cert.Gla Idealize.ShloMosaic Idealize.ShloMosaic.TcCoe Idealize.SL.Sem
open Idealize.ShloMosaic.Pipeline (Dat)

variable (m : (ℓ : Loc nD τ sig) → Buf (Elt Ideal) ℓ) (c : Dev nD)

/-- The packed columns as the call finds them. -/
theorem packed_eq : V m c main_v2 = concatenate S4096x3328 1
    [⟨S4096x1024, (m ((c : Thread nD τ).loc main_arg2) : FVec Ideal S4096x1024 .f32)⟩,
     ⟨S4096x1024, (broadcastInDim S4096x1024 ![] bcast_S_S4096x1024 (constant (F := Ideal) S_ .f32 0x00000000#32) : FVec Ideal S4096x1024 .f32)⟩,
     ⟨S4096x512, (m ((c : Thread nD τ).loc main_arg0) : FVec Ideal S4096x512 .f32)⟩,
     ⟨S4096x512, (m ((c : Thread nD τ).loc main_arg1) : FVec Ideal S4096x512 .f32)⟩,
     ⟨S4096x256, (broadcastInDim S4096x256 ![] bcast_S_S4096x256 (constant (F := Ideal) S_ .f32 0x00000000#32) : FVec Ideal S4096x256 .f32)⟩]
    concatenates_S4096x1024_S4096x1024_S4096x512_S4096x512_S4096x256_S4096x3328_d1 := by
  show StableHlo.after hostOps0 (fun b => m (c, b)) (Proc.devRef .tc main_v2) = _
  simp only [hostOps0]
  after_results_simp
  dsimp only [Matrix.cons_val]
  rfl

theorem packed_v (r : Fin 4096) (j : Fin 1024) : V m c main_v2 (ix2 r ⟨j.val, by omega⟩) = m ((c : Thread nD τ).loc main_arg2) (ix2 r j) := by
  rw [packed_eq]
  pointwise

theorem packed_q (r : Fin 4096) (j : Fin 512) : V m c main_v2 (ix2 r ⟨2048 + j.val, by omega⟩) = m ((c : Thread nD τ).loc main_arg0) (ix2 r j) := by
  rw [packed_eq]
  pointwise
  rw [dif_neg (by omega), dif_neg (by omega), dif_pos (by omega)]
  exact congrArg (fun j => m ((c : Thread nD τ).loc main_arg0) (ix2 r j)) (Fin.ext (by dsimp only; omega))

theorem packed_k (r : Fin 4096) (j : Fin 512) : V m c main_v2 (ix2 r ⟨2560 + j.val, by omega⟩) = m ((c : Thread nD τ).loc main_arg1) (ix2 r j) := by
  rw [packed_eq]
  pointwise
  rw [dif_neg (by omega), dif_neg (by omega), dif_neg (by omega), dif_pos (by omega)]
  exact congrArg (fun j => m ((c : Thread nD τ).loc main_arg1) (ix2 r j)) (Fin.ext (by dsimp only; omega))

theorem idx0 : ∀ t : Fin cfg0.N, win0_0.index t = ![t.val, 4] ∧ win0_1.index t = ![t.val, 5] ∧ win0_2.index t = ![t.val, 0] ∧ win0_3.index t = ![t.val, 0]
    ∧ win0_4.index t = ![t.val, 0] ∧ win0_5.index t = ![0, t.val, 0, 0] :=
  (by decide +kernel : ∀ t : Fin grid0.N, _)

theorem points (t : Fin cfg0.N) : t.val < 16 := t.isLt

/-- A block's row among all rows. -/
def rowAt (t : Fin cfg0.N) (r : Fin 256) : Fin 4096 := ⟨256 * t.val + r.val, by have := points t; omega⟩

theorem block_q (t : Fin cfg0.N) (r : Fin 256) (j : Fin 512) : X0_0 m c t (ix2 r j) = m ((c : Thread nD τ).loc main_arg0) (ix2 (rowAt t r) j) := by
  rw [← packed_q m c]
  unfold X0_0 Pipeline.Window.fill
  rw [dif_pos (moved0_0 t _)]
  blk_point [iblk, idx0 t, rowAt]

theorem block_k (t : Fin cfg0.N) (r : Fin 256) (j : Fin 512) : X0_1 m c t (ix2 r j) = m ((c : Thread nD τ).loc main_arg1) (ix2 (rowAt t r) j) := by
  rw [← packed_k m c]
  unfold X0_1 Pipeline.Window.fill
  rw [dif_pos (moved0_1 t _)]
  blk_point [iblk, idx0 t, rowAt]

theorem block_v (t : Fin cfg0.N) (r : Fin 256) (j : Fin 1024) : X0_2 m c t (ix2 r j) = m ((c : Thread nD τ).loc main_arg2) (ix2 (rowAt t r) j) := by
  rw [← packed_v m c]
  unfold X0_2 Pipeline.Window.fill
  rw [dif_pos (moved0_2 t _)]
  blk_point [iblk, idx0 t, rowAt]

theorem block_a (t : Fin cfg0.N) (r : Fin 256) (j : Fin 512) : iblk m c 3 t (ix2 r j) = m ((c : Thread nD τ).loc main_arg3) (ix2 (rowAt t r) j) := by
  rw [← V_main_arg3 m c]
  blk_point [iblk, idx0 t, rowAt]

end Cert.Kernel3Ideal.Gla

end
-- ==== Proof.Gla.Arrays3.lean ====
/- The forward call's two result arrays: the output rows and the state before every chunk. -/
module

public import proofs.«01_k».proof.Proof.Gla.Blocks3
public import proofs.«01_k».proof.Proof.Gla.Whole

@[expose] public section

set_option maxRecDepth 16384

noncomputable section

namespace Cert.Kernel3Ideal.Gla

open Cert.Kernel3Ideal Cert.Kernel3Ideal.Gen Cert.Gla Idealize.ShloMosaic Idealize.ShloMosaic.TcCoe Idealize.SL.Sem
open Idealize.ShloMosaic.Pipeline (Dat)

variable (m : (ℓ : Loc nD τ sig) → Buf (Elt Ideal) ℓ) (c : Dev nD)

/-- A grid point as a number under sixteen. -/
abbrev pt (t : Fin cfg0.N) : Fin 16 := ⟨t.val, points t⟩

theorem rowAt_row (t : Fin cfg0.N) (u : Fin 4) (s : Fin 64) : rowAt t (row u s) = grow (chunkAt (pt t) u) s := Fin.ext (by
  show 256 * t.val + (64 * u.val + s.val) = 64 * (4 * t.val + u.val) + s.val
  omega)

theorem states_congr (f : Fin 64 → Fin 4 → Fin 128 → Fin 256 → ℝ) {n n' : Fin 64} {h h' : Fin 4} {a a' : Fin 128} {b b' : Fin 256}
    (hn : n.val = n'.val) (hh : h.val = h'.val) (ha : a.val = a'.val) (hb : b.val = b'.val) : ((f n h a b : ℝ) : EReal) = ((f n' h' a' b' : ℝ) : EReal) := by
  rw [Fin.ext hn, Fin.ext hh, Fin.ext ha, Fin.ext hb]

section Holds

variable {A K Q : Cols} {W : Wide}
  (hq : AllCols (m ((c : Thread nD τ).loc main_arg0)) Q) (hk : AllCols (m ((c : Thread nD τ).loc main_arg1)) K)
  (hv : AllWide (m ((c : Thread nD τ).loc main_arg2)) W) (ha : AllCols (m ((c : Thread nD τ).loc main_arg3)) A)

include hq in
theorem holds_q (t : Fin cfg0.N) : IsCols (X0_0 m c t) Q (chunkAt (pt t)) := fun u s h a => by
  rw [block_q, rowAt_row]; exact hq _ _ _ _

include hk in
theorem holds_k (t : Fin cfg0.N) : IsCols (X0_1 m c t) K (chunkAt (pt t)) := fun u s h a => by
  rw [block_k, rowAt_row]; exact hk _ _ _ _

include hv in
theorem holds_v (t : Fin cfg0.N) : IsWide (X0_2 m c t) W (chunkAt (pt t)) := fun u s h a => by
  rw [block_v, rowAt_row]; exact hv _ _ _ _

include ha in
theorem holds_a (t : Fin cfg0.N) : IsCols (iblk m c 3 t) A (chunkAt (pt t)) := fun u s h a => by
  rw [block_a, rowAt_row]; exact ha _ _ _ _

include hk hv ha

/-- The state carried out of a grid point is the one after its last chunk. -/
theorem carried : ∀ (n : ℕ) (hn : n < cfg0.N) (h : Fin 4) (b : Fin 256) (a : Fin 128),
    ((outsAt0 m c n hn).2.2 (ix3 h b a) : EReal) = ((stAfter A K W (chunkAt (pt ⟨n, hn⟩) 3) h a b : ℝ) : EReal)
  | 0, hn, h, b, a => by
    rw [show outsAt0 m c 0 hn = _ from outsAt0_A m c ⟨0, hn⟩ rfl]
    dsimp only
    exact First.carried_block (chunkAt_succ _) (holds_a m c ha _) (holds_k m c hk _) (holds_v m c hv _) rfl _ h b a
  | n + 1, hn, h, b, a => by
    have h16 : n + 1 < 16 := hn
    rw [show outsAt0 m c (n + 1) hn = _ from outsAt0_B m c ⟨n + 1, hn⟩ (by show ¬(n + 1) % 16 = 0; omega)]
    dsimp only
    exact Later.carried_block (chunkAt_succ _) (holds_a m c ha _) (holds_k m c hk _) (holds_v m c hv _)
      (fun h b a => (carried n (Nat.lt_of_succ_lt hn) h b a).trans (by
        rw [stBefore_next _ _ _ (chunkAt (pt ⟨n, Nat.lt_of_succ_lt hn⟩) 3) (chunkAt (pt ⟨n + 1, hn⟩) 0) (by show 4 * (n + 1) + 0 = 4 * n + 3 + 1; omega)])) _ h b a

include hq in
/-- What a grid point leaves of the output. -/
theorem out_at (t : Fin cfg0.N) : (outsAt0 m c t.val t.isLt).1 =
    fun y : B1024.Idx => ((out Q A K W (chunkAt (pt t) ⟨(y 0).val / 64, by have := (y 0).isLt; simp at this; omega⟩) ⟨(y 0).val % 64, Nat.mod_lt _ (by decide)⟩ ⟨(y 1).val / 256, by have := (y 1).isLt; simp at this; omega⟩ ⟨(y 1).val % 256, Nat.mod_lt _ (by decide)⟩ : ℝ) : EReal) := by
  by_cases h0 : t.val % 16 = 0
  · rw [outsAt0_A m c t h0]
    have := points t
    dsimp only
    exact First.out_block (chunkAt_succ _) (holds_a m c ha _) (holds_k m c hk _) (holds_v m c hv _) (by show 4 * t.val + 0 = 0; omega) (holds_q m c hq _) _
  · rw [outsAt0_B m c t h0]
    dsimp only
    exact Later.out_block (chunkAt_succ _) (holds_a m c ha _) (holds_k m c hk _) (holds_v m c hv _)
      (fun h b a => (carried m c hk hv ha (t.val - 1) (Nat.lt_of_le_of_lt (Nat.sub_le _ _) t.isLt) h b a).trans (by
        rw [stBefore_next _ _ _ (chunkAt (pt ⟨t.val - 1, Nat.lt_of_le_of_lt (Nat.sub_le _ _) t.isLt⟩) 3) (chunkAt (pt t) 0) (by show 4 * t.val + 0 = 4 * (t.val - 1) + 3 + 1; omega)])) (holds_q m c hq _) _

/-- What a grid point leaves of the states. -/
theorem states_at (t : Fin cfg0.N) : (outsAt0 m c t.val t.isLt).2.1 =
    fun y : BStates.Idx => ((stBefore A K W (chunkAt (pt t) (y 1)) (y 0) (y 3) (y 2) : ℝ) : EReal) := by
  by_cases h0 : t.val % 16 = 0
  · rw [outsAt0_A m c t h0]
    have := points t
    dsimp only
    exact First.states_block (chunkAt_succ _) (holds_a m c ha _) (holds_k m c hk _) (holds_v m c hv _) (by show 4 * t.val + 0 = 0; omega) _
  · rw [outsAt0_B m c t h0]
    dsimp only
    exact Later.states_block (chunkAt_succ _) (holds_a m c ha _) (holds_k m c hk _) (holds_v m c hv _)
      (fun h b a => (carried m c hk hv ha (t.val - 1) (Nat.lt_of_le_of_lt (Nat.sub_le _ _) t.isLt) h b a).trans (by
        rw [stBefore_next _ _ _ (chunkAt (pt ⟨t.val - 1, Nat.lt_of_le_of_lt (Nat.sub_le _ _) t.isLt⟩) 3) (chunkAt (pt t) 0) (by show 4 * t.val + 0 = 4 * (t.val - 1) + 3 + 1; omega)])) _

include hq in
/-- The output after the call. -/
theorem final_out : (dats m 0 c).arrAt 4 cfg0.N = wideArr (out Q A K W) := by
  refine (dats m 0 c).arrAt_eq_of_covers 4 _ (by decide +kernel) fun t _ y => ?_
  blk_simp
  rw [after0_4, out_at m c hq hk hv ha t]
  refine (wideArr_block _ (pt t) ⟨(y 0).val, (y 0).isLt⟩ ⟨(y 1).val, (y 1).isLt⟩ _ ?_ ?_).symm
  · show win0_4.index t 0 * 256 + 1 * (y 0).val = _
    rw [(idx0 t).2.2.2.2.1]; show t.val * 256 + 1 * (y 0).val = _; simp; omega
  · show win0_4.index t 1 * 1024 + 1 * (y 1).val = _
    rw [(idx0 t).2.2.2.2.1]; show 0 * 1024 + 1 * (y 1).val = _; simp

/-- The states before the chunks after the call. -/
theorem final_states : (dats m 0 c).arrAt 5 cfg0.N = (fun y : AStates.Idx => ((stBefore A K W (y 1) (y 0) (y 3) (y 2) : ℝ) : EReal)) := by
  refine (dats m 0 c).arrAt_eq_of_covers 5 _ (by decide +kernel) fun t _ y => ?_
  blk_simp
  rw [after0_5, states_at m c hk hv ha t]
  refine states_congr _ ?_ ?_ ?_ ?_
  · show 4 * t.val + (y 1).val = win0_5.index t 1 * 4 + 1 * (y 1).val
    rw [(idx0 t).2.2.2.2.2]; show 4 * t.val + (y 1).val = t.val * 4 + 1 * (y 1).val; omega
  · show (y 0).val = win0_5.index t 0 * 4 + 1 * (y 0).val
    rw [(idx0 t).2.2.2.2.2]; show (y 0).val = 0 * 4 + 1 * (y 0).val; omega
  · show (y 3).val = win0_5.index t 3 * 128 + 1 * (y 3).val
    rw [(idx0 t).2.2.2.2.2]; show (y 3).val = 0 * 128 + 1 * (y 3).val; omega
  · show (y 2).val = win0_5.index t 2 * 256 + 1 * (y 2).val
    rw [(idx0 t).2.2.2.2.2]; show (y 2).val = 0 * 256 + 1 * (y 2).val; omega

end Holds

end Cert.Kernel3Ideal.Gla

end
-- ==== Proof.Gla.Claims3.lean ====
/- The claims of the forward recurrence: the reference's run, what the precondition gives, and the equality of the two results. -/
module

public import proofs.«01_k».proof.Defs
public import proofs.«01_k».proof.Proof.Gen.Reference3Ideal.Run
public import proofs.«01_k».proof.Proof.Gla.Arrays3
public import proofs.«01_k».proof.Proof.Gla.Reading3
public import proofs.«01_k».proof.Proof.Ffn.Claims
public import Idealize.ShloMosaic.Lib.Quiescent

@[expose] public section

set_option maxRecDepth 16384

noncomputable section

namespace Cert.Kernel3Ideal.Gla

open Cert.Gla Idealize.ShloMosaic Idealize.ShloMosaic.TcCoe Idealize.SL.Sem

/-- The shape relations of the precondition: a single number fills an array of any shape. -/
theorem preFacts : Cert.Pre_finite3.Facts where
  bcast_S_S4096x512 := by decide
  bcast_S_S4096x1024 := by decide

/-- A value of magnitude under +∞ is a real number. -/
theorem real_of_abs_lt {x : EReal}
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

section Pre

variable (x0 x1 : FVec Ideal A512 .f32) (x2 : FVec Ideal A1024 .f32) (x3 : FVec Ideal A512 .f32)

theorem q_real (h : (@Cert.Pre_finite3.fn preFacts Ideal _ x0 x1 x2 x3).1 = fun _ => 1#1) : ∀ i, ∃ r : ℝ, (x0 i : EReal) = (r : EReal) :=
  fun i => real_of_abs_lt (congrFun h i)

theorem k_real (h : (@Cert.Pre_finite3.fn preFacts Ideal _ x0 x1 x2 x3).2.1 = fun _ => 1#1) : ∀ i, ∃ r : ℝ, (x1 i : EReal) = (r : EReal) :=
  fun i => real_of_abs_lt (congrFun h i)

theorem v_real (h : (@Cert.Pre_finite3.fn preFacts Ideal _ x0 x1 x2 x3).2.2.1 = fun _ => 1#1) : ∀ i, ∃ r : ℝ, (x2 i : EReal) = (r : EReal) :=
  fun i => real_of_abs_lt (congrFun h i)

theorem a_real (h : (@Cert.Pre_finite3.fn preFacts Ideal _ x0 x1 x2 x3).2.2.2 = fun _ => 1#1) : ∀ i, ∃ r : ℝ, (x3 i : EReal) = (r : EReal) :=
  fun i => real_of_abs_lt (congrFun h i)

end Pre

/-- The reference runs, its arguments end as launched, and it has no counter to leave. -/
theorem reference_frame : @Cert.quiescent_Reference3Ideal Cert.Reference3Ideal.Gen.facts := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The forward call and the reference end with the same output and the same states. -/
theorem results_agree : @Cert.algebraic_Kernel3Ideal_Reference3Ideal_pre_finite3 Cert.Kernel3Ideal.Gen.facts
    Cert.Reference3Ideal.Gen.facts preFacts := by
  intro m ρ m' ρ' hpre hagree
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    Cert.Kernel3Ideal.Value.run_blocks (F := Ideal) m ρ,
    (θ_run Cert.Reference3Ideal.defs _ _).mono (fun r h c => ?_) (Cert.Reference3Ideal.Value.run (F := Ideal) m' ρ')⟩
  obtain ⟨e0, e1, e2, e3⟩ := hagree c
  obtain ⟨p0, p1, p2, p3⟩ := hpre c
  have hq := allCols_colsOf _ (q_real _ _ _ _ p0)
  have hk := allCols_colsOf _ (k_real _ _ _ _ p1)
  have hv := allWide_wideOf _ (v_real _ _ _ _ p2)
  have ha := allCols_colsOf _ (a_real _ _ _ _ p3)
  obtain ⟨r0, r1, rest⟩ := h c
  refine ⟨?_, ?_, rest⟩
  · refine (r0.trans (Cert.Reference3Ideal.Read.val_main_v75_eq m' c)).trans ?_
    rw [e0, e1, e2, e3]
    exact (Cert.Reference3Ideal.Gla.output_eq hq hk hv ha).trans (final_out m c hq hk hv ha).symm
  · refine (r1.trans (Cert.Reference3Ideal.Read.val_main_v76_eq m' c)).trans ?_
    rw [e1, e2, e3]
    exact (Cert.Reference3Ideal.Gla.states_eq hk hv ha).trans (final_states m c hk hv ha).symm

end Cert.Kernel3Ideal.Gla

end
-- ==== Proof.Gla.Claims2.lean ====
/- The claims of the gradient of the recurrence: the reference's run, what the precondition gives, and the equality of the four gradients. -/
module

public import proofs.«01_k».proof.Defs
public import proofs.«01_k».proof.Proof.Gen.Reference2Ideal.Run
public import proofs.«01_k».proof.Proof.Gla.Arrays2
public import proofs.«01_k».proof.Proof.Gla.DecayReading
public import proofs.«01_k».proof.Proof.Gla.Claims3
public import Idealize.ShloMosaic.Lib.Quiescent

@[expose] public section

set_option maxRecDepth 16384

noncomputable section

namespace Cert.Kernel2Ideal.Gla

open Cert.Gla Idealize.ShloMosaic Idealize.ShloMosaic.TcCoe Idealize.SL.Sem

/-- The shape relations of the precondition: a single number fills an array of any shape. -/
theorem preFacts : Cert.Pre_finite2.Facts where
  bcast_S_S4096x512 := by decide
  bcast_S_S4096x1024 := by decide

section Pre

variable (x0 x1 : FVec Ideal A512 .f32) (x2 : FVec Ideal A1024 .f32) (x3 : FVec Ideal A512 .f32) (x4 : FVec Ideal A1024 .f32)

theorem q_real (h : (@Cert.Pre_finite2.fn preFacts Ideal _ x0 x1 x2 x3 x4).1 = fun _ => 1#1) : ∀ i, ∃ r : ℝ, (x0 i : EReal) = (r : EReal) :=
  fun i => Cert.Kernel3Ideal.Gla.real_of_abs_lt (congrFun h i)

theorem k_real (h : (@Cert.Pre_finite2.fn preFacts Ideal _ x0 x1 x2 x3 x4).2.1 = fun _ => 1#1) : ∀ i, ∃ r : ℝ, (x1 i : EReal) = (r : EReal) :=
  fun i => Cert.Kernel3Ideal.Gla.real_of_abs_lt (congrFun h i)

theorem v_real (h : (@Cert.Pre_finite2.fn preFacts Ideal _ x0 x1 x2 x3 x4).2.2.1 = fun _ => 1#1) : ∀ i, ∃ r : ℝ, (x2 i : EReal) = (r : EReal) :=
  fun i => Cert.Kernel3Ideal.Gla.real_of_abs_lt (congrFun h i)

theorem a_real (h : (@Cert.Pre_finite2.fn preFacts Ideal _ x0 x1 x2 x3 x4).2.2.2.1 = fun _ => 1#1) : ∀ i, ∃ r : ℝ, (x3 i : EReal) = (r : EReal) :=
  fun i => Cert.Kernel3Ideal.Gla.real_of_abs_lt (congrFun h i)

theorem d_real (h : (@Cert.Pre_finite2.fn preFacts Ideal _ x0 x1 x2 x3 x4).2.2.2.2 = fun _ => 1#1) : ∀ i, ∃ r : ℝ, (x4 i : EReal) = (r : EReal) :=
  fun i => Cert.Kernel3Ideal.Gla.real_of_abs_lt (congrFun h i)

end Pre

/-- The reference runs, its arguments end as launched, and it has no counter to leave. -/
theorem reference_frame : @Cert.quiescent_Reference2Ideal Cert.Reference2Ideal.Gen.facts := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

set_option maxHeartbeats 3200000 in
/-- The gradient call and the reference end with the same four gradients. -/
theorem results_agree : @Cert.algebraic_Kernel2Ideal_Reference2Ideal_pre_finite2 Cert.Kernel2Ideal.Gen.facts
    Cert.Reference2Ideal.Gen.facts preFacts := by
  intro m ρ m' ρ' hpre hagree
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    Cert.Kernel2Ideal.Value.run_blocks (F := Ideal) m ρ,
    (θ_run Cert.Reference2Ideal.defs _ _).mono (fun r h c => ?_) (Cert.Reference2Ideal.Value.run (F := Ideal) m' ρ')⟩
  obtain ⟨e0, e1, e2, e3, e4⟩ := hagree c
  obtain ⟨p0, p1, p2, p3, p4⟩ := hpre c
  have hq := allCols_colsOf _ (q_real _ _ _ _ _ p0)
  have hk := allCols_colsOf _ (k_real _ _ _ _ _ p1)
  have hv := allWide_wideOf _ (v_real _ _ _ _ _ p2)
  have ha := allCols_colsOf _ (a_real _ _ _ _ _ p3)
  have hd := allWide_wideOf _ (d_real _ _ _ _ _ p4)
  obtain ⟨r0, r1, r2, r3, rest⟩ := h c
  refine ⟨?_, ?_, ?_, ?_, rest⟩
  · refine (r0.trans (Cert.Reference2Ideal.Read.val_main_v91_eq m' c)).trans ?_
    rw [e1, e2, e3, e4]
    exact (Cert.Reference2Ideal.Gla.gradQ_eq hk hv ha hd).trans (final_q m c hq hk hv ha hd).symm
  · refine (r1.trans (Cert.Reference2Ideal.Read.val_main_v81_eq m' c)).trans ?_
    rw [e0, e2, e3, e4]
    exact (Cert.Reference2Ideal.Gla.gradK_eq hq hv ha hd).trans (final_k m c hq hk hv ha hd).symm
  · refine (r2.trans (Cert.Reference2Ideal.Read.val_main_v57_eq m' c)).trans ?_
    rw [e0, e1, e3, e4]
    exact (Cert.Reference2Ideal.Gla.gradV_eq hq hk ha hd).trans (final_v m c hq hk hv ha hd).symm
  · refine (r3.trans (Cert.Reference2Ideal.Read.val_main_v87_eq m' c)).trans ?_
    rw [e0, e1, e2, e3, e4]
    exact (Cert.Reference2Ideal.Gla.gradA_eq hq hk hv ha hd).trans (final_a m c hq hk hv ha hd).symm

end Cert.Kernel2Ideal.Gla

end
-- ==== Proof.Mix.Run.lean ====
/- The run of the program of the branches' merge from the launch to the return, with what the result arrays hold at its end: the generated
   launch, read at the results as well as at the arguments. -/
module

public import proofs.«01_k».proof.Proof.Gen.Kernel4Ideal.Frame
public import Idealize.ShloMosaic.PureOps.Ideal

@[expose] public section

set_option maxRecDepth 16384

noncomputable section

namespace Cert.Kernel4Ideal.Mix

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- The whole run: it terminates, nothing faulting, every argument ends as launched, the nine result arrays hold what the chain of calls
    gives, and every counter is at zero. -/
theorem run_results : θ_run defs (onTc (τ := τ) (main (F := Ideal))) ⟨m, fun _ => 0, ρ⟩ (fun r => (∀ c : Dev nD,
      r.2.mem ((c.tc : Thread nD τ).loc main_v23) = W14 m ρ c (Proc.devRef .tc main_v23)
      ∧ r.2.mem ((c.tc : Thread nD τ).loc main_v25) = W14 m ρ c (Proc.devRef .tc main_v25)
      ∧ r.2.mem ((c.tc : Thread nD τ).loc main_v24) = W14 m ρ c (Proc.devRef .tc main_v24)
      ∧ r.2.mem ((c.tc : Thread nD τ).loc main_v29) = W14 m ρ c (Proc.devRef .tc main_v29)
      ∧ r.2.mem ((c.tc : Thread nD τ).loc main_v27) = W14 m ρ c (Proc.devRef .tc main_v27)
      ∧ r.2.mem ((c.tc : Thread nD τ).loc main_v30) = W14 m ρ c (Proc.devRef .tc main_v30)
      ∧ r.2.mem ((c.tc : Thread nD τ).loc main_v28) = W14 m ρ c (Proc.devRef .tc main_v28)
      ∧ r.2.mem ((c.tc : Thread nD τ).loc main_v31) = W14 m ρ c (Proc.devRef .tc main_v31)
      ∧ r.2.mem ((c.tc : Thread nD τ).loc main_v26) = W14 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v23 (by decide)),
       h c _ (mem_uc main_v25 (by decide)),
       h c _ (mem_uc main_v24 (by decide)),
       h c _ (mem_uc main_v29 (by decide)),
       h c _ (mem_uc main_v27 (by decide)),
       h c _ (mem_uc main_v30 (by decide)),
       h c _ (mem_uc main_v28 (by decide)),
       h c _ (mem_uc main_v31 (by decide)),
       h c _ (mem_uc main_v26 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩), funext fun g => hz g (.inr (no_unscoped g.2))⟩)

end Cert.Kernel4Ideal.Mix

end
-- ==== Proof.Mix.Products.lean ====
/- The forward products (calls 0, 1, 2 and 4): what each result array holds when the call is over. -/
module

public import proofs.«01_k».proof.Proof.Gen.Kernel4Ideal.Frame.Region0
public import proofs.«01_k».proof.Proof.Gen.Kernel4Ideal.Frame.Region1
public import proofs.«01_k».proof.Proof.Gen.Kernel4Ideal.Frame.Region2
public import proofs.«01_k».proof.Proof.Gen.Kernel4Ideal.Frame.Region4
public import Idealize.ShloMosaic.Lib.Pipeline.ValueKit

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Rows against the columns of a weight kept in eight chunks of 512 columns. -/
def gateProduct (x : FVec Ideal S4096x2048 .bf16) (w : FVec Ideal S8x2048x512 .bf16) : FVec Ideal S4096x4096 .f32 :=
  fun i => ∑ k : Fin 2048, x (ix2 (i 0) k) * w (ix3 ⟨(i 1).val / 512, by have := (i 1).isLt; simp at this; omega⟩ k ⟨(i 1).val % 512, Nat.mod_lt _ (by decide)⟩)

/-- Rows against the columns of a weight kept in eight chunks of 256 columns. -/
def branchProduct (x : FVec Ideal S4096x1024 .bf16) (w : FVec Ideal S8x1024x256 .bf16) : FVec Ideal S4096x2048 .f32 :=
  fun i => ∑ k : Fin 1024, x (ix2 (i 0) k) * w (ix3 ⟨(i 1).val / 256, by have := (i 1).isLt; simp at this; omega⟩ k ⟨(i 1).val % 256, Nat.mod_lt _ (by decide)⟩)

/-- The output projection, with the residual added. -/
def outProduct (x : FVec Ideal S4096x2048 .bf16) (w : FVec Ideal S2048x2048 .bf16) (h : FVec Ideal S4096x2048 .f32) : FVec Ideal S4096x2048 .f32 :=
  fun i => (∑ k : Fin 2048, x (ix2 (i 0) k) * w (ix2 k (i 1))) + h i

theorem idx0 : ∀ t : Fin cfg0.N, win0_0.index t = ![(grid0.coords t 0).val, 0] ∧ win0_1.index t = ![(grid0.coords t 1).val, 0, 0] ∧ win0_2.index t = ![(grid0.coords t 0).val, (grid0.coords t 1).val] :=
  (by decide +kernel : ∀ t : Fin grid0.N, _)

theorem point0 (c : Dev nD) (t : Fin cfg0.N) (y) :
    k0_pay1 (iblk0 V c 0 t) (iblk0 V c 1 t) y = gateProduct (V c main_v10) (V c main_v8) (((cfg0.win 2).blk t).view.emb y) := by
  pointwise [k0_pay1, gateProduct]
  blk_point [iblk0, idx0 t]

/-- The gate's product after its call. -/
theorem final0 (c : Dev nD) : (dat0 V c).arrAt 2 cfg0.N = gateProduct (V c main_v10) (V c main_v8) := by
  refine (dat0 V c).arrAt_eq_of_covers 2 _ (by decide +kernel) fun t _ y => ?_
  blk_simp
  rw [after0_2]; frame_out
  exact point0 V c t y

theorem idx1 : ∀ t : Fin cfg1.N, win1_0.index t = ![(grid1.coords t 0).val, 0] ∧ win1_1.index t = ![(grid1.coords t 1).val, 0, 0] ∧ win1_2.index t = ![(grid1.coords t 0).val, (grid1.coords t 1).val] :=
  (by decide +kernel : ∀ t : Fin grid1.N, _)

theorem point1 (c : Dev nD) (t : Fin cfg1.N) (y) :
    k1_pay1 (iblk1 V c 0 t) (iblk1 V c 1 t) y = branchProduct (V c main_v11) (V c main_v2) (((cfg1.win 2).blk t).view.emb y) := by
  pointwise [k1_pay1, branchProduct]
  blk_point [iblk1, idx1 t]

/-- The first branch after its call. -/
theorem final1 (c : Dev nD) : (dat1 V c).arrAt 2 cfg1.N = branchProduct (V c main_v11) (V c main_v2) := by
  refine (dat1 V c).arrAt_eq_of_covers 2 _ (by decide +kernel) fun t _ y => ?_
  blk_simp
  rw [after1_2]; frame_out
  exact point1 V c t y

theorem idx2 : ∀ t : Fin cfg2.N, win2_0.index t = ![(grid2.coords t 0).val, 0] ∧ win2_1.index t = ![(grid2.coords t 1).val, 0, 0] ∧ win2_2.index t = ![(grid2.coords t 0).val, (grid2.coords t 1).val] :=
  (by decide +kernel : ∀ t : Fin grid2.N, _)

theorem point2 (c : Dev nD) (t : Fin cfg2.N) (y) :
    k2_pay1 (iblk2 V c 0 t) (iblk2 V c 1 t) y = branchProduct (V c main_v12) (V c main_v5) (((cfg2.win 2).blk t).view.emb y) := by
  pointwise [k2_pay1, branchProduct]
  blk_point [iblk2, idx2 t]

/-- The second branch after its call. -/
theorem final2 (c : Dev nD) : (dat2 V c).arrAt 2 cfg2.N = branchProduct (V c main_v12) (V c main_v5) := by
  refine (dat2 V c).arrAt_eq_of_covers 2 _ (by decide +kernel) fun t _ y => ?_
  blk_simp
  rw [after2_2]; frame_out
  exact point2 V c t y

theorem idx4 : ∀ t : Fin cfg4.N, win4_0.index t = ![(grid4.coords t 0).val, 0] ∧ win4_1.index t = ![0, (grid4.coords t 1).val] ∧ win4_2.index t = ![(grid4.coords t 0).val, (grid4.coords t 1).val] ∧ win4_3.index t = ![(grid4.coords t 0).val, (grid4.coords t 1).val] :=
  (by decide +kernel : ∀ t : Fin grid4.N, _)

theorem point4 (c : Dev nD) (t : Fin cfg4.N) (y) :
    k4_pay1 (iblk4 V c 0 t) (iblk4 V c 1 t) (iblk4 V c 2 t) y = outProduct (V c main_v22) (V c main_v9) (V c main_arg0) (((cfg4.win 3).blk t).view.emb y) := by
  pointwise [k4_pay1, outProduct]
  blk_point [iblk4, idx4 t]

/-- The output projection after its call. -/
theorem final4 (c : Dev nD) : (dat4 V c).arrAt 3 cfg4.N = outProduct (V c main_v22) (V c main_v9) (V c main_arg0) := by
  refine (dat4 V c).arrAt_eq_of_covers 3 _ (by decide +kernel) fun t _ y => ?_
  blk_simp
  rw [after4_3]; frame_out
  exact point4 V c t y

end Cert.Kernel4Ideal.Mix

end
-- ==== Proof.Mix.Grads.lean ====
/- The weights' gradients and the merged value's gradient (calls 5 to 9): what each result array holds when the call is over. -/
module

public import proofs.«01_k».proof.Proof.Gen.Kernel4Ideal.Frame.Region5
public import proofs.«01_k».proof.Proof.Gen.Kernel4Ideal.Frame.Region6
public import proofs.«01_k».proof.Proof.Gen.Kernel4Ideal.Frame.Region7
public import proofs.«01_k».proof.Proof.Gen.Kernel4Ideal.Frame.Region8
public import proofs.«01_k».proof.Proof.Gen.Kernel4Ideal.Frame.Region9
public import Idealize.ShloMosaic.Lib.Pipeline.ValueKit

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output weight's gradient: columns against columns. -/
def outGrad (x d : FVec Ideal S4096x2048 .bf16) : FVec Ideal S2048x2048 .bf16 :=
  fun i => ∑ s : Fin 4096, x (ix2 s (i 0)) * d (ix2 s (i 1))

/-- The merged value's gradient: rows of the cotangent against rows of the output weight. -/
def mergedGrad (d : FVec Ideal S4096x2048 .bf16) (w : FVec Ideal S2048x2048 .bf16) : FVec Ideal S4096x2048 .f32 :=
  fun i => ∑ k : Fin 2048, d (ix2 (i 0) k) * w (ix2 (i 1) k)

/-- The gate weight's gradient, in eight chunks of 512 columns. -/
def gateWeightGrad (x : FVec Ideal S4096x2048 .bf16) (d : FVec Ideal S4096x4096 .bf16) : FVec Ideal S8x2048x512 .bf16 :=
  fun i => ∑ s : Fin 4096, x (ix2 s (i 1)) * d (ix2 s ⟨512 * (i 0).val + (i 2).val, by have := (i 0).isLt; have := (i 2).isLt; simp at *; omega⟩)

/-- A branch weight's gradient, in eight chunks of 256 columns. -/
def branchWeightGrad (x : FVec Ideal S4096x1024 .bf16) (d : FVec Ideal S4096x2048 .bf16) : FVec Ideal S8x1024x256 .bf16 :=
  fun i => ∑ s : Fin 4096, x (ix2 s (i 1)) * d (ix2 s ⟨256 * (i 0).val + (i 2).val, by have := (i 0).isLt; have := (i 2).isLt; simp at *; omega⟩)

theorem idx5 : ∀ t : Fin cfg5.N, win5_0.index t = ![0, (grid5.coords t 0).val] ∧ win5_1.index t = ![0, (grid5.coords t 1).val] ∧ win5_2.index t = ![(grid5.coords t 0).val, (grid5.coords t 1).val] :=
  (by decide +kernel : ∀ t : Fin grid5.N, _)

theorem point5 (c : Dev nD) (t : Fin cfg5.N) (y) :
    k5_pay1 (iblk5 V c 0 t) (iblk5 V c 1 t) y = outGrad (V c main_v22) (V c main_v13) (((cfg5.win 2).blk t).view.emb y) := by
  pointwise [k5_pay1, outGrad]
  blk_point [iblk5, idx5 t]

/-- The output weight's gradient after its call. -/
theorem final5 (c : Dev nD) : (dat5 V c).arrAt 2 cfg5.N = outGrad (V c main_v22) (V c main_v13) := by
  refine (dat5 V c).arrAt_eq_of_covers 2 _ (by decide +kernel) fun t _ y => ?_
  blk_simp
  rw [after5_2]; frame_out
  exact point5 V c t y

theorem idx6 : ∀ t : Fin cfg6.N, win6_0.index t = ![(grid6.coords t 0).val, 0] ∧ win6_1.index t = ![(grid6.coords t 1).val, 0] ∧ win6_2.index t = ![(grid6.coords t 0).val, (grid6.coords t 1).val] :=
  (by decide +kernel : ∀ t : Fin grid6.N, _)

theorem point6 (c : Dev nD) (t : Fin cfg6.N) (y) :
    k6_pay1 (iblk6 V c 0 t) (iblk6 V c 1 t) y = mergedGrad (V c main_v13) (V c main_v9) (((cfg6.win 2).blk t).view.emb y) := by
  pointwise [k6_pay1, mergedGrad]
  blk_point [iblk6, idx6 t]

/-- The merged value's gradient after its call. -/
theorem final6 (c : Dev nD) : (dat6 V c).arrAt 2 cfg6.N = mergedGrad (V c main_v13) (V c main_v9) := by
  refine (dat6 V c).arrAt_eq_of_covers 2 _ (by decide +kernel) fun t _ y => ?_
  blk_simp
  rw [after6_2]; frame_out
  exact point6 V c t y

theorem idx7 : ∀ t : Fin cfg7.N, win7_0.index t = ![0, (grid7.coords t 0).val] ∧ win7_1.index t = ![0, (grid7.coords t 1).val] ∧ win7_2.index t = ![(grid7.coords t 1).val, (grid7.coords t 0).val, 0] :=
  (by decide +kernel : ∀ t : Fin grid7.N, _)

theorem point7 (c : Dev nD) (t : Fin cfg7.N) (y) :
    k7_pay1 (iblk7 V c 0 t) (iblk7 V c 1 t) y = gateWeightGrad (V c main_v10) (V c main_v16) (((cfg7.win 2).blk t).view.emb y) := by
  pointwise [k7_pay1, gateWeightGrad]
  blk_point [iblk7, idx7 t]

/-- The gate weight's gradient after its call. -/
theorem final7 (c : Dev nD) : (dat7 V c).arrAt 2 cfg7.N = gateWeightGrad (V c main_v10) (V c main_v16) := by
  refine (dat7 V c).arrAt_eq_of_covers 2 _ (by decide +kernel) fun t _ y => ?_
  blk_simp
  rw [after7_2]; frame_out
  exact point7 V c t y

theorem idx8 : ∀ t : Fin cfg8.N, win8_0.index t = ![0, (grid8.coords t 0).val] ∧ win8_1.index t = ![0, (grid8.coords t 1).val] ∧ win8_2.index t = ![(grid8.coords t 1).val, (grid8.coords t 0).val, 0] :=
  (by decide +kernel : ∀ t : Fin grid8.N, _)

theorem point8 (c : Dev nD) (t : Fin cfg8.N) (y) :
    k8_pay1 (iblk8 V c 0 t) (iblk8 V c 1 t) y = branchWeightGrad (V c main_v11) (V c main_v14) (((cfg8.win 2).blk t).view.emb y) := by
  pointwise [k8_pay1, branchWeightGrad]
  blk_point [iblk8, idx8 t]

/-- The first branch weight's gradient after its call. -/
theorem final8 (c : Dev nD) : (dat8 V c).arrAt 2 cfg8.N = branchWeightGrad (V c main_v11) (V c main_v14) := by
  refine (dat8 V c).arrAt_eq_of_covers 2 _ (by decide +kernel) fun t _ y => ?_
  blk_simp
  rw [after8_2]; frame_out
  exact point8 V c t y

theorem idx9 : ∀ t : Fin cfg9.N, win9_0.index t = ![0, (grid9.coords t 0).val] ∧ win9_1.index t = ![0, (grid9.coords t 1).val] ∧ win9_2.index t = ![(grid9.coords t 1).val, (grid9.coords t 0).val, 0] :=
  (by decide +kernel : ∀ t : Fin grid9.N, _)

theorem point9 (c : Dev nD) (t : Fin cfg9.N) (y) :
    k9_pay1 (iblk9 V c 0 t) (iblk9 V c 1 t) y = branchWeightGrad (V c main_v12) (V c main_v15) (((cfg9.win 2).blk t).view.emb y) := by
  pointwise [k9_pay1, branchWeightGrad]
  blk_point [iblk9, idx9 t]

/-- The second branch weight's gradient after its call. -/
theorem final9 (c : Dev nD) : (dat9 V c).arrAt 2 cfg9.N = branchWeightGrad (V c main_v12) (V c main_v15) := by
  refine (dat9 V c).arrAt_eq_of_covers 2 _ (by decide +kernel) fun t _ y => ?_
  blk_simp
  rw [after9_2]; frame_out
  exact point9 V c t y

end Cert.Kernel4Ideal.Mix

end
-- ==== Proof.Mix.Back.lean ====
/- The gradients taken back through a weight kept in eight chunks (calls 10, 11 and 12): what each result array holds when the call is over. One point of the grid sums the eight chunks' products. -/
module

public import proofs.«01_k».proof.Proof.Gen.Kernel4Ideal.Frame.Region10
public import proofs.«01_k».proof.Proof.Gen.Kernel4Ideal.Frame.Region11
public import proofs.«01_k».proof.Proof.Gen.Kernel4Ideal.Frame.Region12
public import Idealize.ShloMosaic.Lib.Pipeline.ValueKit

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Column `k` of chunk `a` among all the columns. -/
def col256 (a : Fin 8) (k : Fin 256) : Fin 2048 := ⟨256 * a.val + k.val, by omega⟩

theorem col256_0 (k : Fin 256) : col256 0 k = ⟨k.val, by omega⟩ := Fin.ext (by simp [col256])

theorem col256_1 (k : Fin 256) : col256 1 k = ⟨256 + k.val, by omega⟩ := Fin.ext (by simp [col256])

theorem col256_2 (k : Fin 256) : col256 2 k = ⟨512 + k.val, by omega⟩ := Fin.ext (by simp [col256])

theorem col256_3 (k : Fin 256) : col256 3 k = ⟨768 + k.val, by omega⟩ := Fin.ext (by simp [col256])

theorem col256_4 (k : Fin 256) : col256 4 k = ⟨1024 + k.val, by omega⟩ := Fin.ext (by simp [col256])

theorem col256_5 (k : Fin 256) : col256 5 k = ⟨1280 + k.val, by omega⟩ := Fin.ext (by simp [col256])

theorem col256_6 (k : Fin 256) : col256 6 k = ⟨1536 + k.val, by omega⟩ := Fin.ext (by simp [col256])

theorem col256_7 (k : Fin 256) : col256 7 k = ⟨1792 + k.val, by omega⟩ := Fin.ext (by simp [col256])

/-- A branch's cotangent taken back through its weight. -/
def branchBack (d : FVec Ideal S4096x2048 .bf16) (w : FVec Ideal S8x1024x256 .bf16) : FVec Ideal S4096x1024 .f32 :=
  fun i => ∑ a : Fin 8, ∑ k : Fin 256, d (ix2 (i 0) (col256 a k)) * w (ix3 a (i 1) k)

/-- Column `k` of chunk `a` among all the columns. -/
def col512 (a : Fin 8) (k : Fin 512) : Fin 4096 := ⟨512 * a.val + k.val, by omega⟩

theorem col512_0 (k : Fin 512) : col512 0 k = ⟨k.val, by omega⟩ := Fin.ext (by simp [col512])

theorem col512_1 (k : Fin 512) : col512 1 k = ⟨512 + k.val, by omega⟩ := Fin.ext (by simp [col512])

theorem col512_2 (k : Fin 512) : col512 2 k = ⟨1024 + k.val, by omega⟩ := Fin.ext (by simp [col512])

theorem col512_3 (k : Fin 512) : col512 3 k = ⟨1536 + k.val, by omega⟩ := Fin.ext (by simp [col512])

theorem col512_4 (k : Fin 512) : col512 4 k = ⟨2048 + k.val, by omega⟩ := Fin.ext (by simp [col512])

theorem col512_5 (k : Fin 512) : col512 5 k = ⟨2560 + k.val, by omega⟩ := Fin.ext (by simp [col512])

theorem col512_6 (k : Fin 512) : col512 6 k = ⟨3072 + k.val, by omega⟩ := Fin.ext (by simp [col512])

theorem col512_7 (k : Fin 512) : col512 7 k = ⟨3584 + k.val, by omega⟩ := Fin.ext (by simp [col512])

/-- The gate's cotangent taken back through its weight. -/
def gateBack (d : FVec Ideal S4096x4096 .bf16) (w : FVec Ideal S8x2048x512 .bf16) : FVec Ideal S4096x2048 .f32 :=
  fun i => ∑ a : Fin 8, ∑ k : Fin 512, d (ix2 (i 0) (col512 a k)) * w (ix3 a (i 1) k)

theorem idx10 : ∀ t : Fin cfg10.N, win10_0.index t = ![(grid10.coords t 0).val, 0] ∧ win10_1.index t = ![0, (grid10.coords t 1).val, 0] ∧ win10_2.index t = ![(grid10.coords t 0).val, (grid10.coords t 1).val] :=
  (by decide +kernel : ∀ t : Fin grid10.N, _)

theorem read10_0 (c : Dev nD) (t : Fin cfg10.N) (y : ((cfg10.win 2).xblock (cfg10.grid.coords t)).Idx) (r : Fin 2048) :
    iblk10 V c 0 t (ix2 (y 0) r) = V c main_v14 (ix2 ((((cfg10.win 2).blk t).view.emb y) 0) r) := by
  blk_point [iblk10, idx10 t]

theorem read10_1 (c : Dev nD) (t : Fin cfg10.N) (y : ((cfg10.win 2).xblock (cfg10.grid.coords t)).Idx) (a : Fin 8) (k : Fin 256) :
    iblk10 V c 1 t (ix3 a (y 1) k) = V c main_v2 (ix3 a ((((cfg10.win 2).blk t).view.emb y) 1) k) := by
  blk_point [iblk10, idx10 t]

set_option maxHeartbeats 1000000 in
/-- The first branch's input gradient after its call. -/
theorem final10 (c : Dev nD) : (dat10 V c).arrAt 2 cfg10.N = branchBack (V c main_v14) (V c main_v2) := by
  refine (dat10 V c).arrAt_eq_of_covers 2 _ (by decide +kernel) fun t _ y => ?_
  blk_simp
  rw [after10_2]; frame_out
  pointwise [k10_pay1, k10_pay2, k10_pay3, k10_pay4]
  simp only [read10_0 V c t y, read10_1 V c t y]
  simp only [branchBack, Fin.sum_univ_eight, col256_0, col256_1, col256_2, col256_3, col256_4, col256_5, col256_6, col256_7]

theorem idx11 : ∀ t : Fin cfg11.N, win11_0.index t = ![(grid11.coords t 0).val, 0] ∧ win11_1.index t = ![0, (grid11.coords t 1).val, 0] ∧ win11_2.index t = ![(grid11.coords t 0).val, (grid11.coords t 1).val] :=
  (by decide +kernel : ∀ t : Fin grid11.N, _)

theorem read11_0 (c : Dev nD) (t : Fin cfg11.N) (y : ((cfg11.win 2).xblock (cfg11.grid.coords t)).Idx) (r : Fin 2048) :
    iblk11 V c 0 t (ix2 (y 0) r) = V c main_v15 (ix2 ((((cfg11.win 2).blk t).view.emb y) 0) r) := by
  blk_point [iblk11, idx11 t]

theorem read11_1 (c : Dev nD) (t : Fin cfg11.N) (y : ((cfg11.win 2).xblock (cfg11.grid.coords t)).Idx) (a : Fin 8) (k : Fin 256) :
    iblk11 V c 1 t (ix3 a (y 1) k) = V c main_v5 (ix3 a ((((cfg11.win 2).blk t).view.emb y) 1) k) := by
  blk_point [iblk11, idx11 t]

set_option maxHeartbeats 1000000 in
/-- The second branch's input gradient after its call. -/
theorem final11 (c : Dev nD) : (dat11 V c).arrAt 2 cfg11.N = branchBack (V c main_v15) (V c main_v5) := by
  refine (dat11 V c).arrAt_eq_of_covers 2 _ (by decide +kernel) fun t _ y => ?_
  blk_simp
  rw [after11_2]; frame_out
  pointwise [k11_pay1, k11_pay2, k11_pay3, k11_pay4]
  simp only [read11_0 V c t y, read11_1 V c t y]
  simp only [branchBack, Fin.sum_univ_eight, col256_0, col256_1, col256_2, col256_3, col256_4, col256_5, col256_6, col256_7]

theorem idx12 : ∀ t : Fin cfg12.N, win12_0.index t = ![(grid12.coords t 0).val, 0] ∧ win12_1.index t = ![0, (grid12.coords t 1).val, 0] ∧ win12_2.index t = ![(grid12.coords t 0).val, (grid12.coords t 1).val] :=
  (by decide +kernel : ∀ t : Fin grid12.N, _)

theorem read12_0 (c : Dev nD) (t : Fin cfg12.N) (y : ((cfg12.win 2).xblock (cfg12.grid.coords t)).Idx) (r : Fin 4096) :
    iblk12 V c 0 t (ix2 (y 0) r) = V c main_v16 (ix2 ((((cfg12.win 2).blk t).view.emb y) 0) r) := by
  blk_point [iblk12, idx12 t]

theorem read12_1 (c : Dev nD) (t : Fin cfg12.N) (y : ((cfg12.win 2).xblock (cfg12.grid.coords t)).Idx) (a : Fin 8) (k : Fin 512) :
    iblk12 V c 1 t (ix3 a (y 1) k) = V c main_v8 (ix3 a ((((cfg12.win 2).blk t).view.emb y) 1) k) := by
  blk_point [iblk12, idx12 t]

set_option maxHeartbeats 1000000 in
/-- The gate's input gradient after its call. -/
theorem final12 (c : Dev nD) : (dat12 V c).arrAt 2 cfg12.N = gateBack (V c main_v16) (V c main_v8) := by
  refine (dat12 V c).arrAt_eq_of_covers 2 _ (by decide +kernel) fun t _ y => ?_
  blk_simp
  rw [after12_2]; frame_out
  pointwise [k12_pay1, k12_pay2, k12_pay3, k12_pay4]
  simp only [read12_0 V c t y, read12_1 V c t y]
  simp only [gateBack, Fin.sum_univ_eight, col512_0, col512_1, col512_2, col512_3, col512_4, col512_5, col512_6, col512_7]

end Cert.Kernel4Ideal.Mix

end
-- ==== Proof.Mix.Merge.lean ====
/- The merge of the two branches (call 3), row by row: what its result array holds when the call is over. -/
module

public import proofs.«01_k».proof.Proof.Gen.Kernel4Ideal.Frame.Region3
public import Idealize.ShloMosaic.Lib.Pipeline.ValueKit
public import Idealize.ShloMosaic.Lib.WholeRead
public import proofs.«01_k».proof.Proof.Ffn.Rowwise

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)
open Idealize.ShloMosaic.Pipeline
open Cert.KernelIdeal.Ffn (gateSig emb_rows)

variable (V : (c : Dev nD) → (b : Ref sig .tc) → Buf (Elt Ideal) ((c : Thread nD τ).loc b))

/-- The two branches, each times its gate, summed. -/
def mergeRows {n : Nat} (za zb p q : FVec Ideal ⟨2, ![n, 2048]⟩ .f32) (ba bb : FVec Ideal S1x2048 .f32) : FVec Ideal ⟨2, ![n, 2048]⟩ .bf16 :=
  fun y => gateSig (za y + ba (ix2 0 (y 1))) * p y + gateSig (zb y + bb (ix2 0 (y 1))) * q y

/-- The merge of whole arrays: the gates' product holds both gates side by side. -/
def merged (z : FVec Ideal S4096x4096 .f32) (p q : FVec Ideal S4096x2048 .f32) (ba bb : FVec Ideal S1x2048 .f32) : FVec Ideal S4096x2048 .bf16 :=
  fun i => gateSig (z (ix2 (i 0) ⟨(i 1).val, by have := (i 1).isLt; simp at this; omega⟩) + ba (ix2 0 (i 1))) * p i
    + gateSig (z (ix2 (i 0) ⟨2048 + (i 1).val, by have := (i 1).isLt; simp at this; omega⟩) + bb (ix2 0 (i 1))) * q i

/-- What the trips before the `n`th store agrees with one function of the block's index. -/
theorem pieces3_6 (c : Dev nD) (i : grid3.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole) (x0 : Vec Ideal S256x2048 .f32) (x1 : Vec Ideal S256x2048 .f32) (x2 : Vec Ideal S256x2048 .f32) (x3 : Vec Ideal S256x2048 .f32) (x4 : Vec Ideal S1x2048 .f32) (x5 : Vec Ideal S1x2048 .f32) :
    ∀ n : Nat, n ≤ k3_t1_loop.trips → ∀ p ∈ (pb_k3_t1 Variants.none c none i arg1 harg1 arg2 harg2 arg3 harg3 arg4 harg4 arg5 harg5 arg6 harg6 arg7 harg7 x4 x5 (harg1.unread x0) (harg2.unread x1) (harg3.unread x2) (harg4.unread x3) n), ∀ x : p.1.shape.Idx, p.2 x = mergeRows x0 x1 x2 x3 x4 x5 (p.1.emb x) := by
  intro n
  induction n with
  | zero => intro _ p hp; simp [pb_k3_t1] at hp
  | succ n ih =>
    intro hn p hp x
    have e := pb_k3_t1_succ (F := Ideal) Variants.none c none i arg1 harg1 arg2 harg2 arg3 harg3 arg4 harg4 arg5 harg5 arg6 harg6 arg7 harg7 x4 x5 (harg1.unread x0) (harg2.unread x1) (harg3.unread x2) (harg4.unread x3) ⟨n, hn⟩
    rw [show n + 1 = (⟨n, hn⟩ : Fin k3_t1_loop.trips).val + 1 from rfl, e] at hp
    rcases List.mem_append.mp hp with hp | hp
    · unfold tripL_k3_t1 trip_k3_t1 at hp
      dsimp only at hp
      obtain rfl := List.mem_singleton.mp hp
      simp only [mergeRows, gateSig]
      simp only [View.readAt_eq_ld, harg1.read_unread, harg2.read_unread, harg3.read_unread, harg4.read_unread]
      pointwise [k3_pay1]
      simp only [emb_rows]
      have e0 : k3_off1 ⟨n, hn⟩ 1 = 0 := by rw [k3_off1_eq]; rfl
      simp only [e0, Nat.zero_add]
      rfl
    · exact ih (Nat.le_of_lt hn) p hp x

/-- The block the body leaves. -/
theorem block3_6 (c : Dev nD) (i : grid3.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .bf16) (harg7 : arg7.IsWhole) (x0 : Vec Ideal S256x2048 .f32) (x1 : Vec Ideal S256x2048 .f32) (x2 : Vec Ideal S256x2048 .f32) (x3 : Vec Ideal S256x2048 .f32) (x4 : Vec Ideal S1x2048 .f32) (x5 : Vec Ideal S1x2048 .f32) :
    out3_A_6 c i arg1 harg1 arg2 harg2 arg3 harg3 arg4 harg4 arg5 harg5 arg6 harg6 arg7 harg7 x0 x1 x2 x3 x4 x5 = mergeRows x0 x1 x2 x3 x4 x5 := by
  unfold out3_A_6
  rw [View.read_writes_eq_canon _ _ _ (cover3_A_6 c i arg1 harg1 arg2 harg2 arg3 harg3 arg4 harg4 arg5 harg5 arg6 harg6 arg7 harg7 x0 x1 x2 x3 x4 x5)]
  funext y
  have e5 : (View.readAt (Elt Ideal) arg5.view (Rect.unit (s := S1x2048) ![0, 0] S1x2048.size inb_S1x2048_S1x2048_0_0).toLoadRect (harg5.unread x4)) = x4 := by
    rw [View.readAt_eq_ld, harg5.read_unread, View.ld_unit_zero (by decide)]
  have e6 : (View.readAt (Elt Ideal) arg6.view (Rect.unit (s := S1x2048) ![0, 0] S1x2048.size inb_S1x2048_S1x2048_0_0).toLoadRect (harg6.unread x5)) = x5 := by
    rw [View.readAt_eq_ld, harg6.read_unread, View.ld_unit_zero (by decide)]
  refine (View.canon_apply_of_pieces (mergeRows x0 x1 x2 x3 (View.readAt (Elt Ideal) arg5.view (Rect.unit (s := S1x2048) ![0, 0] S1x2048.size inb_S1x2048_S1x2048_0_0).toLoadRect (harg5.unread x4)) (View.readAt (Elt Ideal) arg6.view (Rect.unit (s := S1x2048) ![0, 0] S1x2048.size inb_S1x2048_S1x2048_0_0).toLoadRect (harg6.unread x5))) _ ?_ y (cover3_A_6 c i arg1 harg1 arg2 harg2 arg3 harg3 arg4 harg4 arg5 harg5 arg6 harg6 arg7 harg7 x0 x1 x2 x3 x4 x5 y)).trans (congrFun (congrArg₂ (mergeRows x0 x1 x2 x3) e5 e6) y)
  unfold kernelRun3_A
  dsimp only
  exact pieces3_6 c i arg1 harg1 arg2 harg2 arg3 harg3 arg4 harg4 arg5 harg5 arg6 harg6 arg7 harg7 x0 x1 x2 x3 _ _ _ (Nat.le_refl _)

theorem idx3 : ∀ t : Fin cfg3.N, win3_0.index t = ![(grid3.coords t 0).val, 0] ∧ win3_1.index t = ![(grid3.coords t 0).val, 1] ∧ win3_2.index t = ![(grid3.coords t 0).val, 0] ∧ win3_3.index t = ![(grid3.coords t 0).val, 0] ∧ win3_4.index t = ![0, 0] ∧ win3_5.index t = ![0, 0] ∧ win3_6.index t = ![(grid3.coords t 0).val, 0] :=
  (by decide +kernel : ∀ t : Fin grid3.N, _)

theorem point3 (c : Dev nD) (t : Fin cfg3.N) (y) :
    mergeRows (iblk3 V c 0 t) (iblk3 V c 1 t) (iblk3 V c 2 t) (iblk3 V c 3 t) (iblk3 V c 4 t) (iblk3 V c 5 t) y
      = merged (V c main_v19) (V c main_v20) (V c main_v21) (V c main_v17) (V c main_v18) (((cfg3.win 6).blk t).view.emb y) := by
  pointwise [mergeRows, merged]
  blk_point [iblk3, idx3 t]

/-- The merged value after its call. -/
theorem final3 (c : Dev nD) : (dat3 V c).arrAt 6 cfg3.N = merged (V c main_v19) (V c main_v20) (V c main_v21) (V c main_v17) (V c main_v18) := by
  refine (dat3 V c).arrAt_eq_of_covers 6 _ (by decide +kernel) fun t _ y => ?_
  blk_simp
  rw [after3_6]
  unfold outsAt3
  rw [block3_6]
  exact point3 V c t y

end Cert.Kernel4Ideal.Mix

end
-- ==== Proof.Mix.Chain.lean ====
/- The thirteen calls as one chain: from the arguments through the host's reshapes to the nine result arrays. -/
module

public import proofs.«01_k».proof.Proof.Gen.Kernel4Ideal.Frame
public import proofs.«01_k».proof.Proof.Mix.Products
public import proofs.«01_k».proof.Proof.Mix.Grads
public import proofs.«01_k».proof.Proof.Mix.Back
public import proofs.«01_k».proof.Proof.Mix.Merge

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)

/-- A weight's columns in eight chunks of 512. -/
def chunk512 (w : FVec Ideal S2048x4096 .f32) : FVec Ideal S8x2048x512 .bf16 :=
  fun i => w (ix2 (i 1) (col512 (i 0) (i 2)))

/-- A weight's columns in eight chunks of 256. -/
def chunk256 (w : FVec Ideal S1024x2048 .f32) : FVec Ideal S8x1024x256 .bf16 :=
  fun i => w (ix2 (i 1) (col256 (i 0) (i 2)))

/-- The narrow copy of an array: the same extended reals. -/
abbrev narrow {s : Shape} (w : FVec Ideal s .f32) : FVec Ideal s .bf16 := truncf .bf16 w bitsLt_bf16_f32

/-- The first gate's bias. -/
def biasA (b : FVec Ideal S1x4096 .f32) : FVec Ideal S1x2048 .f32 := extractStridedSlice S1x2048 ![0, 0] b slices_S1x4096_S1x2048_0_0

/-- The second gate's bias. -/
def biasB (b : FVec Ideal S1x4096 .f32) : FVec Ideal S1x2048 .f32 := extractStridedSlice S1x2048 ![0, 2048] b slices_S1x4096_S1x2048_0_2048

/-- The gates' product. -/
def gates (x1 : FVec Ideal S4096x2048 .f32) (x6 : FVec Ideal S2048x4096 .f32) : FVec Ideal S4096x4096 .f32 := gateProduct (narrow x1) (chunk512 x6)

/-- A branch. -/
def branch (x2 : FVec Ideal S4096x1024 .f32) (x4 : FVec Ideal S1024x2048 .f32) : FVec Ideal S4096x2048 .f32 := branchProduct (narrow x2) (chunk256 x4)

/-- The merged value. -/
def mix (x1 : FVec Ideal S4096x2048 .f32) (x2 : FVec Ideal S4096x1024 .f32) (x3 : FVec Ideal S4096x1024 .f32) (x4 : FVec Ideal S1024x2048 .f32) (x5 : FVec Ideal S1024x2048 .f32) (x6 : FVec Ideal S2048x4096 .f32) (x7 : FVec Ideal S1x4096 .f32) : FVec Ideal S4096x2048 .bf16 :=
  merged (gates x1 x6) (branch x2 x4) (branch x3 x5) (biasA x7) (biasB x7)

theorem chunk512_eq (w : FVec Ideal S2048x4096 .f32) :
    truncf .bf16 (transpose S8x2048x512 [1, 0, 2] (shapeCast S2048x8x512 w shapeCasts_S2048x4096_S2048x8x512) transposes_S2048x8x512_S8x2048x512_1_0_2) bitsLt_bf16_f32
      = chunk512 w := by
  funext i
  idx_vars i
  pointwise [chunk512, col512]
  exact congrArg w (congrArg (ix2 i1) (Fin.ext (congrArg (· + i2.val) (Nat.mul_comm i0.val 512))))

theorem chunk256_eq (w : FVec Ideal S1024x2048 .f32) :
    truncf .bf16 (transpose S8x1024x256 [1, 0, 2] (shapeCast S1024x8x256 w shapeCasts_S1024x2048_S1024x8x256) transposes_S1024x8x256_S8x1024x256_1_0_2) bitsLt_bf16_f32
      = chunk256 w := by
  funext i
  idx_vars i
  pointwise [chunk256, col256]
  exact congrArg w (congrArg (ix2 i1) (Fin.ext (congrArg (· + i2.val) (Nat.mul_comm i0.val 256))))

variable (m : (ℓ : Loc nD τ sig) → Buf (Elt Ideal) ℓ) (ρ : Dev nD → PrngReg) (c : Dev nD)

theorem congr3 {α β γ δ : Type} (f : α → β → γ → δ) {a a' : α} {b b' : β} {d d' : γ} (h : a = a') (h' : b = b') (h'' : d = d') :
    f a b d = f a' b' d' := by rw [h, h', h'']

theorem congr5 {α β γ δ ε ζ : Type} (f : α → β → γ → δ → ε → ζ) {a a' : α} {b b' : β} {d d' : γ} {e e' : δ} {g g' : ε}
    (h : a = a') (h' : b = b') (h'' : d = d') (h3 : e = e') (h4 : g = g') : f a b d e g = f a' b' d' e' g' := by
  rw [h, h', h'', h3, h4]

theorem at1_v2 : W1 m ρ c (Proc.devRef .tc main_v2) = chunk256 (m ((c : Thread nD τ).loc main_arg4)) := by
  show StableHlo.after hostOps0 (W0 m ρ c) (Proc.devRef .tc main_v2) = _
  simp only [hostOps0]
  after_results_simp
  try rw [(W0_args m ρ c main_arg4 (by decide))]
  exact chunk256_eq _

theorem at1_v5 : W1 m ρ c (Proc.devRef .tc main_v5) = chunk256 (m ((c : Thread nD τ).loc main_arg5)) := by
  show StableHlo.after hostOps0 (W0 m ρ c) (Proc.devRef .tc main_v5) = _
  simp only [hostOps0]
  after_results_simp
  try rw [(W0_args m ρ c main_arg5 (by decide))]
  exact chunk256_eq _

theorem at1_v8 : W1 m ρ c (Proc.devRef .tc main_v8) = chunk512 (m ((c : Thread nD τ).loc main_arg6)) := by
  show StableHlo.after hostOps0 (W0 m ρ c) (Proc.devRef .tc main_v8) = _
  simp only [hostOps0]
  after_results_simp
  try rw [(W0_args m ρ c main_arg6 (by decide))]
  exact chunk512_eq _

theorem at1_v9 : W1 m ρ c (Proc.devRef .tc main_v9) = narrow (m ((c : Thread nD τ).loc main_arg8)) := by
  show StableHlo.after hostOps0 (W0 m ρ c) (Proc.devRef .tc main_v9) = _
  simp only [hostOps0]
  after_results_simp
  try rw [(W0_args m ρ c main_arg8 (by decide))]
  try rfl

theorem at1_v10 : W1 m ρ c (Proc.devRef .tc main_v10) = narrow (m ((c : Thread nD τ).loc main_arg1)) := by
  show StableHlo.after hostOps0 (W0 m ρ c) (Proc.devRef .tc main_v10) = _
  simp only [hostOps0]
  after_results_simp
  try rw [(W0_args m ρ c main_arg1 (by decide))]
  try rfl

theorem at1_v11 : W1 m ρ c (Proc.devRef .tc main_v11) = narrow (m ((c : Thread nD τ).loc main_arg2)) := by
  show StableHlo.after hostOps0 (W0 m ρ c) (Proc.devRef .tc main_v11) = _
  simp only [hostOps0]
  after_results_simp
  try rw [(W0_args m ρ c main_arg2 (by decide))]
  try rfl

theorem at1_v12 : W1 m ρ c (Proc.devRef .tc main_v12) = narrow (m ((c : Thread nD τ).loc main_arg3)) := by
  show StableHlo.after hostOps0 (W0 m ρ c) (Proc.devRef .tc main_v12) = _
  simp only [hostOps0]
  after_results_simp
  try rw [(W0_args m ρ c main_arg3 (by decide))]
  try rfl

theorem at1_v13 : W1 m ρ c (Proc.devRef .tc main_v13) = narrow (m ((c : Thread nD τ).loc main_arg9)) := by
  show StableHlo.after hostOps0 (W0 m ρ c) (Proc.devRef .tc main_v13) = _
  simp only [hostOps0]
  after_results_simp
  try rw [(W0_args m ρ c main_arg9 (by decide))]
  try rfl

theorem at1_v14 : W1 m ρ c (Proc.devRef .tc main_v14) = narrow (m ((c : Thread nD τ).loc main_arg10)) := by
  show StableHlo.after hostOps0 (W0 m ρ c) (Proc.devRef .tc main_v14) = _
  simp only [hostOps0]
  after_results_simp
  try rw [(W0_args m ρ c main_arg10 (by decide))]
  try rfl

theorem at1_v15 : W1 m ρ c (Proc.devRef .tc main_v15) = narrow (m ((c : Thread nD τ).loc main_arg11)) := by
  show StableHlo.after hostOps0 (W0 m ρ c) (Proc.devRef .tc main_v15) = _
  simp only [hostOps0]
  after_results_simp
  try rw [(W0_args m ρ c main_arg11 (by decide))]
  try rfl

theorem at1_v16 : W1 m ρ c (Proc.devRef .tc main_v16) = narrow (m ((c : Thread nD τ).loc main_arg12)) := by
  show StableHlo.after hostOps0 (W0 m ρ c) (Proc.devRef .tc main_v16) = _
  simp only [hostOps0]
  after_results_simp
  try rw [(W0_args m ρ c main_arg12 (by decide))]
  try rfl

theorem at1_v17 : W1 m ρ c (Proc.devRef .tc main_v17) = biasA (m ((c : Thread nD τ).loc main_arg7)) := by
  show StableHlo.after hostOps0 (W0 m ρ c) (Proc.devRef .tc main_v17) = _
  simp only [hostOps0]
  after_results_simp
  try rw [(W0_args m ρ c main_arg7 (by decide))]
  try rfl

theorem at1_v18 : W1 m ρ c (Proc.devRef .tc main_v18) = biasB (m ((c : Thread nD τ).loc main_arg7)) := by
  show StableHlo.after hostOps0 (W0 m ρ c) (Proc.devRef .tc main_v18) = _
  simp only [hostOps0]
  after_results_simp
  try rw [(W0_args m ρ c main_arg7 (by decide))]
  try rfl

theorem at2_v19 : W2 m ρ c (Proc.devRef .tc main_v19) = gates (m ((c : Thread nD τ).loc main_arg1)) (m ((c : Thread nD τ).loc main_arg6)) :=
  (W2_arr m ρ c 2).trans ((final0 (V1 m ρ) c).trans (congrArg₂ gateProduct (at1_v10 m ρ c) (at1_v8 m ρ c)))

theorem at3_v20 : W3 m ρ c (Proc.devRef .tc main_v20) = branch (m ((c : Thread nD τ).loc main_arg2)) (m ((c : Thread nD τ).loc main_arg4)) :=
  (W3_arr m ρ c 2).trans ((final1 (V2 m ρ) c).trans (congrArg₂ branchProduct ((W2_of m ρ c main_v11 (by decide +kernel)).trans (at1_v11 m ρ c)) ((W2_of m ρ c main_v2 (by decide +kernel)).trans (at1_v2 m ρ c))))

theorem at4_v21 : W4 m ρ c (Proc.devRef .tc main_v21) = branch (m ((c : Thread nD τ).loc main_arg3)) (m ((c : Thread nD τ).loc main_arg5)) :=
  (W4_arr m ρ c 2).trans ((final2 (V3 m ρ) c).trans (congrArg₂ branchProduct ((W3_of m ρ c main_v12 (by decide +kernel)).trans ((W2_of m ρ c main_v12 (by decide +kernel)).trans (at1_v12 m ρ c))) ((W3_of m ρ c main_v5 (by decide +kernel)).trans ((W2_of m ρ c main_v5 (by decide +kernel)).trans (at1_v5 m ρ c)))))

theorem at5_v22 : W5 m ρ c (Proc.devRef .tc main_v22) = mix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W5_arr m ρ c 6).trans ((final3 (V4 m ρ) c).trans (congr5 merged ((W4_of m ρ c main_v19 (by decide +kernel)).trans ((W3_of m ρ c main_v19 (by decide +kernel)).trans (at2_v19 m ρ c))) ((W4_of m ρ c main_v20 (by decide +kernel)).trans (at3_v20 m ρ c)) (at4_v21 m ρ c) ((W4_of m ρ c main_v17 (by decide +kernel)).trans ((W3_of m ρ c main_v17 (by decide +kernel)).trans ((W2_of m ρ c main_v17 (by decide +kernel)).trans (at1_v17 m ρ c)))) ((W4_of m ρ c main_v18 (by decide +kernel)).trans ((W3_of m ρ c main_v18 (by decide +kernel)).trans ((W2_of m ρ c main_v18 (by decide +kernel)).trans (at1_v18 m ρ c))))))

theorem at6_v23 : W6 m ρ c (Proc.devRef .tc main_v23) = outProduct (mix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (narrow (m ((c : Thread nD τ).loc main_arg8))) (m ((c : Thread nD τ).loc main_arg0)) :=
  (W6_arr m ρ c 3).trans ((final4 (V5 m ρ) c).trans (congr3 outProduct (at5_v22 m ρ c) ((W5_of m ρ c main_v9 (by decide +kernel)).trans ((W4_of m ρ c main_v9 (by decide +kernel)).trans ((W3_of m ρ c main_v9 (by decide +kernel)).trans ((W2_of m ρ c main_v9 (by decide +kernel)).trans (at1_v9 m ρ c))))) (W5_args m ρ c main_arg0 (by decide))))

theorem at7_v24 : W7 m ρ c (Proc.devRef .tc main_v24) = outGrad (mix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (narrow (m ((c : Thread nD τ).loc main_arg9))) :=
  (W7_arr m ρ c 2).trans ((final5 (V6 m ρ) c).trans (congrArg₂ outGrad ((W6_of m ρ c main_v22 (by decide +kernel)).trans (at5_v22 m ρ c)) ((W6_of m ρ c main_v13 (by decide +kernel)).trans ((W5_of m ρ c main_v13 (by decide +kernel)).trans ((W4_of m ρ c main_v13 (by decide +kernel)).trans ((W3_of m ρ c main_v13 (by decide +kernel)).trans ((W2_of m ρ c main_v13 (by decide +kernel)).trans (at1_v13 m ρ c))))))))

theorem at8_v25 : W8 m ρ c (Proc.devRef .tc main_v25) = mergedGrad (narrow (m ((c : Thread nD τ).loc main_arg9))) (narrow (m ((c : Thread nD τ).loc main_arg8))) :=
  (W8_arr m ρ c 2).trans ((final6 (V7 m ρ) c).trans (congrArg₂ mergedGrad ((W7_of m ρ c main_v13 (by decide +kernel)).trans ((W6_of m ρ c main_v13 (by decide +kernel)).trans ((W5_of m ρ c main_v13 (by decide +kernel)).trans ((W4_of m ρ c main_v13 (by decide +kernel)).trans ((W3_of m ρ c main_v13 (by decide +kernel)).trans ((W2_of m ρ c main_v13 (by decide +kernel)).trans (at1_v13 m ρ c))))))) ((W7_of m ρ c main_v9 (by decide +kernel)).trans ((W6_of m ρ c main_v9 (by decide +kernel)).trans ((W5_of m ρ c main_v9 (by decide +kernel)).trans ((W4_of m ρ c main_v9 (by decide +kernel)).trans ((W3_of m ρ c main_v9 (by decide +kernel)).trans ((W2_of m ρ c main_v9 (by decide +kernel)).trans (at1_v9 m ρ c)))))))))

theorem at9_v26 : W9 m ρ c (Proc.devRef .tc main_v26) = gateWeightGrad (narrow (m ((c : Thread nD τ).loc main_arg1))) (narrow (m ((c : Thread nD τ).loc main_arg12))) :=
  (W9_arr m ρ c 2).trans ((final7 (V8 m ρ) c).trans (congrArg₂ gateWeightGrad ((W8_of m ρ c main_v10 (by decide +kernel)).trans ((W7_of m ρ c main_v10 (by decide +kernel)).trans ((W6_of m ρ c main_v10 (by decide +kernel)).trans ((W5_of m ρ c main_v10 (by decide +kernel)).trans ((W4_of m ρ c main_v10 (by decide +kernel)).trans ((W3_of m ρ c main_v10 (by decide +kernel)).trans ((W2_of m ρ c main_v10 (by decide +kernel)).trans (at1_v10 m ρ c)))))))) ((W8_of m ρ c main_v16 (by decide +kernel)).trans ((W7_of m ρ c main_v16 (by decide +kernel)).trans ((W6_of m ρ c main_v16 (by decide +kernel)).trans ((W5_of m ρ c main_v16 (by decide +kernel)).trans ((W4_of m ρ c main_v16 (by decide +kernel)).trans ((W3_of m ρ c main_v16 (by decide +kernel)).trans ((W2_of m ρ c main_v16 (by decide +kernel)).trans (at1_v16 m ρ c))))))))))

theorem at10_v27 : W10 m ρ c (Proc.devRef .tc main_v27) = branchWeightGrad (narrow (m ((c : Thread nD τ).loc main_arg2))) (narrow (m ((c : Thread nD τ).loc main_arg10))) :=
  (W10_arr m ρ c 2).trans ((final8 (V9 m ρ) c).trans (congrArg₂ branchWeightGrad ((W9_of m ρ c main_v11 (by decide +kernel)).trans ((W8_of m ρ c main_v11 (by decide +kernel)).trans ((W7_of m ρ c main_v11 (by decide +kernel)).trans ((W6_of m ρ c main_v11 (by decide +kernel)).trans ((W5_of m ρ c main_v11 (by decide +kernel)).trans ((W4_of m ρ c main_v11 (by decide +kernel)).trans ((W3_of m ρ c main_v11 (by decide +kernel)).trans ((W2_of m ρ c main_v11 (by decide +kernel)).trans (at1_v11 m ρ c))))))))) ((W9_of m ρ c main_v14 (by decide +kernel)).trans ((W8_of m ρ c main_v14 (by decide +kernel)).trans ((W7_of m ρ c main_v14 (by decide +kernel)).trans ((W6_of m ρ c main_v14 (by decide +kernel)).trans ((W5_of m ρ c main_v14 (by decide +kernel)).trans ((W4_of m ρ c main_v14 (by decide +kernel)).trans ((W3_of m ρ c main_v14 (by decide +kernel)).trans ((W2_of m ρ c main_v14 (by decide +kernel)).trans (at1_v14 m ρ c)))))))))))

theorem at11_v28 : W11 m ρ c (Proc.devRef .tc main_v28) = branchWeightGrad (narrow (m ((c : Thread nD τ).loc main_arg3))) (narrow (m ((c : Thread nD τ).loc main_arg11))) :=
  (W11_arr m ρ c 2).trans ((final9 (V10 m ρ) c).trans (congrArg₂ branchWeightGrad ((W10_of m ρ c main_v12 (by decide +kernel)).trans ((W9_of m ρ c main_v12 (by decide +kernel)).trans ((W8_of m ρ c main_v12 (by decide +kernel)).trans ((W7_of m ρ c main_v12 (by decide +kernel)).trans ((W6_of m ρ c main_v12 (by decide +kernel)).trans ((W5_of m ρ c main_v12 (by decide +kernel)).trans ((W4_of m ρ c main_v12 (by decide +kernel)).trans ((W3_of m ρ c main_v12 (by decide +kernel)).trans ((W2_of m ρ c main_v12 (by decide +kernel)).trans (at1_v12 m ρ c)))))))))) ((W10_of m ρ c main_v15 (by decide +kernel)).trans ((W9_of m ρ c main_v15 (by decide +kernel)).trans ((W8_of m ρ c main_v15 (by decide +kernel)).trans ((W7_of m ρ c main_v15 (by decide +kernel)).trans ((W6_of m ρ c main_v15 (by decide +kernel)).trans ((W5_of m ρ c main_v15 (by decide +kernel)).trans ((W4_of m ρ c main_v15 (by decide +kernel)).trans ((W3_of m ρ c main_v15 (by decide +kernel)).trans ((W2_of m ρ c main_v15 (by decide +kernel)).trans (at1_v15 m ρ c))))))))))))

theorem at12_v29 : W12 m ρ c (Proc.devRef .tc main_v29) = branchBack (narrow (m ((c : Thread nD τ).loc main_arg10))) (chunk256 (m ((c : Thread nD τ).loc main_arg4))) :=
  (W12_arr m ρ c 2).trans ((final10 (V11 m ρ) c).trans (congrArg₂ branchBack ((W11_of m ρ c main_v14 (by decide +kernel)).trans ((W10_of m ρ c main_v14 (by decide +kernel)).trans ((W9_of m ρ c main_v14 (by decide +kernel)).trans ((W8_of m ρ c main_v14 (by decide +kernel)).trans ((W7_of m ρ c main_v14 (by decide +kernel)).trans ((W6_of m ρ c main_v14 (by decide +kernel)).trans ((W5_of m ρ c main_v14 (by decide +kernel)).trans ((W4_of m ρ c main_v14 (by decide +kernel)).trans ((W3_of m ρ c main_v14 (by decide +kernel)).trans ((W2_of m ρ c main_v14 (by decide +kernel)).trans (at1_v14 m ρ c))))))))))) ((W11_of m ρ c main_v2 (by decide +kernel)).trans ((W10_of m ρ c main_v2 (by decide +kernel)).trans ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans ((W2_of m ρ c main_v2 (by decide +kernel)).trans (at1_v2 m ρ c)))))))))))))

theorem at13_v30 : W13 m ρ c (Proc.devRef .tc main_v30) = branchBack (narrow (m ((c : Thread nD τ).loc main_arg11))) (chunk256 (m ((c : Thread nD τ).loc main_arg5))) :=
  (W13_arr m ρ c 2).trans ((final11 (V12 m ρ) c).trans (congrArg₂ branchBack ((W12_of m ρ c main_v15 (by decide +kernel)).trans ((W11_of m ρ c main_v15 (by decide +kernel)).trans ((W10_of m ρ c main_v15 (by decide +kernel)).trans ((W9_of m ρ c main_v15 (by decide +kernel)).trans ((W8_of m ρ c main_v15 (by decide +kernel)).trans ((W7_of m ρ c main_v15 (by decide +kernel)).trans ((W6_of m ρ c main_v15 (by decide +kernel)).trans ((W5_of m ρ c main_v15 (by decide +kernel)).trans ((W4_of m ρ c main_v15 (by decide +kernel)).trans ((W3_of m ρ c main_v15 (by decide +kernel)).trans ((W2_of m ρ c main_v15 (by decide +kernel)).trans (at1_v15 m ρ c)))))))))))) ((W12_of m ρ c main_v5 (by decide +kernel)).trans ((W11_of m ρ c main_v5 (by decide +kernel)).trans ((W10_of m ρ c main_v5 (by decide +kernel)).trans ((W9_of m ρ c main_v5 (by decide +kernel)).trans ((W8_of m ρ c main_v5 (by decide +kernel)).trans ((W7_of m ρ c main_v5 (by decide +kernel)).trans ((W6_of m ρ c main_v5 (by decide +kernel)).trans ((W5_of m ρ c main_v5 (by decide +kernel)).trans ((W4_of m ρ c main_v5 (by decide +kernel)).trans ((W3_of m ρ c main_v5 (by decide +kernel)).trans ((W2_of m ρ c main_v5 (by decide +kernel)).trans (at1_v5 m ρ c))))))))))))))

theorem at14_v31 : W14 m ρ c (Proc.devRef .tc main_v31) = gateBack (narrow (m ((c : Thread nD τ).loc main_arg12))) (chunk512 (m ((c : Thread nD τ).loc main_arg6))) :=
  (W14_arr m ρ c 2).trans ((final12 (V13 m ρ) c).trans (congrArg₂ gateBack ((W13_of m ρ c main_v16 (by decide +kernel)).trans ((W12_of m ρ c main_v16 (by decide +kernel)).trans ((W11_of m ρ c main_v16 (by decide +kernel)).trans ((W10_of m ρ c main_v16 (by decide +kernel)).trans ((W9_of m ρ c main_v16 (by decide +kernel)).trans ((W8_of m ρ c main_v16 (by decide +kernel)).trans ((W7_of m ρ c main_v16 (by decide +kernel)).trans ((W6_of m ρ c main_v16 (by decide +kernel)).trans ((W5_of m ρ c main_v16 (by decide +kernel)).trans ((W4_of m ρ c main_v16 (by decide +kernel)).trans ((W3_of m ρ c main_v16 (by decide +kernel)).trans ((W2_of m ρ c main_v16 (by decide +kernel)).trans (at1_v16 m ρ c))))))))))))) ((W13_of m ρ c main_v8 (by decide +kernel)).trans ((W12_of m ρ c main_v8 (by decide +kernel)).trans ((W11_of m ρ c main_v8 (by decide +kernel)).trans ((W10_of m ρ c main_v8 (by decide +kernel)).trans ((W9_of m ρ c main_v8 (by decide +kernel)).trans ((W8_of m ρ c main_v8 (by decide +kernel)).trans ((W7_of m ρ c main_v8 (by decide +kernel)).trans ((W6_of m ρ c main_v8 (by decide +kernel)).trans ((W5_of m ρ c main_v8 (by decide +kernel)).trans ((W4_of m ρ c main_v8 (by decide +kernel)).trans ((W3_of m ρ c main_v8 (by decide +kernel)).trans ((W2_of m ρ c main_v8 (by decide +kernel)).trans (at1_v8 m ρ c)))))))))))))))

/-! ## The results at the end -/

theorem at14_v23 : W14 m ρ c (Proc.devRef .tc main_v23) = outProduct (mix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (narrow (m ((c : Thread nD τ).loc main_arg8))) (m ((c : Thread nD τ).loc main_arg0)) :=
  ((W14_of m ρ c main_v23 (by decide +kernel)).trans ((W13_of m ρ c main_v23 (by decide +kernel)).trans ((W12_of m ρ c main_v23 (by decide +kernel)).trans ((W11_of m ρ c main_v23 (by decide +kernel)).trans ((W10_of m ρ c main_v23 (by decide +kernel)).trans ((W9_of m ρ c main_v23 (by decide +kernel)).trans ((W8_of m ρ c main_v23 (by decide +kernel)).trans ((W7_of m ρ c main_v23 (by decide +kernel)).trans (at6_v23 m ρ c)))))))))

theorem at14_v25 : W14 m ρ c (Proc.devRef .tc main_v25) = mergedGrad (narrow (m ((c : Thread nD τ).loc main_arg9))) (narrow (m ((c : Thread nD τ).loc main_arg8))) :=
  ((W14_of m ρ c main_v25 (by decide +kernel)).trans ((W13_of m ρ c main_v25 (by decide +kernel)).trans ((W12_of m ρ c main_v25 (by decide +kernel)).trans ((W11_of m ρ c main_v25 (by decide +kernel)).trans ((W10_of m ρ c main_v25 (by decide +kernel)).trans ((W9_of m ρ c main_v25 (by decide +kernel)).trans (at8_v25 m ρ c)))))))

theorem at14_v24 : W14 m ρ c (Proc.devRef .tc main_v24) = outGrad (mix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (narrow (m ((c : Thread nD τ).loc main_arg9))) :=
  ((W14_of m ρ c main_v24 (by decide +kernel)).trans ((W13_of m ρ c main_v24 (by decide +kernel)).trans ((W12_of m ρ c main_v24 (by decide +kernel)).trans ((W11_of m ρ c main_v24 (by decide +kernel)).trans ((W10_of m ρ c main_v24 (by decide +kernel)).trans ((W9_of m ρ c main_v24 (by decide +kernel)).trans ((W8_of m ρ c main_v24 (by decide +kernel)).trans (at7_v24 m ρ c))))))))

theorem at14_v29 : W14 m ρ c (Proc.devRef .tc main_v29) = branchBack (narrow (m ((c : Thread nD τ).loc main_arg10))) (chunk256 (m ((c : Thread nD τ).loc main_arg4))) :=
  ((W14_of m ρ c main_v29 (by decide +kernel)).trans ((W13_of m ρ c main_v29 (by decide +kernel)).trans (at12_v29 m ρ c)))

theorem at14_v27 : W14 m ρ c (Proc.devRef .tc main_v27) = branchWeightGrad (narrow (m ((c : Thread nD τ).loc main_arg2))) (narrow (m ((c : Thread nD τ).loc main_arg10))) :=
  ((W14_of m ρ c main_v27 (by decide +kernel)).trans ((W13_of m ρ c main_v27 (by decide +kernel)).trans ((W12_of m ρ c main_v27 (by decide +kernel)).trans ((W11_of m ρ c main_v27 (by decide +kernel)).trans (at10_v27 m ρ c)))))

theorem at14_v30 : W14 m ρ c (Proc.devRef .tc main_v30) = branchBack (narrow (m ((c : Thread nD τ).loc main_arg11))) (chunk256 (m ((c : Thread nD τ).loc main_arg5))) :=
  ((W14_of m ρ c main_v30 (by decide +kernel)).trans (at13_v30 m ρ c))

theorem at14_v28 : W14 m ρ c (Proc.devRef .tc main_v28) = branchWeightGrad (narrow (m ((c : Thread nD τ).loc main_arg3))) (narrow (m ((c : Thread nD τ).loc main_arg11))) :=
  ((W14_of m ρ c main_v28 (by decide +kernel)).trans ((W13_of m ρ c main_v28 (by decide +kernel)).trans ((W12_of m ρ c main_v28 (by decide +kernel)).trans (at11_v28 m ρ c))))

theorem at14_v26 : W14 m ρ c (Proc.devRef .tc main_v26) = gateWeightGrad (narrow (m ((c : Thread nD τ).loc main_arg1))) (narrow (m ((c : Thread nD τ).loc main_arg12))) :=
  ((W14_of m ρ c main_v26 (by decide +kernel)).trans ((W13_of m ρ c main_v26 (by decide +kernel)).trans ((W12_of m ρ c main_v26 (by decide +kernel)).trans ((W11_of m ρ c main_v26 (by decide +kernel)).trans ((W10_of m ρ c main_v26 (by decide +kernel)).trans (at9_v26 m ρ c))))))

end Cert.Kernel4Ideal.Mix

end
-- ==== Proof.Mix.Equation.lean ====
/- The reference of the branches' merge, element by element, and the equation of its nine results with what the thirteen calls leave. -/
module

public import proofs.«01_k».proof.Proof.Gen.Reference4Ideal.Read
public import proofs.«01_k».proof.Proof.Mix.Chain

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)
open Cert.Reference4Ideal.Read
open Cert.KernelIdeal.Ffn (gateSig)

section Elements

variable (x0 : FVec Ideal S4096x2048 .f32) (x1 : FVec Ideal S4096x2048 .f32) (x2 : FVec Ideal S4096x1024 .f32) (x3 : FVec Ideal S4096x1024 .f32) (x4 : FVec Ideal S1024x2048 .f32)
  (x5 : FVec Ideal S1024x2048 .f32) (x6 : FVec Ideal S2048x4096 .f32) (x7 : FVec Ideal S1x4096 .f32) (x8 : FVec Ideal S2048x2048 .f32)
  (x9 : FVec Ideal S4096x2048 .f32) (x10 : FVec Ideal S4096x2048 .f32) (x11 : FVec Ideal S4096x2048 .f32) (x12 : FVec Ideal S4096x4096 .f32)

/-- An element of the gates' product. -/
def zAt (s : Fin 4096) (f : Fin 4096) : EReal := ∑ k : Fin 2048, x1 (ix2 s k) * x6 (ix2 k f)

/-- An element of a branch. -/
def bAt (s : Fin 4096) (j : Fin 2048) : EReal := ∑ k : Fin 1024, x2 (ix2 s k) * x4 (ix2 k j)

/-- An element of the merged value. -/
def mAt (s : Fin 4096) (j : Fin 2048) : EReal :=
  gateSig (zAt x1 x6 s ⟨j.val, by omega⟩ + x7 (ix2 0 ⟨j.val, by omega⟩)) * bAt x2 x4 s j
    + gateSig (zAt x1 x6 s ⟨2048 + j.val, by omega⟩ + x7 (ix2 0 ⟨2048 + j.val, by omega⟩)) * bAt x3 x5 s j

/-! ## The calls' arrays -/

theorem gates_at (s : Fin 4096) (f : Fin 4096) : gates x1 x6 (ix2 s f) = zAt x1 x6 s f := by
  pointwise [gates, gateProduct, zAt, chunk512, col512]
  refine Finset.sum_congr rfl fun k _ => ?_
  exact congrArg (fun g => x1 (ix2 s k) * x6 (ix2 k g)) (Fin.ext (Nat.div_add_mod f.val 512))

theorem branch_at (s : Fin 4096) (j : Fin 2048) : branch x2 x4 (ix2 s j) = bAt x2 x4 s j := by
  pointwise [branch, branchProduct, bAt, chunk256, col256]
  refine Finset.sum_congr rfl fun k _ => ?_
  exact congrArg (fun g => x2 (ix2 s k) * x4 (ix2 k g)) (Fin.ext (Nat.div_add_mod j.val 256))

theorem mix_at (s : Fin 4096) (j : Fin 2048) : mix x1 x2 x3 x4 x5 x6 x7 (ix2 s j) = mAt x1 x2 x3 x4 x5 x6 x7 s j := by
  pointwise [mix, merged, biasA, biasB, mAt, gates_at, branch_at]

/-! ## The reference's arrays -/

theorem ref10 (s : Fin 4096) (f : Fin 4096) : val_main_v10 (F := Ideal) x1 x6 x7 (ix2 s f) = gateSig (zAt x1 x6 s f + x7 (ix2 0 f)) := by
  pointwise [val_main_v10, val_main_v9, val_main_v8, val_main_v7, val_main_v6, val_main_v5, val_main_v4, val_main_v3, val_main_v2, val_main_v1,
    val_main_v0, val_main_cst, val_main_cst_0, gateSig, zAt]
  rw [zero_sub]

theorem ref13 (s : Fin 4096) (j : Fin 2048) : val_main_v13 (F := Ideal) x2 x4 (ix2 s j) = bAt x2 x4 s j := by
  pointwise [val_main_v13, bAt]

theorem ref15 (s : Fin 4096) (j : Fin 2048) : val_main_v15 (F := Ideal) x3 x5 (ix2 s j) = bAt x3 x5 s j := by
  pointwise [val_main_v15, bAt]

theorem ref17 (s : Fin 4096) (j : Fin 2048) : val_main_v17 (F := Ideal) x1 x2 x3 x4 x5 x6 x7 (ix2 s j) = mAt x1 x2 x3 x4 x5 x6 x7 s j := by
  pointwise [val_main_v17, val_main_v16, val_main_v14, val_main_v12, val_main_v11, ref10, ref13, ref15, mAt]

/-! ## The nine results -/

/-- A sum over a width, chunk by chunk. -/
theorem sum_256 (f : Fin 2048 → EReal) : ∑ k, f k = ∑ a : Fin 8, ∑ k : Fin 256, f (col256 a k) := by
  rw [Fin.sum_univ_tiles 8 256 rfl f]
  exact Finset.sum_congr rfl fun a _ => Finset.sum_congr rfl fun k _ => congrArg f (Fin.ext (congrArg (· + k.val) (Nat.mul_comm a.val 256)))

theorem sum_512 (f : Fin 4096 → EReal) : ∑ k, f k = ∑ a : Fin 8, ∑ k : Fin 512, f (col512 a k) := by
  rw [Fin.sum_univ_tiles 8 512 rfl f]
  exact Finset.sum_congr rfl fun a _ => Finset.sum_congr rfl fun k _ => congrArg f (Fin.ext (congrArg (· + k.val) (Nat.mul_comm a.val 512)))

theorem result_out : outProduct (mix x1 x2 x3 x4 x5 x6 x7) (narrow x8) x0 = val_main_v35 (F := Ideal) x0 x1 x2 x3 x4 x5 x6 x7 x8 := by
  funext i
  idx_vars i
  pointwise [val_main_v35, val_main_v34, ref17, outProduct, mix_at]
  rw [add_comm]

theorem result_merged : mergedGrad (narrow x9) (narrow x8) = val_main_v21 (F := Ideal) x8 x9 := by
  funext i
  idx_vars i
  pointwise [val_main_v21, mergedGrad]

theorem result_out_weight : outGrad (mix x1 x2 x3 x4 x5 x6 x7) (narrow x9) = val_main_v36 (F := Ideal) x1 x2 x3 x4 x5 x6 x7 x9 := by
  funext i
  idx_vars i
  pointwise [val_main_v36, val_main_v20, val_main_v19, ref17, outGrad, mix_at]
  exact Finset.sum_congr rfl fun s _ => mul_comm _ _

theorem result_fox : branchBack (narrow x10) (chunk256 x4) = val_main_v25 (F := Ideal) x4 x10 := by
  funext i
  idx_vars i
  pointwise [val_main_v25, branchBack, chunk256]
  rw [sum_256]

theorem result_fox_weight : branchWeightGrad (narrow x2) (narrow x10) = val_main_v39 (F := Ideal) x2 x10 := by
  funext i
  idx_vars i
  pointwise [val_main_v39, val_main_v38, val_main_v37, val_main_v24, val_main_v23, branchWeightGrad]
  refine Finset.sum_congr rfl fun s _ => ?_
  exact (mul_comm _ _).trans (congrArg (fun f => x10 (ix2 s f) * x2 (ix2 s i1)) (Fin.ext (congrArg (· + i2.val) (Nat.mul_comm 256 i0.val))))

theorem result_gla : branchBack (narrow x11) (chunk256 x5) = val_main_v29 (F := Ideal) x5 x11 := by
  funext i
  idx_vars i
  pointwise [val_main_v29, branchBack, chunk256]
  rw [sum_256]

theorem result_gla_weight : branchWeightGrad (narrow x3) (narrow x11) = val_main_v42 (F := Ideal) x3 x11 := by
  funext i
  idx_vars i
  pointwise [val_main_v42, val_main_v41, val_main_v40, val_main_v28, val_main_v27, branchWeightGrad]
  refine Finset.sum_congr rfl fun s _ => ?_
  exact (mul_comm _ _).trans (congrArg (fun f => x11 (ix2 s f) * x3 (ix2 s i1)) (Fin.ext (congrArg (· + i2.val) (Nat.mul_comm 256 i0.val))))

theorem result_gate : gateBack (narrow x12) (chunk512 x6) = val_main_v33 (F := Ideal) x6 x12 := by
  funext i
  idx_vars i
  pointwise [val_main_v33, gateBack, chunk512]
  rw [sum_512]

theorem result_gate_weight : gateWeightGrad (narrow x1) (narrow x12) = val_main_v45 (F := Ideal) x1 x12 := by
  funext i
  idx_vars i
  pointwise [val_main_v45, val_main_v44, val_main_v43, val_main_v32, val_main_v31, gateWeightGrad]
  refine Finset.sum_congr rfl fun s _ => ?_
  exact (mul_comm _ _).trans (congrArg (fun f => x12 (ix2 s f) * x1 (ix2 s i1)) (Fin.ext (congrArg (· + i2.val) (Nat.mul_comm 512 i0.val))))

end Elements

end Cert.Kernel4Ideal.Mix

end
-- ==== Proof.Mix.Claims.lean ====
/- The claims of the branches' merge and its products' gradients: the reference's run and the equality of the nine results. -/
module

public import proofs.«01_k».proof.Defs
public import proofs.«01_k».proof.Proof.Gen.Reference4Ideal.Run
public import proofs.«01_k».proof.Proof.Mix.Run
public import proofs.«01_k».proof.Proof.Mix.Equation
public import Idealize.ShloMosaic.Lib.Quiescent

@[expose] public section

set_option maxRecDepth 16384

noncomputable section

namespace Cert.Kernel4Ideal.Mix

open Idealize.ShloMosaic Idealize.ShloMosaic.TcCoe Idealize.SL.Sem
open Cert.Reference4Ideal.Read

/-- The reference runs, its arguments end as launched, and it has no counter to leave. -/
theorem reference_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
        ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
        ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
        ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0) :=
  (θ_run Cert.Reference4Ideal.defs _ _).mono
    (fun r h => ⟨fun c => (h c).2.2.2.2.2.2.2.2.2, sem_eq_zero_of_no_sems (by decide) r.2⟩)
    (Cert.Reference4Ideal.Value.run (F := Ideal) m ρ)

set_option maxHeartbeats 3200000 in
/-- The calls and the reference end with the same nine results. -/
theorem results_agree : @Cert.algebraic_Kernel4Ideal_Reference4Ideal Cert.Kernel4Ideal.Gen.facts
    Cert.Reference4Ideal.Gen.facts := by
  intro m ρ m' ρ' _ hagree
  refine ⟨fun c => Cert.Kernel4Ideal.Gen.W14 m ρ c (Proc.devRef .tc Cert.Kernel4Ideal.main_v23),
    fun c => Cert.Kernel4Ideal.Gen.W14 m ρ c (Proc.devRef .tc Cert.Kernel4Ideal.main_v25),
    fun c => Cert.Kernel4Ideal.Gen.W14 m ρ c (Proc.devRef .tc Cert.Kernel4Ideal.main_v24),
    fun c => Cert.Kernel4Ideal.Gen.W14 m ρ c (Proc.devRef .tc Cert.Kernel4Ideal.main_v29),
    fun c => Cert.Kernel4Ideal.Gen.W14 m ρ c (Proc.devRef .tc Cert.Kernel4Ideal.main_v27),
    fun c => Cert.Kernel4Ideal.Gen.W14 m ρ c (Proc.devRef .tc Cert.Kernel4Ideal.main_v30),
    fun c => Cert.Kernel4Ideal.Gen.W14 m ρ c (Proc.devRef .tc Cert.Kernel4Ideal.main_v28),
    fun c => Cert.Kernel4Ideal.Gen.W14 m ρ c (Proc.devRef .tc Cert.Kernel4Ideal.main_v31),
    fun c => Cert.Kernel4Ideal.Gen.W14 m ρ c (Proc.devRef .tc Cert.Kernel4Ideal.main_v26),
    (θ_run Cert.Kernel4Ideal.defs _ _).mono (fun r h => h.1) (run_results m ρ),
    (θ_run Cert.Reference4Ideal.defs _ _).mono (fun r h c => ?_) (Cert.Reference4Ideal.Value.run (F := Ideal) m' ρ')⟩
  obtain ⟨e0, e1, e2, e3, e4, e5, e6, e7, e8, e9, e10, e11, e12⟩ := hagree c
  obtain ⟨r0, r1, r2, r3, r4, r5, r6, r7, r8, ra⟩ := h c
  refine ⟨?_, ?_, ?_, ?_, ?_, ?_, ?_, ?_, ?_, ra⟩
  · refine (r0.trans (val_main_v35_eq _ _ _ _ _ _ _ _ _)).trans ?_
    rw [e0, e1, e2, e3, e4, e5, e6, e7, e8]
    exact ((at14_v23 m ρ c).trans (result_out _ _ _ _ _ _ _ _ _)).symm
  · refine (r1.trans (val_main_v21_eq _ _)).trans ?_
    rw [e8, e9]
    exact ((at14_v25 m ρ c).trans (result_merged _ _)).symm
  · refine (r2.trans (val_main_v36_eq _ _ _ _ _ _ _ _)).trans ?_
    rw [e1, e2, e3, e4, e5, e6, e7, e9]
    exact ((at14_v24 m ρ c).trans (result_out_weight _ _ _ _ _ _ _ _)).symm
  · refine (r3.trans (val_main_v25_eq _ _)).trans ?_
    rw [e4, e10]
    exact ((at14_v29 m ρ c).trans (result_fox _ _)).symm
  · refine (r4.trans (val_main_v39_eq _ _)).trans ?_
    rw [e2, e10]
    exact ((at14_v27 m ρ c).trans (result_fox_weight _ _)).symm
  · refine (r5.trans (val_main_v29_eq _ _)).trans ?_
    rw [e5, e11]
    exact ((at14_v30 m ρ c).trans (result_gla _ _)).symm
  · refine (r6.trans (val_main_v42_eq _ _)).trans ?_
    rw [e3, e11]
    exact ((at14_v28 m ρ c).trans (result_gla_weight _ _)).symm
  · refine (r7.trans (val_main_v33_eq _ _)).trans ?_
    rw [e6, e12]
    exact ((at14_v31 m ρ c).trans (result_gate _ _)).symm
  · refine (r8.trans (val_main_v45_eq _ _)).trans ?_
    rw [e1, e12]
    exact ((at14_v26 m ρ c).trans (result_gate_weight _ _)).symm

end Cert.Kernel4Ideal.Mix

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Ffn.Claims
public import proofs.«01_k».proof.Proof.Gla.Claims2
public import proofs.«01_k».proof.Proof.Gla.Claims3
public import proofs.«01_k».proof.Proof.Mix.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read

@[expose] public section

noncomputable section

namespace Cert.Proof

/-- Every claim, under the side conditions proved for each program. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.KernelIdeal.Ffn.preFacts, Cert.Kernel2Ideal.Gla.preFacts, Cert.Kernel3Ideal.Gla.preFacts,
    fun m ρ _ => Cert.Kernel.Gen.frame m ρ,
    fun m ρ _ => Cert.KernelIdeal.Gen.frame m ρ,
    fun m ρ _ => Cert.KernelIdeal.Gen.frame m ρ,
    fun m ρ _ => Cert.KernelIdeal.Ffn.reference_frame m ρ,
    fun m ρ _ => Cert.KernelIdeal.Ffn.reference_frame m ρ,
    fun m ρ _ => Cert.Kernel2.Gen.frame m ρ,
    fun m ρ _ => Cert.Kernel2Ideal.Gen.frame m ρ,
    fun m ρ _ => Cert.Kernel2Ideal.Gen.frame m ρ,
    Cert.Kernel2Ideal.Gla.reference_frame,
    fun m ρ _ => Cert.Kernel2Ideal.Gla.reference_frame m ρ trivial,
    fun m ρ _ => Cert.Kernel3.Gen.frame m ρ,
    fun m ρ _ => Cert.Kernel3Ideal.Gen.frame m ρ,
    fun m ρ _ => Cert.Kernel3Ideal.Gen.frame m ρ,
    Cert.Kernel3Ideal.Gla.reference_frame,
    fun m ρ _ => Cert.Kernel3Ideal.Gla.reference_frame m ρ trivial,
    fun m ρ _ => Cert.Kernel4.Gen.frame m ρ,
    fun m ρ _ => Cert.Kernel4Ideal.Gen.frame m ρ,
    fun m ρ _ => Cert.Kernel4Ideal.Mix.reference_frame m ρ,
    trivial,
    Cert.KernelIdeal.Ffn.results_agree,
    trivial,
    Cert.Kernel2Ideal.Gla.results_agree,
    trivial,
    Cert.Kernel3Ideal.Gla.results_agree,
    trivial,
    Cert.Kernel4Ideal.Mix.results_agree⟩

end Cert.Proof

end
